-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def preserves_Kernel_KernelIdeal : Prop :=
  True

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v7) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v15) = v0 c
          ∧ r.2.mem ((c.tc : Thread Cert.Reference3Ideal.nD Cert.Reference3Ideal.τ).loc Cert.Reference3Ideal.main_v17) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v47) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v19) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v26_0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v26_0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v43) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v7) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v15) = v0 c
          ∧ r.2.mem ((c.tc : Thread Cert.Reference8Ideal.nD Cert.Reference8Ideal.τ).loc Cert.Reference8Ideal.main_v17) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v47) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v26_0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v26_0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v43) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v3_0)) (v1 : (c : Dev Cert.Kernel11Ideal.nD) → Buf (Elt Ideal) ((c.tc : Thread Cert.Kernel11Ideal.nD Cert.Kernel11Ideal.τ).loc Cert.Kernel11Ideal.main_v3_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v3_0) = v0 c
          ∧ r.2.mem ((c.tc : Thread Cert.Kernel11Ideal.nD Cert.Kernel11Ideal.τ).loc Cert.Kernel11Ideal.main_v3_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v32) = v0 c
          ∧ r.2.mem ((c.tc : Thread Cert.Reference11Ideal.nD Cert.Reference11Ideal.τ).loc Cert.Reference11Ideal.main_v34) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v14) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
-- ==== Kernel.lean ====
abbrev S16384x2048 : Shape := ⟨2, ![16384, 2048]⟩
abbrev S2x2048x24576 : Shape := ⟨3, ![2, 2048, 24576]⟩
abbrev S3x1536 : Shape := ⟨2, ![3, 1536]⟩
abbrev S1536 : Shape := ⟨1, ![1536]⟩
abbrev S96x16384x128 : Shape := ⟨3, ![96, 16384, 128]⟩
abbrev S64 : Shape := ⟨1, ![64]⟩
abbrev S_ : Shape := ⟨0, ![]⟩
abbrev S4096 : Shape := ⟨1, ![4096]⟩
abbrev S4096x1 : Shape := ⟨2, ![4096, 1]⟩
abbrev S1x64 : Shape := ⟨2, ![1, 64]⟩
abbrev S4096x64 : Shape := ⟨2, ![4096, 64]⟩
abbrev S4096x128 : Shape := ⟨2, ![4096, 128]⟩
abbrev S12 : Shape := ⟨1, ![12]⟩
abbrev S1x1536 : Shape := ⟨2, ![1, 1536]⟩
abbrev S16384x1536 : Shape := ⟨2, ![16384, 1536]⟩
abbrev S1024x2048 : Shape := ⟨2, ![1024, 2048]⟩
abbrev S1x2048x256 : Shape := ⟨3, ![1, 2048, 256]⟩
abbrev S3x256 : Shape := ⟨2, ![3, 256]⟩
abbrev S1x256 : Shape := ⟨2, ![1, 256]⟩
abbrev S1x4096x128 : Shape := ⟨3, ![1, 4096, 128]⟩
abbrev S1024x256 : Shape := ⟨2, ![1024, 256]⟩
abbrev S8x256 : Shape := ⟨2, ![8, 256]⟩
abbrev S128x128 : Shape := ⟨2, ![128, 128]⟩
abbrev S1 : Shape := ⟨1, ![1]⟩
abbrev S2048x256 : Shape := ⟨2, ![2048, 256]⟩
abbrev S2048x128 : Shape := ⟨2, ![2048, 128]⟩
abbrev S1x2048x128 : Shape := ⟨3, ![1, 2048, 128]⟩
abbrev S16x128x128 : Shape := ⟨3, ![16, 128, 128]⟩
abbrev S1x128x128 : Shape := ⟨3, ![1, 128, 128]⟩
abbrev S16x128x256 : Shape := ⟨3, ![16, 128, 256]⟩
abbrev S16x256x128 : Shape := ⟨3, ![16, 256, 128]⟩
abbrev S16x128 : Shape := ⟨2, ![16, 128]⟩
abbrev S16x128x1 : Shape := ⟨3, ![16, 128, 1]⟩
abbrev S1016x256 : Shape := ⟨2, ![1016, 256]⟩

abbrev nBuf : Space → Nat
  | .hbm => 37
  | .vmem => 30
  | .smem => 1
  | _ => 0

abbrev bufTy : (tb : Table) → Fin (tcTables nBuf tb) → BufTy
  | .hbm, ⟨0, _⟩ => ⟨S16384x2048, .bf16⟩
  | .hbm, ⟨1, _⟩ => ⟨S2x2048x24576, .f32⟩
  | .hbm, ⟨2, _⟩ => ⟨S3x1536, .f32⟩
  | .hbm, ⟨3, _⟩ => ⟨S1536, .f32⟩
  | .hbm, ⟨4, _⟩ => ⟨S96x16384x128, .bf16⟩
  | .hbm, ⟨5, _⟩ => ⟨S64, .f32⟩
  | .hbm, ⟨6, _⟩ => ⟨S64, .f32⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S4096, .f32⟩
  | .hbm, ⟨14, _⟩ => ⟨S4096x1, .f32⟩
  | .hbm, ⟨15, _⟩ => ⟨S1x64, .f32⟩
  | .hbm, ⟨16, _⟩ => ⟨S4096x64, .f32⟩
  | .hbm, ⟨17, _⟩ => ⟨S4096x64, .f32⟩
  | .hbm, ⟨18, _⟩ => ⟨S4096x64, .f32⟩
  | .hbm, ⟨19, _⟩ => ⟨S4096x64, .f32⟩
  | .hbm, ⟨20, _⟩ => ⟨S4096x64, .f32⟩
  | .hbm, ⟨21, _⟩ => ⟨S4096x128, .f32⟩
  | .hbm, ⟨22, _⟩ => ⟨S4096x64, .f32⟩
  | .hbm, ⟨23, _⟩ => ⟨S4096x128, .f32⟩
  | .hbm, ⟨24, _⟩ => ⟨S12, .f32⟩
  | .hbm, ⟨25, _⟩ => ⟨S_, .f32⟩
  | .hbm, ⟨26, _⟩ => ⟨S12, .f32⟩
  | .hbm, ⟨27, _⟩ => ⟨S12, .f32⟩
  | .hbm, ⟨28, _⟩ => ⟨S_, .f32⟩
  | .hbm, ⟨29, _⟩ => ⟨S12, .f32⟩
  | .hbm, ⟨30, _⟩ => ⟨S12, .f32⟩
  | .hbm, ⟨31, _⟩ => ⟨S12, .f32⟩
  | .hbm, ⟨32, _⟩ => ⟨S12, .f32⟩
  | .hbm, ⟨33, _⟩ => ⟨S12, .f32⟩
  | .hbm, ⟨34, _⟩ => ⟨S1x1536, .f32⟩
  | .hbm, ⟨35, _⟩ => ⟨S16384x1536, .bf16⟩
  | .hbm, ⟨36, _⟩ => ⟨S16384x1536, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x256, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S1x2048x256, .f32⟩
  | .local _ .vmem, ⟨7, _⟩ => ⟨S1x2048x256, .f32⟩
  | .local _ .vmem, ⟨8, _⟩ => ⟨S1x2048x256, .f32⟩
  | .local _ .vmem, ⟨9, _⟩ => ⟨S1x2048x256, .f32⟩
  | .local _ .vmem, ⟨10, _⟩ => ⟨S3x256, .f32⟩
  | .local _ .vmem, ⟨11, _⟩ => ⟨S3x256, .f32⟩
  | .local _ .vmem, ⟨12, _⟩ => ⟨S1x256, .f32⟩
  | .local _ .vmem, ⟨13, _⟩ => ⟨S1x256, .f32⟩
  | .local _ .vmem, ⟨14, _⟩ => ⟨S1x4096x128, .bf16⟩
  | .local _ .vmem, ⟨15, _⟩ => ⟨S1x4096x128, .bf16⟩
  | .local _ .vmem, ⟨16, _⟩ => ⟨S1x4096x128, .bf16⟩
  | .local _ .vmem, ⟨17, _⟩ => ⟨S1x4096x128, .bf16⟩
  | .local _ .vmem, ⟨18, _⟩ => ⟨S1x4096x128, .bf16⟩
  | .local _ .vmem, ⟨19, _⟩ => ⟨S1x4096x128, .bf16⟩
  | .local _ .vmem, ⟨20, _⟩ => ⟨S1x4096x128, .bf16⟩
  | .local _ .vmem, ⟨21, _⟩ => ⟨S1x4096x128, .bf16⟩
  | .local _ .vmem, ⟨22, _⟩ => ⟨S4096x128, .f32⟩
  | .local _ .vmem, ⟨23, _⟩ => ⟨S4096x128, .f32⟩
  | .local _ .vmem, ⟨24, _⟩ => ⟨S1024x256, .bf16⟩
  | .local _ .vmem, ⟨25, _⟩ => ⟨S1024x256, .bf16⟩
  | .local _ .vmem, ⟨26, _⟩ => ⟨S4096x128, .bf16⟩
  | .local _ .vmem, ⟨27, _⟩ => ⟨S4096x128, .bf16⟩
  | .local _ .vmem, ⟨28, _⟩ => ⟨S8x256, .f32⟩
  | .local _ .vmem, ⟨29, _⟩ => ⟨S128x128, .f32⟩
  | .local _ .smem, ⟨0, _⟩ => ⟨S12, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .smem, ⟨0, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26_0 : Ref sig .tc := ⟨.hbm, 35, rfl⟩
abbrev main_v26_1 : Ref sig .tc := ⟨.hbm, 36, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_scratch0 : Ref sig .tc := ⟨.vmem, 28, rfl⟩
abbrev cc0_scratch1 : Ref sig .tc := ⟨.vmem, 29, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem13_0 : DmaSem sig := 24
abbrev cc0_sem14_0 : DmaSem sig := 25
abbrev cc0_sem14_1 : DmaSem sig := 26
abbrev cc0_sem15_0 : DmaSem sig := 27
abbrev cc0_sem15_1 : DmaSem sig := 28

abbrev nD : Nat := 1
abbrev τ : Topo := Topo.v7x

variable {F : FTy → Type} [FloatOps F]

abbrev grid0 : Pipeline.Grid := ⟨2, ![6, 16], ![false, false]⟩

def k0_off1 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_4 : BitVec 32 := 0#32
  let v13 : BitVec 1 := Scalar.cmpi .sgt v1 c0_i32_4
  let v14 : BitVec 32 := Scalar.extui v13
  let c0_i32_5 : BitVec 32 := 0#32
  let v15 : BitVec 1 := Scalar.cmpi .slt v1 c0_i32_5
  let v16 : BitVec 32 := Scalar.extui v15
  let v17 : BitVec 32 := Scalar.subi v14 v16
  let c2_i32_3 : BitVec 32 := 2#32
  let c0_i32_6 : BitVec 32 := 0#32
  let v18 : BitVec 1 := Scalar.cmpi .sgt c2_i32_3 c0_i32_6
  let v19 : BitVec 32 := Scalar.extui v18
  let c0_i32_7 : BitVec 32 := 0#32
  let v20 : BitVec 1 := Scalar.cmpi .slt c2_i32_3 c0_i32_7
  let v21 : BitVec 32 := Scalar.extui v20
  let v22 : BitVec 32 := Scalar.subi v19 v21
  let v23 : BitVec 1 := Scalar.cmpi .ne v17 v22
  let v24 : BitVec 32 := Scalar.remsi v1 c2_i32_3
  let c0_i32_8 : BitVec 32 := 0#32
  let v25 : BitVec 1 := Scalar.cmpi .ne v24 c0_i32_8
  let v26 : BitVec 1 := Scalar.andi v23 v25
  let v12 : BitVec 32 := Scalar.divsi v1 c2_i32_3
  let c1_i32_9 : BitVec 32 := 1#32
  let v27 : BitVec 32 := Scalar.subi v12 c1_i32_9
  let v28 : BitVec 32 := Scalar.select v26 v27 v12
  let c12_i32 : BitVec 32 := 12#32
  let c0_i32_10 : BitVec 32 := 0#32
  let v29 : BitVec 1 := Scalar.cmpi .eq c12_i32 c0_i32_10
  let c1_i32_11 : BitVec 32 := 1#32
  let v30 : BitVec 32 := Scalar.select v29 c1_i32_11 c12_i32
  let v31 : BitVec 32 := Scalar.remsi v28 v30
  let c0_i32_13 : BitVec 32 := 0#32
  let v33 : BitVec 1 := Scalar.cmpi .slt v31 c0_i32_13
  let c0_i32_14 : BitVec 32 := 0#32
  let v34 : BitVec 1 := Scalar.cmpi .slt v30 c0_i32_14
  let v35 : BitVec 1 := Scalar.xori v33 v34
  let c0_i32_12 : BitVec 32 := 0#32
  let v32 : BitVec 1 := Scalar.cmpi .ne v31 c0_i32_12
  let v36 : BitVec 1 := Scalar.andi v35 v32
  let v37 : BitVec 32 := Scalar.addi v31 v30
  let v38 : BitVec 32 := Scalar.select v36 v37 v31
  let v39 : Index := Scalar.indexCast v38
  ![v39.toNat]
def k0_mult1 (i : grid0.Coords) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c2048_i32 : BitVec 32 := 2048#32
  let v84 : BitVec 32 := Scalar.muli v11 c2048_i32
  v84
def k0_off2 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c2048_i32 : BitVec 32 := 2048#32
  let v84 : BitVec 32 := Scalar.muli v11 c2048_i32
  let v85 : BitVec 32 := v84
  let v86 : Index := Scalar.indexCast v85
  let c0_31 : Index := 0#32
  ![v86.toNat, 0]
def k0_off3 (i : grid0.Coords) : Fin 3 → Nat :=
  let c0_33 : Index := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c2048_i32 : BitVec 32 := 2048#32
  let v84 : BitVec 32 := Scalar.muli v11 c2048_i32
  let v85 : BitVec 32 := v84
  let v92 : Index := Scalar.indexCast v85
  let c0_34 : Index := 0#32
  ![0, v92.toNat, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 3 → Nat :=
  let arg0 : BitVec 32 := BitVec.ofNat 32 (i 0).val
  let arg1 : BitVec 32 := BitVec.ofNat 32 (i 1).val
  let c30_i32 : BitVec 32 := 30#32
  let v0 : BitVec 32 := Scalar.addi c30_i32 arg0
  let c0_i32 : BitVec 32 := 0#32
  let c0_i32_0 : BitVec 32 := 0#32
  let c0_i32_1 : BitVec 32 := 0#32
  ![c0_i32.toNat, c0_i32_0.toNat, v0.toNat]

def cc0_transform_4 (i : grid0.Coords) : Fin 3 → Nat :=
  let arg0 : BitVec 32 := BitVec.ofNat 32 (i 0).val
  let arg1 : BitVec 32 := BitVec.ofNat 32 (i 1).val
  let c36_i32 : BitVec 32 := 36#32
  let v0 : BitVec 32 := Scalar.addi c36_i32 arg0
  let c0_i32 : BitVec 32 := 0#32
  let c0_i32_0 : BitVec 32 := 0#32
  let c0_i32_1 : BitVec 32 := 0#32
  ![c0_i32.toNat, c0_i32_0.toNat, v0.toNat]

def cc0_transform_5 (i : grid0.Coords) : Fin 3 → Nat :=
  let arg0 : BitVec 32 := BitVec.ofNat 32 (i 0).val
  let arg1 : BitVec 32 := BitVec.ofNat 32 (i 1).val
  let c42_i32 : BitVec 32 := 42#32
  let v0 : BitVec 32 := Scalar.addi c42_i32 arg0
  let c0_i32 : BitVec 32 := 0#32
  let c0_i32_0 : BitVec 32 := 0#32
  let c0_i32_1 : BitVec 32 := 0#32
  ![c0_i32.toNat, c0_i32_0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c12_i32 : BitVec 32 := 12#32
  let c0_i32_4 : BitVec 32 := 0#32
  let v19 : BitVec 1 := Scalar.cmpi .eq c12_i32 c0_i32_4
  let c1_i32_5 : BitVec 32 := 1#32
  let v20 : BitVec 32 := Scalar.select v19 c1_i32_5 c12_i32
  let v21 : BitVec 32 := Scalar.remsi v18 v20
  let c0_i32_6 : BitVec 32 := 0#32
  let v22 : BitVec 1 := Scalar.cmpi .ne v21 c0_i32_6
  let c0_i32_7 : BitVec 32 := 0#32
  let v23 : BitVec 1 := Scalar.cmpi .slt v21 c0_i32_7
  let c0_i32_8 : BitVec 32 := 0#32
  let v24 : BitVec 1 := Scalar.cmpi .slt v20 c0_i32_8
  let v25 : BitVec 1 := Scalar.xori v23 v24
  let v26 : BitVec 1 := Scalar.andi v25 v22
  let v27 : BitVec 32 := Scalar.addi v21 v20
  let v28 : BitVec 32 := Scalar.select v26 v27 v21
  let c0_i32_9 : BitVec 32 := 0#32
  let v29 : BitVec 32 := Scalar.addi c0_i32_9 v28
  let c16_i32_10 : BitVec 32 := 16#32
  let v30 : BitVec 32 := Scalar.muli arg0 c16_i32_10
  let v31 : BitVec 32 := Scalar.addi v30 arg1
  let c2_i32_11 : BitVec 32 := 2#32
  let v32 : BitVec 32 := Scalar.divsi v31 c2_i32_11
  let c0_i32_12 : BitVec 32 := 0#32
  let v33 : BitVec 1 := Scalar.cmpi .sgt v31 c0_i32_12
  let v34 : BitVec 32 := Scalar.extui v33
  let c0_i32_13 : BitVec 32 := 0#32
  let v35 : BitVec 1 := Scalar.cmpi .slt v31 c0_i32_13
  let v36 : BitVec 32 := Scalar.extui v35
  let v37 : BitVec 32 := Scalar.subi v34 v36
  let c0_i32_14 : BitVec 32 := 0#32
  let v38 : BitVec 1 := Scalar.cmpi .sgt c2_i32_11 c0_i32_14
  let v39 : BitVec 32 := Scalar.extui v38
  let c0_i32_15 : BitVec 32 := 0#32
  let v40 : BitVec 1 := Scalar.cmpi .slt c2_i32_11 c0_i32_15
  let v41 : BitVec 32 := Scalar.extui v40
  let v42 : BitVec 32 := Scalar.subi v39 v41
  let v43 : BitVec 1 := Scalar.cmpi .ne v37 v42
  let v44 : BitVec 32 := Scalar.remsi v31 c2_i32_11
  let c0_i32_16 : BitVec 32 := 0#32
  let v45 : BitVec 1 := Scalar.cmpi .ne v44 c0_i32_16
  let v46 : BitVec 1 := Scalar.andi v43 v45
  let c1_i32_17 : BitVec 32 := 1#32
  let v47 : BitVec 32 := Scalar.subi v32 c1_i32_17
  let v48 : BitVec 32 := Scalar.select v46 v47 v32
  let c12_i32_18 : BitVec 32 := 12#32
  let v49 : BitVec 32 := Scalar.divsi v48 c12_i32_18
  let c0_i32_19 : BitVec 32 := 0#32
  let v50 : BitVec 1 := Scalar.cmpi .sgt v48 c0_i32_19
  let v51 : BitVec 32 := Scalar.extui v50
  let c0_i32_20 : BitVec 32 := 0#32
  let v52 : BitVec 1 := Scalar.cmpi .slt v48 c0_i32_20
  let v53 : BitVec 32 := Scalar.extui v52
  let v54 : BitVec 32 := Scalar.subi v51 v53
  let c0_i32_21 : BitVec 32 := 0#32
  let v55 : BitVec 1 := Scalar.cmpi .sgt c12_i32_18 c0_i32_21
  let v56 : BitVec 32 := Scalar.extui v55
  let c0_i32_22 : BitVec 32 := 0#32
  let v57 : BitVec 1 := Scalar.cmpi .slt c12_i32_18 c0_i32_22
  let v58 : BitVec 32 := Scalar.extui v57
  let v59 : BitVec 32 := Scalar.subi v56 v58
  let v60 : BitVec 1 := Scalar.cmpi .ne v54 v59
  let v61 : BitVec 32 := Scalar.remsi v48 c12_i32_18
  let c0_i32_23 : BitVec 32 := 0#32
  let v62 : BitVec 1 := Scalar.cmpi .ne v61 c0_i32_23
  let v63 : BitVec 1 := Scalar.andi v60 v62
  let c1_i32_24 : BitVec 32 := 1#32
  let v64 : BitVec 32 := Scalar.subi v49 c1_i32_24
  let v65 : BitVec 32 := Scalar.select v63 v64 v49
  let c0_i32_25 : BitVec 32 := 0#32
  let c0_i32_26 : BitVec 32 := 0#32
  ![v29.toNat, v65.toNat, c0_i32_25.toNat]

def cc0_transform_9 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c12_i32 : BitVec 32 := 12#32
  let c0_i32_4 : BitVec 32 := 0#32
  let v19 : BitVec 1 := Scalar.cmpi .eq c12_i32 c0_i32_4
  let c1_i32_5 : BitVec 32 := 1#32
  let v20 : BitVec 32 := Scalar.select v19 c1_i32_5 c12_i32
  let v21 : BitVec 32 := Scalar.remsi v18 v20
  let c0_i32_6 : BitVec 32 := 0#32
  let v22 : BitVec 1 := Scalar.cmpi .ne v21 c0_i32_6
  let c0_i32_7 : BitVec 32 := 0#32
  let v23 : BitVec 1 := Scalar.cmpi .slt v21 c0_i32_7
  let c0_i32_8 : BitVec 32 := 0#32
  let v24 : BitVec 1 := Scalar.cmpi .slt v20 c0_i32_8
  let v25 : BitVec 1 := Scalar.xori v23 v24
  let v26 : BitVec 1 := Scalar.andi v25 v22
  let v27 : BitVec 32 := Scalar.addi v21 v20
  let v28 : BitVec 32 := Scalar.select v26 v27 v21
  let c12_i32_9 : BitVec 32 := 12#32
  let v29 : BitVec 32 := Scalar.addi c12_i32_9 v28
  let c16_i32_10 : BitVec 32 := 16#32
  let v30 : BitVec 32 := Scalar.muli arg0 c16_i32_10
  let v31 : BitVec 32 := Scalar.addi v30 arg1
  let c2_i32_11 : BitVec 32 := 2#32
  let v32 : BitVec 32 := Scalar.divsi v31 c2_i32_11
  let c0_i32_12 : BitVec 32 := 0#32
  let v33 : BitVec 1 := Scalar.cmpi .sgt v31 c0_i32_12
  let v34 : BitVec 32 := Scalar.extui v33
  let c0_i32_13 : BitVec 32 := 0#32
  let v35 : BitVec 1 := Scalar.cmpi .slt v31 c0_i32_13
  let v36 : BitVec 32 := Scalar.extui v35
  let v37 : BitVec 32 := Scalar.subi v34 v36
  let c0_i32_14 : BitVec 32 := 0#32
  let v38 : BitVec 1 := Scalar.cmpi .sgt c2_i32_11 c0_i32_14
  let v39 : BitVec 32 := Scalar.extui v38
  let c0_i32_15 : BitVec 32 := 0#32
  let v40 : BitVec 1 := Scalar.cmpi .slt c2_i32_11 c0_i32_15
  let v41 : BitVec 32 := Scalar.extui v40
  let v42 : BitVec 32 := Scalar.subi v39 v41
  let v43 : BitVec 1 := Scalar.cmpi .ne v37 v42
  let v44 : BitVec 32 := Scalar.remsi v31 c2_i32_11
  let c0_i32_16 : BitVec 32 := 0#32
  let v45 : BitVec 1 := Scalar.cmpi .ne v44 c0_i32_16
  let v46 : BitVec 1 := Scalar.andi v43 v45
  let c1_i32_17 : BitVec 32 := 1#32
  let v47 : BitVec 32 := Scalar.subi v32 c1_i32_17
  let v48 : BitVec 32 := Scalar.select v46 v47 v32
  let c12_i32_18 : BitVec 32 := 12#32
  let v49 : BitVec 32 := Scalar.divsi v48 c12_i32_18
  let c0_i32_19 : BitVec 32 := 0#32
  let v50 : BitVec 1 := Scalar.cmpi .sgt v48 c0_i32_19
  let v51 : BitVec 32 := Scalar.extui v50
  let c0_i32_20 : BitVec 32 := 0#32
  let v52 : BitVec 1 := Scalar.cmpi .slt v48 c0_i32_20
  let v53 : BitVec 32 := Scalar.extui v52
  let v54 : BitVec 32 := Scalar.subi v51 v53
  let c0_i32_21 : BitVec 32 := 0#32
  let v55 : BitVec 1 := Scalar.cmpi .sgt c12_i32_18 c0_i32_21
  let v56 : BitVec 32 := Scalar.extui v55
  let c0_i32_22 : BitVec 32 := 0#32
  let v57 : BitVec 1 := Scalar.cmpi .slt c12_i32_18 c0_i32_22
  let v58 : BitVec 32 := Scalar.extui v57
  let v59 : BitVec 32 := Scalar.subi v56 v58
  let v60 : BitVec 1 := Scalar.cmpi .ne v54 v59
  let v61 : BitVec 32 := Scalar.remsi v48 c12_i32_18
  let c0_i32_23 : BitVec 32 := 0#32
  let v62 : BitVec 1 := Scalar.cmpi .ne v61 c0_i32_23
  let v63 : BitVec 1 := Scalar.andi v60 v62
  let c1_i32_24 : BitVec 32 := 1#32
  let v64 : BitVec 32 := Scalar.subi v49 c1_i32_24
  let v65 : BitVec 32 := Scalar.select v63 v64 v49
  let c0_i32_25 : BitVec 32 := 0#32
  let c0_i32_26 : BitVec 32 := 0#32
  ![v29.toNat, v65.toNat, c0_i32_25.toNat]

def cc0_transform_10 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c12_i32 : BitVec 32 := 12#32
  let c0_i32_4 : BitVec 32 := 0#32
  let v19 : BitVec 1 := Scalar.cmpi .eq c12_i32 c0_i32_4
  let c1_i32_5 : BitVec 32 := 1#32
  let v20 : BitVec 32 := Scalar.select v19 c1_i32_5 c12_i32
  let v21 : BitVec 32 := Scalar.remsi v18 v20
  let c0_i32_6 : BitVec 32 := 0#32
  let v22 : BitVec 1 := Scalar.cmpi .ne v21 c0_i32_6
  let c0_i32_7 : BitVec 32 := 0#32
  let v23 : BitVec 1 := Scalar.cmpi .slt v21 c0_i32_7
  let c0_i32_8 : BitVec 32 := 0#32
  let v24 : BitVec 1 := Scalar.cmpi .slt v20 c0_i32_8
  let v25 : BitVec 1 := Scalar.xori v23 v24
  let v26 : BitVec 1 := Scalar.andi v25 v22
  let v27 : BitVec 32 := Scalar.addi v21 v20
  let v28 : BitVec 32 := Scalar.select v26 v27 v21
  let c24_i32 : BitVec 32 := 24#32
  let v29 : BitVec 32 := Scalar.addi c24_i32 v28
  let c16_i32_9 : BitVec 32 := 16#32
  let v30 : BitVec 32 := Scalar.muli arg0 c16_i32_9
  let v31 : BitVec 32 := Scalar.addi v30 arg1
  let c2_i32_10 : BitVec 32 := 2#32
  let v32 : BitVec 32 := Scalar.divsi v31 c2_i32_10
  let c0_i32_11 : BitVec 32 := 0#32
  let v33 : BitVec 1 := Scalar.cmpi .sgt v31 c0_i32_11
  let v34 : BitVec 32 := Scalar.extui v33
  let c0_i32_12 : BitVec 32 := 0#32
  let v35 : BitVec 1 := Scalar.cmpi .slt v31 c0_i32_12
  let v36 : BitVec 32 := Scalar.extui v35
  let v37 : BitVec 32 := Scalar.subi v34 v36
  let c0_i32_13 : BitVec 32 := 0#32
  let v38 : BitVec 1 := Scalar.cmpi .sgt c2_i32_10 c0_i32_13
  let v39 : BitVec 32 := Scalar.extui v38
  let c0_i32_14 : BitVec 32 := 0#32
  let v40 : BitVec 1 := Scalar.cmpi .slt c2_i32_10 c0_i32_14
  let v41 : BitVec 32 := Scalar.extui v40
  let v42 : BitVec 32 := Scalar.subi v39 v41
  let v43 : BitVec 1 := Scalar.cmpi .ne v37 v42
  let v44 : BitVec 32 := Scalar.remsi v31 c2_i32_10
  let c0_i32_15 : BitVec 32 := 0#32
  let v45 : BitVec 1 := Scalar.cmpi .ne v44 c0_i32_15
  let v46 : BitVec 1 := Scalar.andi v43 v45
  let c1_i32_16 : BitVec 32 := 1#32
  let v47 : BitVec 32 := Scalar.subi v32 c1_i32_16
  let v48 : BitVec 32 := Scalar.select v46 v47 v32
  let c12_i32_17 : BitVec 32 := 12#32
  let v49 : BitVec 32 := Scalar.divsi v48 c12_i32_17
  let c0_i32_18 : BitVec 32 := 0#32
  let v50 : BitVec 1 := Scalar.cmpi .sgt v48 c0_i32_18
  let v51 : BitVec 32 := Scalar.extui v50
  let c0_i32_19 : BitVec 32 := 0#32
  let v52 : BitVec 1 := Scalar.cmpi .slt v48 c0_i32_19
  let v53 : BitVec 32 := Scalar.extui v52
  let v54 : BitVec 32 := Scalar.subi v51 v53
  let c0_i32_20 : BitVec 32 := 0#32
  let v55 : BitVec 1 := Scalar.cmpi .sgt c12_i32_17 c0_i32_20
  let v56 : BitVec 32 := Scalar.extui v55
  let c0_i32_21 : BitVec 32 := 0#32
  let v57 : BitVec 1 := Scalar.cmpi .slt c12_i32_17 c0_i32_21
  let v58 : BitVec 32 := Scalar.extui v57
  let v59 : BitVec 32 := Scalar.subi v56 v58
  let v60 : BitVec 1 := Scalar.cmpi .ne v54 v59
  let v61 : BitVec 32 := Scalar.remsi v48 c12_i32_17
  let c0_i32_22 : BitVec 32 := 0#32
  let v62 : BitVec 1 := Scalar.cmpi .ne v61 c0_i32_22
  let v63 : BitVec 1 := Scalar.andi v60 v62
  let c1_i32_23 : BitVec 32 := 1#32
  let v64 : BitVec 32 := Scalar.subi v49 c1_i32_23
  let v65 : BitVec 32 := Scalar.select v63 v64 v49
  let c0_i32_24 : BitVec 32 := 0#32
  let c0_i32_25 : BitVec 32 := 0#32
  ![v29.toNat, v65.toNat, c0_i32_24.toNat]

def cc0_transform_11 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c12_i32 : BitVec 32 := 12#32
  let c0_i32_4 : BitVec 32 := 0#32
  let v19 : BitVec 1 := Scalar.cmpi .eq c12_i32 c0_i32_4
  let c1_i32_5 : BitVec 32 := 1#32
  let v20 : BitVec 32 := Scalar.select v19 c1_i32_5 c12_i32
  let v21 : BitVec 32 := Scalar.remsi v18 v20
  let c0_i32_6 : BitVec 32 := 0#32
  let v22 : BitVec 1 := Scalar.cmpi .ne v21 c0_i32_6
  let c0_i32_7 : BitVec 32 := 0#32
  let v23 : BitVec 1 := Scalar.cmpi .slt v21 c0_i32_7
  let c0_i32_8 : BitVec 32 := 0#32
  let v24 : BitVec 1 := Scalar.cmpi .slt v20 c0_i32_8
  let v25 : BitVec 1 := Scalar.xori v23 v24
  let v26 : BitVec 1 := Scalar.andi v25 v22
  let v27 : BitVec 32 := Scalar.addi v21 v20
  let v28 : BitVec 32 := Scalar.select v26 v27 v21
  let c36_i32 : BitVec 32 := 36#32
  let v29 : BitVec 32 := Scalar.addi c36_i32 v28
  let c16_i32_9 : BitVec 32 := 16#32
  let v30 : BitVec 32 := Scalar.muli arg0 c16_i32_9
  let v31 : BitVec 32 := Scalar.addi v30 arg1
  let c2_i32_10 : BitVec 32 := 2#32
  let v32 : BitVec 32 := Scalar.divsi v31 c2_i32_10
  let c0_i32_11 : BitVec 32 := 0#32
  let v33 : BitVec 1 := Scalar.cmpi .sgt v31 c0_i32_11
  let v34 : BitVec 32 := Scalar.extui v33
  let c0_i32_12 : BitVec 32 := 0#32
  let v35 : BitVec 1 := Scalar.cmpi .slt v31 c0_i32_12
  let v36 : BitVec 32 := Scalar.extui v35
  let v37 : BitVec 32 := Scalar.subi v34 v36
  let c0_i32_13 : BitVec 32 := 0#32
  let v38 : BitVec 1 := Scalar.cmpi .sgt c2_i32_10 c0_i32_13
  let v39 : BitVec 32 := Scalar.extui v38
  let c0_i32_14 : BitVec 32 := 0#32
  let v40 : BitVec 1 := Scalar.cmpi .slt c2_i32_10 c0_i32_14
  let v41 : BitVec 32 := Scalar.extui v40
  let v42 : BitVec 32 := Scalar.subi v39 v41
  let v43 : BitVec 1 := Scalar.cmpi .ne v37 v42
  let v44 : BitVec 32 := Scalar.remsi v31 c2_i32_10
  let c0_i32_15 : BitVec 32 := 0#32
  let v45 : BitVec 1 := Scalar.cmpi .ne v44 c0_i32_15
  let v46 : BitVec 1 := Scalar.andi v43 v45
  let c1_i32_16 : BitVec 32 := 1#32
  let v47 : BitVec 32 := Scalar.subi v32 c1_i32_16
  let v48 : BitVec 32 := Scalar.select v46 v47 v32
  let c12_i32_17 : BitVec 32 := 12#32
  let v49 : BitVec 32 := Scalar.divsi v48 c12_i32_17
  let c0_i32_18 : BitVec 32 := 0#32
  let v50 : BitVec 1 := Scalar.cmpi .sgt v48 c0_i32_18
  let v51 : BitVec 32 := Scalar.extui v50
  let c0_i32_19 : BitVec 32 := 0#32
  let v52 : BitVec 1 := Scalar.cmpi .slt v48 c0_i32_19
  let v53 : BitVec 32 := Scalar.extui v52
  let v54 : BitVec 32 := Scalar.subi v51 v53
  let c0_i32_20 : BitVec 32 := 0#32
  let v55 : BitVec 1 := Scalar.cmpi .sgt c12_i32_17 c0_i32_20
  let v56 : BitVec 32 := Scalar.extui v55
  let c0_i32_21 : BitVec 32 := 0#32
  let v57 : BitVec 1 := Scalar.cmpi .slt c12_i32_17 c0_i32_21
  let v58 : BitVec 32 := Scalar.extui v57
  let v59 : BitVec 32 := Scalar.subi v56 v58
  let v60 : BitVec 1 := Scalar.cmpi .ne v54 v59
  let v61 : BitVec 32 := Scalar.remsi v48 c12_i32_17
  let c0_i32_22 : BitVec 32 := 0#32
  let v62 : BitVec 1 := Scalar.cmpi .ne v61 c0_i32_22
  let v63 : BitVec 1 := Scalar.andi v60 v62
  let c1_i32_23 : BitVec 32 := 1#32
  let v64 : BitVec 32 := Scalar.subi v49 c1_i32_23
  let v65 : BitVec 32 := Scalar.select v63 v64 v49
  let c0_i32_24 : BitVec 32 := 0#32
  let c0_i32_25 : BitVec 32 := 0#32
  ![v29.toNat, v65.toNat, c0_i32_24.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_15 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c12_i32 : BitVec 32 := 12#32
  let v19 : BitVec 32 := Scalar.divsi v18 c12_i32
  let c0_i32_4 : BitVec 32 := 0#32
  let v20 : BitVec 1 := Scalar.cmpi .sgt v18 c0_i32_4
  let v21 : BitVec 32 := Scalar.extui v20
  let c0_i32_5 : BitVec 32 := 0#32
  let v22 : BitVec 1 := Scalar.cmpi .slt v18 c0_i32_5
  let v23 : BitVec 32 := Scalar.extui v22
  let v24 : BitVec 32 := Scalar.subi v21 v23
  let c0_i32_6 : BitVec 32 := 0#32
  let v25 : BitVec 1 := Scalar.cmpi .sgt c12_i32 c0_i32_6
  let v26 : BitVec 32 := Scalar.extui v25
  let c0_i32_7 : BitVec 32 := 0#32
  let v27 : BitVec 1 := Scalar.cmpi .slt c12_i32 c0_i32_7
  let v28 : BitVec 32 := Scalar.extui v27
  let v29 : BitVec 32 := Scalar.subi v26 v28
  let v30 : BitVec 1 := Scalar.cmpi .ne v24 v29
  let v31 : BitVec 32 := Scalar.remsi v18 c12_i32
  let c0_i32_8 : BitVec 32 := 0#32
  let v32 : BitVec 1 := Scalar.cmpi .ne v31 c0_i32_8
  let v33 : BitVec 1 := Scalar.andi v30 v32
  let c1_i32_9 : BitVec 32 := 1#32
  let v34 : BitVec 32 := Scalar.subi v19 c1_i32_9
  let v35 : BitVec 32 := Scalar.select v33 v34 v19
  let c16_i32_10 : BitVec 32 := 16#32
  let v36 : BitVec 32 := Scalar.muli arg0 c16_i32_10
  let v37 : BitVec 32 := Scalar.addi v36 arg1
  let c2_i32_11 : BitVec 32 := 2#32
  let v38 : BitVec 32 := Scalar.divsi v37 c2_i32_11
  let c0_i32_12 : BitVec 32 := 0#32
  let v39 : BitVec 1 := Scalar.cmpi .sgt v37 c0_i32_12
  let v40 : BitVec 32 := Scalar.extui v39
  let c0_i32_13 : BitVec 32 := 0#32
  let v41 : BitVec 1 := Scalar.cmpi .slt v37 c0_i32_13
  let v42 : BitVec 32 := Scalar.extui v41
  let v43 : BitVec 32 := Scalar.subi v40 v42
  let c0_i32_14 : BitVec 32 := 0#32
  let v44 : BitVec 1 := Scalar.cmpi .sgt c2_i32_11 c0_i32_14
  let v45 : BitVec 32 := Scalar.extui v44
  let c0_i32_15 : BitVec 32 := 0#32
  let v46 : BitVec 1 := Scalar.cmpi .slt c2_i32_11 c0_i32_15
  let v47 : BitVec 32 := Scalar.extui v46
  let v48 : BitVec 32 := Scalar.subi v45 v47
  let v49 : BitVec 1 := Scalar.cmpi .ne v43 v48
  let v50 : BitVec 32 := Scalar.remsi v37 c2_i32_11
  let c0_i32_16 : BitVec 32 := 0#32
  let v51 : BitVec 1 := Scalar.cmpi .ne v50 c0_i32_16
  let v52 : BitVec 1 := Scalar.andi v49 v51
  let c1_i32_17 : BitVec 32 := 1#32
  let v53 : BitVec 32 := Scalar.subi v38 c1_i32_17
  let v54 : BitVec 32 := Scalar.select v52 v53 v38
  let c12_i32_18 : BitVec 32 := 12#32
  let c0_i32_19 : BitVec 32 := 0#32
  let v55 : BitVec 1 := Scalar.cmpi .eq c12_i32_18 c0_i32_19
  let c1_i32_20 : BitVec 32 := 1#32
  let v56 : BitVec 32 := Scalar.select v55 c1_i32_20 c12_i32_18
  let v57 : BitVec 32 := Scalar.remsi v54 v56
  let c0_i32_21 : BitVec 32 := 0#32
  let v58 : BitVec 1 := Scalar.cmpi .ne v57 c0_i32_21
  let c0_i32_22 : BitVec 32 := 0#32
  let v59 : BitVec 1 := Scalar.cmpi .slt v57 c0_i32_22
  let c0_i32_23 : BitVec 32 := 0#32
  let v60 : BitVec 1 := Scalar.cmpi .slt v56 c0_i32_23
  let v61 : BitVec 1 := Scalar.xori v59 v60
  let v62 : BitVec 1 := Scalar.andi v61 v58
  let v63 : BitVec 32 := Scalar.addi v57 v56
  let v64 : BitVec 32 := Scalar.select v62 v63 v57
  let c0_i32_24 : BitVec 32 := 0#32
  ![v35.toNat, v64.toNat]

abbrev stage0_0 : Fin 1 → Memref sig .tc .smem S12 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S3x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x4096x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x4096x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x4096x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x4096x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 1 → Memref sig .tc .vmem S4096x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S4096x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1024x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S4096x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== ReferenceIdeal.lean ====
abbrev S16384x2048 : Shape := ⟨2, ![16384, 2048]⟩
abbrev S2x2048x24576 : Shape := ⟨3, ![2, 2048, 24576]⟩
abbrev S3x1536 : Shape := ⟨2, ![3, 1536]⟩
abbrev S1536 : Shape := ⟨1, ![1536]⟩
abbrev S96x16384x128 : Shape := ⟨3, ![96, 16384, 128]⟩
abbrev S1x2048x24576 : Shape := ⟨3, ![1, 2048, 24576]⟩
abbrev S2048x24576 : Shape := ⟨2, ![2048, 24576]⟩
abbrev S2048x1536 : Shape := ⟨2, ![2048, 1536]⟩
abbrev S16384x1536 : Shape := ⟨2, ![16384, 1536]⟩
abbrev S4x4096x1536 : Shape := ⟨3, ![4, 4096, 1536]⟩
abbrev S_ : Shape := ⟨0, ![]⟩
abbrev S4x4098x1536 : Shape := ⟨3, ![4, 4098, 1536]⟩
abbrev S1x1536 : Shape := ⟨2, ![1, 1536]⟩
abbrev S1x1x1536 : Shape := ⟨3, ![1, 1, 1536]⟩
abbrev S12x16384x128 : Shape := ⟨3, ![12, 16384, 128]⟩
abbrev S12x4x4096x128 : Shape := ⟨4, ![12, 4, 4096, 128]⟩
abbrev S4x4096x12x128 : Shape := ⟨4, ![4, 4096, 12, 128]⟩
abbrev S4096 : Shape := ⟨1, ![4096]⟩
abbrev S64 : Shape := ⟨1, ![64]⟩
abbrev S4096x1 : Shape := ⟨2, ![4096, 1]⟩
abbrev S1x64 : Shape := ⟨2, ![1, 64]⟩
abbrev S4096x64 : Shape := ⟨2, ![4096, 64]⟩
abbrev S1x4096x1x64 : Shape := ⟨4, ![1, 4096, 1, 64]⟩
abbrev S4x4096x12x64 : Shape := ⟨4, ![4, 4096, 12, 64]⟩
abbrev S12 : Shape := ⟨1, ![12]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S12x1x1 : Shape := ⟨3, ![12, 1, 1]⟩
abbrev S12x128x128 : Shape := ⟨3, ![12, 128, 128]⟩
abbrev S12x1 : Shape := ⟨2, ![12, 1]⟩
abbrev S12x128 : Shape := ⟨2, ![12, 128]⟩
abbrev S1x12x128x1 : Shape := ⟨4, ![1, 12, 128, 1]⟩
abbrev S1x12x1x1 : Shape := ⟨4, ![1, 12, 1, 1]⟩
abbrev S4x12x128x128 : Shape := ⟨4, ![4, 12, 128, 128]⟩
abbrev S4x32x128x12x128 : Shape := ⟨5, ![4, 32, 128, 12, 128]⟩
abbrev S32x4x12x128x128 : Shape := ⟨5, ![32, 4, 12, 128, 128]⟩
abbrev S1x4x12x128x128 : Shape := ⟨5, ![1, 4, 12, 128, 128]⟩
abbrev S1x12x128x128 : Shape := ⟨4, ![1, 12, 128, 128]⟩
abbrev S4x4096x12 : Shape := ⟨3, ![4, 4096, 12]⟩
abbrev S4x4096x12x1 : Shape := ⟨4, ![4, 4096, 12, 1]⟩

abbrev nBuf : Space → Nat
  | .hbm => 289
  | .vmem => 0
  | .smem => 0
  | _ => 0

abbrev hbmTy0_0 (i : Nat) : BufTy := match i % 128 with
  | 0 => ⟨S16384x2048, .bf16⟩
  | 1 => ⟨S2x2048x24576, .f32⟩
  | 2 => ⟨S3x1536, .f32⟩
  | 3 => ⟨S1536, .f32⟩
  | 4 => ⟨S96x16384x128, .bf16⟩
  | 5 => ⟨S16384x2048, .f32⟩
  | 6 => ⟨S1x2048x24576, .f32⟩
  | 7 => ⟨S2048x24576, .f32⟩
  | 8 => ⟨S2048x1536, .f32⟩
  | 9 => ⟨S16384x1536, .f32⟩
  | 10 => ⟨S4x4096x1536, .f32⟩
  | 11 => ⟨S2048x1536, .f32⟩
  | 12 => ⟨S16384x1536, .f32⟩
  | 13 => ⟨S4x4096x1536, .f32⟩
  | 14 => ⟨S2048x1536, .f32⟩
  | 15 => ⟨S16384x1536, .f32⟩
  | 16 => ⟨S4x4096x1536, .f32⟩
  | 17 => ⟨S2048x1536, .f32⟩
  | 18 => ⟨S16384x1536, .f32⟩
  | 19 => ⟨S4x4096x1536, .f32⟩
  | 20 => ⟨S4x4096x1536, .f32⟩
  | 21 => ⟨S_, .i32⟩
  | 22 => ⟨S_, .f32⟩
  | 23 => ⟨S4x4098x1536, .f32⟩
  | 24 => ⟨S1x1536, .f32⟩
  | 25 => ⟨S1536, .f32⟩
  | 26 => ⟨S1x1x1536, .f32⟩
  | 27 => ⟨S4x4096x1536, .f32⟩
  | 28 => ⟨S4x4096x1536, .f32⟩
  | 29 => ⟨S1x1x1536, .f32⟩
  | 30 => ⟨S4x4096x1536, .f32⟩
  | 31 => ⟨S4x4096x1536, .f32⟩
  | 32 => ⟨S1x1536, .f32⟩
  | 33 => ⟨S1536, .f32⟩
  | 34 => ⟨S4x4096x1536, .f32⟩
  | 35 => ⟨S1x1x1536, .f32⟩
  | 36 => ⟨S4x4096x1536, .f32⟩
  | 37 => ⟨S4x4096x1536, .f32⟩
  | 38 => ⟨S4x4096x1536, .f32⟩
  | 39 => ⟨S1x1536, .f32⟩
  | 40 => ⟨S1536, .f32⟩
  | 41 => ⟨S4x4096x1536, .f32⟩
  | 42 => ⟨S1x1x1536, .f32⟩
  | 43 => ⟨S4x4096x1536, .f32⟩
  | 44 => ⟨S4x4096x1536, .f32⟩
  | 45 => ⟨S4x4096x1536, .f32⟩
  | 46 => ⟨S4x4096x1536, .f32⟩
  | 47 => ⟨S4x4096x1536, .f32⟩
  | 48 => ⟨S4x4096x1536, .f32⟩
  | 49 => ⟨S_, .f32⟩
  | 50 => ⟨S4x4096x1536, .f32⟩
  | 51 => ⟨S4x4096x1536, .f32⟩
  | 52 => ⟨S_, .f32⟩
  | 53 => ⟨S4x4096x1536, .f32⟩
  | 54 => ⟨S4x4096x1536, .f32⟩
  | 55 => ⟨S4x4096x1536, .f32⟩
  | 56 => ⟨S4x4096x1536, .f32⟩
  | 57 => ⟨S12x16384x128, .bf16⟩
  | 58 => ⟨S12x16384x128, .f32⟩
  | 59 => ⟨S12x4x4096x128, .f32⟩
  | 60 => ⟨S4x4096x12x128, .f32⟩
  | 61 => ⟨S12x16384x128, .bf16⟩
  | 62 => ⟨S12x16384x128, .f32⟩
  | 63 => ⟨S12x4x4096x128, .f32⟩
  | 64 => ⟨S4x4096x12x128, .f32⟩
  | 65 => ⟨S12x16384x128, .bf16⟩
  | 66 => ⟨S12x16384x128, .f32⟩
  | 67 => ⟨S12x4x4096x128, .f32⟩
  | 68 => ⟨S4x4096x12x128, .f32⟩
  | 69 => ⟨S12x16384x128, .bf16⟩
  | 70 => ⟨S12x16384x128, .f32⟩
  | 71 => ⟨S12x4x4096x128, .f32⟩
  | 72 => ⟨S4x4096x12x128, .f32⟩
  | 73 => ⟨S4096, .f32⟩
  | 74 => ⟨S64, .f32⟩
  | 75 => ⟨S64, .f32⟩
  | 76 => ⟨S_, .f32⟩
  | 77 => ⟨S64, .f32⟩
  | 78 => ⟨S64, .f32⟩
  | 79 => ⟨S_, .f32⟩
  | 80 => ⟨S64, .f32⟩
  | 81 => ⟨S64, .f32⟩
  | 82 => ⟨S4096x1, .f32⟩
  | 83 => ⟨S1x64, .f32⟩
  | 84 => ⟨S4096x64, .f32⟩
  | 85 => ⟨S4096x64, .f32⟩
  | 86 => ⟨S4096x64, .f32⟩
  | 87 => ⟨S4096x64, .f32⟩
  | 88 => ⟨S1x4096x1x64, .f32⟩
  | 89 => ⟨S4096x64, .f32⟩
  | 90 => ⟨S1x4096x1x64, .f32⟩
  | 91 => ⟨S4x4096x12x64, .f32⟩
  | 92 => ⟨S4x4096x12x64, .f32⟩
  | 93 => ⟨S4x4096x12x64, .f32⟩
  | 94 => ⟨S4x4096x12x64, .f32⟩
  | 95 => ⟨S4x4096x12x64, .f32⟩
  | 96 => ⟨S4x4096x12x64, .f32⟩
  | 97 => ⟨S4x4096x12x64, .f32⟩
  | 98 => ⟨S4x4096x12x64, .f32⟩
  | 99 => ⟨S4x4096x12x64, .f32⟩
  | 100 => ⟨S4x4096x12x64, .f32⟩
  | 101 => ⟨S4x4096x12x64, .f32⟩
  | 102 => ⟨S4x4096x12x64, .f32⟩
  | 103 => ⟨S4x4096x12x128, .f32⟩
  | 104 => ⟨S64, .f32⟩
  | 105 => ⟨S64, .f32⟩
  | 106 => ⟨S_, .f32⟩
  | 107 => ⟨S64, .f32⟩
  | 108 => ⟨S64, .f32⟩
  | 109 => ⟨S_, .f32⟩
  | 110 => ⟨S64, .f32⟩
  | 111 => ⟨S64, .f32⟩
  | 112 => ⟨S4096x1, .f32⟩
  | 113 => ⟨S1x64, .f32⟩
  | 114 => ⟨S4096x64, .f32⟩
  | 115 => ⟨S4096x64, .f32⟩
  | 116 => ⟨S4096x64, .f32⟩
  | 117 => ⟨S4096x64, .f32⟩
  | 118 => ⟨S1x4096x1x64, .f32⟩
  | 119 => ⟨S4096x64, .f32⟩
  | 120 => ⟨S1x4096x1x64, .f32⟩
  | 121 => ⟨S4x4096x12x64, .f32⟩
  | 122 => ⟨S4x4096x12x64, .f32⟩
  | 123 => ⟨S4x4096x12x64, .f32⟩
  | 124 => ⟨S4x4096x12x64, .f32⟩
  | 125 => ⟨S4x4096x12x64, .f32⟩
  | 126 => ⟨S4x4096x12x64, .f32⟩
  | 127 => ⟨S4x4096x12x64, .f32⟩
  | _ => ⟨S16384x2048, .bf16⟩

abbrev hbmTy0_1 (i : Nat) : BufTy := match i % 128 with
  | 0 => ⟨S4x4096x12x64, .f32⟩
  | 1 => ⟨S4x4096x12x64, .f32⟩
  | 2 => ⟨S4x4096x12x64, .f32⟩
  | 3 => ⟨S4x4096x12x64, .f32⟩
  | 4 => ⟨S4x4096x12x64, .f32⟩
  | 5 => ⟨S4x4096x12x128, .f32⟩
  | 6 => ⟨S_, .f32⟩
  | 7 => ⟨S4x4096x12x128, .f32⟩
  | 8 => ⟨S4x4096x12x128, .f32⟩
  | 9 => ⟨S12, .f32⟩
  | 10 => ⟨S_, .f32⟩
  | 11 => ⟨S12, .f32⟩
  | 12 => ⟨S12, .f32⟩
  | 13 => ⟨S_, .f32⟩
  | 14 => ⟨S12, .f32⟩
  | 15 => ⟨S12, .f32⟩
  | 16 => ⟨S12, .f32⟩
  | 17 => ⟨S12, .f32⟩
  | 18 => ⟨S12, .f32⟩
  | 19 => ⟨S128, .f32⟩
  | 20 => ⟨S128x1, .f32⟩
  | 21 => ⟨S1x128, .f32⟩
  | 22 => ⟨S128x128, .f32⟩
  | 23 => ⟨S128x128, .f32⟩
  | 24 => ⟨S128x128, .f32⟩
  | 25 => ⟨S1x128x128, .f32⟩
  | 26 => ⟨S_, .f32⟩
  | 27 => ⟨S1x128x128, .f32⟩
  | 28 => ⟨S1x128x128, .i1⟩
  | 29 => ⟨S_, .f32⟩
  | 30 => ⟨S128x128, .f32⟩
  | 31 => ⟨S128x128, .f32⟩
  | 32 => ⟨S1x128x128, .f32⟩
  | 33 => ⟨S12x1x1, .f32⟩
  | 34 => ⟨S12x128x128, .f32⟩
  | 35 => ⟨S12x128x128, .f32⟩
  | 36 => ⟨S12x128x128, .f32⟩
  | 37 => ⟨S12x128x128, .f32⟩
  | 38 => ⟨S_, .f32⟩
  | 39 => ⟨S_, .f32⟩
  | 40 => ⟨S12x128x128, .i1⟩
  | 41 => ⟨S12x128x128, .f32⟩
  | 42 => ⟨S12x128x128, .f32⟩
  | 43 => ⟨S_, .f32⟩
  | 44 => ⟨S128, .f32⟩
  | 45 => ⟨S128, .f32⟩
  | 46 => ⟨S1x128, .f32⟩
  | 47 => ⟨S12x1, .f32⟩
  | 48 => ⟨S12x128, .f32⟩
  | 49 => ⟨S12x128, .f32⟩
  | 50 => ⟨S12x128, .f32⟩
  | 51 => ⟨S12x128, .f32⟩
  | 52 => ⟨S1x12x128x1, .f32⟩
  | 53 => ⟨S_, .f32⟩
  | 54 => ⟨S128, .f32⟩
  | 55 => ⟨S128, .f32⟩
  | 56 => ⟨S1x128, .f32⟩
  | 57 => ⟨S12x1, .f32⟩
  | 58 => ⟨S12x128, .f32⟩
  | 59 => ⟨S12x128, .f32⟩
  | 60 => ⟨S12x128, .f32⟩
  | 61 => ⟨S12x128, .f32⟩
  | 62 => ⟨S1x12x128x1, .f32⟩
  | 63 => ⟨S_, .f32⟩
  | 64 => ⟨S12, .f32⟩
  | 65 => ⟨S12, .f32⟩
  | 66 => ⟨S12, .f32⟩
  | 67 => ⟨S1x12x1x1, .f32⟩
  | 68 => ⟨S_, .f32⟩
  | 69 => ⟨S4x12x128x128, .f32⟩
  | 70 => ⟨S4x32x128x12x128, .f32⟩
  | 71 => ⟨S32x4x12x128x128, .f32⟩
  | 72 => ⟨S4x32x128x12x128, .f32⟩
  | 73 => ⟨S32x4x12x128x128, .f32⟩
  | 74 => ⟨S4x32x128x12x128, .f32⟩
  | 75 => ⟨S32x4x12x128x128, .f32⟩
  | 76 => ⟨S_, .f32⟩
  | 77 => ⟨S32x4x12x128x128, .f32⟩
  | 78 => ⟨S_, .i32⟩
  | 79 => ⟨S32x4x12x128x128, .f32⟩
  | 80 => ⟨S32x4x12x128x128, .f32⟩
  | 81 => ⟨S32x4x12x128x128, .f32⟩
  | 82 => ⟨S12x128x128, .f32⟩
  | 83 => ⟨S1x12x128x1, .f32⟩
  | 84 => ⟨S1x12x1x1, .f32⟩
  | 85 => ⟨S1x12x128x1, .f32⟩
  | 86 => ⟨S_, .i32⟩
  | 87 => ⟨S4x12x128x128, .f32⟩
  | 88 => ⟨S32x4x12x128x128, .f32⟩
  | 89 => ⟨S_, .i32⟩
  | 90 => ⟨S_, .i1⟩
  | 91 => ⟨S_, .i32⟩
  | 92 => ⟨S_, .i32⟩
  | 93 => ⟨S_, .i32⟩
  | 94 => ⟨S_, .i32⟩
  | 95 => ⟨S1x4x12x128x128, .f32⟩
  | 96 => ⟨S4x12x128x128, .f32⟩
  | 97 => ⟨S_, .i32⟩
  | 98 => ⟨S_, .i32⟩
  | 99 => ⟨S_, .i32⟩
  | 100 => ⟨S_, .i32⟩
  | 101 => ⟨S1x4x12x128x128, .f32⟩
  | 102 => ⟨S4x12x128x128, .f32⟩
  | 103 => ⟨S_, .i32⟩
  | 104 => ⟨S_, .i32⟩
  | 105 => ⟨S_, .i32⟩
  | 106 => ⟨S_, .i32⟩
  | 107 => ⟨S1x4x12x128x128, .f32⟩
  | 108 => ⟨S4x12x128x128, .f32⟩
  | 109 => ⟨S4x12x128x128, .f32⟩
  | 110 => ⟨S1x12x128x128, .f32⟩
  | 111 => ⟨S4x12x128x128, .f32⟩
  | 112 => ⟨S4x12x128x128, .f32⟩
  | 113 => ⟨S4x12x128x128, .f32⟩
  | 114 => ⟨S4x12x128x128, .f32⟩
  | 115 => ⟨S4x12x128x128, .f32⟩
  | 116 => ⟨S4x12x128x128, .f32⟩
  | 117 => ⟨S4x12x128x128, .f32⟩
  | 118 => ⟨S4x12x128x128, .f32⟩
  | 119 => ⟨S4x12x128x128, .f32⟩
  | 120 => ⟨S4x12x128x128, .f32⟩
  | 121 => ⟨S4x12x128x128, .f32⟩
  | 122 => ⟨S4x12x128x128, .f32⟩
  | 123 => ⟨S4x12x128x128, .f32⟩
  | 124 => ⟨S1x4x12x128x128, .f32⟩
  | 125 => ⟨S_, .i32⟩
  | 126 => ⟨S_, .i32⟩
  | 127 => ⟨S_, .i32⟩
  | _ => ⟨S16384x2048, .bf16⟩

abbrev hbmTy0_2 (i : Nat) : BufTy := match i % 128 with
  | 0 => ⟨S_, .i32⟩
  | 1 => ⟨S32x4x12x128x128, .f32⟩
  | 2 => ⟨S_, .i32⟩
  | 3 => ⟨S_, .i32⟩
  | 4 => ⟨S4x32x128x12x128, .f32⟩
  | 5 => ⟨S4x4096x12x128, .f32⟩
  | 6 => ⟨S4x4096x12x128, .f32⟩
  | 7 => ⟨S_, .f32⟩
  | 8 => ⟨S4x4096x12, .f32⟩
  | 9 => ⟨S4x4096x12x1, .f32⟩
  | 10 => ⟨S_, .f32⟩
  | 11 => ⟨S4x4096x12x1, .f32⟩
  | 12 => ⟨S4x4096x12x1, .f32⟩
  | 13 => ⟨S_, .f32⟩
  | 14 => ⟨S4x4096x12x1, .f32⟩
  | 15 => ⟨S4x4096x12x1, .f32⟩
  | 16 => ⟨S4x4096x12x1, .f32⟩
  | 17 => ⟨S4x4096x12x128, .f32⟩
  | 18 => ⟨S4x4096x12x128, .f32⟩
  | 19 => ⟨S4x4096x12x128, .f32⟩
  | 20 => ⟨S4x4096x12x128, .f32⟩
  | 21 => ⟨S_, .f32⟩
  | 22 => ⟨S4x4096x12x128, .f32⟩
  | 23 => ⟨S4x4096x12x128, .f32⟩
  | 24 => ⟨S_, .f32⟩
  | 25 => ⟨S4x4096x12x128, .f32⟩
  | 26 => ⟨S4x4096x12x128, .f32⟩
  | 27 => ⟨S4x4096x12x128, .f32⟩
  | 28 => ⟨S4x4096x12x128, .f32⟩
  | 29 => ⟨S16384x1536, .f32⟩
  | 30 => ⟨S16384x1536, .bf16⟩
  | 31 => ⟨S16384x1536, .f32⟩
  | 32 => ⟨S16384x1536, .bf16⟩
  | _ => ⟨S16384x2048, .bf16⟩

abbrev hbmTy (i : Nat) : BufTy := match i / 128 with
  | 0 => hbmTy0_0 i
  | 1 => hbmTy0_1 i
  | 2 => hbmTy0_2 i
  | _ => ⟨S16384x2048, .bf16⟩

abbrev bufTy : (tb : Table) → Fin (tcTables nBuf tb) → BufTy
  | .hbm, ⟨i, _⟩ => hbmTy i
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_c : Ref sig .tc := ⟨.hbm, 21, rfl⟩
abbrev main_call0_v0 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_call1_v0 : Ref sig .tc := ⟨.hbm, 47, rfl⟩
abbrev main_call1_v1 : Ref sig .tc := ⟨.hbm, 48, rfl⟩
abbrev main_call1_cst : Ref sig .tc := ⟨.hbm, 49, rfl⟩
abbrev main_call1_v2 : Ref sig .tc := ⟨.hbm, 50, rfl⟩
abbrev main_call1_v3 : Ref sig .tc := ⟨.hbm, 51, rfl⟩
abbrev main_call1_cst_0 : Ref sig .tc := ⟨.hbm, 52, rfl⟩
abbrev main_call1_v4 : Ref sig .tc := ⟨.hbm, 53, rfl⟩
abbrev main_call1_v5 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_cst : Ref sig .tc := ⟨.hbm, 76, rfl⟩
abbrev main_v61 : Ref sig .tc := ⟨.hbm, 77, rfl⟩
abbrev main_v62 : Ref sig .tc := ⟨.hbm, 78, rfl⟩
abbrev main_cst_0 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_cst_1 : Ref sig .tc := ⟨.hbm, 106, rfl⟩
abbrev main_v89 : Ref sig .tc := ⟨.hbm, 107, rfl⟩
abbrev main_v90 : Ref sig .tc := ⟨.hbm, 108, rfl⟩
abbrev main_cst_2 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_cst_3 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_cst_4 : Ref sig .tc := ⟨.hbm, 138, rfl⟩
abbrev main_v118 : Ref sig .tc := ⟨.hbm, 139, rfl⟩
abbrev main_v119 : Ref sig .tc := ⟨.hbm, 140, rfl⟩
abbrev main_cst_5 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_cst_6 : Ref sig .tc := ⟨.hbm, 154, rfl⟩
abbrev main_v132 : Ref sig .tc := ⟨.hbm, 155, rfl⟩
abbrev main_v133 : Ref sig .tc := ⟨.hbm, 156, rfl⟩
abbrev main_cst_7 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_v138 : Ref sig .tc := ⟨.hbm, 162, rfl⟩
abbrev main_v139 : Ref sig .tc := ⟨.hbm, 163, rfl⟩
abbrev main_v140 : Ref sig .tc := ⟨.hbm, 164, rfl⟩
abbrev main_v141 : Ref sig .tc := ⟨.hbm, 165, rfl⟩
abbrev main_cst_8 : Ref sig .tc := ⟨.hbm, 166, rfl⟩
abbrev main_call2_v0 : Ref sig .tc := ⟨.hbm, 167, rfl⟩
abbrev main_call2_v1 : Ref sig .tc := ⟨.hbm, 168, rfl⟩
abbrev main_call2_v2 : Ref sig .tc := ⟨.hbm, 169, rfl⟩
abbrev main_v142 : Ref sig .tc := ⟨.hbm, 170, rfl⟩
abbrev main_cst_9 : Ref sig .tc := ⟨.hbm, 171, rfl⟩
abbrev main_v143 : Ref sig .tc := ⟨.hbm, 172, rfl⟩
abbrev main_v144 : Ref sig .tc := ⟨.hbm, 173, rfl⟩
abbrev main_v145 : Ref sig .tc := ⟨.hbm, 174, rfl⟩
abbrev main_v146 : Ref sig .tc := ⟨.hbm, 175, rfl⟩
abbrev main_v147 : Ref sig .tc := ⟨.hbm, 176, rfl⟩
abbrev main_v148 : Ref sig .tc := ⟨.hbm, 177, rfl⟩
abbrev main_v149 : Ref sig .tc := ⟨.hbm, 178, rfl⟩
abbrev main_v150 : Ref sig .tc := ⟨.hbm, 179, rfl⟩
abbrev main_v151 : Ref sig .tc := ⟨.hbm, 180, rfl⟩
abbrev main_cst_10 : Ref sig .tc := ⟨.hbm, 181, rfl⟩
abbrev main_v152 : Ref sig .tc := ⟨.hbm, 182, rfl⟩
abbrev main_v153 : Ref sig .tc := ⟨.hbm, 183, rfl⟩
abbrev main_v154 : Ref sig .tc := ⟨.hbm, 184, rfl⟩
abbrev main_v155 : Ref sig .tc := ⟨.hbm, 185, rfl⟩
abbrev main_v156 : Ref sig .tc := ⟨.hbm, 186, rfl⟩
abbrev main_v157 : Ref sig .tc := ⟨.hbm, 187, rfl⟩
abbrev main_v158 : Ref sig .tc := ⟨.hbm, 188, rfl⟩
abbrev main_v159 : Ref sig .tc := ⟨.hbm, 189, rfl⟩
abbrev main_v160 : Ref sig .tc := ⟨.hbm, 190, rfl⟩
abbrev main_cst_11 : Ref sig .tc := ⟨.hbm, 191, rfl⟩
abbrev main_v161 : Ref sig .tc := ⟨.hbm, 192, rfl⟩
abbrev main_v162 : Ref sig .tc := ⟨.hbm, 193, rfl⟩
abbrev main_v163 : Ref sig .tc := ⟨.hbm, 194, rfl⟩
abbrev main_v164 : Ref sig .tc := ⟨.hbm, 195, rfl⟩
abbrev main_cst_12 : Ref sig .tc := ⟨.hbm, 196, rfl⟩
abbrev main_v165 : Ref sig .tc := ⟨.hbm, 197, rfl⟩
abbrev main_v166 : Ref sig .tc := ⟨.hbm, 198, rfl⟩
abbrev main_v167 : Ref sig .tc := ⟨.hbm, 199, rfl⟩
abbrev main_v168 : Ref sig .tc := ⟨.hbm, 200, rfl⟩
abbrev main_v169 : Ref sig .tc := ⟨.hbm, 201, rfl⟩
abbrev main_v170 : Ref sig .tc := ⟨.hbm, 202, rfl⟩
abbrev main_v171 : Ref sig .tc := ⟨.hbm, 203, rfl⟩
abbrev main_cst_13 : Ref sig .tc := ⟨.hbm, 204, rfl⟩
abbrev main_v172 : Ref sig .tc := ⟨.hbm, 205, rfl⟩
abbrev main_c_14 : Ref sig .tc := ⟨.hbm, 206, rfl⟩
abbrev main_v173_0 : Ref sig .tc := ⟨.hbm, 207, rfl⟩
abbrev main_v173_1 : Ref sig .tc := ⟨.hbm, 208, rfl⟩
abbrev main_v173_2 : Ref sig .tc := ⟨.hbm, 209, rfl⟩
abbrev main_v173_3 : Ref sig .tc := ⟨.hbm, 210, rfl⟩
abbrev main_v173_4 : Ref sig .tc := ⟨.hbm, 211, rfl⟩
abbrev main_v173_5 : Ref sig .tc := ⟨.hbm, 212, rfl⟩
abbrev main_v173_6 : Ref sig .tc := ⟨.hbm, 213, rfl⟩
abbrev main_v173_7 : Ref sig .tc := ⟨.hbm, 214, rfl⟩
abbrev main_v173_8 : Ref sig .tc := ⟨.hbm, 215, rfl⟩
abbrev main_v173_9 : Ref sig .tc := ⟨.hbm, 216, rfl⟩
abbrev main_while0c_c_27 : Ref sig .tc := ⟨.hbm, 217, rfl⟩
abbrev main_while0c_v192 : Ref sig .tc := ⟨.hbm, 218, rfl⟩
abbrev main_while0b_call3_c : Ref sig .tc := ⟨.hbm, 219, rfl⟩
abbrev main_while0b_call3_c_0 : Ref sig .tc := ⟨.hbm, 220, rfl⟩
abbrev main_while0b_call3_c_1 : Ref sig .tc := ⟨.hbm, 221, rfl⟩
abbrev main_while0b_call3_c_2 : Ref sig .tc := ⟨.hbm, 222, rfl⟩
abbrev main_while0b_call3_v0 : Ref sig .tc := ⟨.hbm, 223, rfl⟩
abbrev main_while0b_v192 : Ref sig .tc := ⟨.hbm, 224, rfl⟩
abbrev main_while0b_call4_c : Ref sig .tc := ⟨.hbm, 225, rfl⟩
abbrev main_while0b_call4_c_0 : Ref sig .tc := ⟨.hbm, 226, rfl⟩
abbrev main_while0b_call4_c_1 : Ref sig .tc := ⟨.hbm, 227, rfl⟩
abbrev main_while0b_call4_c_2 : Ref sig .tc := ⟨.hbm, 228, rfl⟩
abbrev main_while0b_call4_v0 : Ref sig .tc := ⟨.hbm, 229, rfl⟩
abbrev main_while0b_v193 : Ref sig .tc := ⟨.hbm, 230, rfl⟩
abbrev main_while0b_call5_c : Ref sig .tc := ⟨.hbm, 231, rfl⟩
abbrev main_while0b_call5_c_0 : Ref sig .tc := ⟨.hbm, 232, rfl⟩
abbrev main_while0b_call5_c_1 : Ref sig .tc := ⟨.hbm, 233, rfl⟩
abbrev main_while0b_call5_c_2 : Ref sig .tc := ⟨.hbm, 234, rfl⟩
abbrev main_while0b_call5_v0 : Ref sig .tc := ⟨.hbm, 235, rfl⟩
abbrev main_while0b_v194 : Ref sig .tc := ⟨.hbm, 236, rfl⟩
abbrev main_while0b_v195 : Ref sig .tc := ⟨.hbm, 237, rfl⟩
abbrev main_while0b_v196 : Ref sig .tc := ⟨.hbm, 238, rfl⟩
abbrev main_while0b_v197 : Ref sig .tc := ⟨.hbm, 239, rfl⟩
abbrev main_while0b_v198 : Ref sig .tc := ⟨.hbm, 240, rfl⟩
abbrev main_while0b_v199 : Ref sig .tc := ⟨.hbm, 241, rfl⟩
abbrev main_while0b_v200 : Ref sig .tc := ⟨.hbm, 242, rfl⟩
abbrev main_while0b_v201 : Ref sig .tc := ⟨.hbm, 243, rfl⟩
abbrev main_while0b_v202 : Ref sig .tc := ⟨.hbm, 244, rfl⟩
abbrev main_while0b_v203 : Ref sig .tc := ⟨.hbm, 245, rfl⟩
abbrev main_while0b_v204 : Ref sig .tc := ⟨.hbm, 246, rfl⟩
abbrev main_while0b_v205 : Ref sig .tc := ⟨.hbm, 247, rfl⟩
abbrev main_while0b_v206 : Ref sig .tc := ⟨.hbm, 248, rfl⟩
abbrev main_while0b_v207 : Ref sig .tc := ⟨.hbm, 249, rfl⟩
abbrev main_while0b_v208 : Ref sig .tc := ⟨.hbm, 250, rfl⟩
abbrev main_while0b_v209 : Ref sig .tc := ⟨.hbm, 251, rfl⟩
abbrev main_while0b_call6_v0 : Ref sig .tc := ⟨.hbm, 252, rfl⟩
abbrev main_while0b_call6_c : Ref sig .tc := ⟨.hbm, 253, rfl⟩
abbrev main_while0b_call6_c_0 : Ref sig .tc := ⟨.hbm, 254, rfl⟩
abbrev main_while0b_call6_c_1 : Ref sig .tc := ⟨.hbm, 255, rfl⟩
abbrev main_while0b_call6_c_2 : Ref sig .tc := ⟨.hbm, 256, rfl⟩
abbrev main_while0b_v210 : Ref sig .tc := ⟨.hbm, 257, rfl⟩
abbrev main_while0b_c_27 : Ref sig .tc := ⟨.hbm, 258, rfl⟩
abbrev main_while0b_v211 : Ref sig .tc := ⟨.hbm, 259, rfl⟩
abbrev main_v174 : Ref sig .tc := ⟨.hbm, 260, rfl⟩
abbrev main_v175 : Ref sig .tc := ⟨.hbm, 261, rfl⟩
abbrev main_v176 : Ref sig .tc := ⟨.hbm, 262, rfl⟩
abbrev main_cst_15 : Ref sig .tc := ⟨.hbm, 263, rfl⟩
abbrev main_v177 : Ref sig .tc := ⟨.hbm, 264, rfl⟩
abbrev main_v178 : Ref sig .tc := ⟨.hbm, 265, rfl⟩
abbrev main_cst_16 : Ref sig .tc := ⟨.hbm, 266, rfl⟩
abbrev main_v179 : Ref sig .tc := ⟨.hbm, 267, rfl⟩
abbrev main_v180 : Ref sig .tc := ⟨.hbm, 268, rfl⟩
abbrev main_cst_17 : Ref sig .tc := ⟨.hbm, 269, rfl⟩
abbrev main_v181 : Ref sig .tc := ⟨.hbm, 270, rfl⟩
abbrev main_v182 : Ref sig .tc := ⟨.hbm, 271, rfl⟩
abbrev main_v183 : Ref sig .tc := ⟨.hbm, 272, rfl⟩
abbrev main_v184 : Ref sig .tc := ⟨.hbm, 273, rfl⟩
abbrev main_v185 : Ref sig .tc := ⟨.hbm, 274, rfl⟩
abbrev main_call7_v0 : Ref sig .tc := ⟨.hbm, 275, rfl⟩
abbrev main_call7_v1 : Ref sig .tc := ⟨.hbm, 276, rfl⟩
abbrev main_call7_cst : Ref sig .tc := ⟨.hbm, 277, rfl⟩
abbrev main_call7_v2 : Ref sig .tc := ⟨.hbm, 278, rfl⟩
abbrev main_call7_v3 : Ref sig .tc := ⟨.hbm, 279, rfl⟩
abbrev main_call7_cst_0 : Ref sig .tc := ⟨.hbm, 280, rfl⟩
abbrev main_call7_v4 : Ref sig .tc := ⟨.hbm, 281, rfl⟩
abbrev main_call7_v5 : Ref sig .tc := ⟨.hbm, 282, rfl⟩
abbrev main_v186 : Ref sig .tc := ⟨.hbm, 283, rfl⟩
abbrev main_v187 : Ref sig .tc := ⟨.hbm, 284, rfl⟩
abbrev main_v188 : Ref sig .tc := ⟨.hbm, 285, rfl⟩
abbrev main_v189 : Ref sig .tc := ⟨.hbm, 286, rfl⟩
abbrev main_v190 : Ref sig .tc := ⟨.hbm, 287, rfl⟩
abbrev main_v191 : Ref sig .tc := ⟨.hbm, 288, rfl⟩

abbrev nD : Nat := 1
abbrev τ : Topo := Topo.v7x

variable {F : FTy → Type} [FloatOps F]

abbrev main_while0_count : Scf.Loop 32 := ⟨0#32, 32#32, 1#32⟩
-- ==== Kernel2.lean ====
abbrev S16384x2048 : Shape := ⟨2, ![16384, 2048]⟩
abbrev S2x2048x24576 : Shape := ⟨3, ![2, 2048, 24576]⟩
abbrev S96x16384x128 : Shape := ⟨3, ![96, 16384, 128]⟩
abbrev S2048x2048 : Shape := ⟨2, ![2048, 2048]⟩
abbrev S1x2048x1024 : Shape := ⟨3, ![1, 2048, 1024]⟩
abbrev S8x2048x128 : Shape := ⟨3, ![8, 2048, 128]⟩
abbrev S2048x1024 : Shape := ⟨2, ![2048, 1024]⟩
abbrev S2048x128 : Shape := ⟨2, ![2048, 128]⟩
abbrev S1x2048x128 : Shape := ⟨3, ![1, 2048, 128]⟩

abbrev nBuf : Space → Nat
  | .hbm => 3
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S2x2048x24576, .f32⟩
  | .hbm, ⟨2, _⟩ => ⟨S96x16384x128, .bf16⟩
  | .local _ .vmem, ⟨0, _⟩ => ⟨S2048x2048, .bf16⟩
  | .local _ .vmem, ⟨1, _⟩ => ⟨S2048x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S8x2048x128, .bf16⟩
  | .local _ .vmem, ⟨5, _⟩ => ⟨S8x2048x128, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![12, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S16384x2048 : Shape := ⟨2, ![16384, 2048]⟩
abbrev S2x2048x24576 : Shape := ⟨3, ![2, 2048, 24576]⟩
abbrev S1x2048x24576 : Shape := ⟨3, ![1, 2048, 24576]⟩
abbrev S2048x24576 : Shape := ⟨2, ![2048, 24576]⟩
abbrev S2048x12288 : Shape := ⟨2, ![2048, 12288]⟩
abbrev S16384x12288 : Shape := ⟨2, ![16384, 12288]⟩
abbrev S16384x96x128 : Shape := ⟨3, ![16384, 96, 128]⟩
abbrev S96x16384x128 : Shape := ⟨3, ![96, 16384, 128]⟩

abbrev nBuf : Space → Nat
  | .hbm => 10
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2x2048x24576, .f32⟩
  | .hbm, ⟨2, _⟩ => ⟨S16384x2048, .f32⟩
  | .hbm, ⟨3, _⟩ => ⟨S1x2048x24576, .f32⟩
  | .hbm, ⟨4, _⟩ => ⟨S2048x24576, .f32⟩
  | .hbm, ⟨5, _⟩ => ⟨S2048x12288, .f32⟩
  | .hbm, ⟨6, _⟩ => ⟨S16384x12288, .f32⟩
  | .hbm, ⟨7, _⟩ => ⟨S16384x96x128, .f32⟩
  | .hbm, ⟨8, _⟩ => ⟨S96x16384x128, .f32⟩
  | .hbm, ⟨9, _⟩ => ⟨S96x16384x128, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== Kernel3.lean ====
abbrev S16384x2048 : Shape := ⟨2, ![16384, 2048]⟩
abbrev S2x2048x24576 : Shape := ⟨3, ![2, 2048, 24576]⟩
abbrev S48x16384x128 : Shape := ⟨3, ![48, 16384, 128]⟩
abbrev S48x4x4x1024x128 : Shape := ⟨5, ![48, 4, 4, 1024, 128]⟩
abbrev S1024x2048 : Shape := ⟨2, ![1024, 2048]⟩
abbrev S1x2048x1024 : Shape := ⟨3, ![1, 2048, 1024]⟩
abbrev S8x1024x128 : Shape := ⟨3, ![8, 1024, 128]⟩
abbrev S8x1x4x256x128 : Shape := ⟨5, ![8, 1, 4, 256, 128]⟩
abbrev S1x2048x256 : Shape := ⟨3, ![1, 2048, 256]⟩
abbrev S2048x256 : Shape := ⟨2, ![2048, 256]⟩
abbrev S1024x256 : Shape := ⟨2, ![1024, 256]⟩
abbrev S1024x128 : Shape := ⟨2, ![1024, 128]⟩
abbrev S1x1024x128 : Shape := ⟨3, ![1, 1024, 128]⟩
abbrev S1x256x128 : Shape := ⟨3, ![1, 256, 128]⟩
abbrev S256x128 : Shape := ⟨2, ![256, 128]⟩
abbrev S1x1x1x256x128 : Shape := ⟨5, ![1, 1, 1, 256, 128]⟩

abbrev nBuf : Space → Nat
  | .hbm => 4
  | .vmem => 9
  | .smem => 0
  | _ => 0

abbrev bufTy : (tb : Table) → Fin (tcTables nBuf tb) → BufTy
  | .hbm, ⟨0, _⟩ => ⟨S16384x2048, .bf16⟩
  | .hbm, ⟨1, _⟩ => ⟨S2x2048x24576, .f32⟩
  | .hbm, ⟨2, _⟩ => ⟨S48x16384x128, .bf16⟩
  | .hbm, ⟨3, _⟩ => ⟨S48x4x4x1024x128, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S8x1024x128, .bf16⟩
  | .local _ .vmem, ⟨5, _⟩ => ⟨S8x1024x128, .bf16⟩
  | .local _ .vmem, ⟨6, _⟩ => ⟨S8x1x4x256x128, .f32⟩
  | .local _ .vmem, ⟨7, _⟩ => ⟨S8x1x4x256x128, .f32⟩
  | .local _ .vmem, ⟨8, _⟩ => ⟨S8x1024x128, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![6, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 5 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![arg0.toNat, v16.toNat, c0_i32_10.toNat, v26.toNat, c0_i32_11.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1x4x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S16384x2048 : Shape := ⟨2, ![16384, 2048]⟩
abbrev S2x2048x24576 : Shape := ⟨3, ![2, 2048, 24576]⟩
abbrev S1x2048x24576 : Shape := ⟨3, ![1, 2048, 24576]⟩
abbrev S2048x24576 : Shape := ⟨2, ![2048, 24576]⟩
abbrev S2048x6144 : Shape := ⟨2, ![2048, 6144]⟩
abbrev S16384x6144 : Shape := ⟨2, ![16384, 6144]⟩
abbrev S6144 : Shape := ⟨1, ![6144]⟩
abbrev S_ : Shape := ⟨0, ![]⟩
abbrev S1x6144 : Shape := ⟨2, ![1, 6144]⟩
abbrev S16384x48x128 : Shape := ⟨3, ![16384, 48, 128]⟩
abbrev S48x16384x128 : Shape := ⟨3, ![48, 16384, 128]⟩
abbrev S48x4x1024x4x128 : Shape := ⟨5, ![48, 4, 1024, 4, 128]⟩
abbrev S48x4x4x1024x128 : Shape := ⟨5, ![48, 4, 4, 1024, 128]⟩

abbrev nBuf : Space → Nat
  | .hbm => 25
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2x2048x24576, .f32⟩
  | .hbm, ⟨2, _⟩ => ⟨S16384x2048, .f32⟩
  | .hbm, ⟨3, _⟩ => ⟨S1x2048x24576, .f32⟩
  | .hbm, ⟨4, _⟩ => ⟨S2048x24576, .f32⟩
  | .hbm, ⟨5, _⟩ => ⟨S2048x6144, .f32⟩
  | .hbm, ⟨6, _⟩ => ⟨S16384x6144, .f32⟩
  | .hbm, ⟨7, _⟩ => ⟨S6144, .i32⟩
  | .hbm, ⟨8, _⟩ => ⟨S_, .i32⟩
  | .hbm, ⟨9, _⟩ => ⟨S6144, .i32⟩
  | .hbm, ⟨10, _⟩ => ⟨S6144, .i1⟩
  | .hbm, ⟨11, _⟩ => ⟨S_, .f32⟩
  | .hbm, ⟨12, _⟩ => ⟨S_, .f32⟩
  | .hbm, ⟨13, _⟩ => ⟨S6144, .f32⟩
  | .hbm, ⟨14, _⟩ => ⟨S6144, .f32⟩
  | .hbm, ⟨15, _⟩ => ⟨S6144, .f32⟩
  | .hbm, ⟨16, _⟩ => ⟨S1x6144, .f32⟩
  | .hbm, ⟨17, _⟩ => ⟨S1x6144, .f32⟩
  | .hbm, ⟨18, _⟩ => ⟨S16384x6144, .f32⟩
  | .hbm, ⟨19, _⟩ => ⟨S16384x6144, .f32⟩
  | .hbm, ⟨20, _⟩ => ⟨S16384x48x128, .f32⟩
  | .hbm, ⟨21, _⟩ => ⟨S48x16384x128, .f32⟩
  | .hbm, ⟨22, _⟩ => ⟨S48x16384x128, .bf16⟩
  | .hbm, ⟨23, _⟩ => ⟨S48x4x1024x4x128, .f32⟩
  | .hbm, ⟨24, _⟩ => ⟨S48x4x4x1024x128, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_cst_0 : Ref sig .tc := ⟨.hbm, 12, rfl⟩
abbrev main_call0_v0 : Ref sig .tc := ⟨.hbm, 13, rfl⟩
abbrev main_call0_v1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel4.lean ====
abbrev S96x16384x128 : Shape := ⟨3, ![96, 16384, 128]⟩
abbrev S16384x1536 : Shape := ⟨2, ![16384, 1536]⟩
abbrev S2x1536x2048 : Shape := ⟨3, ![2, 1536, 2048]⟩
abbrev S16384x2048 : Shape := ⟨2, ![16384, 2048]⟩
abbrev S1024x1536 : Shape := ⟨2, ![1024, 1536]⟩
abbrev S4x1024x128 : Shape := ⟨3, ![4, 1024, 128]⟩
abbrev S1x1536x512 : Shape := ⟨3, ![1, 1536, 512]⟩
abbrev S1024x512 : Shape := ⟨2, ![1024, 512]⟩
abbrev S1536x512 : Shape := ⟨2, ![1536, 512]⟩
abbrev S1x1024x128 : Shape := ⟨3, ![1, 1024, 128]⟩
abbrev S1024x128 : Shape := ⟨2, ![1024, 128]⟩

abbrev nBuf : Space → Nat
  | .hbm => 8
  | .vmem => 20
  | .smem => 0
  | _ => 0

abbrev bufTy : (tb : Table) → Fin (tcTables nBuf tb) → BufTy
  | .hbm, ⟨0, _⟩ => ⟨S96x16384x128, .bf16⟩
  | .hbm, ⟨1, _⟩ => ⟨S16384x1536, .bf16⟩
  | .hbm, ⟨2, _⟩ => ⟨S16384x1536, .bf16⟩
  | .hbm, ⟨3, _⟩ => ⟨S16384x1536, .bf16⟩
  | .hbm, ⟨4, _⟩ => ⟨S2x1536x2048, .f32⟩
  | .hbm, ⟨5, _⟩ => ⟨S2x1536x2048, .f32⟩
  | .hbm, ⟨6, _⟩ => ⟨S2x1536x2048, .f32⟩
  | .hbm, ⟨7, _⟩ => ⟨S16384x2048, .bf16⟩
  | .local _ .vmem, ⟨0, _⟩ => ⟨S1024x1536, .bf16⟩
  | .local _ .vmem, ⟨1, _⟩ => ⟨S1024x1536, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1536, .bf16⟩
  | .local _ .vmem, ⟨5, _⟩ => ⟨S1024x1536, .bf16⟩
  | .local _ .vmem, ⟨6, _⟩ => ⟨S4x1024x128, .bf16⟩
  | .local _ .vmem, ⟨7, _⟩ => ⟨S4x1024x128, .bf16⟩
  | .local _ .vmem, ⟨8, _⟩ => ⟨S4x1024x128, .bf16⟩
  | .local _ .vmem, ⟨9, _⟩ => ⟨S4x1024x128, .bf16⟩
  | .local _ .vmem, ⟨10, _⟩ => ⟨S4x1024x128, .bf16⟩
  | .local _ .vmem, ⟨11, _⟩ => ⟨S4x1024x128, .bf16⟩
  | .local _ .vmem, ⟨12, _⟩ => ⟨S1x1536x512, .f32⟩
  | .local _ .vmem, ⟨13, _⟩ => ⟨S1x1536x512, .f32⟩
  | .local _ .vmem, ⟨14, _⟩ => ⟨S1x1536x512, .f32⟩
  | .local _ .vmem, ⟨15, _⟩ => ⟨S1x1536x512, .f32⟩
  | .local _ .vmem, ⟨16, _⟩ => ⟨S1x1536x512, .f32⟩
  | .local _ .vmem, ⟨17, _⟩ => ⟨S1x1536x512, .f32⟩
  | .local _ .vmem, ⟨18, _⟩ => ⟨S1024x512, .bf16⟩
  | .local _ .vmem, ⟨19, _⟩ => ⟨S1024x512, .bf16⟩
  | _, _ => ⟨S96x16384x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  let c0_i32_0 : BitVec 32 := 0#32
  ![v0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![v0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c0_i32 : BitVec 32 := 0#32
  let c0_i32_0 : BitVec 32 := 0#32
  ![v0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1536x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1536x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1536x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference4Ideal.lean ====
abbrev S96x16384x128 : Shape := ⟨3, ![96, 16384, 128]⟩
abbrev S16384x1536 : Shape := ⟨2, ![16384, 1536]⟩
abbrev S2x1536x2048 : Shape := ⟨3, ![2, 1536, 2048]⟩
abbrev S16x16384x128 : Shape := ⟨3, ![16, 16384, 128]⟩
abbrev S16384x16x128 : Shape := ⟨3, ![16384, 16, 128]⟩
abbrev S16384x2048 : Shape := ⟨2, ![16384, 2048]⟩
abbrev S_ : Shape := ⟨0, ![]⟩
abbrev S1x1536x2048 : Shape := ⟨3, ![1, 1536, 2048]⟩
abbrev S1536x2048 : Shape := ⟨2, ![1536, 2048]⟩

abbrev nBuf : Space → Nat
  | .hbm => 61
  | .vmem => 0
  | .smem => 0
  | _ => 0

abbrev bufTy : (tb : Table) → Fin (tcTables nBuf tb) → BufTy
  | .hbm, ⟨0, _⟩ => ⟨S96x16384x128, .bf16⟩
  | .hbm, ⟨1, _⟩ => ⟨S16384x1536, .bf16⟩
  | .hbm, ⟨2, _⟩ => ⟨S16384x1536, .bf16⟩
  | .hbm, ⟨3, _⟩ => ⟨S16384x1536, .bf16⟩
  | .hbm, ⟨4, _⟩ => ⟨S2x1536x2048, .f32⟩
  | .hbm, ⟨5, _⟩ => ⟨S2x1536x2048, .f32⟩
  | .hbm, ⟨6, _⟩ => ⟨S2x1536x2048, .f32⟩
  | .hbm, ⟨7, _⟩ => ⟨S16x16384x128, .bf16⟩
  | .hbm, ⟨8, _⟩ => ⟨S16x16384x128, .f32⟩
  | .hbm, ⟨9, _⟩ => ⟨S16384x16x128, .f32⟩
  | .hbm, ⟨10, _⟩ => ⟨S16384x2048, .f32⟩
  | .hbm, ⟨11, _⟩ => ⟨S16384x2048, .f32⟩
  | .hbm, ⟨12, _⟩ => ⟨S16384x2048, .f32⟩
  | .hbm, ⟨13, _⟩ => ⟨S_, .f32⟩
  | .hbm, ⟨14, _⟩ => ⟨S16384x2048, .f32⟩
  | .hbm, ⟨15, _⟩ => ⟨S16384x2048, .f32⟩
  | .hbm, ⟨16, _⟩ => ⟨S_, .f32⟩
  | .hbm, ⟨17, _⟩ => ⟨S16384x2048, .f32⟩
  | .hbm, ⟨18, _⟩ => ⟨S16384x2048, .f32⟩
  | .hbm, ⟨19, _⟩ => ⟨S16384x1536, .f32⟩
  | .hbm, ⟨20, _⟩ => ⟨S1x1536x2048, .f32⟩
  | .hbm, ⟨21, _⟩ => ⟨S1536x2048, .f32⟩
  | .hbm, ⟨22, _⟩ => ⟨S16384x2048, .f32⟩
  | .hbm, ⟨23, _⟩ => ⟨S16384x2048, .f32⟩
  | .hbm, ⟨24, _⟩ => ⟨S16x16384x128, .bf16⟩
  | .hbm, ⟨25, _⟩ => ⟨S16x16384x128, .f32⟩
  | .hbm, ⟨26, _⟩ => ⟨S16384x16x128, .f32⟩
  | .hbm, ⟨27, _⟩ => ⟨S16384x2048, .f32⟩
  | .hbm, ⟨28, _⟩ => ⟨S16384x2048, .f32⟩
  | .hbm, ⟨29, _⟩ => ⟨S16384x2048, .f32⟩
  | .hbm, ⟨30, _⟩ => ⟨S_, .f32⟩
  | .hbm, ⟨31, _⟩ => ⟨S16384x2048, .f32⟩
  | .hbm, ⟨32, _⟩ => ⟨S16384x2048, .f32⟩
  | .hbm, ⟨33, _⟩ => ⟨S_, .f32⟩
  | .hbm, ⟨34, _⟩ => ⟨S16384x2048, .f32⟩
  | .hbm, ⟨35, _⟩ => ⟨S16384x2048, .f32⟩
  | .hbm, ⟨36, _⟩ => ⟨S16384x1536, .f32⟩
  | .hbm, ⟨37, _⟩ => ⟨S1x1536x2048, .f32⟩
  | .hbm, ⟨38, _⟩ => ⟨S1536x2048, .f32⟩
  | .hbm, ⟨39, _⟩ => ⟨S16384x2048, .f32⟩
  | .hbm, ⟨40, _⟩ => ⟨S16384x2048, .f32⟩
  | .hbm, ⟨41, _⟩ => ⟨S16384x2048, .f32⟩
  | .hbm, ⟨42, _⟩ => ⟨S16x16384x128, .bf16⟩
  | .hbm, ⟨43, _⟩ => ⟨S16x16384x128, .f32⟩
  | .hbm, ⟨44, _⟩ => ⟨S16384x16x128, .f32⟩
  | .hbm, ⟨45, _⟩ => ⟨S16384x2048, .f32⟩
  | .hbm, ⟨46, _⟩ => ⟨S16384x2048, .f32⟩
  | .hbm, ⟨47, _⟩ => ⟨S16384x2048, .f32⟩
  | .hbm, ⟨48, _⟩ => ⟨S_, .f32⟩
  | .hbm, ⟨49, _⟩ => ⟨S16384x2048, .f32⟩
  | .hbm, ⟨50, _⟩ => ⟨S16384x2048, .f32⟩
  | .hbm, ⟨51, _⟩ => ⟨S_, .f32⟩
  | .hbm, ⟨52, _⟩ => ⟨S16384x2048, .f32⟩
  | .hbm, ⟨53, _⟩ => ⟨S16384x2048, .f32⟩
  | .hbm, ⟨54, _⟩ => ⟨S16384x1536, .f32⟩
  | .hbm, ⟨55, _⟩ => ⟨S1x1536x2048, .f32⟩
  | .hbm, ⟨56, _⟩ => ⟨S1536x2048, .f32⟩
  | .hbm, ⟨57, _⟩ => ⟨S16384x2048, .f32⟩
  | .hbm, ⟨58, _⟩ => ⟨S16384x2048, .f32⟩
  | .hbm, ⟨59, _⟩ => ⟨S16384x2048, .f32⟩
  | .hbm, ⟨60, _⟩ => ⟨S16384x2048, .bf16⟩
  | _, _ => ⟨S96x16384x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_3 : Ref sig .tc := ⟨.hbm, 48, rfl⟩
abbrev main_v37 : Ref sig .tc := ⟨.hbm, 49, rfl⟩
abbrev main_v38 : Ref sig .tc := ⟨.hbm, 50, rfl⟩
abbrev main_cst_4 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩

abbrev nD : Nat := 1
abbrev τ : Topo := Topo.v7x

variable {F : FTy → Type} [FloatOps F]
-- ==== Kernel5.lean ====
abbrev S16384x2048 : Shape := ⟨2, ![16384, 2048]⟩
abbrev S2x2048x2048 : Shape := ⟨3, ![2, 2048, 2048]⟩
abbrev S4x4096x2048 : Shape := ⟨3, ![4, 4096, 2048]⟩
abbrev S2048 : Shape := ⟨1, ![2048]⟩
abbrev S1x2048 : Shape := ⟨2, ![1, 2048]⟩
abbrev S512x2048 : Shape := ⟨2, ![512, 2048]⟩
abbrev S1x2048x2048 : Shape := ⟨3, ![1, 2048, 2048]⟩
abbrev S2048x2048 : Shape := ⟨2, ![2048, 2048]⟩
abbrev S512 : Shape := ⟨1, ![512]⟩
abbrev S512x1 : Shape := ⟨2, ![512, 1]⟩

abbrev nBuf : Space → Nat
  | .hbm => 7
  | .vmem => 8
  | .smem => 0
  | _ => 0

abbrev bufTy : (tb : Table) → Fin (tcTables nBuf tb) → BufTy
  | .hbm, ⟨0, _⟩ => ⟨S16384x2048, .bf16⟩
  | .hbm, ⟨1, _⟩ => ⟨S2x2048x2048, .f32⟩
  | .hbm, ⟨2, _⟩ => ⟨S4x4096x2048, .f32⟩
  | .hbm, ⟨3, _⟩ => ⟨S2048, .f32⟩
  | .hbm, ⟨4, _⟩ => ⟨S16384x2048, .f32⟩
  | .hbm, ⟨5, _⟩ => ⟨S1x2048, .f32⟩
  | .hbm, ⟨6, _⟩ => ⟨S16384x2048, .f32⟩
  | .local _ .vmem, ⟨0, _⟩ => ⟨S512x2048, .bf16⟩
  | .local _ .vmem, ⟨1, _⟩ => ⟨S512x2048, .bf16⟩
  | .local _ .vmem, ⟨2, _⟩ => ⟨S1x2048x2048, .f32⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference5Ideal.lean ====
abbrev S16384x2048 : Shape := ⟨2, ![16384, 2048]⟩
abbrev S2x2048x2048 : Shape := ⟨3, ![2, 2048, 2048]⟩
abbrev S4x4096x2048 : Shape := ⟨3, ![4, 4096, 2048]⟩
abbrev S2048 : Shape := ⟨1, ![2048]⟩
abbrev S1x2048x2048 : Shape := ⟨3, ![1, 2048, 2048]⟩
abbrev S2048x2048 : Shape := ⟨2, ![2048, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩

abbrev nBuf : Space → Nat
  | .hbm => 27
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2x2048x2048, .f32⟩
  | .hbm, ⟨2, _⟩ => ⟨S4x4096x2048, .f32⟩
  | .hbm, ⟨3, _⟩ => ⟨S2048, .f32⟩
  | .hbm, ⟨4, _⟩ => ⟨S16384x2048, .f32⟩
  | .hbm, ⟨5, _⟩ => ⟨S1x2048x2048, .f32⟩
  | .hbm, ⟨6, _⟩ => ⟨S2048x2048, .f32⟩
  | .hbm, ⟨7, _⟩ => ⟨S16384x2048, .f32⟩
  | .hbm, ⟨8, _⟩ => ⟨S4x4096x2048, .f32⟩
  | .hbm, ⟨9, _⟩ => ⟨S4x4096x2048, .f32⟩
  | .hbm, ⟨10, _⟩ => ⟨S_, .f32⟩
  | .hbm, ⟨11, _⟩ => ⟨S4x4096, .f32⟩
  | .hbm, ⟨12, _⟩ => ⟨S4x4096x1, .f32⟩
  | .hbm, ⟨13, _⟩ => ⟨S_, .f32⟩
  | .hbm, ⟨14, _⟩ => ⟨S4x4096x1, .f32⟩
  | .hbm, ⟨15, _⟩ => ⟨S4x4096x1, .f32⟩
  | .hbm, ⟨16, _⟩ => ⟨S_, .f32⟩
  | .hbm, ⟨17, _⟩ => ⟨S4x4096x1, .f32⟩
  | .hbm, ⟨18, _⟩ => ⟨S4x4096x1, .f32⟩
  | .hbm, ⟨19, _⟩ => ⟨S4x4096x1, .f32⟩
  | .hbm, ⟨20, _⟩ => ⟨S4x4096x2048, .f32⟩
  | .hbm, ⟨21, _⟩ => ⟨S4x4096x2048, .f32⟩
  | .hbm, ⟨22, _⟩ => ⟨S1x1x2048, .f32⟩
  | .hbm, ⟨23, _⟩ => ⟨S4x4096x2048, .f32⟩
  | .hbm, ⟨24, _⟩ => ⟨S4x4096x2048, .f32⟩
  | .hbm, ⟨25, _⟩ => ⟨S4x4096x2048, .f32⟩
  | .hbm, ⟨26, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel6.lean ====
abbrev S16384x2048 : Shape := ⟨2, ![16384, 2048]⟩
abbrev S2x2048x24576 : Shape := ⟨3, ![2, 2048, 24576]⟩
abbrev S3x1536 : Shape := ⟨2, ![3, 1536]⟩
abbrev S1536 : Shape := ⟨1, ![1536]⟩
abbrev S96x16384x128 : Shape := ⟨3, ![96, 16384, 128]⟩
abbrev S64 : Shape := ⟨1, ![64]⟩
abbrev S_ : Shape := ⟨0, ![]⟩
abbrev S4096 : Shape := ⟨1, ![4096]⟩
abbrev S4096x1 : Shape := ⟨2, ![4096, 1]⟩
abbrev S1x64 : Shape := ⟨2, ![1, 64]⟩
abbrev S4096x64 : Shape := ⟨2, ![4096, 64]⟩
abbrev S4096x128 : Shape := ⟨2, ![4096, 128]⟩
abbrev S12 : Shape := ⟨1, ![12]⟩
abbrev S1x1536 : Shape := ⟨2, ![1, 1536]⟩
abbrev S16384x1536 : Shape := ⟨2, ![16384, 1536]⟩
abbrev S1024x2048 : Shape := ⟨2, ![1024, 2048]⟩
abbrev S1x2048x256 : Shape := ⟨3, ![1, 2048, 256]⟩
abbrev S3x256 : Shape := ⟨2, ![3, 256]⟩
abbrev S1x256 : Shape := ⟨2, ![1, 256]⟩
abbrev S1x4096x128 : Shape := ⟨3, ![1, 4096, 128]⟩
abbrev S1024x256 : Shape := ⟨2, ![1024, 256]⟩
abbrev S8x256 : Shape := ⟨2, ![8, 256]⟩
abbrev S128x128 : Shape := ⟨2, ![128, 128]⟩
abbrev S1 : Shape := ⟨1, ![1]⟩
abbrev S2048x256 : Shape := ⟨2, ![2048, 256]⟩
abbrev S2048x128 : Shape := ⟨2, ![2048, 128]⟩
abbrev S1x2048x128 : Shape := ⟨3, ![1, 2048, 128]⟩
abbrev S16x128x128 : Shape := ⟨3, ![16, 128, 128]⟩
abbrev S1x128x128 : Shape := ⟨3, ![1, 128, 128]⟩
abbrev S16x128x256 : Shape := ⟨3, ![16, 128, 256]⟩
abbrev S16x256x128 : Shape := ⟨3, ![16, 256, 128]⟩
abbrev S16x128 : Shape := ⟨2, ![16, 128]⟩
abbrev S16x128x1 : Shape := ⟨3, ![16, 128, 1]⟩
abbrev S1016x256 : Shape := ⟨2, ![1016, 256]⟩

abbrev nBuf : Space → Nat
  | .hbm => 37
  | .vmem => 30
  | .smem => 1
  | _ => 0

abbrev bufTy : (tb : Table) → Fin (tcTables nBuf tb) → BufTy
  | .hbm, ⟨0, _⟩ => ⟨S16384x2048, .bf16⟩
  | .hbm, ⟨1, _⟩ => ⟨S2x2048x24576, .f32⟩
  | .hbm, ⟨2, _⟩ => ⟨S3x1536, .f32⟩
  | .hbm, ⟨3, _⟩ => ⟨S1536, .f32⟩
  | .hbm, ⟨4, _⟩ => ⟨S96x16384x128, .bf16⟩
  | .hbm, ⟨5, _⟩ => ⟨S64, .f32⟩
  | .hbm, ⟨6, _⟩ => ⟨S64, .f32⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S4096, .f32⟩
  | .hbm, ⟨14, _⟩ => ⟨S4096x1, .f32⟩
  | .hbm, ⟨15, _⟩ => ⟨S1x64, .f32⟩
  | .hbm, ⟨16, _⟩ => ⟨S4096x64, .f32⟩
  | .hbm, ⟨17, _⟩ => ⟨S4096x64, .f32⟩
  | .hbm, ⟨18, _⟩ => ⟨S4096x64, .f32⟩
  | .hbm, ⟨19, _⟩ => ⟨S4096x64, .f32⟩
  | .hbm, ⟨20, _⟩ => ⟨S4096x64, .f32⟩
  | .hbm, ⟨21, _⟩ => ⟨S4096x128, .f32⟩
  | .hbm, ⟨22, _⟩ => ⟨S4096x64, .f32⟩
  | .hbm, ⟨23, _⟩ => ⟨S4096x128, .f32⟩
  | .hbm, ⟨24, _⟩ => ⟨S12, .f32⟩
  | .hbm, ⟨25, _⟩ => ⟨S_, .f32⟩
  | .hbm, ⟨26, _⟩ => ⟨S12, .f32⟩
  | .hbm, ⟨27, _⟩ => ⟨S12, .f32⟩
  | .hbm, ⟨28, _⟩ => ⟨S_, .f32⟩
  | .hbm, ⟨29, _⟩ => ⟨S12, .f32⟩
  | .hbm, ⟨30, _⟩ => ⟨S12, .f32⟩
  | .hbm, ⟨31, _⟩ => ⟨S12, .f32⟩
  | .hbm, ⟨32, _⟩ => ⟨S12, .f32⟩
  | .hbm, ⟨33, _⟩ => ⟨S12, .f32⟩
  | .hbm, ⟨34, _⟩ => ⟨S1x1536, .f32⟩
  | .hbm, ⟨35, _⟩ => ⟨S16384x1536, .bf16⟩
  | .hbm, ⟨36, _⟩ => ⟨S16384x1536, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x256, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S1x2048x256, .f32⟩
  | .local _ .vmem, ⟨7, _⟩ => ⟨S1x2048x256, .f32⟩
  | .local _ .vmem, ⟨8, _⟩ => ⟨S1x2048x256, .f32⟩
  | .local _ .vmem, ⟨9, _⟩ => ⟨S1x2048x256, .f32⟩
  | .local _ .vmem, ⟨10, _⟩ => ⟨S3x256, .f32⟩
  | .local _ .vmem, ⟨11, _⟩ => ⟨S3x256, .f32⟩
  | .local _ .vmem, ⟨12, _⟩ => ⟨S1x256, .f32⟩
  | .local _ .vmem, ⟨13, _⟩ => ⟨S1x256, .f32⟩
  | .local _ .vmem, ⟨14, _⟩ => ⟨S1x4096x128, .bf16⟩
  | .local _ .vmem, ⟨15, _⟩ => ⟨S1x4096x128, .bf16⟩
  | .local _ .vmem, ⟨16, _⟩ => ⟨S1x4096x128, .bf16⟩
  | .local _ .vmem, ⟨17, _⟩ => ⟨S1x4096x128, .bf16⟩
  | .local _ .vmem, ⟨18, _⟩ => ⟨S1x4096x128, .bf16⟩
  | .local _ .vmem, ⟨19, _⟩ => ⟨S1x4096x128, .bf16⟩
  | .local _ .vmem, ⟨20, _⟩ => ⟨S1x4096x128, .bf16⟩
  | .local _ .vmem, ⟨21, _⟩ => ⟨S1x4096x128, .bf16⟩
  | .local _ .vmem, ⟨22, _⟩ => ⟨S4096x128, .f32⟩
  | .local _ .vmem, ⟨23, _⟩ => ⟨S4096x128, .f32⟩
  | .local _ .vmem, ⟨24, _⟩ => ⟨S1024x256, .bf16⟩
  | .local _ .vmem, ⟨25, _⟩ => ⟨S1024x256, .bf16⟩
  | .local _ .vmem, ⟨26, _⟩ => ⟨S4096x128, .bf16⟩
  | .local _ .vmem, ⟨27, _⟩ => ⟨S4096x128, .bf16⟩
  | .local _ .vmem, ⟨28, _⟩ => ⟨S8x256, .f32⟩
  | .local _ .vmem, ⟨29, _⟩ => ⟨S128x128, .f32⟩
  | .local _ .smem, ⟨0, _⟩ => ⟨S12, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .smem, ⟨0, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26_0 : Ref sig .tc := ⟨.hbm, 35, rfl⟩
abbrev main_v26_1 : Ref sig .tc := ⟨.hbm, 36, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_scratch0 : Ref sig .tc := ⟨.vmem, 28, rfl⟩
abbrev cc0_scratch1 : Ref sig .tc := ⟨.vmem, 29, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem13_0 : DmaSem sig := 24
abbrev cc0_sem14_0 : DmaSem sig := 25
abbrev cc0_sem14_1 : DmaSem sig := 26
abbrev cc0_sem15_0 : DmaSem sig := 27
abbrev cc0_sem15_1 : DmaSem sig := 28

abbrev nD : Nat := 1
abbrev τ : Topo := Topo.v7x

variable {F : FTy → Type} [FloatOps F]

abbrev grid0 : Pipeline.Grid := ⟨2, ![6, 16], ![false, false]⟩

def k0_off1 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_4 : BitVec 32 := 0#32
  let v13 : BitVec 1 := Scalar.cmpi .sgt v1 c0_i32_4
  let v14 : BitVec 32 := Scalar.extui v13
  let c0_i32_5 : BitVec 32 := 0#32
  let v15 : BitVec 1 := Scalar.cmpi .slt v1 c0_i32_5
  let v16 : BitVec 32 := Scalar.extui v15
  let v17 : BitVec 32 := Scalar.subi v14 v16
  let c2_i32_3 : BitVec 32 := 2#32
  let c0_i32_6 : BitVec 32 := 0#32
  let v18 : BitVec 1 := Scalar.cmpi .sgt c2_i32_3 c0_i32_6
  let v19 : BitVec 32 := Scalar.extui v18
  let c0_i32_7 : BitVec 32 := 0#32
  let v20 : BitVec 1 := Scalar.cmpi .slt c2_i32_3 c0_i32_7
  let v21 : BitVec 32 := Scalar.extui v20
  let v22 : BitVec 32 := Scalar.subi v19 v21
  let v23 : BitVec 1 := Scalar.cmpi .ne v17 v22
  let v24 : BitVec 32 := Scalar.remsi v1 c2_i32_3
  let c0_i32_8 : BitVec 32 := 0#32
  let v25 : BitVec 1 := Scalar.cmpi .ne v24 c0_i32_8
  let v26 : BitVec 1 := Scalar.andi v23 v25
  let v12 : BitVec 32 := Scalar.divsi v1 c2_i32_3
  let c1_i32_9 : BitVec 32 := 1#32
  let v27 : BitVec 32 := Scalar.subi v12 c1_i32_9
  let v28 : BitVec 32 := Scalar.select v26 v27 v12
  let c12_i32 : BitVec 32 := 12#32
  let c0_i32_10 : BitVec 32 := 0#32
  let v29 : BitVec 1 := Scalar.cmpi .eq c12_i32 c0_i32_10
  let c1_i32_11 : BitVec 32 := 1#32
  let v30 : BitVec 32 := Scalar.select v29 c1_i32_11 c12_i32
  let v31 : BitVec 32 := Scalar.remsi v28 v30
  let c0_i32_13 : BitVec 32 := 0#32
  let v33 : BitVec 1 := Scalar.cmpi .slt v31 c0_i32_13
  let c0_i32_14 : BitVec 32 := 0#32
  let v34 : BitVec 1 := Scalar.cmpi .slt v30 c0_i32_14
  let v35 : BitVec 1 := Scalar.xori v33 v34
  let c0_i32_12 : BitVec 32 := 0#32
  let v32 : BitVec 1 := Scalar.cmpi .ne v31 c0_i32_12
  let v36 : BitVec 1 := Scalar.andi v35 v32
  let v37 : BitVec 32 := Scalar.addi v31 v30
  let v38 : BitVec 32 := Scalar.select v36 v37 v31
  let v39 : Index := Scalar.indexCast v38
  ![v39.toNat]
def k0_mult1 (i : grid0.Coords) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c2048_i32 : BitVec 32 := 2048#32
  let v84 : BitVec 32 := Scalar.muli v11 c2048_i32
  v84
def k0_off2 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c2048_i32 : BitVec 32 := 2048#32
  let v84 : BitVec 32 := Scalar.muli v11 c2048_i32
  let v85 : BitVec 32 := v84
  let v86 : Index := Scalar.indexCast v85
  let c0_31 : Index := 0#32
  ![v86.toNat, 0]
def k0_off3 (i : grid0.Coords) : Fin 3 → Nat :=
  let c0_33 : Index := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c2048_i32 : BitVec 32 := 2048#32
  let v84 : BitVec 32 := Scalar.muli v11 c2048_i32
  let v85 : BitVec 32 := v84
  let v92 : Index := Scalar.indexCast v85
  let c0_34 : Index := 0#32
  ![0, v92.toNat, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 3 → Nat :=
  let arg0 : BitVec 32 := BitVec.ofNat 32 (i 0).val
  let arg1 : BitVec 32 := BitVec.ofNat 32 (i 1).val
  let c30_i32 : BitVec 32 := 30#32
  let v0 : BitVec 32 := Scalar.addi c30_i32 arg0
  let c0_i32 : BitVec 32 := 0#32
  let c0_i32_0 : BitVec 32 := 0#32
  let c0_i32_1 : BitVec 32 := 0#32
  ![c0_i32.toNat, c0_i32_0.toNat, v0.toNat]

def cc0_transform_4 (i : grid0.Coords) : Fin 3 → Nat :=
  let arg0 : BitVec 32 := BitVec.ofNat 32 (i 0).val
  let arg1 : BitVec 32 := BitVec.ofNat 32 (i 1).val
  let c36_i32 : BitVec 32 := 36#32
  let v0 : BitVec 32 := Scalar.addi c36_i32 arg0
  let c0_i32 : BitVec 32 := 0#32
  let c0_i32_0 : BitVec 32 := 0#32
  let c0_i32_1 : BitVec 32 := 0#32
  ![c0_i32.toNat, c0_i32_0.toNat, v0.toNat]

def cc0_transform_5 (i : grid0.Coords) : Fin 3 → Nat :=
  let arg0 : BitVec 32 := BitVec.ofNat 32 (i 0).val
  let arg1 : BitVec 32 := BitVec.ofNat 32 (i 1).val
  let c42_i32 : BitVec 32 := 42#32
  let v0 : BitVec 32 := Scalar.addi c42_i32 arg0
  let c0_i32 : BitVec 32 := 0#32
  let c0_i32_0 : BitVec 32 := 0#32
  let c0_i32_1 : BitVec 32 := 0#32
  ![c0_i32.toNat, c0_i32_0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c12_i32 : BitVec 32 := 12#32
  let c0_i32_4 : BitVec 32 := 0#32
  let v19 : BitVec 1 := Scalar.cmpi .eq c12_i32 c0_i32_4
  let c1_i32_5 : BitVec 32 := 1#32
  let v20 : BitVec 32 := Scalar.select v19 c1_i32_5 c12_i32
  let v21 : BitVec 32 := Scalar.remsi v18 v20
  let c0_i32_6 : BitVec 32 := 0#32
  let v22 : BitVec 1 := Scalar.cmpi .ne v21 c0_i32_6
  let c0_i32_7 : BitVec 32 := 0#32
  let v23 : BitVec 1 := Scalar.cmpi .slt v21 c0_i32_7
  let c0_i32_8 : BitVec 32 := 0#32
  let v24 : BitVec 1 := Scalar.cmpi .slt v20 c0_i32_8
  let v25 : BitVec 1 := Scalar.xori v23 v24
  let v26 : BitVec 1 := Scalar.andi v25 v22
  let v27 : BitVec 32 := Scalar.addi v21 v20
  let v28 : BitVec 32 := Scalar.select v26 v27 v21
  let c0_i32_9 : BitVec 32 := 0#32
  let v29 : BitVec 32 := Scalar.addi c0_i32_9 v28
  let c16_i32_10 : BitVec 32 := 16#32
  let v30 : BitVec 32 := Scalar.muli arg0 c16_i32_10
  let v31 : BitVec 32 := Scalar.addi v30 arg1
  let c2_i32_11 : BitVec 32 := 2#32
  let v32 : BitVec 32 := Scalar.divsi v31 c2_i32_11
  let c0_i32_12 : BitVec 32 := 0#32
  let v33 : BitVec 1 := Scalar.cmpi .sgt v31 c0_i32_12
  let v34 : BitVec 32 := Scalar.extui v33
  let c0_i32_13 : BitVec 32 := 0#32
  let v35 : BitVec 1 := Scalar.cmpi .slt v31 c0_i32_13
  let v36 : BitVec 32 := Scalar.extui v35
  let v37 : BitVec 32 := Scalar.subi v34 v36
  let c0_i32_14 : BitVec 32 := 0#32
  let v38 : BitVec 1 := Scalar.cmpi .sgt c2_i32_11 c0_i32_14
  let v39 : BitVec 32 := Scalar.extui v38
  let c0_i32_15 : BitVec 32 := 0#32
  let v40 : BitVec 1 := Scalar.cmpi .slt c2_i32_11 c0_i32_15
  let v41 : BitVec 32 := Scalar.extui v40
  let v42 : BitVec 32 := Scalar.subi v39 v41
  let v43 : BitVec 1 := Scalar.cmpi .ne v37 v42
  let v44 : BitVec 32 := Scalar.remsi v31 c2_i32_11
  let c0_i32_16 : BitVec 32 := 0#32
  let v45 : BitVec 1 := Scalar.cmpi .ne v44 c0_i32_16
  let v46 : BitVec 1 := Scalar.andi v43 v45
  let c1_i32_17 : BitVec 32 := 1#32
  let v47 : BitVec 32 := Scalar.subi v32 c1_i32_17
  let v48 : BitVec 32 := Scalar.select v46 v47 v32
  let c12_i32_18 : BitVec 32 := 12#32
  let v49 : BitVec 32 := Scalar.divsi v48 c12_i32_18
  let c0_i32_19 : BitVec 32 := 0#32
  let v50 : BitVec 1 := Scalar.cmpi .sgt v48 c0_i32_19
  let v51 : BitVec 32 := Scalar.extui v50
  let c0_i32_20 : BitVec 32 := 0#32
  let v52 : BitVec 1 := Scalar.cmpi .slt v48 c0_i32_20
  let v53 : BitVec 32 := Scalar.extui v52
  let v54 : BitVec 32 := Scalar.subi v51 v53
  let c0_i32_21 : BitVec 32 := 0#32
  let v55 : BitVec 1 := Scalar.cmpi .sgt c12_i32_18 c0_i32_21
  let v56 : BitVec 32 := Scalar.extui v55
  let c0_i32_22 : BitVec 32 := 0#32
  let v57 : BitVec 1 := Scalar.cmpi .slt c12_i32_18 c0_i32_22
  let v58 : BitVec 32 := Scalar.extui v57
  let v59 : BitVec 32 := Scalar.subi v56 v58
  let v60 : BitVec 1 := Scalar.cmpi .ne v54 v59
  let v61 : BitVec 32 := Scalar.remsi v48 c12_i32_18
  let c0_i32_23 : BitVec 32 := 0#32
  let v62 : BitVec 1 := Scalar.cmpi .ne v61 c0_i32_23
  let v63 : BitVec 1 := Scalar.andi v60 v62
  let c1_i32_24 : BitVec 32 := 1#32
  let v64 : BitVec 32 := Scalar.subi v49 c1_i32_24
  let v65 : BitVec 32 := Scalar.select v63 v64 v49
  let c0_i32_25 : BitVec 32 := 0#32
  let c0_i32_26 : BitVec 32 := 0#32
  ![v29.toNat, v65.toNat, c0_i32_25.toNat]

def cc0_transform_9 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c12_i32 : BitVec 32 := 12#32
  let c0_i32_4 : BitVec 32 := 0#32
  let v19 : BitVec 1 := Scalar.cmpi .eq c12_i32 c0_i32_4
  let c1_i32_5 : BitVec 32 := 1#32
  let v20 : BitVec 32 := Scalar.select v19 c1_i32_5 c12_i32
  let v21 : BitVec 32 := Scalar.remsi v18 v20
  let c0_i32_6 : BitVec 32 := 0#32
  let v22 : BitVec 1 := Scalar.cmpi .ne v21 c0_i32_6
  let c0_i32_7 : BitVec 32 := 0#32
  let v23 : BitVec 1 := Scalar.cmpi .slt v21 c0_i32_7
  let c0_i32_8 : BitVec 32 := 0#32
  let v24 : BitVec 1 := Scalar.cmpi .slt v20 c0_i32_8
  let v25 : BitVec 1 := Scalar.xori v23 v24
  let v26 : BitVec 1 := Scalar.andi v25 v22
  let v27 : BitVec 32 := Scalar.addi v21 v20
  let v28 : BitVec 32 := Scalar.select v26 v27 v21
  let c12_i32_9 : BitVec 32 := 12#32
  let v29 : BitVec 32 := Scalar.addi c12_i32_9 v28
  let c16_i32_10 : BitVec 32 := 16#32
  let v30 : BitVec 32 := Scalar.muli arg0 c16_i32_10
  let v31 : BitVec 32 := Scalar.addi v30 arg1
  let c2_i32_11 : BitVec 32 := 2#32
  let v32 : BitVec 32 := Scalar.divsi v31 c2_i32_11
  let c0_i32_12 : BitVec 32 := 0#32
  let v33 : BitVec 1 := Scalar.cmpi .sgt v31 c0_i32_12
  let v34 : BitVec 32 := Scalar.extui v33
  let c0_i32_13 : BitVec 32 := 0#32
  let v35 : BitVec 1 := Scalar.cmpi .slt v31 c0_i32_13
  let v36 : BitVec 32 := Scalar.extui v35
  let v37 : BitVec 32 := Scalar.subi v34 v36
  let c0_i32_14 : BitVec 32 := 0#32
  let v38 : BitVec 1 := Scalar.cmpi .sgt c2_i32_11 c0_i32_14
  let v39 : BitVec 32 := Scalar.extui v38
  let c0_i32_15 : BitVec 32 := 0#32
  let v40 : BitVec 1 := Scalar.cmpi .slt c2_i32_11 c0_i32_15
  let v41 : BitVec 32 := Scalar.extui v40
  let v42 : BitVec 32 := Scalar.subi v39 v41
  let v43 : BitVec 1 := Scalar.cmpi .ne v37 v42
  let v44 : BitVec 32 := Scalar.remsi v31 c2_i32_11
  let c0_i32_16 : BitVec 32 := 0#32
  let v45 : BitVec 1 := Scalar.cmpi .ne v44 c0_i32_16
  let v46 : BitVec 1 := Scalar.andi v43 v45
  let c1_i32_17 : BitVec 32 := 1#32
  let v47 : BitVec 32 := Scalar.subi v32 c1_i32_17
  let v48 : BitVec 32 := Scalar.select v46 v47 v32
  let c12_i32_18 : BitVec 32 := 12#32
  let v49 : BitVec 32 := Scalar.divsi v48 c12_i32_18
  let c0_i32_19 : BitVec 32 := 0#32
  let v50 : BitVec 1 := Scalar.cmpi .sgt v48 c0_i32_19
  let v51 : BitVec 32 := Scalar.extui v50
  let c0_i32_20 : BitVec 32 := 0#32
  let v52 : BitVec 1 := Scalar.cmpi .slt v48 c0_i32_20
  let v53 : BitVec 32 := Scalar.extui v52
  let v54 : BitVec 32 := Scalar.subi v51 v53
  let c0_i32_21 : BitVec 32 := 0#32
  let v55 : BitVec 1 := Scalar.cmpi .sgt c12_i32_18 c0_i32_21
  let v56 : BitVec 32 := Scalar.extui v55
  let c0_i32_22 : BitVec 32 := 0#32
  let v57 : BitVec 1 := Scalar.cmpi .slt c12_i32_18 c0_i32_22
  let v58 : BitVec 32 := Scalar.extui v57
  let v59 : BitVec 32 := Scalar.subi v56 v58
  let v60 : BitVec 1 := Scalar.cmpi .ne v54 v59
  let v61 : BitVec 32 := Scalar.remsi v48 c12_i32_18
  let c0_i32_23 : BitVec 32 := 0#32
  let v62 : BitVec 1 := Scalar.cmpi .ne v61 c0_i32_23
  let v63 : BitVec 1 := Scalar.andi v60 v62
  let c1_i32_24 : BitVec 32 := 1#32
  let v64 : BitVec 32 := Scalar.subi v49 c1_i32_24
  let v65 : BitVec 32 := Scalar.select v63 v64 v49
  let c0_i32_25 : BitVec 32 := 0#32
  let c0_i32_26 : BitVec 32 := 0#32
  ![v29.toNat, v65.toNat, c0_i32_25.toNat]

def cc0_transform_10 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c12_i32 : BitVec 32 := 12#32
  let c0_i32_4 : BitVec 32 := 0#32
  let v19 : BitVec 1 := Scalar.cmpi .eq c12_i32 c0_i32_4
  let c1_i32_5 : BitVec 32 := 1#32
  let v20 : BitVec 32 := Scalar.select v19 c1_i32_5 c12_i32
  let v21 : BitVec 32 := Scalar.remsi v18 v20
  let c0_i32_6 : BitVec 32 := 0#32
  let v22 : BitVec 1 := Scalar.cmpi .ne v21 c0_i32_6
  let c0_i32_7 : BitVec 32 := 0#32
  let v23 : BitVec 1 := Scalar.cmpi .slt v21 c0_i32_7
  let c0_i32_8 : BitVec 32 := 0#32
  let v24 : BitVec 1 := Scalar.cmpi .slt v20 c0_i32_8
  let v25 : BitVec 1 := Scalar.xori v23 v24
  let v26 : BitVec 1 := Scalar.andi v25 v22
  let v27 : BitVec 32 := Scalar.addi v21 v20
  let v28 : BitVec 32 := Scalar.select v26 v27 v21
  let c24_i32 : BitVec 32 := 24#32
  let v29 : BitVec 32 := Scalar.addi c24_i32 v28
  let c16_i32_9 : BitVec 32 := 16#32
  let v30 : BitVec 32 := Scalar.muli arg0 c16_i32_9
  let v31 : BitVec 32 := Scalar.addi v30 arg1
  let c2_i32_10 : BitVec 32 := 2#32
  let v32 : BitVec 32 := Scalar.divsi v31 c2_i32_10
  let c0_i32_11 : BitVec 32 := 0#32
  let v33 : BitVec 1 := Scalar.cmpi .sgt v31 c0_i32_11
  let v34 : BitVec 32 := Scalar.extui v33
  let c0_i32_12 : BitVec 32 := 0#32
  let v35 : BitVec 1 := Scalar.cmpi .slt v31 c0_i32_12
  let v36 : BitVec 32 := Scalar.extui v35
  let v37 : BitVec 32 := Scalar.subi v34 v36
  let c0_i32_13 : BitVec 32 := 0#32
  let v38 : BitVec 1 := Scalar.cmpi .sgt c2_i32_10 c0_i32_13
  let v39 : BitVec 32 := Scalar.extui v38
  let c0_i32_14 : BitVec 32 := 0#32
  let v40 : BitVec 1 := Scalar.cmpi .slt c2_i32_10 c0_i32_14
  let v41 : BitVec 32 := Scalar.extui v40
  let v42 : BitVec 32 := Scalar.subi v39 v41
  let v43 : BitVec 1 := Scalar.cmpi .ne v37 v42
  let v44 : BitVec 32 := Scalar.remsi v31 c2_i32_10
  let c0_i32_15 : BitVec 32 := 0#32
  let v45 : BitVec 1 := Scalar.cmpi .ne v44 c0_i32_15
  let v46 : BitVec 1 := Scalar.andi v43 v45
  let c1_i32_16 : BitVec 32 := 1#32
  let v47 : BitVec 32 := Scalar.subi v32 c1_i32_16
  let v48 : BitVec 32 := Scalar.select v46 v47 v32
  let c12_i32_17 : BitVec 32 := 12#32
  let v49 : BitVec 32 := Scalar.divsi v48 c12_i32_17
  let c0_i32_18 : BitVec 32 := 0#32
  let v50 : BitVec 1 := Scalar.cmpi .sgt v48 c0_i32_18
  let v51 : BitVec 32 := Scalar.extui v50
  let c0_i32_19 : BitVec 32 := 0#32
  let v52 : BitVec 1 := Scalar.cmpi .slt v48 c0_i32_19
  let v53 : BitVec 32 := Scalar.extui v52
  let v54 : BitVec 32 := Scalar.subi v51 v53
  let c0_i32_20 : BitVec 32 := 0#32
  let v55 : BitVec 1 := Scalar.cmpi .sgt c12_i32_17 c0_i32_20
  let v56 : BitVec 32 := Scalar.extui v55
  let c0_i32_21 : BitVec 32 := 0#32
  let v57 : BitVec 1 := Scalar.cmpi .slt c12_i32_17 c0_i32_21
  let v58 : BitVec 32 := Scalar.extui v57
  let v59 : BitVec 32 := Scalar.subi v56 v58
  let v60 : BitVec 1 := Scalar.cmpi .ne v54 v59
  let v61 : BitVec 32 := Scalar.remsi v48 c12_i32_17
  let c0_i32_22 : BitVec 32 := 0#32
  let v62 : BitVec 1 := Scalar.cmpi .ne v61 c0_i32_22
  let v63 : BitVec 1 := Scalar.andi v60 v62
  let c1_i32_23 : BitVec 32 := 1#32
  let v64 : BitVec 32 := Scalar.subi v49 c1_i32_23
  let v65 : BitVec 32 := Scalar.select v63 v64 v49
  let c0_i32_24 : BitVec 32 := 0#32
  let c0_i32_25 : BitVec 32 := 0#32
  ![v29.toNat, v65.toNat, c0_i32_24.toNat]

def cc0_transform_11 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c12_i32 : BitVec 32 := 12#32
  let c0_i32_4 : BitVec 32 := 0#32
  let v19 : BitVec 1 := Scalar.cmpi .eq c12_i32 c0_i32_4
  let c1_i32_5 : BitVec 32 := 1#32
  let v20 : BitVec 32 := Scalar.select v19 c1_i32_5 c12_i32
  let v21 : BitVec 32 := Scalar.remsi v18 v20
  let c0_i32_6 : BitVec 32 := 0#32
  let v22 : BitVec 1 := Scalar.cmpi .ne v21 c0_i32_6
  let c0_i32_7 : BitVec 32 := 0#32
  let v23 : BitVec 1 := Scalar.cmpi .slt v21 c0_i32_7
  let c0_i32_8 : BitVec 32 := 0#32
  let v24 : BitVec 1 := Scalar.cmpi .slt v20 c0_i32_8
  let v25 : BitVec 1 := Scalar.xori v23 v24
  let v26 : BitVec 1 := Scalar.andi v25 v22
  let v27 : BitVec 32 := Scalar.addi v21 v20
  let v28 : BitVec 32 := Scalar.select v26 v27 v21
  let c36_i32 : BitVec 32 := 36#32
  let v29 : BitVec 32 := Scalar.addi c36_i32 v28
  let c16_i32_9 : BitVec 32 := 16#32
  let v30 : BitVec 32 := Scalar.muli arg0 c16_i32_9
  let v31 : BitVec 32 := Scalar.addi v30 arg1
  let c2_i32_10 : BitVec 32 := 2#32
  let v32 : BitVec 32 := Scalar.divsi v31 c2_i32_10
  let c0_i32_11 : BitVec 32 := 0#32
  let v33 : BitVec 1 := Scalar.cmpi .sgt v31 c0_i32_11
  let v34 : BitVec 32 := Scalar.extui v33
  let c0_i32_12 : BitVec 32 := 0#32
  let v35 : BitVec 1 := Scalar.cmpi .slt v31 c0_i32_12
  let v36 : BitVec 32 := Scalar.extui v35
  let v37 : BitVec 32 := Scalar.subi v34 v36
  let c0_i32_13 : BitVec 32 := 0#32
  let v38 : BitVec 1 := Scalar.cmpi .sgt c2_i32_10 c0_i32_13
  let v39 : BitVec 32 := Scalar.extui v38
  let c0_i32_14 : BitVec 32 := 0#32
  let v40 : BitVec 1 := Scalar.cmpi .slt c2_i32_10 c0_i32_14
  let v41 : BitVec 32 := Scalar.extui v40
  let v42 : BitVec 32 := Scalar.subi v39 v41
  let v43 : BitVec 1 := Scalar.cmpi .ne v37 v42
  let v44 : BitVec 32 := Scalar.remsi v31 c2_i32_10
  let c0_i32_15 : BitVec 32 := 0#32
  let v45 : BitVec 1 := Scalar.cmpi .ne v44 c0_i32_15
  let v46 : BitVec 1 := Scalar.andi v43 v45
  let c1_i32_16 : BitVec 32 := 1#32
  let v47 : BitVec 32 := Scalar.subi v32 c1_i32_16
  let v48 : BitVec 32 := Scalar.select v46 v47 v32
  let c12_i32_17 : BitVec 32 := 12#32
  let v49 : BitVec 32 := Scalar.divsi v48 c12_i32_17
  let c0_i32_18 : BitVec 32 := 0#32
  let v50 : BitVec 1 := Scalar.cmpi .sgt v48 c0_i32_18
  let v51 : BitVec 32 := Scalar.extui v50
  let c0_i32_19 : BitVec 32 := 0#32
  let v52 : BitVec 1 := Scalar.cmpi .slt v48 c0_i32_19
  let v53 : BitVec 32 := Scalar.extui v52
  let v54 : BitVec 32 := Scalar.subi v51 v53
  let c0_i32_20 : BitVec 32 := 0#32
  let v55 : BitVec 1 := Scalar.cmpi .sgt c12_i32_17 c0_i32_20
  let v56 : BitVec 32 := Scalar.extui v55
  let c0_i32_21 : BitVec 32 := 0#32
  let v57 : BitVec 1 := Scalar.cmpi .slt c12_i32_17 c0_i32_21
  let v58 : BitVec 32 := Scalar.extui v57
  let v59 : BitVec 32 := Scalar.subi v56 v58
  let v60 : BitVec 1 := Scalar.cmpi .ne v54 v59
  let v61 : BitVec 32 := Scalar.remsi v48 c12_i32_17
  let c0_i32_22 : BitVec 32 := 0#32
  let v62 : BitVec 1 := Scalar.cmpi .ne v61 c0_i32_22
  let v63 : BitVec 1 := Scalar.andi v60 v62
  let c1_i32_23 : BitVec 32 := 1#32
  let v64 : BitVec 32 := Scalar.subi v49 c1_i32_23
  let v65 : BitVec 32 := Scalar.select v63 v64 v49
  let c0_i32_24 : BitVec 32 := 0#32
  let c0_i32_25 : BitVec 32 := 0#32
  ![v29.toNat, v65.toNat, c0_i32_24.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_15 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c12_i32 : BitVec 32 := 12#32
  let v19 : BitVec 32 := Scalar.divsi v18 c12_i32
  let c0_i32_4 : BitVec 32 := 0#32
  let v20 : BitVec 1 := Scalar.cmpi .sgt v18 c0_i32_4
  let v21 : BitVec 32 := Scalar.extui v20
  let c0_i32_5 : BitVec 32 := 0#32
  let v22 : BitVec 1 := Scalar.cmpi .slt v18 c0_i32_5
  let v23 : BitVec 32 := Scalar.extui v22
  let v24 : BitVec 32 := Scalar.subi v21 v23
  let c0_i32_6 : BitVec 32 := 0#32
  let v25 : BitVec 1 := Scalar.cmpi .sgt c12_i32 c0_i32_6
  let v26 : BitVec 32 := Scalar.extui v25
  let c0_i32_7 : BitVec 32 := 0#32
  let v27 : BitVec 1 := Scalar.cmpi .slt c12_i32 c0_i32_7
  let v28 : BitVec 32 := Scalar.extui v27
  let v29 : BitVec 32 := Scalar.subi v26 v28
  let v30 : BitVec 1 := Scalar.cmpi .ne v24 v29
  let v31 : BitVec 32 := Scalar.remsi v18 c12_i32
  let c0_i32_8 : BitVec 32 := 0#32
  let v32 : BitVec 1 := Scalar.cmpi .ne v31 c0_i32_8
  let v33 : BitVec 1 := Scalar.andi v30 v32
  let c1_i32_9 : BitVec 32 := 1#32
  let v34 : BitVec 32 := Scalar.subi v19 c1_i32_9
  let v35 : BitVec 32 := Scalar.select v33 v34 v19
  let c16_i32_10 : BitVec 32 := 16#32
  let v36 : BitVec 32 := Scalar.muli arg0 c16_i32_10
  let v37 : BitVec 32 := Scalar.addi v36 arg1
  let c2_i32_11 : BitVec 32 := 2#32
  let v38 : BitVec 32 := Scalar.divsi v37 c2_i32_11
  let c0_i32_12 : BitVec 32 := 0#32
  let v39 : BitVec 1 := Scalar.cmpi .sgt v37 c0_i32_12
  let v40 : BitVec 32 := Scalar.extui v39
  let c0_i32_13 : BitVec 32 := 0#32
  let v41 : BitVec 1 := Scalar.cmpi .slt v37 c0_i32_13
  let v42 : BitVec 32 := Scalar.extui v41
  let v43 : BitVec 32 := Scalar.subi v40 v42
  let c0_i32_14 : BitVec 32 := 0#32
  let v44 : BitVec 1 := Scalar.cmpi .sgt c2_i32_11 c0_i32_14
  let v45 : BitVec 32 := Scalar.extui v44
  let c0_i32_15 : BitVec 32 := 0#32
  let v46 : BitVec 1 := Scalar.cmpi .slt c2_i32_11 c0_i32_15
  let v47 : BitVec 32 := Scalar.extui v46
  let v48 : BitVec 32 := Scalar.subi v45 v47
  let v49 : BitVec 1 := Scalar.cmpi .ne v43 v48
  let v50 : BitVec 32 := Scalar.remsi v37 c2_i32_11
  let c0_i32_16 : BitVec 32 := 0#32
  let v51 : BitVec 1 := Scalar.cmpi .ne v50 c0_i32_16
  let v52 : BitVec 1 := Scalar.andi v49 v51
  let c1_i32_17 : BitVec 32 := 1#32
  let v53 : BitVec 32 := Scalar.subi v38 c1_i32_17
  let v54 : BitVec 32 := Scalar.select v52 v53 v38
  let c12_i32_18 : BitVec 32 := 12#32
  let c0_i32_19 : BitVec 32 := 0#32
  let v55 : BitVec 1 := Scalar.cmpi .eq c12_i32_18 c0_i32_19
  let c1_i32_20 : BitVec 32 := 1#32
  let v56 : BitVec 32 := Scalar.select v55 c1_i32_20 c12_i32_18
  let v57 : BitVec 32 := Scalar.remsi v54 v56
  let c0_i32_21 : BitVec 32 := 0#32
  let v58 : BitVec 1 := Scalar.cmpi .ne v57 c0_i32_21
  let c0_i32_22 : BitVec 32 := 0#32
  let v59 : BitVec 1 := Scalar.cmpi .slt v57 c0_i32_22
  let c0_i32_23 : BitVec 32 := 0#32
  let v60 : BitVec 1 := Scalar.cmpi .slt v56 c0_i32_23
  let v61 : BitVec 1 := Scalar.xori v59 v60
  let v62 : BitVec 1 := Scalar.andi v61 v58
  let v63 : BitVec 32 := Scalar.addi v57 v56
  let v64 : BitVec 32 := Scalar.select v62 v63 v57
  let c0_i32_24 : BitVec 32 := 0#32
  ![v35.toNat, v64.toNat]

abbrev stage0_0 : Fin 1 → Memref sig .tc .smem S12 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S3x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x4096x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x4096x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x4096x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x4096x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 1 → Memref sig .tc .vmem S4096x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S4096x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1024x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S4096x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Reference6Ideal.lean ====
abbrev S16384x2048 : Shape := ⟨2, ![16384, 2048]⟩
abbrev S2x2048x24576 : Shape := ⟨3, ![2, 2048, 24576]⟩
abbrev S3x1536 : Shape := ⟨2, ![3, 1536]⟩
abbrev S1536 : Shape := ⟨1, ![1536]⟩
abbrev S96x16384x128 : Shape := ⟨3, ![96, 16384, 128]⟩
abbrev S1x2048x24576 : Shape := ⟨3, ![1, 2048, 24576]⟩
abbrev S2048x24576 : Shape := ⟨2, ![2048, 24576]⟩
abbrev S2048x1536 : Shape := ⟨2, ![2048, 1536]⟩
abbrev S16384x1536 : Shape := ⟨2, ![16384, 1536]⟩
abbrev S4x4096x1536 : Shape := ⟨3, ![4, 4096, 1536]⟩
abbrev S_ : Shape := ⟨0, ![]⟩
abbrev S4x4098x1536 : Shape := ⟨3, ![4, 4098, 1536]⟩
abbrev S1x1536 : Shape := ⟨2, ![1, 1536]⟩
abbrev S1x1x1536 : Shape := ⟨3, ![1, 1, 1536]⟩

abbrev nBuf : Space → Nat
  | .hbm => 59
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2x2048x24576, .f32⟩
  | .hbm, ⟨2, _⟩ => ⟨S3x1536, .f32⟩
  | .hbm, ⟨3, _⟩ => ⟨S1536, .f32⟩
  | .hbm, ⟨4, _⟩ => ⟨S96x16384x128, .bf16⟩
  | .hbm, ⟨5, _⟩ => ⟨S16384x2048, .f32⟩
  | .hbm, ⟨6, _⟩ => ⟨S1x2048x24576, .f32⟩
  | .hbm, ⟨7, _⟩ => ⟨S2048x24576, .f32⟩
  | .hbm, ⟨8, _⟩ => ⟨S2048x1536, .f32⟩
  | .hbm, ⟨9, _⟩ => ⟨S16384x1536, .f32⟩
  | .hbm, ⟨10, _⟩ => ⟨S4x4096x1536, .f32⟩
  | .hbm, ⟨11, _⟩ => ⟨S2048x1536, .f32⟩
  | .hbm, ⟨12, _⟩ => ⟨S16384x1536, .f32⟩
  | .hbm, ⟨13, _⟩ => ⟨S4x4096x1536, .f32⟩
  | .hbm, ⟨14, _⟩ => ⟨S2048x1536, .f32⟩
  | .hbm, ⟨15, _⟩ => ⟨S16384x1536, .f32⟩
  | .hbm, ⟨16, _⟩ => ⟨S4x4096x1536, .f32⟩
  | .hbm, ⟨17, _⟩ => ⟨S2048x1536, .f32⟩
  | .hbm, ⟨18, _⟩ => ⟨S16384x1536, .f32⟩
  | .hbm, ⟨19, _⟩ => ⟨S4x4096x1536, .f32⟩
  | .hbm, ⟨20, _⟩ => ⟨S4x4096x1536, .f32⟩
  | .hbm, ⟨21, _⟩ => ⟨S_, .i32⟩
  | .hbm, ⟨22, _⟩ => ⟨S_, .f32⟩
  | .hbm, ⟨23, _⟩ => ⟨S4x4098x1536, .f32⟩
  | .hbm, ⟨24, _⟩ => ⟨S1x1536, .f32⟩
  | .hbm, ⟨25, _⟩ => ⟨S1536, .f32⟩
  | .hbm, ⟨26, _⟩ => ⟨S1x1x1536, .f32⟩
  | .hbm, ⟨27, _⟩ => ⟨S4x4096x1536, .f32⟩
  | .hbm, ⟨28, _⟩ => ⟨S4x4096x1536, .f32⟩
  | .hbm, ⟨29, _⟩ => ⟨S1x1x1536, .f32⟩
  | .hbm, ⟨30, _⟩ => ⟨S4x4096x1536, .f32⟩
  | .hbm, ⟨31, _⟩ => ⟨S4x4096x1536, .f32⟩
  | .hbm, ⟨32, _⟩ => ⟨S1x1536, .f32⟩
  | .hbm, ⟨33, _⟩ => ⟨S1536, .f32⟩
  | .hbm, ⟨34, _⟩ => ⟨S4x4096x1536, .f32⟩
  | .hbm, ⟨35, _⟩ => ⟨S1x1x1536, .f32⟩
  | .hbm, ⟨36, _⟩ => ⟨S4x4096x1536, .f32⟩
  | .hbm, ⟨37, _⟩ => ⟨S4x4096x1536, .f32⟩
  | .hbm, ⟨38, _⟩ => ⟨S4x4096x1536, .f32⟩
  | .hbm, ⟨39, _⟩ => ⟨S1x1536, .f32⟩
  | .hbm, ⟨40, _⟩ => ⟨S1536, .f32⟩
  | .hbm, ⟨41, _⟩ => ⟨S4x4096x1536, .f32⟩
  | .hbm, ⟨42, _⟩ => ⟨S1x1x1536, .f32⟩
  | .hbm, ⟨43, _⟩ => ⟨S4x4096x1536, .f32⟩
  | .hbm, ⟨44, _⟩ => ⟨S4x4096x1536, .f32⟩
  | .hbm, ⟨45, _⟩ => ⟨S4x4096x1536, .f32⟩
  | .hbm, ⟨46, _⟩ => ⟨S4x4096x1536, .f32⟩
  | .hbm, ⟨47, _⟩ => ⟨S4x4096x1536, .f32⟩
  | .hbm, ⟨48, _⟩ => ⟨S4x4096x1536, .f32⟩
  | .hbm, ⟨49, _⟩ => ⟨S_, .f32⟩
  | .hbm, ⟨50, _⟩ => ⟨S4x4096x1536, .f32⟩
  | .hbm, ⟨51, _⟩ => ⟨S4x4096x1536, .f32⟩
  | .hbm, ⟨52, _⟩ => ⟨S_, .f32⟩
  | .hbm, ⟨53, _⟩ => ⟨S4x4096x1536, .f32⟩
  | .hbm, ⟨54, _⟩ => ⟨S4x4096x1536, .f32⟩
  | .hbm, ⟨55, _⟩ => ⟨S4x4096x1536, .f32⟩
  | .hbm, ⟨56, _⟩ => ⟨S4x4096x1536, .f32⟩
  | .hbm, ⟨57, _⟩ => ⟨S16384x1536, .f32⟩
  | .hbm, ⟨58, _⟩ => ⟨S16384x1536, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_c : Ref sig .tc := ⟨.hbm, 21, rfl⟩
abbrev main_call0_v0 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_call1_v0 : Ref sig .tc := ⟨.hbm, 47, rfl⟩
abbrev main_call1_v1 : Ref sig .tc := ⟨.hbm, 48, rfl⟩
abbrev main_call1_cst : Ref sig .tc := ⟨.hbm, 49, rfl⟩
abbrev main_call1_v2 : Ref sig .tc := ⟨.hbm, 50, rfl⟩
abbrev main_call1_v3 : Ref sig .tc := ⟨.hbm, 51, rfl⟩
abbrev main_call1_cst_0 : Ref sig .tc := ⟨.hbm, 52, rfl⟩
abbrev main_call1_v4 : Ref sig .tc := ⟨.hbm, 53, rfl⟩
abbrev main_call1_v5 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩

abbrev nD : Nat := 1
abbrev τ : Topo := Topo.v7x

variable {F : FTy → Type} [FloatOps F]
-- ==== Kernel7.lean ====
abbrev S16384x2048 : Shape := ⟨2, ![16384, 2048]⟩
abbrev S2x2048x24576 : Shape := ⟨3, ![2, 2048, 24576]⟩
abbrev S96x16384x128 : Shape := ⟨3, ![96, 16384, 128]⟩
abbrev S2048x2048 : Shape := ⟨2, ![2048, 2048]⟩
abbrev S1x2048x1024 : Shape := ⟨3, ![1, 2048, 1024]⟩
abbrev S8x2048x128 : Shape := ⟨3, ![8, 2048, 128]⟩
abbrev S2048x1024 : Shape := ⟨2, ![2048, 1024]⟩
abbrev S2048x128 : Shape := ⟨2, ![2048, 128]⟩
abbrev S1x2048x128 : Shape := ⟨3, ![1, 2048, 128]⟩

abbrev nBuf : Space → Nat
  | .hbm => 3
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S2x2048x24576, .f32⟩
  | .hbm, ⟨2, _⟩ => ⟨S96x16384x128, .bf16⟩
  | .local _ .vmem, ⟨0, _⟩ => ⟨S2048x2048, .bf16⟩
  | .local _ .vmem, ⟨1, _⟩ => ⟨S2048x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S8x2048x128, .bf16⟩
  | .local _ .vmem, ⟨5, _⟩ => ⟨S8x2048x128, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![12, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c1_i32 : BitVec 32 := 1#32
  let c0_i32 : BitVec 32 := 0#32
  let c0_i32_0 : BitVec 32 := 0#32
  ![c1_i32.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S16384x2048 : Shape := ⟨2, ![16384, 2048]⟩
abbrev S2x2048x24576 : Shape := ⟨3, ![2, 2048, 24576]⟩
abbrev S1x2048x24576 : Shape := ⟨3, ![1, 2048, 24576]⟩
abbrev S2048x24576 : Shape := ⟨2, ![2048, 24576]⟩
abbrev S2048x12288 : Shape := ⟨2, ![2048, 12288]⟩
abbrev S16384x12288 : Shape := ⟨2, ![16384, 12288]⟩
abbrev S16384x96x128 : Shape := ⟨3, ![16384, 96, 128]⟩
abbrev S96x16384x128 : Shape := ⟨3, ![96, 16384, 128]⟩

abbrev nBuf : Space → Nat
  | .hbm => 10
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2x2048x24576, .f32⟩
  | .hbm, ⟨2, _⟩ => ⟨S16384x2048, .f32⟩
  | .hbm, ⟨3, _⟩ => ⟨S1x2048x24576, .f32⟩
  | .hbm, ⟨4, _⟩ => ⟨S2048x24576, .f32⟩
  | .hbm, ⟨5, _⟩ => ⟨S2048x12288, .f32⟩
  | .hbm, ⟨6, _⟩ => ⟨S16384x12288, .f32⟩
  | .hbm, ⟨7, _⟩ => ⟨S16384x96x128, .f32⟩
  | .hbm, ⟨8, _⟩ => ⟨S96x16384x128, .f32⟩
  | .hbm, ⟨9, _⟩ => ⟨S96x16384x128, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== Kernel8.lean ====
abbrev S16384x2048 : Shape := ⟨2, ![16384, 2048]⟩
abbrev S2x2048x24576 : Shape := ⟨3, ![2, 2048, 24576]⟩
abbrev S48x16384x128 : Shape := ⟨3, ![48, 16384, 128]⟩
abbrev S48x4x4x1024x128 : Shape := ⟨5, ![48, 4, 4, 1024, 128]⟩
abbrev S1024x2048 : Shape := ⟨2, ![1024, 2048]⟩
abbrev S1x2048x1024 : Shape := ⟨3, ![1, 2048, 1024]⟩
abbrev S8x1024x128 : Shape := ⟨3, ![8, 1024, 128]⟩
abbrev S8x1x4x256x128 : Shape := ⟨5, ![8, 1, 4, 256, 128]⟩
abbrev S1x2048x256 : Shape := ⟨3, ![1, 2048, 256]⟩
abbrev S2048x256 : Shape := ⟨2, ![2048, 256]⟩
abbrev S1024x256 : Shape := ⟨2, ![1024, 256]⟩
abbrev S1024x128 : Shape := ⟨2, ![1024, 128]⟩
abbrev S1x1024x128 : Shape := ⟨3, ![1, 1024, 128]⟩
abbrev S1x256x128 : Shape := ⟨3, ![1, 256, 128]⟩
abbrev S256x128 : Shape := ⟨2, ![256, 128]⟩
abbrev S1x1x1x256x128 : Shape := ⟨5, ![1, 1, 1, 256, 128]⟩

abbrev nBuf : Space → Nat
  | .hbm => 4
  | .vmem => 9
  | .smem => 0
  | _ => 0

abbrev bufTy : (tb : Table) → Fin (tcTables nBuf tb) → BufTy
  | .hbm, ⟨0, _⟩ => ⟨S16384x2048, .bf16⟩
  | .hbm, ⟨1, _⟩ => ⟨S2x2048x24576, .f32⟩
  | .hbm, ⟨2, _⟩ => ⟨S48x16384x128, .bf16⟩
  | .hbm, ⟨3, _⟩ => ⟨S48x4x4x1024x128, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S8x1024x128, .bf16⟩
  | .local _ .vmem, ⟨5, _⟩ => ⟨S8x1024x128, .bf16⟩
  | .local _ .vmem, ⟨6, _⟩ => ⟨S8x1x4x256x128, .f32⟩
  | .local _ .vmem, ⟨7, _⟩ => ⟨S8x1x4x256x128, .f32⟩
  | .local _ .vmem, ⟨8, _⟩ => ⟨S8x1024x128, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![6, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let c0_i32_0 : BitVec 32 := 0#32
  let c0_i32_1 : BitVec 32 := 0#32
  ![c1_i32.toNat, c0_i32_0.toNat, v0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 5 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![arg0.toNat, v16.toNat, c0_i32_10.toNat, v26.toNat, c0_i32_11.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1x4x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference8Ideal.lean ====
abbrev S16384x2048 : Shape := ⟨2, ![16384, 2048]⟩
abbrev S2x2048x24576 : Shape := ⟨3, ![2, 2048, 24576]⟩
abbrev S1x2048x24576 : Shape := ⟨3, ![1, 2048, 24576]⟩
abbrev S2048x24576 : Shape := ⟨2, ![2048, 24576]⟩
abbrev S2048x6144 : Shape := ⟨2, ![2048, 6144]⟩
abbrev S16384x6144 : Shape := ⟨2, ![16384, 6144]⟩
abbrev S6144 : Shape := ⟨1, ![6144]⟩
abbrev S_ : Shape := ⟨0, ![]⟩
abbrev S1x6144 : Shape := ⟨2, ![1, 6144]⟩
abbrev S16384x48x128 : Shape := ⟨3, ![16384, 48, 128]⟩
abbrev S48x16384x128 : Shape := ⟨3, ![48, 16384, 128]⟩
abbrev S48x4x1024x4x128 : Shape := ⟨5, ![48, 4, 1024, 4, 128]⟩
abbrev S48x4x4x1024x128 : Shape := ⟨5, ![48, 4, 4, 1024, 128]⟩

abbrev nBuf : Space → Nat
  | .hbm => 25
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2x2048x24576, .f32⟩
  | .hbm, ⟨2, _⟩ => ⟨S16384x2048, .f32⟩
  | .hbm, ⟨3, _⟩ => ⟨S1x2048x24576, .f32⟩
  | .hbm, ⟨4, _⟩ => ⟨S2048x24576, .f32⟩
  | .hbm, ⟨5, _⟩ => ⟨S2048x6144, .f32⟩
  | .hbm, ⟨6, _⟩ => ⟨S16384x6144, .f32⟩
  | .hbm, ⟨7, _⟩ => ⟨S6144, .i32⟩
  | .hbm, ⟨8, _⟩ => ⟨S_, .i32⟩
  | .hbm, ⟨9, _⟩ => ⟨S6144, .i32⟩
  | .hbm, ⟨10, _⟩ => ⟨S6144, .i1⟩
  | .hbm, ⟨11, _⟩ => ⟨S_, .f32⟩
  | .hbm, ⟨12, _⟩ => ⟨S_, .f32⟩
  | .hbm, ⟨13, _⟩ => ⟨S6144, .f32⟩
  | .hbm, ⟨14, _⟩ => ⟨S6144, .f32⟩
  | .hbm, ⟨15, _⟩ => ⟨S6144, .f32⟩
  | .hbm, ⟨16, _⟩ => ⟨S1x6144, .f32⟩
  | .hbm, ⟨17, _⟩ => ⟨S1x6144, .f32⟩
  | .hbm, ⟨18, _⟩ => ⟨S16384x6144, .f32⟩
  | .hbm, ⟨19, _⟩ => ⟨S16384x6144, .f32⟩
  | .hbm, ⟨20, _⟩ => ⟨S16384x48x128, .f32⟩
  | .hbm, ⟨21, _⟩ => ⟨S48x16384x128, .f32⟩
  | .hbm, ⟨22, _⟩ => ⟨S48x16384x128, .bf16⟩
  | .hbm, ⟨23, _⟩ => ⟨S48x4x1024x4x128, .f32⟩
  | .hbm, ⟨24, _⟩ => ⟨S48x4x4x1024x128, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_cst_0 : Ref sig .tc := ⟨.hbm, 12, rfl⟩
abbrev main_call0_v0 : Ref sig .tc := ⟨.hbm, 13, rfl⟩
abbrev main_call0_v1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel9.lean ====
abbrev S96x16384x128 : Shape := ⟨3, ![96, 16384, 128]⟩
abbrev S16384x1536 : Shape := ⟨2, ![16384, 1536]⟩
abbrev S2x1536x2048 : Shape := ⟨3, ![2, 1536, 2048]⟩
abbrev S16384x2048 : Shape := ⟨2, ![16384, 2048]⟩
abbrev S1024x1536 : Shape := ⟨2, ![1024, 1536]⟩
abbrev S4x1024x128 : Shape := ⟨3, ![4, 1024, 128]⟩
abbrev S1x1536x512 : Shape := ⟨3, ![1, 1536, 512]⟩
abbrev S1024x512 : Shape := ⟨2, ![1024, 512]⟩
abbrev S1536x512 : Shape := ⟨2, ![1536, 512]⟩
abbrev S1x1024x128 : Shape := ⟨3, ![1, 1024, 128]⟩
abbrev S1024x128 : Shape := ⟨2, ![1024, 128]⟩

abbrev nBuf : Space → Nat
  | .hbm => 8
  | .vmem => 20
  | .smem => 0
  | _ => 0

abbrev bufTy : (tb : Table) → Fin (tcTables nBuf tb) → BufTy
  | .hbm, ⟨0, _⟩ => ⟨S96x16384x128, .bf16⟩
  | .hbm, ⟨1, _⟩ => ⟨S16384x1536, .bf16⟩
  | .hbm, ⟨2, _⟩ => ⟨S16384x1536, .bf16⟩
  | .hbm, ⟨3, _⟩ => ⟨S16384x1536, .bf16⟩
  | .hbm, ⟨4, _⟩ => ⟨S2x1536x2048, .f32⟩
  | .hbm, ⟨5, _⟩ => ⟨S2x1536x2048, .f32⟩
  | .hbm, ⟨6, _⟩ => ⟨S2x1536x2048, .f32⟩
  | .hbm, ⟨7, _⟩ => ⟨S16384x2048, .bf16⟩
  | .local _ .vmem, ⟨0, _⟩ => ⟨S1024x1536, .bf16⟩
  | .local _ .vmem, ⟨1, _⟩ => ⟨S1024x1536, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1536, .bf16⟩
  | .local _ .vmem, ⟨5, _⟩ => ⟨S1024x1536, .bf16⟩
  | .local _ .vmem, ⟨6, _⟩ => ⟨S4x1024x128, .bf16⟩
  | .local _ .vmem, ⟨7, _⟩ => ⟨S4x1024x128, .bf16⟩
  | .local _ .vmem, ⟨8, _⟩ => ⟨S4x1024x128, .bf16⟩
  | .local _ .vmem, ⟨9, _⟩ => ⟨S4x1024x128, .bf16⟩
  | .local _ .vmem, ⟨10, _⟩ => ⟨S4x1024x128, .bf16⟩
  | .local _ .vmem, ⟨11, _⟩ => ⟨S4x1024x128, .bf16⟩
  | .local _ .vmem, ⟨12, _⟩ => ⟨S1x1536x512, .f32⟩
  | .local _ .vmem, ⟨13, _⟩ => ⟨S1x1536x512, .f32⟩
  | .local _ .vmem, ⟨14, _⟩ => ⟨S1x1536x512, .f32⟩
  | .local _ .vmem, ⟨15, _⟩ => ⟨S1x1536x512, .f32⟩
  | .local _ .vmem, ⟨16, _⟩ => ⟨S1x1536x512, .f32⟩
  | .local _ .vmem, ⟨17, _⟩ => ⟨S1x1536x512, .f32⟩
  | .local _ .vmem, ⟨18, _⟩ => ⟨S1024x512, .bf16⟩
  | .local _ .vmem, ⟨19, _⟩ => ⟨S1024x512, .bf16⟩
  | _, _ => ⟨S96x16384x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  let c0_i32_0 : BitVec 32 := 0#32
  ![v0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![v0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c0_i32 : BitVec 32 := 0#32
  let c0_i32_0 : BitVec 32 := 0#32
  ![v0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1536x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1536x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1536x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference9Ideal.lean ====
abbrev S96x16384x128 : Shape := ⟨3, ![96, 16384, 128]⟩
abbrev S16384x1536 : Shape := ⟨2, ![16384, 1536]⟩
abbrev S2x1536x2048 : Shape := ⟨3, ![2, 1536, 2048]⟩
abbrev S16x16384x128 : Shape := ⟨3, ![16, 16384, 128]⟩
abbrev S16384x16x128 : Shape := ⟨3, ![16384, 16, 128]⟩
abbrev S16384x2048 : Shape := ⟨2, ![16384, 2048]⟩
abbrev S_ : Shape := ⟨0, ![]⟩
abbrev S1x1536x2048 : Shape := ⟨3, ![1, 1536, 2048]⟩
abbrev S1536x2048 : Shape := ⟨2, ![1536, 2048]⟩

abbrev nBuf : Space → Nat
  | .hbm => 61
  | .vmem => 0
  | .smem => 0
  | _ => 0

abbrev bufTy : (tb : Table) → Fin (tcTables nBuf tb) → BufTy
  | .hbm, ⟨0, _⟩ => ⟨S96x16384x128, .bf16⟩
  | .hbm, ⟨1, _⟩ => ⟨S16384x1536, .bf16⟩
  | .hbm, ⟨2, _⟩ => ⟨S16384x1536, .bf16⟩
  | .hbm, ⟨3, _⟩ => ⟨S16384x1536, .bf16⟩
  | .hbm, ⟨4, _⟩ => ⟨S2x1536x2048, .f32⟩
  | .hbm, ⟨5, _⟩ => ⟨S2x1536x2048, .f32⟩
  | .hbm, ⟨6, _⟩ => ⟨S2x1536x2048, .f32⟩
  | .hbm, ⟨7, _⟩ => ⟨S16x16384x128, .bf16⟩
  | .hbm, ⟨8, _⟩ => ⟨S16x16384x128, .f32⟩
  | .hbm, ⟨9, _⟩ => ⟨S16384x16x128, .f32⟩
  | .hbm, ⟨10, _⟩ => ⟨S16384x2048, .f32⟩
  | .hbm, ⟨11, _⟩ => ⟨S16384x2048, .f32⟩
  | .hbm, ⟨12, _⟩ => ⟨S16384x2048, .f32⟩
  | .hbm, ⟨13, _⟩ => ⟨S_, .f32⟩
  | .hbm, ⟨14, _⟩ => ⟨S16384x2048, .f32⟩
  | .hbm, ⟨15, _⟩ => ⟨S16384x2048, .f32⟩
  | .hbm, ⟨16, _⟩ => ⟨S_, .f32⟩
  | .hbm, ⟨17, _⟩ => ⟨S16384x2048, .f32⟩
  | .hbm, ⟨18, _⟩ => ⟨S16384x2048, .f32⟩
  | .hbm, ⟨19, _⟩ => ⟨S16384x1536, .f32⟩
  | .hbm, ⟨20, _⟩ => ⟨S1x1536x2048, .f32⟩
  | .hbm, ⟨21, _⟩ => ⟨S1536x2048, .f32⟩
  | .hbm, ⟨22, _⟩ => ⟨S16384x2048, .f32⟩
  | .hbm, ⟨23, _⟩ => ⟨S16384x2048, .f32⟩
  | .hbm, ⟨24, _⟩ => ⟨S16x16384x128, .bf16⟩
  | .hbm, ⟨25, _⟩ => ⟨S16x16384x128, .f32⟩
  | .hbm, ⟨26, _⟩ => ⟨S16384x16x128, .f32⟩
  | .hbm, ⟨27, _⟩ => ⟨S16384x2048, .f32⟩
  | .hbm, ⟨28, _⟩ => ⟨S16384x2048, .f32⟩
  | .hbm, ⟨29, _⟩ => ⟨S16384x2048, .f32⟩
  | .hbm, ⟨30, _⟩ => ⟨S_, .f32⟩
  | .hbm, ⟨31, _⟩ => ⟨S16384x2048, .f32⟩
  | .hbm, ⟨32, _⟩ => ⟨S16384x2048, .f32⟩
  | .hbm, ⟨33, _⟩ => ⟨S_, .f32⟩
  | .hbm, ⟨34, _⟩ => ⟨S16384x2048, .f32⟩
  | .hbm, ⟨35, _⟩ => ⟨S16384x2048, .f32⟩
  | .hbm, ⟨36, _⟩ => ⟨S16384x1536, .f32⟩
  | .hbm, ⟨37, _⟩ => ⟨S1x1536x2048, .f32⟩
  | .hbm, ⟨38, _⟩ => ⟨S1536x2048, .f32⟩
  | .hbm, ⟨39, _⟩ => ⟨S16384x2048, .f32⟩
  | .hbm, ⟨40, _⟩ => ⟨S16384x2048, .f32⟩
  | .hbm, ⟨41, _⟩ => ⟨S16384x2048, .f32⟩
  | .hbm, ⟨42, _⟩ => ⟨S16x16384x128, .bf16⟩
  | .hbm, ⟨43, _⟩ => ⟨S16x16384x128, .f32⟩
  | .hbm, ⟨44, _⟩ => ⟨S16384x16x128, .f32⟩
  | .hbm, ⟨45, _⟩ => ⟨S16384x2048, .f32⟩
  | .hbm, ⟨46, _⟩ => ⟨S16384x2048, .f32⟩
  | .hbm, ⟨47, _⟩ => ⟨S16384x2048, .f32⟩
  | .hbm, ⟨48, _⟩ => ⟨S_, .f32⟩
  | .hbm, ⟨49, _⟩ => ⟨S16384x2048, .f32⟩
  | .hbm, ⟨50, _⟩ => ⟨S16384x2048, .f32⟩
  | .hbm, ⟨51, _⟩ => ⟨S_, .f32⟩
  | .hbm, ⟨52, _⟩ => ⟨S16384x2048, .f32⟩
  | .hbm, ⟨53, _⟩ => ⟨S16384x2048, .f32⟩
  | .hbm, ⟨54, _⟩ => ⟨S16384x1536, .f32⟩
  | .hbm, ⟨55, _⟩ => ⟨S1x1536x2048, .f32⟩
  | .hbm, ⟨56, _⟩ => ⟨S1536x2048, .f32⟩
  | .hbm, ⟨57, _⟩ => ⟨S16384x2048, .f32⟩
  | .hbm, ⟨58, _⟩ => ⟨S16384x2048, .f32⟩
  | .hbm, ⟨59, _⟩ => ⟨S16384x2048, .f32⟩
  | .hbm, ⟨60, _⟩ => ⟨S16384x2048, .bf16⟩
  | _, _ => ⟨S96x16384x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_3 : Ref sig .tc := ⟨.hbm, 48, rfl⟩
abbrev main_v37 : Ref sig .tc := ⟨.hbm, 49, rfl⟩
abbrev main_v38 : Ref sig .tc := ⟨.hbm, 50, rfl⟩
abbrev main_cst_4 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩

abbrev nD : Nat := 1
abbrev τ : Topo := Topo.v7x

variable {F : FTy → Type} [FloatOps F]
-- ==== Kernel10.lean ====
abbrev S16384x2048 : Shape := ⟨2, ![16384, 2048]⟩
abbrev S2x2048x24576 : Shape := ⟨3, ![2, 2048, 24576]⟩
abbrev S3x1536 : Shape := ⟨2, ![3, 1536]⟩
abbrev S1536 : Shape := ⟨1, ![1536]⟩
abbrev S96x16384x128 : Shape := ⟨3, ![96, 16384, 128]⟩
abbrev S64 : Shape := ⟨1, ![64]⟩
abbrev S_ : Shape := ⟨0, ![]⟩
abbrev S4096 : Shape := ⟨1, ![4096]⟩
abbrev S4096x1 : Shape := ⟨2, ![4096, 1]⟩
abbrev S1x64 : Shape := ⟨2, ![1, 64]⟩
abbrev S4096x64 : Shape := ⟨2, ![4096, 64]⟩
abbrev S4096x128 : Shape := ⟨2, ![4096, 128]⟩
abbrev S12 : Shape := ⟨1, ![12]⟩
abbrev S1x1536 : Shape := ⟨2, ![1, 1536]⟩
abbrev S16384x1536 : Shape := ⟨2, ![16384, 1536]⟩
abbrev S1024x2048 : Shape := ⟨2, ![1024, 2048]⟩
abbrev S1x2048x256 : Shape := ⟨3, ![1, 2048, 256]⟩
abbrev S3x256 : Shape := ⟨2, ![3, 256]⟩
abbrev S1x256 : Shape := ⟨2, ![1, 256]⟩
abbrev S1x4096x128 : Shape := ⟨3, ![1, 4096, 128]⟩
abbrev S1024x256 : Shape := ⟨2, ![1024, 256]⟩
abbrev S8x256 : Shape := ⟨2, ![8, 256]⟩
abbrev S128x128 : Shape := ⟨2, ![128, 128]⟩
abbrev S1 : Shape := ⟨1, ![1]⟩
abbrev S2048x256 : Shape := ⟨2, ![2048, 256]⟩
abbrev S2048x128 : Shape := ⟨2, ![2048, 128]⟩
abbrev S1x2048x128 : Shape := ⟨3, ![1, 2048, 128]⟩
abbrev S16x128x128 : Shape := ⟨3, ![16, 128, 128]⟩
abbrev S1x128x128 : Shape := ⟨3, ![1, 128, 128]⟩
abbrev S16x128x256 : Shape := ⟨3, ![16, 128, 256]⟩
abbrev S16x256x128 : Shape := ⟨3, ![16, 256, 128]⟩
abbrev S16x128 : Shape := ⟨2, ![16, 128]⟩
abbrev S16x128x1 : Shape := ⟨3, ![16, 128, 1]⟩
abbrev S1016x256 : Shape := ⟨2, ![1016, 256]⟩

abbrev nBuf : Space → Nat
  | .hbm => 37
  | .vmem => 30
  | .smem => 1
  | _ => 0

abbrev bufTy : (tb : Table) → Fin (tcTables nBuf tb) → BufTy
  | .hbm, ⟨0, _⟩ => ⟨S16384x2048, .bf16⟩
  | .hbm, ⟨1, _⟩ => ⟨S2x2048x24576, .f32⟩
  | .hbm, ⟨2, _⟩ => ⟨S3x1536, .f32⟩
  | .hbm, ⟨3, _⟩ => ⟨S1536, .f32⟩
  | .hbm, ⟨4, _⟩ => ⟨S96x16384x128, .bf16⟩
  | .hbm, ⟨5, _⟩ => ⟨S64, .f32⟩
  | .hbm, ⟨6, _⟩ => ⟨S64, .f32⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S4096, .f32⟩
  | .hbm, ⟨14, _⟩ => ⟨S4096x1, .f32⟩
  | .hbm, ⟨15, _⟩ => ⟨S1x64, .f32⟩
  | .hbm, ⟨16, _⟩ => ⟨S4096x64, .f32⟩
  | .hbm, ⟨17, _⟩ => ⟨S4096x64, .f32⟩
  | .hbm, ⟨18, _⟩ => ⟨S4096x64, .f32⟩
  | .hbm, ⟨19, _⟩ => ⟨S4096x64, .f32⟩
  | .hbm, ⟨20, _⟩ => ⟨S4096x64, .f32⟩
  | .hbm, ⟨21, _⟩ => ⟨S4096x128, .f32⟩
  | .hbm, ⟨22, _⟩ => ⟨S4096x64, .f32⟩
  | .hbm, ⟨23, _⟩ => ⟨S4096x128, .f32⟩
  | .hbm, ⟨24, _⟩ => ⟨S12, .f32⟩
  | .hbm, ⟨25, _⟩ => ⟨S_, .f32⟩
  | .hbm, ⟨26, _⟩ => ⟨S12, .f32⟩
  | .hbm, ⟨27, _⟩ => ⟨S12, .f32⟩
  | .hbm, ⟨28, _⟩ => ⟨S_, .f32⟩
  | .hbm, ⟨29, _⟩ => ⟨S12, .f32⟩
  | .hbm, ⟨30, _⟩ => ⟨S12, .f32⟩
  | .hbm, ⟨31, _⟩ => ⟨S12, .f32⟩
  | .hbm, ⟨32, _⟩ => ⟨S12, .f32⟩
  | .hbm, ⟨33, _⟩ => ⟨S12, .f32⟩
  | .hbm, ⟨34, _⟩ => ⟨S1x1536, .f32⟩
  | .hbm, ⟨35, _⟩ => ⟨S16384x1536, .bf16⟩
  | .hbm, ⟨36, _⟩ => ⟨S16384x1536, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x256, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S1x2048x256, .f32⟩
  | .local _ .vmem, ⟨7, _⟩ => ⟨S1x2048x256, .f32⟩
  | .local _ .vmem, ⟨8, _⟩ => ⟨S1x2048x256, .f32⟩
  | .local _ .vmem, ⟨9, _⟩ => ⟨S1x2048x256, .f32⟩
  | .local _ .vmem, ⟨10, _⟩ => ⟨S3x256, .f32⟩
  | .local _ .vmem, ⟨11, _⟩ => ⟨S3x256, .f32⟩
  | .local _ .vmem, ⟨12, _⟩ => ⟨S1x256, .f32⟩
  | .local _ .vmem, ⟨13, _⟩ => ⟨S1x256, .f32⟩
  | .local _ .vmem, ⟨14, _⟩ => ⟨S1x4096x128, .bf16⟩
  | .local _ .vmem, ⟨15, _⟩ => ⟨S1x4096x128, .bf16⟩
  | .local _ .vmem, ⟨16, _⟩ => ⟨S1x4096x128, .bf16⟩
  | .local _ .vmem, ⟨17, _⟩ => ⟨S1x4096x128, .bf16⟩
  | .local _ .vmem, ⟨18, _⟩ => ⟨S1x4096x128, .bf16⟩
  | .local _ .vmem, ⟨19, _⟩ => ⟨S1x4096x128, .bf16⟩
  | .local _ .vmem, ⟨20, _⟩ => ⟨S1x4096x128, .bf16⟩
  | .local _ .vmem, ⟨21, _⟩ => ⟨S1x4096x128, .bf16⟩
  | .local _ .vmem, ⟨22, _⟩ => ⟨S4096x128, .f32⟩
  | .local _ .vmem, ⟨23, _⟩ => ⟨S4096x128, .f32⟩
  | .local _ .vmem, ⟨24, _⟩ => ⟨S1024x256, .bf16⟩
  | .local _ .vmem, ⟨25, _⟩ => ⟨S1024x256, .bf16⟩
  | .local _ .vmem, ⟨26, _⟩ => ⟨S4096x128, .bf16⟩
  | .local _ .vmem, ⟨27, _⟩ => ⟨S4096x128, .bf16⟩
  | .local _ .vmem, ⟨28, _⟩ => ⟨S8x256, .f32⟩
  | .local _ .vmem, ⟨29, _⟩ => ⟨S128x128, .f32⟩
  | .local _ .smem, ⟨0, _⟩ => ⟨S12, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .smem, ⟨0, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26_0 : Ref sig .tc := ⟨.hbm, 35, rfl⟩
abbrev main_v26_1 : Ref sig .tc := ⟨.hbm, 36, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_scratch0 : Ref sig .tc := ⟨.vmem, 28, rfl⟩
abbrev cc0_scratch1 : Ref sig .tc := ⟨.vmem, 29, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem13_0 : DmaSem sig := 24
abbrev cc0_sem14_0 : DmaSem sig := 25
abbrev cc0_sem14_1 : DmaSem sig := 26
abbrev cc0_sem15_0 : DmaSem sig := 27
abbrev cc0_sem15_1 : DmaSem sig := 28

abbrev nD : Nat := 1
abbrev τ : Topo := Topo.v7x

variable {F : FTy → Type} [FloatOps F]

abbrev grid0 : Pipeline.Grid := ⟨2, ![6, 16], ![false, false]⟩

def k0_off1 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_4 : BitVec 32 := 0#32
  let v13 : BitVec 1 := Scalar.cmpi .sgt v1 c0_i32_4
  let v14 : BitVec 32 := Scalar.extui v13
  let c0_i32_5 : BitVec 32 := 0#32
  let v15 : BitVec 1 := Scalar.cmpi .slt v1 c0_i32_5
  let v16 : BitVec 32 := Scalar.extui v15
  let v17 : BitVec 32 := Scalar.subi v14 v16
  let c2_i32_3 : BitVec 32 := 2#32
  let c0_i32_6 : BitVec 32 := 0#32
  let v18 : BitVec 1 := Scalar.cmpi .sgt c2_i32_3 c0_i32_6
  let v19 : BitVec 32 := Scalar.extui v18
  let c0_i32_7 : BitVec 32 := 0#32
  let v20 : BitVec 1 := Scalar.cmpi .slt c2_i32_3 c0_i32_7
  let v21 : BitVec 32 := Scalar.extui v20
  let v22 : BitVec 32 := Scalar.subi v19 v21
  let v23 : BitVec 1 := Scalar.cmpi .ne v17 v22
  let v24 : BitVec 32 := Scalar.remsi v1 c2_i32_3
  let c0_i32_8 : BitVec 32 := 0#32
  let v25 : BitVec 1 := Scalar.cmpi .ne v24 c0_i32_8
  let v26 : BitVec 1 := Scalar.andi v23 v25
  let v12 : BitVec 32 := Scalar.divsi v1 c2_i32_3
  let c1_i32_9 : BitVec 32 := 1#32
  let v27 : BitVec 32 := Scalar.subi v12 c1_i32_9
  let v28 : BitVec 32 := Scalar.select v26 v27 v12
  let c12_i32 : BitVec 32 := 12#32
  let c0_i32_10 : BitVec 32 := 0#32
  let v29 : BitVec 1 := Scalar.cmpi .eq c12_i32 c0_i32_10
  let c1_i32_11 : BitVec 32 := 1#32
  let v30 : BitVec 32 := Scalar.select v29 c1_i32_11 c12_i32
  let v31 : BitVec 32 := Scalar.remsi v28 v30
  let c0_i32_13 : BitVec 32 := 0#32
  let v33 : BitVec 1 := Scalar.cmpi .slt v31 c0_i32_13
  let c0_i32_14 : BitVec 32 := 0#32
  let v34 : BitVec 1 := Scalar.cmpi .slt v30 c0_i32_14
  let v35 : BitVec 1 := Scalar.xori v33 v34
  let c0_i32_12 : BitVec 32 := 0#32
  let v32 : BitVec 1 := Scalar.cmpi .ne v31 c0_i32_12
  let v36 : BitVec 1 := Scalar.andi v35 v32
  let v37 : BitVec 32 := Scalar.addi v31 v30
  let v38 : BitVec 32 := Scalar.select v36 v37 v31
  let v39 : Index := Scalar.indexCast v38
  ![v39.toNat]
def k0_mult1 (i : grid0.Coords) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c2048_i32 : BitVec 32 := 2048#32
  let v84 : BitVec 32 := Scalar.muli v11 c2048_i32
  v84
def k0_off2 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c2048_i32 : BitVec 32 := 2048#32
  let v84 : BitVec 32 := Scalar.muli v11 c2048_i32
  let v85 : BitVec 32 := v84
  let v86 : Index := Scalar.indexCast v85
  let c0_31 : Index := 0#32
  ![v86.toNat, 0]
def k0_off3 (i : grid0.Coords) : Fin 3 → Nat :=
  let c0_33 : Index := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c2048_i32 : BitVec 32 := 2048#32
  let v84 : BitVec 32 := Scalar.muli v11 c2048_i32
  let v85 : BitVec 32 := v84
  let v92 : Index := Scalar.indexCast v85
  let c0_34 : Index := 0#32
  ![0, v92.toNat, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c1_i32 : BitVec 32 := 1#32
  let c0_i32 : BitVec 32 := 0#32
  let c0_i32_0 : BitVec 32 := 0#32
  ![c1_i32.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c30_i32 : BitVec 32 := 30#32
  let v0 : BitVec 32 := Scalar.addi c30_i32 arg0
  let c1_i32 : BitVec 32 := 1#32
  let c0_i32 : BitVec 32 := 0#32
  let c0_i32_0 : BitVec 32 := 0#32
  ![c1_i32.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c36_i32 : BitVec 32 := 36#32
  let v0 : BitVec 32 := Scalar.addi c36_i32 arg0
  let c1_i32 : BitVec 32 := 1#32
  let c0_i32 : BitVec 32 := 0#32
  let c0_i32_0 : BitVec 32 := 0#32
  ![c1_i32.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let c42_i32 : BitVec 32 := 42#32
  let v0 : BitVec 32 := Scalar.addi c42_i32 arg0
  let c1_i32 : BitVec 32 := 1#32
  let c0_i32 : BitVec 32 := 0#32
  let c0_i32_0 : BitVec 32 := 0#32
  ![c1_i32.toNat, c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c12_i32 : BitVec 32 := 12#32
  let c0_i32_4 : BitVec 32 := 0#32
  let v19 : BitVec 1 := Scalar.cmpi .eq c12_i32 c0_i32_4
  let c1_i32_5 : BitVec 32 := 1#32
  let v20 : BitVec 32 := Scalar.select v19 c1_i32_5 c12_i32
  let v21 : BitVec 32 := Scalar.remsi v18 v20
  let c0_i32_6 : BitVec 32 := 0#32
  let v22 : BitVec 1 := Scalar.cmpi .ne v21 c0_i32_6
  let c0_i32_7 : BitVec 32 := 0#32
  let v23 : BitVec 1 := Scalar.cmpi .slt v21 c0_i32_7
  let c0_i32_8 : BitVec 32 := 0#32
  let v24 : BitVec 1 := Scalar.cmpi .slt v20 c0_i32_8
  let v25 : BitVec 1 := Scalar.xori v23 v24
  let v26 : BitVec 1 := Scalar.andi v25 v22
  let v27 : BitVec 32 := Scalar.addi v21 v20
  let v28 : BitVec 32 := Scalar.select v26 v27 v21
  let c0_i32_9 : BitVec 32 := 0#32
  let v29 : BitVec 32 := Scalar.addi c0_i32_9 v28
  let c16_i32_10 : BitVec 32 := 16#32
  let v30 : BitVec 32 := Scalar.muli arg0 c16_i32_10
  let v31 : BitVec 32 := Scalar.addi v30 arg1
  let c2_i32_11 : BitVec 32 := 2#32
  let v32 : BitVec 32 := Scalar.divsi v31 c2_i32_11
  let c0_i32_12 : BitVec 32 := 0#32
  let v33 : BitVec 1 := Scalar.cmpi .sgt v31 c0_i32_12
  let v34 : BitVec 32 := Scalar.extui v33
  let c0_i32_13 : BitVec 32 := 0#32
  let v35 : BitVec 1 := Scalar.cmpi .slt v31 c0_i32_13
  let v36 : BitVec 32 := Scalar.extui v35
  let v37 : BitVec 32 := Scalar.subi v34 v36
  let c0_i32_14 : BitVec 32 := 0#32
  let v38 : BitVec 1 := Scalar.cmpi .sgt c2_i32_11 c0_i32_14
  let v39 : BitVec 32 := Scalar.extui v38
  let c0_i32_15 : BitVec 32 := 0#32
  let v40 : BitVec 1 := Scalar.cmpi .slt c2_i32_11 c0_i32_15
  let v41 : BitVec 32 := Scalar.extui v40
  let v42 : BitVec 32 := Scalar.subi v39 v41
  let v43 : BitVec 1 := Scalar.cmpi .ne v37 v42
  let v44 : BitVec 32 := Scalar.remsi v31 c2_i32_11
  let c0_i32_16 : BitVec 32 := 0#32
  let v45 : BitVec 1 := Scalar.cmpi .ne v44 c0_i32_16
  let v46 : BitVec 1 := Scalar.andi v43 v45
  let c1_i32_17 : BitVec 32 := 1#32
  let v47 : BitVec 32 := Scalar.subi v32 c1_i32_17
  let v48 : BitVec 32 := Scalar.select v46 v47 v32
  let c12_i32_18 : BitVec 32 := 12#32
  let v49 : BitVec 32 := Scalar.divsi v48 c12_i32_18
  let c0_i32_19 : BitVec 32 := 0#32
  let v50 : BitVec 1 := Scalar.cmpi .sgt v48 c0_i32_19
  let v51 : BitVec 32 := Scalar.extui v50
  let c0_i32_20 : BitVec 32 := 0#32
  let v52 : BitVec 1 := Scalar.cmpi .slt v48 c0_i32_20
  let v53 : BitVec 32 := Scalar.extui v52
  let v54 : BitVec 32 := Scalar.subi v51 v53
  let c0_i32_21 : BitVec 32 := 0#32
  let v55 : BitVec 1 := Scalar.cmpi .sgt c12_i32_18 c0_i32_21
  let v56 : BitVec 32 := Scalar.extui v55
  let c0_i32_22 : BitVec 32 := 0#32
  let v57 : BitVec 1 := Scalar.cmpi .slt c12_i32_18 c0_i32_22
  let v58 : BitVec 32 := Scalar.extui v57
  let v59 : BitVec 32 := Scalar.subi v56 v58
  let v60 : BitVec 1 := Scalar.cmpi .ne v54 v59
  let v61 : BitVec 32 := Scalar.remsi v48 c12_i32_18
  let c0_i32_23 : BitVec 32 := 0#32
  let v62 : BitVec 1 := Scalar.cmpi .ne v61 c0_i32_23
  let v63 : BitVec 1 := Scalar.andi v60 v62
  let c1_i32_24 : BitVec 32 := 1#32
  let v64 : BitVec 32 := Scalar.subi v49 c1_i32_24
  let v65 : BitVec 32 := Scalar.select v63 v64 v49
  let c0_i32_25 : BitVec 32 := 0#32
  let c0_i32_26 : BitVec 32 := 0#32
  ![v29.toNat, v65.toNat, c0_i32_25.toNat]

def cc0_transform_9 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c12_i32 : BitVec 32 := 12#32
  let c0_i32_4 : BitVec 32 := 0#32
  let v19 : BitVec 1 := Scalar.cmpi .eq c12_i32 c0_i32_4
  let c1_i32_5 : BitVec 32 := 1#32
  let v20 : BitVec 32 := Scalar.select v19 c1_i32_5 c12_i32
  let v21 : BitVec 32 := Scalar.remsi v18 v20
  let c0_i32_6 : BitVec 32 := 0#32
  let v22 : BitVec 1 := Scalar.cmpi .ne v21 c0_i32_6
  let c0_i32_7 : BitVec 32 := 0#32
  let v23 : BitVec 1 := Scalar.cmpi .slt v21 c0_i32_7
  let c0_i32_8 : BitVec 32 := 0#32
  let v24 : BitVec 1 := Scalar.cmpi .slt v20 c0_i32_8
  let v25 : BitVec 1 := Scalar.xori v23 v24
  let v26 : BitVec 1 := Scalar.andi v25 v22
  let v27 : BitVec 32 := Scalar.addi v21 v20
  let v28 : BitVec 32 := Scalar.select v26 v27 v21
  let c12_i32_9 : BitVec 32 := 12#32
  let v29 : BitVec 32 := Scalar.addi c12_i32_9 v28
  let c16_i32_10 : BitVec 32 := 16#32
  let v30 : BitVec 32 := Scalar.muli arg0 c16_i32_10
  let v31 : BitVec 32 := Scalar.addi v30 arg1
  let c2_i32_11 : BitVec 32 := 2#32
  let v32 : BitVec 32 := Scalar.divsi v31 c2_i32_11
  let c0_i32_12 : BitVec 32 := 0#32
  let v33 : BitVec 1 := Scalar.cmpi .sgt v31 c0_i32_12
  let v34 : BitVec 32 := Scalar.extui v33
  let c0_i32_13 : BitVec 32 := 0#32
  let v35 : BitVec 1 := Scalar.cmpi .slt v31 c0_i32_13
  let v36 : BitVec 32 := Scalar.extui v35
  let v37 : BitVec 32 := Scalar.subi v34 v36
  let c0_i32_14 : BitVec 32 := 0#32
  let v38 : BitVec 1 := Scalar.cmpi .sgt c2_i32_11 c0_i32_14
  let v39 : BitVec 32 := Scalar.extui v38
  let c0_i32_15 : BitVec 32 := 0#32
  let v40 : BitVec 1 := Scalar.cmpi .slt c2_i32_11 c0_i32_15
  let v41 : BitVec 32 := Scalar.extui v40
  let v42 : BitVec 32 := Scalar.subi v39 v41
  let v43 : BitVec 1 := Scalar.cmpi .ne v37 v42
  let v44 : BitVec 32 := Scalar.remsi v31 c2_i32_11
  let c0_i32_16 : BitVec 32 := 0#32
  let v45 : BitVec 1 := Scalar.cmpi .ne v44 c0_i32_16
  let v46 : BitVec 1 := Scalar.andi v43 v45
  let c1_i32_17 : BitVec 32 := 1#32
  let v47 : BitVec 32 := Scalar.subi v32 c1_i32_17
  let v48 : BitVec 32 := Scalar.select v46 v47 v32
  let c12_i32_18 : BitVec 32 := 12#32
  let v49 : BitVec 32 := Scalar.divsi v48 c12_i32_18
  let c0_i32_19 : BitVec 32 := 0#32
  let v50 : BitVec 1 := Scalar.cmpi .sgt v48 c0_i32_19
  let v51 : BitVec 32 := Scalar.extui v50
  let c0_i32_20 : BitVec 32 := 0#32
  let v52 : BitVec 1 := Scalar.cmpi .slt v48 c0_i32_20
  let v53 : BitVec 32 := Scalar.extui v52
  let v54 : BitVec 32 := Scalar.subi v51 v53
  let c0_i32_21 : BitVec 32 := 0#32
  let v55 : BitVec 1 := Scalar.cmpi .sgt c12_i32_18 c0_i32_21
  let v56 : BitVec 32 := Scalar.extui v55
  let c0_i32_22 : BitVec 32 := 0#32
  let v57 : BitVec 1 := Scalar.cmpi .slt c12_i32_18 c0_i32_22
  let v58 : BitVec 32 := Scalar.extui v57
  let v59 : BitVec 32 := Scalar.subi v56 v58
  let v60 : BitVec 1 := Scalar.cmpi .ne v54 v59
  let v61 : BitVec 32 := Scalar.remsi v48 c12_i32_18
  let c0_i32_23 : BitVec 32 := 0#32
  let v62 : BitVec 1 := Scalar.cmpi .ne v61 c0_i32_23
  let v63 : BitVec 1 := Scalar.andi v60 v62
  let c1_i32_24 : BitVec 32 := 1#32
  let v64 : BitVec 32 := Scalar.subi v49 c1_i32_24
  let v65 : BitVec 32 := Scalar.select v63 v64 v49
  let c0_i32_25 : BitVec 32 := 0#32
  let c0_i32_26 : BitVec 32 := 0#32
  ![v29.toNat, v65.toNat, c0_i32_25.toNat]

def cc0_transform_10 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c12_i32 : BitVec 32 := 12#32
  let c0_i32_4 : BitVec 32 := 0#32
  let v19 : BitVec 1 := Scalar.cmpi .eq c12_i32 c0_i32_4
  let c1_i32_5 : BitVec 32 := 1#32
  let v20 : BitVec 32 := Scalar.select v19 c1_i32_5 c12_i32
  let v21 : BitVec 32 := Scalar.remsi v18 v20
  let c0_i32_6 : BitVec 32 := 0#32
  let v22 : BitVec 1 := Scalar.cmpi .ne v21 c0_i32_6
  let c0_i32_7 : BitVec 32 := 0#32
  let v23 : BitVec 1 := Scalar.cmpi .slt v21 c0_i32_7
  let c0_i32_8 : BitVec 32 := 0#32
  let v24 : BitVec 1 := Scalar.cmpi .slt v20 c0_i32_8
  let v25 : BitVec 1 := Scalar.xori v23 v24
  let v26 : BitVec 1 := Scalar.andi v25 v22
  let v27 : BitVec 32 := Scalar.addi v21 v20
  let v28 : BitVec 32 := Scalar.select v26 v27 v21
  let c24_i32 : BitVec 32 := 24#32
  let v29 : BitVec 32 := Scalar.addi c24_i32 v28
  let c16_i32_9 : BitVec 32 := 16#32
  let v30 : BitVec 32 := Scalar.muli arg0 c16_i32_9
  let v31 : BitVec 32 := Scalar.addi v30 arg1
  let c2_i32_10 : BitVec 32 := 2#32
  let v32 : BitVec 32 := Scalar.divsi v31 c2_i32_10
  let c0_i32_11 : BitVec 32 := 0#32
  let v33 : BitVec 1 := Scalar.cmpi .sgt v31 c0_i32_11
  let v34 : BitVec 32 := Scalar.extui v33
  let c0_i32_12 : BitVec 32 := 0#32
  let v35 : BitVec 1 := Scalar.cmpi .slt v31 c0_i32_12
  let v36 : BitVec 32 := Scalar.extui v35
  let v37 : BitVec 32 := Scalar.subi v34 v36
  let c0_i32_13 : BitVec 32 := 0#32
  let v38 : BitVec 1 := Scalar.cmpi .sgt c2_i32_10 c0_i32_13
  let v39 : BitVec 32 := Scalar.extui v38
  let c0_i32_14 : BitVec 32 := 0#32
  let v40 : BitVec 1 := Scalar.cmpi .slt c2_i32_10 c0_i32_14
  let v41 : BitVec 32 := Scalar.extui v40
  let v42 : BitVec 32 := Scalar.subi v39 v41
  let v43 : BitVec 1 := Scalar.cmpi .ne v37 v42
  let v44 : BitVec 32 := Scalar.remsi v31 c2_i32_10
  let c0_i32_15 : BitVec 32 := 0#32
  let v45 : BitVec 1 := Scalar.cmpi .ne v44 c0_i32_15
  let v46 : BitVec 1 := Scalar.andi v43 v45
  let c1_i32_16 : BitVec 32 := 1#32
  let v47 : BitVec 32 := Scalar.subi v32 c1_i32_16
  let v48 : BitVec 32 := Scalar.select v46 v47 v32
  let c12_i32_17 : BitVec 32 := 12#32
  let v49 : BitVec 32 := Scalar.divsi v48 c12_i32_17
  let c0_i32_18 : BitVec 32 := 0#32
  let v50 : BitVec 1 := Scalar.cmpi .sgt v48 c0_i32_18
  let v51 : BitVec 32 := Scalar.extui v50
  let c0_i32_19 : BitVec 32 := 0#32
  let v52 : BitVec 1 := Scalar.cmpi .slt v48 c0_i32_19
  let v53 : BitVec 32 := Scalar.extui v52
  let v54 : BitVec 32 := Scalar.subi v51 v53
  let c0_i32_20 : BitVec 32 := 0#32
  let v55 : BitVec 1 := Scalar.cmpi .sgt c12_i32_17 c0_i32_20
  let v56 : BitVec 32 := Scalar.extui v55
  let c0_i32_21 : BitVec 32 := 0#32
  let v57 : BitVec 1 := Scalar.cmpi .slt c12_i32_17 c0_i32_21
  let v58 : BitVec 32 := Scalar.extui v57
  let v59 : BitVec 32 := Scalar.subi v56 v58
  let v60 : BitVec 1 := Scalar.cmpi .ne v54 v59
  let v61 : BitVec 32 := Scalar.remsi v48 c12_i32_17
  let c0_i32_22 : BitVec 32 := 0#32
  let v62 : BitVec 1 := Scalar.cmpi .ne v61 c0_i32_22
  let v63 : BitVec 1 := Scalar.andi v60 v62
  let c1_i32_23 : BitVec 32 := 1#32
  let v64 : BitVec 32 := Scalar.subi v49 c1_i32_23
  let v65 : BitVec 32 := Scalar.select v63 v64 v49
  let c0_i32_24 : BitVec 32 := 0#32
  let c0_i32_25 : BitVec 32 := 0#32
  ![v29.toNat, v65.toNat, c0_i32_24.toNat]

def cc0_transform_11 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c12_i32 : BitVec 32 := 12#32
  let c0_i32_4 : BitVec 32 := 0#32
  let v19 : BitVec 1 := Scalar.cmpi .eq c12_i32 c0_i32_4
  let c1_i32_5 : BitVec 32 := 1#32
  let v20 : BitVec 32 := Scalar.select v19 c1_i32_5 c12_i32
  let v21 : BitVec 32 := Scalar.remsi v18 v20
  let c0_i32_6 : BitVec 32 := 0#32
  let v22 : BitVec 1 := Scalar.cmpi .ne v21 c0_i32_6
  let c0_i32_7 : BitVec 32 := 0#32
  let v23 : BitVec 1 := Scalar.cmpi .slt v21 c0_i32_7
  let c0_i32_8 : BitVec 32 := 0#32
  let v24 : BitVec 1 := Scalar.cmpi .slt v20 c0_i32_8
  let v25 : BitVec 1 := Scalar.xori v23 v24
  let v26 : BitVec 1 := Scalar.andi v25 v22
  let v27 : BitVec 32 := Scalar.addi v21 v20
  let v28 : BitVec 32 := Scalar.select v26 v27 v21
  let c36_i32 : BitVec 32 := 36#32
  let v29 : BitVec 32 := Scalar.addi c36_i32 v28
  let c16_i32_9 : BitVec 32 := 16#32
  let v30 : BitVec 32 := Scalar.muli arg0 c16_i32_9
  let v31 : BitVec 32 := Scalar.addi v30 arg1
  let c2_i32_10 : BitVec 32 := 2#32
  let v32 : BitVec 32 := Scalar.divsi v31 c2_i32_10
  let c0_i32_11 : BitVec 32 := 0#32
  let v33 : BitVec 1 := Scalar.cmpi .sgt v31 c0_i32_11
  let v34 : BitVec 32 := Scalar.extui v33
  let c0_i32_12 : BitVec 32 := 0#32
  let v35 : BitVec 1 := Scalar.cmpi .slt v31 c0_i32_12
  let v36 : BitVec 32 := Scalar.extui v35
  let v37 : BitVec 32 := Scalar.subi v34 v36
  let c0_i32_13 : BitVec 32 := 0#32
  let v38 : BitVec 1 := Scalar.cmpi .sgt c2_i32_10 c0_i32_13
  let v39 : BitVec 32 := Scalar.extui v38
  let c0_i32_14 : BitVec 32 := 0#32
  let v40 : BitVec 1 := Scalar.cmpi .slt c2_i32_10 c0_i32_14
  let v41 : BitVec 32 := Scalar.extui v40
  let v42 : BitVec 32 := Scalar.subi v39 v41
  let v43 : BitVec 1 := Scalar.cmpi .ne v37 v42
  let v44 : BitVec 32 := Scalar.remsi v31 c2_i32_10
  let c0_i32_15 : BitVec 32 := 0#32
  let v45 : BitVec 1 := Scalar.cmpi .ne v44 c0_i32_15
  let v46 : BitVec 1 := Scalar.andi v43 v45
  let c1_i32_16 : BitVec 32 := 1#32
  let v47 : BitVec 32 := Scalar.subi v32 c1_i32_16
  let v48 : BitVec 32 := Scalar.select v46 v47 v32
  let c12_i32_17 : BitVec 32 := 12#32
  let v49 : BitVec 32 := Scalar.divsi v48 c12_i32_17
  let c0_i32_18 : BitVec 32 := 0#32
  let v50 : BitVec 1 := Scalar.cmpi .sgt v48 c0_i32_18
  let v51 : BitVec 32 := Scalar.extui v50
  let c0_i32_19 : BitVec 32 := 0#32
  let v52 : BitVec 1 := Scalar.cmpi .slt v48 c0_i32_19
  let v53 : BitVec 32 := Scalar.extui v52
  let v54 : BitVec 32 := Scalar.subi v51 v53
  let c0_i32_20 : BitVec 32 := 0#32
  let v55 : BitVec 1 := Scalar.cmpi .sgt c12_i32_17 c0_i32_20
  let v56 : BitVec 32 := Scalar.extui v55
  let c0_i32_21 : BitVec 32 := 0#32
  let v57 : BitVec 1 := Scalar.cmpi .slt c12_i32_17 c0_i32_21
  let v58 : BitVec 32 := Scalar.extui v57
  let v59 : BitVec 32 := Scalar.subi v56 v58
  let v60 : BitVec 1 := Scalar.cmpi .ne v54 v59
  let v61 : BitVec 32 := Scalar.remsi v48 c12_i32_17
  let c0_i32_22 : BitVec 32 := 0#32
  let v62 : BitVec 1 := Scalar.cmpi .ne v61 c0_i32_22
  let v63 : BitVec 1 := Scalar.andi v60 v62
  let c1_i32_23 : BitVec 32 := 1#32
  let v64 : BitVec 32 := Scalar.subi v49 c1_i32_23
  let v65 : BitVec 32 := Scalar.select v63 v64 v49
  let c0_i32_24 : BitVec 32 := 0#32
  let c0_i32_25 : BitVec 32 := 0#32
  ![v29.toNat, v65.toNat, c0_i32_24.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_15 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c12_i32 : BitVec 32 := 12#32
  let v19 : BitVec 32 := Scalar.divsi v18 c12_i32
  let c0_i32_4 : BitVec 32 := 0#32
  let v20 : BitVec 1 := Scalar.cmpi .sgt v18 c0_i32_4
  let v21 : BitVec 32 := Scalar.extui v20
  let c0_i32_5 : BitVec 32 := 0#32
  let v22 : BitVec 1 := Scalar.cmpi .slt v18 c0_i32_5
  let v23 : BitVec 32 := Scalar.extui v22
  let v24 : BitVec 32 := Scalar.subi v21 v23
  let c0_i32_6 : BitVec 32 := 0#32
  let v25 : BitVec 1 := Scalar.cmpi .sgt c12_i32 c0_i32_6
  let v26 : BitVec 32 := Scalar.extui v25
  let c0_i32_7 : BitVec 32 := 0#32
  let v27 : BitVec 1 := Scalar.cmpi .slt c12_i32 c0_i32_7
  let v28 : BitVec 32 := Scalar.extui v27
  let v29 : BitVec 32 := Scalar.subi v26 v28
  let v30 : BitVec 1 := Scalar.cmpi .ne v24 v29
  let v31 : BitVec 32 := Scalar.remsi v18 c12_i32
  let c0_i32_8 : BitVec 32 := 0#32
  let v32 : BitVec 1 := Scalar.cmpi .ne v31 c0_i32_8
  let v33 : BitVec 1 := Scalar.andi v30 v32
  let c1_i32_9 : BitVec 32 := 1#32
  let v34 : BitVec 32 := Scalar.subi v19 c1_i32_9
  let v35 : BitVec 32 := Scalar.select v33 v34 v19
  let c16_i32_10 : BitVec 32 := 16#32
  let v36 : BitVec 32 := Scalar.muli arg0 c16_i32_10
  let v37 : BitVec 32 := Scalar.addi v36 arg1
  let c2_i32_11 : BitVec 32 := 2#32
  let v38 : BitVec 32 := Scalar.divsi v37 c2_i32_11
  let c0_i32_12 : BitVec 32 := 0#32
  let v39 : BitVec 1 := Scalar.cmpi .sgt v37 c0_i32_12
  let v40 : BitVec 32 := Scalar.extui v39
  let c0_i32_13 : BitVec 32 := 0#32
  let v41 : BitVec 1 := Scalar.cmpi .slt v37 c0_i32_13
  let v42 : BitVec 32 := Scalar.extui v41
  let v43 : BitVec 32 := Scalar.subi v40 v42
  let c0_i32_14 : BitVec 32 := 0#32
  let v44 : BitVec 1 := Scalar.cmpi .sgt c2_i32_11 c0_i32_14
  let v45 : BitVec 32 := Scalar.extui v44
  let c0_i32_15 : BitVec 32 := 0#32
  let v46 : BitVec 1 := Scalar.cmpi .slt c2_i32_11 c0_i32_15
  let v47 : BitVec 32 := Scalar.extui v46
  let v48 : BitVec 32 := Scalar.subi v45 v47
  let v49 : BitVec 1 := Scalar.cmpi .ne v43 v48
  let v50 : BitVec 32 := Scalar.remsi v37 c2_i32_11
  let c0_i32_16 : BitVec 32 := 0#32
  let v51 : BitVec 1 := Scalar.cmpi .ne v50 c0_i32_16
  let v52 : BitVec 1 := Scalar.andi v49 v51
  let c1_i32_17 : BitVec 32 := 1#32
  let v53 : BitVec 32 := Scalar.subi v38 c1_i32_17
  let v54 : BitVec 32 := Scalar.select v52 v53 v38
  let c12_i32_18 : BitVec 32 := 12#32
  let c0_i32_19 : BitVec 32 := 0#32
  let v55 : BitVec 1 := Scalar.cmpi .eq c12_i32_18 c0_i32_19
  let c1_i32_20 : BitVec 32 := 1#32
  let v56 : BitVec 32 := Scalar.select v55 c1_i32_20 c12_i32_18
  let v57 : BitVec 32 := Scalar.remsi v54 v56
  let c0_i32_21 : BitVec 32 := 0#32
  let v58 : BitVec 1 := Scalar.cmpi .ne v57 c0_i32_21
  let c0_i32_22 : BitVec 32 := 0#32
  let v59 : BitVec 1 := Scalar.cmpi .slt v57 c0_i32_22
  let c0_i32_23 : BitVec 32 := 0#32
  let v60 : BitVec 1 := Scalar.cmpi .slt v56 c0_i32_23
  let v61 : BitVec 1 := Scalar.xori v59 v60
  let v62 : BitVec 1 := Scalar.andi v61 v58
  let v63 : BitVec 32 := Scalar.addi v57 v56
  let v64 : BitVec 32 := Scalar.select v62 v63 v57
  let c0_i32_24 : BitVec 32 := 0#32
  ![v35.toNat, v64.toNat]

abbrev stage0_0 : Fin 1 → Memref sig .tc .smem S12 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S3x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x4096x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x4096x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x4096x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x4096x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 1 → Memref sig .tc .vmem S4096x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S4096x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1024x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S4096x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Reference10Ideal.lean ====
abbrev S16384x2048 : Shape := ⟨2, ![16384, 2048]⟩
abbrev S2x2048x24576 : Shape := ⟨3, ![2, 2048, 24576]⟩
abbrev S3x1536 : Shape := ⟨2, ![3, 1536]⟩
abbrev S1536 : Shape := ⟨1, ![1536]⟩
abbrev S96x16384x128 : Shape := ⟨3, ![96, 16384, 128]⟩
abbrev S1x2048x24576 : Shape := ⟨3, ![1, 2048, 24576]⟩
abbrev S2048x24576 : Shape := ⟨2, ![2048, 24576]⟩
abbrev S2048x1536 : Shape := ⟨2, ![2048, 1536]⟩
abbrev S16384x1536 : Shape := ⟨2, ![16384, 1536]⟩
abbrev S4x4096x1536 : Shape := ⟨3, ![4, 4096, 1536]⟩
abbrev S_ : Shape := ⟨0, ![]⟩
abbrev S4x4098x1536 : Shape := ⟨3, ![4, 4098, 1536]⟩
abbrev S1x1536 : Shape := ⟨2, ![1, 1536]⟩
abbrev S1x1x1536 : Shape := ⟨3, ![1, 1, 1536]⟩

abbrev nBuf : Space → Nat
  | .hbm => 59
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2x2048x24576, .f32⟩
  | .hbm, ⟨2, _⟩ => ⟨S3x1536, .f32⟩
  | .hbm, ⟨3, _⟩ => ⟨S1536, .f32⟩
  | .hbm, ⟨4, _⟩ => ⟨S96x16384x128, .bf16⟩
  | .hbm, ⟨5, _⟩ => ⟨S16384x2048, .f32⟩
  | .hbm, ⟨6, _⟩ => ⟨S1x2048x24576, .f32⟩
  | .hbm, ⟨7, _⟩ => ⟨S2048x24576, .f32⟩
  | .hbm, ⟨8, _⟩ => ⟨S2048x1536, .f32⟩
  | .hbm, ⟨9, _⟩ => ⟨S16384x1536, .f32⟩
  | .hbm, ⟨10, _⟩ => ⟨S4x4096x1536, .f32⟩
  | .hbm, ⟨11, _⟩ => ⟨S2048x1536, .f32⟩
  | .hbm, ⟨12, _⟩ => ⟨S16384x1536, .f32⟩
  | .hbm, ⟨13, _⟩ => ⟨S4x4096x1536, .f32⟩
  | .hbm, ⟨14, _⟩ => ⟨S2048x1536, .f32⟩
  | .hbm, ⟨15, _⟩ => ⟨S16384x1536, .f32⟩
  | .hbm, ⟨16, _⟩ => ⟨S4x4096x1536, .f32⟩
  | .hbm, ⟨17, _⟩ => ⟨S2048x1536, .f32⟩
  | .hbm, ⟨18, _⟩ => ⟨S16384x1536, .f32⟩
  | .hbm, ⟨19, _⟩ => ⟨S4x4096x1536, .f32⟩
  | .hbm, ⟨20, _⟩ => ⟨S4x4096x1536, .f32⟩
  | .hbm, ⟨21, _⟩ => ⟨S_, .i32⟩
  | .hbm, ⟨22, _⟩ => ⟨S_, .f32⟩
  | .hbm, ⟨23, _⟩ => ⟨S4x4098x1536, .f32⟩
  | .hbm, ⟨24, _⟩ => ⟨S1x1536, .f32⟩
  | .hbm, ⟨25, _⟩ => ⟨S1536, .f32⟩
  | .hbm, ⟨26, _⟩ => ⟨S1x1x1536, .f32⟩
  | .hbm, ⟨27, _⟩ => ⟨S4x4096x1536, .f32⟩
  | .hbm, ⟨28, _⟩ => ⟨S4x4096x1536, .f32⟩
  | .hbm, ⟨29, _⟩ => ⟨S1x1x1536, .f32⟩
  | .hbm, ⟨30, _⟩ => ⟨S4x4096x1536, .f32⟩
  | .hbm, ⟨31, _⟩ => ⟨S4x4096x1536, .f32⟩
  | .hbm, ⟨32, _⟩ => ⟨S1x1536, .f32⟩
  | .hbm, ⟨33, _⟩ => ⟨S1536, .f32⟩
  | .hbm, ⟨34, _⟩ => ⟨S4x4096x1536, .f32⟩
  | .hbm, ⟨35, _⟩ => ⟨S1x1x1536, .f32⟩
  | .hbm, ⟨36, _⟩ => ⟨S4x4096x1536, .f32⟩
  | .hbm, ⟨37, _⟩ => ⟨S4x4096x1536, .f32⟩
  | .hbm, ⟨38, _⟩ => ⟨S4x4096x1536, .f32⟩
  | .hbm, ⟨39, _⟩ => ⟨S1x1536, .f32⟩
  | .hbm, ⟨40, _⟩ => ⟨S1536, .f32⟩
  | .hbm, ⟨41, _⟩ => ⟨S4x4096x1536, .f32⟩
  | .hbm, ⟨42, _⟩ => ⟨S1x1x1536, .f32⟩
  | .hbm, ⟨43, _⟩ => ⟨S4x4096x1536, .f32⟩
  | .hbm, ⟨44, _⟩ => ⟨S4x4096x1536, .f32⟩
  | .hbm, ⟨45, _⟩ => ⟨S4x4096x1536, .f32⟩
  | .hbm, ⟨46, _⟩ => ⟨S4x4096x1536, .f32⟩
  | .hbm, ⟨47, _⟩ => ⟨S4x4096x1536, .f32⟩
  | .hbm, ⟨48, _⟩ => ⟨S4x4096x1536, .f32⟩
  | .hbm, ⟨49, _⟩ => ⟨S_, .f32⟩
  | .hbm, ⟨50, _⟩ => ⟨S4x4096x1536, .f32⟩
  | .hbm, ⟨51, _⟩ => ⟨S4x4096x1536, .f32⟩
  | .hbm, ⟨52, _⟩ => ⟨S_, .f32⟩
  | .hbm, ⟨53, _⟩ => ⟨S4x4096x1536, .f32⟩
  | .hbm, ⟨54, _⟩ => ⟨S4x4096x1536, .f32⟩
  | .hbm, ⟨55, _⟩ => ⟨S4x4096x1536, .f32⟩
  | .hbm, ⟨56, _⟩ => ⟨S4x4096x1536, .f32⟩
  | .hbm, ⟨57, _⟩ => ⟨S16384x1536, .f32⟩
  | .hbm, ⟨58, _⟩ => ⟨S16384x1536, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_c : Ref sig .tc := ⟨.hbm, 21, rfl⟩
abbrev main_call0_v0 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_call1_v0 : Ref sig .tc := ⟨.hbm, 47, rfl⟩
abbrev main_call1_v1 : Ref sig .tc := ⟨.hbm, 48, rfl⟩
abbrev main_call1_cst : Ref sig .tc := ⟨.hbm, 49, rfl⟩
abbrev main_call1_v2 : Ref sig .tc := ⟨.hbm, 50, rfl⟩
abbrev main_call1_v3 : Ref sig .tc := ⟨.hbm, 51, rfl⟩
abbrev main_call1_cst_0 : Ref sig .tc := ⟨.hbm, 52, rfl⟩
abbrev main_call1_v4 : Ref sig .tc := ⟨.hbm, 53, rfl⟩
abbrev main_call1_v5 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩

abbrev nD : Nat := 1
abbrev τ : Topo := Topo.v7x

variable {F : FTy → Type} [FloatOps F]
-- ==== Kernel11.lean ====
abbrev S16384x2048 : Shape := ⟨2, ![16384, 2048]⟩
abbrev S2x2048x2048 : Shape := ⟨3, ![2, 2048, 2048]⟩
abbrev S4x4096x2048 : Shape := ⟨3, ![4, 4096, 2048]⟩
abbrev S2048 : Shape := ⟨1, ![2048]⟩
abbrev S1x2048 : Shape := ⟨2, ![1, 2048]⟩
abbrev S512x2048 : Shape := ⟨2, ![512, 2048]⟩
abbrev S1x2048x2048 : Shape := ⟨3, ![1, 2048, 2048]⟩
abbrev S2048x2048 : Shape := ⟨2, ![2048, 2048]⟩
abbrev S512 : Shape := ⟨1, ![512]⟩
abbrev S512x1 : Shape := ⟨2, ![512, 1]⟩

abbrev nBuf : Space → Nat
  | .hbm => 10
  | .vmem => 11
  | .smem => 0
  | _ => 0

abbrev bufTy : (tb : Table) → Fin (tcTables nBuf tb) → BufTy
  | .hbm, ⟨0, _⟩ => ⟨S16384x2048, .bf16⟩
  | .hbm, ⟨1, _⟩ => ⟨S2x2048x2048, .f32⟩
  | .hbm, ⟨2, _⟩ => ⟨S4x4096x2048, .f32⟩
  | .hbm, ⟨3, _⟩ => ⟨S2048, .f32⟩
  | .hbm, ⟨4, _⟩ => ⟨S2048, .f32⟩
  | .hbm, ⟨5, _⟩ => ⟨S16384x2048, .f32⟩
  | .hbm, ⟨6, _⟩ => ⟨S1x2048, .f32⟩
  | .hbm, ⟨7, _⟩ => ⟨S1x2048, .f32⟩
  | .hbm, ⟨8, _⟩ => ⟨S16384x2048, .f32⟩
  | .hbm, ⟨9, _⟩ => ⟨S16384x2048, .bf16⟩
  | .local _ .vmem, ⟨0, _⟩ => ⟨S512x2048, .bf16⟩
  | .local _ .vmem, ⟨1, _⟩ => ⟨S512x2048, .bf16⟩
  | .local _ .vmem, ⟨2, _⟩ => ⟨S1x2048x2048, .f32⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference11Ideal.lean ====
abbrev S16384x2048 : Shape := ⟨2, ![16384, 2048]⟩
abbrev S2x2048x2048 : Shape := ⟨3, ![2, 2048, 2048]⟩
abbrev S4x4096x2048 : Shape := ⟨3, ![4, 4096, 2048]⟩
abbrev S2048 : Shape := ⟨1, ![2048]⟩
abbrev S1x2048x2048 : Shape := ⟨3, ![1, 2048, 2048]⟩
abbrev S2048x2048 : Shape := ⟨2, ![2048, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩

abbrev nBuf : Space → Nat
  | .hbm => 46
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2x2048x2048, .f32⟩
  | .hbm, ⟨2, _⟩ => ⟨S4x4096x2048, .f32⟩
  | .hbm, ⟨3, _⟩ => ⟨S2048, .f32⟩
  | .hbm, ⟨4, _⟩ => ⟨S2048, .f32⟩
  | .hbm, ⟨5, _⟩ => ⟨S16384x2048, .f32⟩
  | .hbm, ⟨6, _⟩ => ⟨S1x2048x2048, .f32⟩
  | .hbm, ⟨7, _⟩ => ⟨S2048x2048, .f32⟩
  | .hbm, ⟨8, _⟩ => ⟨S16384x2048, .f32⟩
  | .hbm, ⟨9, _⟩ => ⟨S4x4096x2048, .f32⟩
  | .hbm, ⟨10, _⟩ => ⟨S4x4096x2048, .f32⟩
  | .hbm, ⟨11, _⟩ => ⟨S_, .f32⟩
  | .hbm, ⟨12, _⟩ => ⟨S4x4096, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S_, .f32⟩
  | .hbm, ⟨18, _⟩ => ⟨S4x4096x1, .f32⟩
  | .hbm, ⟨19, _⟩ => ⟨S4x4096x1, .f32⟩
  | .hbm, ⟨20, _⟩ => ⟨S4x4096x1, .f32⟩
  | .hbm, ⟨21, _⟩ => ⟨S4x4096x2048, .f32⟩
  | .hbm, ⟨22, _⟩ => ⟨S4x4096x2048, .f32⟩
  | .hbm, ⟨23, _⟩ => ⟨S1x1x2048, .f32⟩
  | .hbm, ⟨24, _⟩ => ⟨S4x4096x2048, .f32⟩
  | .hbm, ⟨25, _⟩ => ⟨S4x4096x2048, .f32⟩
  | .hbm, ⟨26, _⟩ => ⟨S4x4096x2048, .f32⟩
  | .hbm, ⟨27, _⟩ => ⟨S4x4096x2048, .f32⟩
  | .hbm, ⟨28, _⟩ => ⟨S_, .f32⟩
  | .hbm, ⟨29, _⟩ => ⟨S4x4096, .f32⟩
  | .hbm, ⟨30, _⟩ => ⟨S4x4096x1, .f32⟩
  | .hbm, ⟨31, _⟩ => ⟨S_, .f32⟩
  | .hbm, ⟨32, _⟩ => ⟨S4x4096x1, .f32⟩
  | .hbm, ⟨33, _⟩ => ⟨S4x4096x1, .f32⟩
  | .hbm, ⟨34, _⟩ => ⟨S_, .f32⟩
  | .hbm, ⟨35, _⟩ => ⟨S4x4096x1, .f32⟩
  | .hbm, ⟨36, _⟩ => ⟨S4x4096x1, .f32⟩
  | .hbm, ⟨37, _⟩ => ⟨S4x4096x1, .f32⟩
  | .hbm, ⟨38, _⟩ => ⟨S4x4096x2048, .f32⟩
  | .hbm, ⟨39, _⟩ => ⟨S4x4096x2048, .f32⟩
  | .hbm, ⟨40, _⟩ => ⟨S1x1x2048, .f32⟩
  | .hbm, ⟨41, _⟩ => ⟨S4x4096x2048, .f32⟩
  | .hbm, ⟨42, _⟩ => ⟨S4x4096x2048, .f32⟩
  | .hbm, ⟨43, _⟩ => ⟨S16384x2048, .f32⟩
  | .hbm, ⟨44, _⟩ => ⟨S16384x2048, .f32⟩
  | .hbm, ⟨45, _⟩ => ⟨S16384x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== Kernel12.lean ====
abbrev S4x4096x2048 : Shape := ⟨3, ![4, 4096, 2048]⟩
abbrev S2048 : Shape := ⟨1, ![2048]⟩
abbrev S16384x2048 : Shape := ⟨2, ![16384, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 5
  | .vmem => 5
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S16384x2048, .f32⟩
  | .hbm, ⟨3, _⟩ => ⟨S1x2048, .f32⟩
  | .hbm, ⟨4, _⟩ => ⟨S16384x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference12Ideal.lean ====
abbrev S4x4096x2048 : Shape := ⟨3, ![4, 4096, 2048]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S16384x2048 : Shape := ⟨2, ![16384, 2048]⟩

abbrev nBuf : Space → Nat
  | .hbm => 20
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S4x4096x2048, .f32⟩
  | .hbm, ⟨3, _⟩ => ⟨S_, .f32⟩
  | .hbm, ⟨4, _⟩ => ⟨S4x4096, .f32⟩
  | .hbm, ⟨5, _⟩ => ⟨S4x4096x1, .f32⟩
  | .hbm, ⟨6, _⟩ => ⟨S_, .f32⟩
  | .hbm, ⟨7, _⟩ => ⟨S4x4096x1, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S4x4096x1, .f32⟩
  | .hbm, ⟨13, _⟩ => ⟨S4x4096x2048, .f32⟩
  | .hbm, ⟨14, _⟩ => ⟨S4x4096x2048, .f32⟩
  | .hbm, ⟨15, _⟩ => ⟨S1x1x2048, .f32⟩
  | .hbm, ⟨16, _⟩ => ⟨S4x4096x2048, .f32⟩
  | .hbm, ⟨17, _⟩ => ⟨S4x4096x2048, .f32⟩
  | .hbm, ⟨18, _⟩ => ⟨S16384x2048, .f32⟩
  | .hbm, ⟨19, _⟩ => ⟨S16384x2048, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Proof.Body.lean ====
module

public import proofs.«01_k».proof.Proof.Gen.KernelIdeal.Frame
public import proofs.«01_k».proof.Proof.Gen.KernelIdeal.Skeleton
public import Idealize.ShloMosaic.Lib.VecWindow

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first point of a column block: the guard under which the kernel clears the carried convolution rows. -/
abbrev cond0_0 (i : grid0.Coords) : Prop := (Scalar.cmpi .ne (Scalar.extui (Scalar.cmpi .eq (BitVec.ofNat 32 (i 1).val) 0#32)) 0#32) = 1#1

/-- The position of a point: its column block times the number of row blocks, plus its row block. -/
abbrev stepW (i : grid0.Coords) : BitVec 32 := Scalar.addi (Scalar.muli (BitVec.ofNat 32 (i 0).val) 16#32) (BitVec.ofNat 32 (i 1).val)

/-- The divisor of the floor remainder: 2, as the kernel selects it. -/
abbrev halfW : BitVec 32 := Scalar.select (Scalar.cmpi .eq 2#32 0#32) 1#32 2#32

/-- Which half of a head's sequence a point treats: the floor remainder of its position by 2. -/
abbrev partW (i : grid0.Coords) : BitVec 32 :=
  Scalar.select (Scalar.andi (Scalar.xori (Scalar.cmpi .slt (Scalar.remsi (stepW i) halfW) 0#32) (Scalar.cmpi .slt halfW 0#32))
      (Scalar.cmpi .ne (Scalar.remsi (stepW i) halfW) 0#32))
    (Scalar.addi (Scalar.remsi (stepW i) halfW) halfW) (Scalar.remsi (stepW i) halfW)

/-- The first half of a head's sequence: the guard under which the kernel clears the carried state. -/
abbrev cond0_1 (i : grid0.Coords) : Prop := (Scalar.cmpi .ne (Scalar.extui (Scalar.cmpi .eq (partW i) 0#32)) 0#32) = 1#1

/-- What the fourteen input windows hold at a point: the head's log decays, a block of rows, the four column blocks of the projection
    weight (signal, outer gate, inner gate, output gate), the taps and the bias, the head's queries, keys, values and gate, and the rotary
    cosines and signed sines. -/
structure Blk (F : FTy → Type) where
  lg : Vec F S12 .f32
  hb : Vec F S1024x2048 .bf16
  wu : Vec F S1x2048x256 .f32
  wb : Vec F S1x2048x256 .f32
  wc : Vec F S1x2048x256 .f32
  wz : Vec F S1x2048x256 .f32
  cw : Vec F S3x256 .f32
  cb : Vec F S1x256 .f32
  qb : Vec F S1x4096x128 .bf16
  kb : Vec F S1x4096x128 .bf16
  vb : Vec F S1x4096x128 .bf16
  gb : Vec F S1x4096x128 .bf16
  co : Vec F S4096x128 .f32
  si : Vec F S4096x128 .f32

/-- The rows of a head's sequence a point treats, of an array stored as one slab of rows. -/
abbrev rowsR (i : grid0.Coords) : Rect S4096x128 := Rect.unit (s := S4096x128) (k0_off2 i) S2048x128.size (k0_off2_inb i)

/-- The same rows of a slab under a leading axis of extent one. -/
abbrev slabR (i : grid0.Coords) : Rect S1x4096x128 := Rect.unit (s := S1x4096x128) (k0_off3 i) S1x2048x128.size (k0_off3_inb i)

/-- The log decay of the point's head. -/
def lgAt (i : grid0.Coords) (X : Blk F) : Elt F .f32 :=
  View.ld X.lg (Rect.unit (s := S12) (k0_off1 i) S1.size (k0_off1_inb i)) (Shape.Idx.first (Nat.lt_of_lt_of_eq Nat.one_pos numel1_S1.symm))

/-- The inner gate's product of the point: the row block times the gate's columns. -/
def cPart (X : Blk F) : FVec F S1024x256 .f32 := k0_pay9 X.hb X.wc

/-- The gated signal of the point: inner gate times signal. -/
def cuAt (X : Blk F) : FVec F S1024x256 .f32 := k0_pay17 X.hb (cPart X) X.wu

/-- The last eight rows of the gated signal: what the next row block's convolution reaches back to. -/
def haloAt (X : Blk F) : FVec F S8x256 .f32 := k0_pay39 (cuAt X)

/-- The rotated queries of the point's rows, sixteen chunks. -/
def qAt (i : grid0.Coords) (X : Blk F) : FVec F S16x128x128 .f32 :=
  k0_pay12 (View.ld X.co (rowsR i)) (View.ld X.si (rowsR i)) (View.ld X.qb (slabR i))

/-- The masked scores of the point's chunks. -/
def innAt (i : grid0.Coords) (X : Blk F) : FVec F S16x128x128 .f32 :=
  k0_pay15 (k0_pay3 (lgAt i X)) (View.ld X.co (rowsR i)) (View.ld X.si (rowsR i)) (View.ld X.qb (slabR i)) (View.ld X.kb (slabR i))

/-- Each chunk's own contribution to the state. -/
def kvAt (i : grid0.Coords) (X : Blk F) : FVec F S16x128x128 .f32 :=
  k0_pay16 (k0_pay5 (lgAt i X)) (View.ld X.co (rowsR i)) (View.ld X.si (rowsR i)) (View.ld X.kb (slabR i)) (View.ld X.vb (slabR i))

/-- A chunk's decay. -/
def cdAt (i : grid0.Coords) (X : Blk F) : FVec F S128x128 .f32 := k0_pay6 (lgAt i X)

/-- The state after the point's sixteen chunks, from the state `st` before them. -/
def stateAt (i : grid0.Coords) (X : Blk F) (st : Vec F S128x128 .f32) : FVec F S128x128 .f32 :=
  k0_pay33 (cdAt i X) (kvAt i X) (k0_pay29 (cdAt i X) (kvAt i X) st)

/-- The retention of the point's chunks before the output gate, from the state `st` before them. -/
def retAt (i : grid0.Coords) (X : Blk F) (st : Vec F S128x128 .f32) : FVec F S16x128x128 .f32 :=
  k0_pay34 (k0_pay4 (lgAt i X)) (cdAt i X) (qAt i X) (k0_pay14 (View.ld X.vb (slabR i))) (innAt i X) (kvAt i X) st
    (k0_pay18 (cdAt i X) (kvAt i X) st) (k0_pay19 (cdAt i X) (kvAt i X) st) (k0_pay20 (cdAt i X) (kvAt i X) st)
    (k0_pay21 (cdAt i X) (kvAt i X) st) (k0_pay22 (cdAt i X) (kvAt i X) st) (k0_pay23 (cdAt i X) (kvAt i X) st)
    (k0_pay24 (cdAt i X) (kvAt i X) st) (k0_pay25 (cdAt i X) (kvAt i X) st) (k0_pay26 (cdAt i X) (kvAt i X) st)
    (k0_pay27 (cdAt i X) (kvAt i X) st) (k0_pay28 (cdAt i X) (kvAt i X) st) (k0_pay29 (cdAt i X) (kvAt i X) st)

/-- The rows of the retention result the point stores. -/
def orAt (i : grid0.Coords) (X : Blk F) (st : Vec F S128x128 .f32) : FVec F S2048x128 .bf16 :=
  k0_pay37 (retAt i X st) (View.ld X.gb (slabR i))

/-- The remainder of the row block by the number of row blocks of a sequence, as the kernel computes it before its sign correction. -/
abbrev remW (i : grid0.Coords) : BitVec 32 := Scalar.remsi (BitVec.ofNat 32 (i 1).val) 4#32

/-- Whether that remainder needs the sign correction. -/
abbrev adjW (i : grid0.Coords) : BitVec 1 :=
  Scalar.andi (Scalar.xori (Scalar.cmpi .slt (remW i) 0#32) (Scalar.cmpi .slt 4#32 0#32))
    (Scalar.cmpi .ne (remW i) 0#32)

/-- The block of the convolution result the point stores, from the eight rows `hl` carried from the row block before. -/
def ocAt (i : grid0.Coords) (X : Blk F) (hl : Vec F S8x256 .f32) : FVec F S1024x256 .bf16 :=
  k0_pay1 (k0_pay35 X.hb X.wz) (k0_pay36 X.hb X.wb)
    (k0_pay40 (cuAt X) 4#32 (remW i) (adjW i) hl)
    (k0_pay41 (cuAt X) 4#32 (remW i) (adjW i) hl)
    (k0_pay42 (cuAt X) X.cb (View.ld X.cw (Rect.unit (s := S3x256) ![2, 0] S1x256.size inb_S3x256_S1x256_2_0)))
    (View.ld X.cw (Rect.unit (s := S3x256) ![0, 0] S1x256.size inb_S3x256_S1x256_0_0))
    (View.ld X.cw (Rect.unit (s := S3x256) ![1, 0] S1x256.size inb_S3x256_S1x256_1_0))

/-- The rows a point finds carried: cleared at the first point of a column block. -/
def haloIn (i : grid0.Coords) (hl : Vec F S8x256 .f32) : Vec F S8x256 .f32 := if cond0_0 i then k0_pay7 (F := F) else hl

/-- The state a point finds carried: cleared in the first half of a head's sequence. -/
def stateIn (i : grid0.Coords) (st : Vec F S128x128 .f32) : Vec F S128x128 .f32 := if cond0_1 i then k0_pay8 (F := F) else st

/-- A load of a whole rank-2 buffer reads its contents. -/
theorem full2 {a b : ℕ} {sp : Space} {e : EltTy} (v : View sig .tc sp ⟨2, ![a, b]⟩ e) (f : v.ty.Contents (Elt F))
    (inb : ∀ x, (![0, 0] : Fin 2 → ℕ) x + (![a, b] : Fin 2 → ℕ) x ≤ (⟨2, ![a, b]⟩ : Shape).size x) :
    v.readAt (Elt F) (Rect.unit (s := ⟨2, ![a, b]⟩) ![0, 0] ![a, b] inb).toLoadRect f = v.read (Elt F) f :=
  View.readAt_full v f inb

/-- A load of a whole rank-3 buffer reads its contents. -/
theorem full3 {a b d : ℕ} {sp : Space} {e : EltTy} (v : View sig .tc sp ⟨3, ![a, b, d]⟩ e) (f : v.ty.Contents (Elt F))
    (inb : ∀ x, (![0, 0, 0] : Fin 3 → ℕ) x + (![a, b, d] : Fin 3 → ℕ) x ≤ (⟨3, ![a, b, d]⟩ : Shape).size x) :
    v.readAt (Elt F) (Rect.unit (s := ⟨3, ![a, b, d]⟩) ![0, 0, 0] ![a, b, d] inb).toLoadRect f = v.read (Elt F) f :=
  View.readAt_full v f inb

/-- A load of a whole rank-2 buffer after a store of the whole buffer reads what was stored. -/
theorem cov2 {a b : ℕ} {sp : Space} {e : EltTy} (v : View sig .tc sp ⟨2, ![a, b]⟩ e)
    (inb inb' : ∀ x, (![0, 0] : Fin 2 → ℕ) x + (![a, b] : Fin 2 → ℕ) x ≤ (⟨2, ![a, b]⟩ : Shape).size x)
    (w : (⟨2, ![a, b]⟩ : Shape).Idx → Elt F e) (L : List (View.Piece (Elt F) ⟨2, ![a, b]⟩ e)) :
    v.readCov (⟨Rect.unit (s := ⟨2, ![a, b]⟩) ![0, 0] ![a, b] inb', w⟩ :: L) (Rect.unit (s := ⟨2, ![a, b]⟩) ![0, 0] ![a, b] inb).toLoadRect = w :=
  View.readCov_full v inb inb' w L

section Run

attribute [local irreducible] k0_pay1 k0_pay2 k0_pay3 k0_pay4 k0_pay5 k0_pay6 k0_pay7 k0_pay8 k0_pay9 k0_pay10 k0_pay11 k0_pay12 k0_pay13 k0_pay14 k0_pay15 k0_pay16 k0_pay17 k0_pay18 k0_pay19 k0_pay20 k0_pay21 k0_pay22 k0_pay23 k0_pay24 k0_pay25 k0_pay26 k0_pay27 k0_pay28 k0_pay29 k0_pay30 k0_pay31 k0_pay32 k0_pay33 k0_pay34 k0_pay35 k0_pay36 k0_pay37 k0_pay38 k0_pay39 k0_pay40 k0_pay41 k0_pay42

variable (c : Dev nD) (i : grid0.Coords)
  (arg2 : Memref sig .tc .smem S12 .f32) (harg2 : arg2.IsWhole)
  (arg3 : Memref sig .tc .vmem S1024x2048 .bf16) (harg3 : arg3.IsWhole)
  (arg4 : Memref sig .tc .vmem S1x2048x256 .f32) (harg4 : arg4.IsWhole)
  (arg5 : Memref sig .tc .vmem S1x2048x256 .f32) (harg5 : arg5.IsWhole)
  (arg6 : Memref sig .tc .vmem S1x2048x256 .f32) (harg6 : arg6.IsWhole)
  (arg7 : Memref sig .tc .vmem S1x2048x256 .f32) (harg7 : arg7.IsWhole)
  (arg8 : Memref sig .tc .vmem S3x256 .f32) (harg8 : arg8.IsWhole)
  (arg9 : Memref sig .tc .vmem S1x256 .f32) (harg9 : arg9.IsWhole)
  (arg10 : Memref sig .tc .vmem S1x4096x128 .bf16) (harg10 : arg10.IsWhole)
  (arg11 : Memref sig .tc .vmem S1x4096x128 .bf16) (harg11 : arg11.IsWhole)
  (arg12 : Memref sig .tc .vmem S1x4096x128 .bf16) (harg12 : arg12.IsWhole)
  (arg13 : Memref sig .tc .vmem S1x4096x128 .bf16) (harg13 : arg13.IsWhole)
  (arg14 : Memref sig .tc .vmem S4096x128 .f32) (harg14 : arg14.IsWhole)
  (arg15 : Memref sig .tc .vmem S4096x128 .f32) (harg15 : arg15.IsWhole)
  (arg16 : Memref sig .tc .vmem S1024x256 .bf16) (harg16 : arg16.IsWhole)
  (arg17 : Memref sig .tc .vmem S4096x128 .bf16) (harg17 : arg17.IsWhole)
  (arg18 : Memref sig .tc .vmem S8x256 .f32) (harg18 : arg18.IsWhole)
  (arg19 : Memref sig .tc .vmem S128x128 .f32) (harg19 : arg19.IsWhole)

set_option maxHeartbeats 4000000 in
/-- The kernel's body on any whole staging memrefs: with the inputs at `X`, the retention window at `Y`, the carried rows at `hl` and the carried
    state at `st`, it leaves the inputs as they are, the convolution window at `ocAt`, the retention window at `Y` with the point's rows
    overwritten by `orAt`, the carried rows at `haloAt` and the carried state at `stateAt`. -/
theorem body_run (X : Blk F) (Y : Vec F S4096x128 .bf16) (hl : Vec F S8x256 .f32) (st : Vec F S128x128 .f32) (E : Set ℕ) (K : PUnit → sProp 𝕄) :
    iprop(owns (c : Thread nD τ) arg2 fullShare X.lg ∗ owns (c : Thread nD τ) arg3 fullShare X.hb ∗ owns (c : Thread nD τ) arg4 fullShare X.wu ∗ owns (c : Thread nD τ) arg5 fullShare X.wb ∗ owns (c : Thread nD τ) arg6 fullShare X.wc ∗ owns (c : Thread nD τ) arg7 fullShare X.wz ∗ owns (c : Thread nD τ) arg8 fullShare X.cw ∗ owns (c : Thread nD τ) arg9 fullShare X.cb ∗ owns (c : Thread nD τ) arg10 fullShare X.qb ∗ owns (c : Thread nD τ) arg11 fullShare X.kb ∗ owns (c : Thread nD τ) arg12 fullShare X.vb ∗ owns (c : Thread nD τ) arg13 fullShare X.gb ∗ owns (c : Thread nD τ) arg14 fullShare X.co ∗ owns (c : Thread nD τ) arg15 fullShare X.si ∗ (∃ d, owns (c : Thread nD τ) arg16 fullShare d) ∗ owns (c : Thread nD τ) arg17 fullShare Y ∗ owns (c : Thread nD τ) arg18 fullShare hl ∗ owns (c : Thread nD τ) arg19 fullShare st
        ∗ (iprop(owns (c : Thread nD τ) arg2 fullShare X.lg ∗ owns (c : Thread nD τ) arg3 fullShare X.hb ∗ owns (c : Thread nD τ) arg4 fullShare X.wu ∗ owns (c : Thread nD τ) arg5 fullShare X.wb ∗ owns (c : Thread nD τ) arg6 fullShare X.wc ∗ owns (c : Thread nD τ) arg7 fullShare X.wz ∗ owns (c : Thread nD τ) arg8 fullShare X.cw ∗ owns (c : Thread nD τ) arg9 fullShare X.cb ∗ owns (c : Thread nD τ) arg10 fullShare X.qb ∗ owns (c : Thread nD τ) arg11 fullShare X.kb ∗ owns (c : Thread nD τ) arg12 fullShare X.vb ∗ owns (c : Thread nD τ) arg13 fullShare X.gb ∗ owns (c : Thread nD τ) arg14 fullShare X.co ∗ owns (c : Thread nD τ) arg15 fullShare X.si ∗ owns (c : Thread nD τ) arg16 fullShare (ocAt i X (haloIn i hl))
            ∗ owns (c : Thread nD τ) arg17 fullShare (VecWindow.put Y (k0_off2 i) S2048x128.size (orAt i X (stateIn i st)))
            ∗ owns (c : Thread nD τ) arg18 fullShare (haloAt X)
            ∗ owns (c : Thread nD τ) arg19 fullShare (stateAt i X (stateIn i st))) -∗ K ⟨⟩))
      ⊢ wp frame (wpE (defs₀ (F := F)) Variants.none c none) E (cc0_conv_and_retention i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_conv_and_retention_eq_skeleton]; unfold cc0_conv_and_retention_skel
  simp only [k0_part1_eq_skeleton, k0_part2_eq_skeleton, k0_part3_eq_skeleton, k0_part4_eq_skeleton, k0_part5_eq_skeleton, k0_part6_eq_skeleton, k0_part7_eq_skeleton]
  by_cases hc0 : cond0_0 i <;> by_cases hc1 : cond0_1 i
  all_goals
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%f15, %hf15, H15⟩, ⟨%fs0, %hfs0, HS0⟩, ⟨%fs1, %hfs1, HS1⟩, Hk⟩
    cases X
    dsimp only at hf0 hf1 hf2 hf3 hf4 hf5 hf6 hf7 hf8 hf9 hf10 hf11 hf12 hf13 ⊢
    subst hf0 hf1 hf2 hf3 hf4 hf5 hf6 hf7 hf8 hf9 hf10 hf11 hf12 hf13 hf15 hfs0 hfs1
    sl_exec (disch := first | sl_exact hc0 | sl_exact hc1)
    sl_step
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; · ipureintro; rfl
      iexact H4
    isplitl [H5]
    · iexists _; isplitr; · ipureintro; rfl
      iexact H5
    isplitl [H6]
    · iexists _; isplitr; · ipureintro; rfl
      iexact H6
    isplitl [H7]
    · iexists _; isplitr; · ipureintro; rfl
      iexact H7
    isplitl [H8]
    · iexists _; isplitr; · ipureintro; rfl
      iexact H8
    isplitl [H9]
    · iexists _; isplitr; · ipureintro; rfl
      iexact H9
    isplitl [H10]
    · iexists _; isplitr; · ipureintro; rfl
      iexact H10
    isplitl [H11]
    · iexists _; isplitr; · ipureintro; rfl
      iexact H11
    isplitl [H12]
    · iexists _; isplitr; · ipureintro; rfl
      iexact H12
    isplitl [H13]
    · iexists _; isplitr; · ipureintro; rfl
      iexact H13
    isplitl [H14]
    · iexists _; isplitr; swap; · iexact H14
      ipureintro
      refine (View.read_writes_full _ _ _ _ _).trans ?_
      sl_unfold_words
      simp only [full2, full3, cov2]
      first | rw [show haloIn i _ = _ from if_pos hc0] | rw [show haloIn i _ = _ from if_neg hc0]
      rfl
    isplitl [H15]
    · iexists _; isplitr; swap; · iexact H15
      ipureintro
      refine (View.read_writes_cons_put _ _ _ _ _ rfl).trans ?_
      sl_unfold_words
      simp only [full2, full3, cov2]
      first | rw [show stateIn i _ = _ from if_pos hc1] | rw [show stateIn i _ = _ from if_neg hc1]
      rfl
    isplitl [HS0]
    · iexists _; isplitr; swap; · iexact HS0
      ipureintro
      refine (View.read_writes_full _ _ _ _ _).trans ?_
      sl_unfold_words
      simp only [full2, full3, cov2]
      rfl
    iexists _; isplitr; swap; · iexact HS1
    ipureintro
    refine (View.read_writes_full _ _ _ _ _).trans ?_
    sl_unfold_words
    simp only [full2, full3, cov2]
    first | rw [show stateIn i _ = _ from if_pos hc1] | rw [show stateIn i _ = _ from if_neg hc1]
    rfl

end Run

end Cert.KernelIdeal.Gen

end
-- ==== Proof.Frame.lean ====
module

public import proofs.«01_k».proof.Proof.Gen.KernelIdeal.Frame
public import proofs.«01_k».proof.Proof.Body
public import Idealize.ShloMosaic.Lib.Pipeline.DatRel
public import Idealize.ShloMosaic.Lib.Pipeline.ArrRel

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The convolution rows are cleared at the first point of a column block. -/
theorem hcond0_0 : ∀ t : Fin cfg0.N, cond0_0 (grid0.coords t) ↔ t.val % 16 = 0 :=
  (by decide +kernel : ∀ t : Fin grid0.N, cond0_0 (grid0.coords t) ↔ t.val % 16 = 0)

/-- The state is cleared at the even points. -/
theorem hcond0_1 : ∀ t : Fin cfg0.N, cond0_1 (grid0.coords t) ↔ t.val % 2 = 0 :=
  (by decide +kernel : ∀ t : Fin grid0.N, cond0_1 (grid0.coords t) ↔ t.val % 2 = 0)

/-- The rows of a head's sequence that a point treats begin at 0 at an even point and at 2048 at an odd one. -/
theorem off2_at : ∀ t : Fin cfg0.N, k0_off2 (grid0.coords t) 0 = t.val % 2 * 2048 ∧ k0_off2 (grid0.coords t) 1 = 0 :=
  (by decide +kernel : ∀ t : Fin grid0.N, k0_off2 (grid0.coords t) 0 = t.val % 2 * 2048 ∧ k0_off2 (grid0.coords t) 1 = 0)

/-- There are 96 points. -/
theorem N96 : cfg0.N = 96 := N_0

/-- A number as a point. -/
def pt (n : ℕ) : Fin cfg0.N := ⟨n % 96, lt_of_lt_of_eq (Nat.mod_lt n (by decide)) N96.symm⟩

theorem pt_val (t : Fin cfg0.N) : pt t.val = t :=
  Fin.ext (Nat.mod_eq_of_lt (lt_of_lt_of_eq t.isLt N96))

/-! ## What the points read and leave -/

/-- What the input windows hold at point `t`. -/
def blkAt (c : Dev nD) (t : Fin cfg0.N) : Blk F :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t⟩

/-- The rows the convolution of point `n` finds carried: none at the first point of a column block, else the last rows of the point before. -/
def haloBefore (c : Dev nD) (n : ℕ) : Vec F S8x256 .f32 := if n % 16 = 0 then k0_pay7 (F := F) else haloAt (blkAt m c (pt (n - 1)))

/-- The state point `n` starts from: zero at an even point, else the state after the point before, itself started from zero. -/
def stateBefore (c : Dev nD) (n : ℕ) : Vec F S128x128 .f32 :=
  if n % 2 = 0 then k0_pay8 (F := F) else stateAt (grid0.coords (pt (n - 1))) (blkAt m c (pt (n - 1))) (k0_pay8 (F := F))

/-- The block of the convolution result point `n` stores. -/
def ocOf (c : Dev nD) (n : ℕ) : FVec F S1024x256 .bf16 := ocAt (grid0.coords (pt n)) (blkAt m c (pt n)) (haloBefore m c n)

/-- The rows of the retention result point `n` stores. -/
def orOf (c : Dev nD) (n : ℕ) : FVec F S2048x128 .bf16 := orAt (grid0.coords (pt n)) (blkAt m c (pt n)) (stateBefore m c n)

/-- A row of a head's sequence within its half. -/
def halfIx (y : S4096x128.Idx) : S2048x128.Idx := fun
  | ⟨0, _⟩ => ⟨(y 0).val % 2048, Nat.mod_lt _ (by decide)⟩
  | ⟨1, _⟩ => y 1
  | ⟨_ + 2, h⟩ => absurd h (Nat.not_lt.2 (Nat.le_add_left _ _))

/-- A head's whole retention result, both halves: those of the two points of its unit (point `n` being either). -/
def orFull (c : Dev nD) (n : ℕ) : Vec F S4096x128 .bf16 := fun y => orOf m c (n / 2 * 2 + (y 0).val / 2048) (halfIx y)

/-- The two output windows are held to a predicate. -/
def held0 : Fin cfg0.W → Bool := fun w => w.val == 14 || w.val == 15

/-- What is said of the two output windows: the convolution window holds the point's block; the retention window holds the unit's result in
    the rows treated so far. -/
def Rl0 (c : Dev nD) (w : Fin cfg0.W) (t : Fin cfg0.N) : ((cfg0.win w).block.Idx → Elt F (cfg0.win w).elt) → Prop :=
  match w with
  | ⟨14, _⟩ => fun X => X = ocOf m c t.val
  | ⟨15, _⟩ => fun (X : Vec F S4096x128 .bf16) => ∀ y : S4096x128.Idx, (y 0).val / 2048 ≤ t.val % 2 → X y = orFull m c t.val y
  | _ => fun _ => True

/-- The scratch operands: the kernel's own two buffers. -/
abbrev scM0_0 : Memref sig .tc .vmem S8x256 .f32 := Memref.whole cc0_scratch0
abbrev scM0_1 : Memref sig .tc .vmem S128x128 .f32 := Memref.whole cc0_scratch1

/-- The launch's invariant with the scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; rfl

/-- What is known of the carried rows and the carried state before position `n`: after a point, what that point left. -/
def Carried (c : Dev nD) (n : ℕ) (hl : Vec F S8x256 .f32) (st : Vec F S128x128 .f32) : Prop :=
  n ≠ 0 → hl = haloAt (blkAt m c (pt (n - 1))) ∧ st = stateAt (grid0.coords (pt (n - 1))) (blkAt m c (pt (n - 1))) (stateBefore m c (n - 1))

/-- The invariant before position `n`: the two scratch buffers at carried contents, and the generator register at some state. -/
def PhiC (c : Dev nD) (n : ℕ) : sProp 𝕄 :=
  iprop((∃ hl, ∃ st, ⌜Carried m c n hl st⌝ ∗ owns (c : Thread nD τ) scM0_0 fullShare hl ∗ owns (c : Thread nD τ) scM0_1 fullShare st) ∗ (∃ r, prngReg c r))

/-- The rows a point finds, from the carried ones. -/
theorem haloIn_carried {c : Dev nD} {t : Fin cfg0.N} {hl : Vec F S8x256 .f32} {st : Vec F S128x128 .f32} (h : Carried m c t.val hl st) :
    haloIn (grid0.coords t) hl = haloBefore m c t.val := by
  unfold haloIn haloBefore
  by_cases h0 : t.val % 16 = 0
  · rw [if_pos ((hcond0_0 t).mpr h0), if_pos h0]
  · rw [if_neg (fun h' => h0 ((hcond0_0 t).mp h')), if_neg h0]
    exact (h (fun hz => h0 (by rw [hz]))).1

/-- The state a point finds, from the carried one. -/
theorem stateIn_carried {c : Dev nD} {t : Fin cfg0.N} {hl : Vec F S8x256 .f32} {st : Vec F S128x128 .f32} (h : Carried m c t.val hl st) :
    stateIn (grid0.coords t) st = stateBefore m c t.val := by
  unfold stateIn
  by_cases h0 : t.val % 2 = 0
  · rw [if_pos ((hcond0_1 t).mpr h0)]; unfold stateBefore; rw [if_pos h0]
  · rw [if_neg (fun h' => h0 ((hcond0_1 t).mp h')), (h (fun hz => h0 (by rw [hz]))).2]
    have hp : (t.val - 1) % 2 = 0 := by omega
    unfold stateBefore
    rw [if_neg h0, if_pos hp]

/-- The proof data of the one pipeline on core `c`: the arrays as the region finds them; after the body each input's buffer at its block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, h⟩ => Pipeline.Dat.unnamed (cfg := cfg0) ⟨14, h⟩ t
    | ⟨15, h⟩ => Pipeline.Dat.unnamed (cfg := cfg0) ⟨15, h⟩ t
    | ⟨_ + 16, h⟩ => absurd h (Nat.not_lt.2 (Nat.le_add_left _ _))
  Φ t := PhiC m c t.val
  q w := Pipeline.shareOf spec0 w
  owed _ := 0

/-- The proof data's arrays are the region-entry contents. -/
theorem A_eq (c : Dev nD) (w : Fin cfg0.W) : (dats m 0 c).A w = V m c (Pipeline.arrRef spec0 w) := by
  dsimp only [dats]

/-- The proof data with the output windows held to `Rl0`. -/
abbrev rdat (c : Dev nD) : Pipeline.RDat τ (Elt F) Unit ℕ (UR sig nD τ) ℕ cfg0 c := (dats m 0 c).toRRel held0 (Rl0 m c)

theorem before0_0 (c : Dev nD) (t : Fin cfg0.N) (d) : (dats m 0 c).before 0 t d = iblk m c 0 t :=
  before0_0_of m (dats m 0 c) (A_eq m c 0) (fun t => by dsimp only [dats]) t d
theorem before0_1 (c : Dev nD) (t : Fin cfg0.N) (d) : (dats m 0 c).before 1 t d = iblk m c 1 t :=
  before0_1_of m (dats m 0 c) (A_eq m c 1) (fun t => by dsimp only [dats]) t d
theorem before0_2 (c : Dev nD) (t : Fin cfg0.N) (d) : (dats m 0 c).before 2 t d = iblk m c 2 t :=
  before0_2_of m (dats m 0 c) (A_eq m c 2) (fun t => by dsimp only [dats]) t d
theorem before0_3 (c : Dev nD) (t : Fin cfg0.N) (d) : (dats m 0 c).before 3 t d = iblk m c 3 t :=
  before0_3_of m (dats m 0 c) (A_eq m c 3) (fun t => by dsimp only [dats]) t d
theorem before0_4 (c : Dev nD) (t : Fin cfg0.N) (d) : (dats m 0 c).before 4 t d = iblk m c 4 t :=
  before0_4_of m (dats m 0 c) (A_eq m c 4) (fun t => by dsimp only [dats]) t d
theorem before0_5 (c : Dev nD) (t : Fin cfg0.N) (d) : (dats m 0 c).before 5 t d = iblk m c 5 t :=
  before0_5_of m (dats m 0 c) (A_eq m c 5) (fun t => by dsimp only [dats]) t d
theorem before0_6 (c : Dev nD) (t : Fin cfg0.N) (d) : (dats m 0 c).before 6 t d = iblk m c 6 t :=
  before0_6_of m (dats m 0 c) (A_eq m c 6) (fun t => by dsimp only [dats]) t d
theorem before0_7 (c : Dev nD) (t : Fin cfg0.N) (d) : (dats m 0 c).before 7 t d = iblk m c 7 t :=
  before0_7_of m (dats m 0 c) (A_eq m c 7) (fun t => by dsimp only [dats]) t d
theorem before0_8 (c : Dev nD) (t : Fin cfg0.N) (d) : (dats m 0 c).before 8 t d = iblk m c 8 t :=
  before0_8_of m (dats m 0 c) (A_eq m c 8) (fun t => by dsimp only [dats]) t d
theorem before0_9 (c : Dev nD) (t : Fin cfg0.N) (d) : (dats m 0 c).before 9 t d = iblk m c 9 t :=
  before0_9_of m (dats m 0 c) (A_eq m c 9) (fun t => by dsimp only [dats]) t d
theorem before0_10 (c : Dev nD) (t : Fin cfg0.N) (d) : (dats m 0 c).before 10 t d = iblk m c 10 t :=
  before0_10_of m (dats m 0 c) (A_eq m c 10) (fun t => by dsimp only [dats]) t d
theorem before0_11 (c : Dev nD) (t : Fin cfg0.N) (d) : (dats m 0 c).before 11 t d = iblk m c 11 t :=
  before0_11_of m (dats m 0 c) (A_eq m c 11) (fun t => by dsimp only [dats]) t d
theorem before0_12 (c : Dev nD) (t : Fin cfg0.N) (d) : (dats m 0 c).before 12 t d = iblk m c 12 t :=
  before0_12_of m (dats m 0 c) (A_eq m c 12) (fun t => by dsimp only [dats]) t d
theorem before0_13 (c : Dev nD) (t : Fin cfg0.N) (d) : (dats m 0 c).before 13 t d = iblk m c 13 t :=
  before0_13_of m (dats m 0 c) (A_eq m c 13) (fun t => by dsimp only [dats]) t d

/-- At an odd point the retention window still holds the unit's result in its first half. -/
theorem found15 {c : Dev nD} {t : Fin cfg0.N} {Y : Vec F S4096x128 .bf16} (h1 : t.val % 2 ≠ 0) (h : (rdat m c).Finds 15 t Y)
    (y : S4096x128.Idx) (hy : (y 0).val / 2048 = 0) : Y y = orFull m c t.val y := by
  have ht : t.val ≠ 0 := fun hz => h1 (by rw [hz])
  have hfl := (((rdat m c).finds_of_pos (w := 15) (t := t) rfl ht Y).mp h).resolve_left fun hf => by
    have := (flush0_15 ⟨t.val - 1, Nat.lt_of_le_of_lt (Nat.sub_le _ _) t.isLt⟩).mp hf
    dsimp only at this
    omega
  have hR : Rl0 m c 15 ⟨t.val - 1, Nat.lt_of_le_of_lt (Nat.sub_le _ _) t.isLt⟩ Y := (dats m 0 c).toRRel_leaves (fgt := held0) (Rl := Rl0 m c) rfl hfl
  have e : orFull m c (t.val - 1) y = orFull m c t.val y := by
    unfold orFull; rw [show (t.val - 1) / 2 = t.val / 2 by omega]
  rw [← e]
  exact hR y (by dsimp only; omega)

/-- A point's rows put over what the window held: the unit's result in the rows treated so far. -/
theorem put15 {c : Dev nD} {t : Fin cfg0.N} {Y : Vec F S4096x128 .bf16} (h : (rdat m c).Finds 15 t Y) :
    Rl0 m c 15 t (VecWindow.put Y (k0_off2 (grid0.coords t)) S2048x128.size (orAt (grid0.coords t) (blkAt m c t) (stateBefore m c t.val))) := by
  intro y hy
  obtain ⟨e0, e1⟩ := off2_at t
  have hy0 : (y 0).val < 4096 := (y 0).isLt
  have hy1 : (y 1).val < 128 := (y 1).isLt
  by_cases hin : ∀ a, k0_off2 (grid0.coords t) a ≤ (y a).val ∧ (y a).val < k0_off2 (grid0.coords t) a + S2048x128.size a
  · refine (dif_pos hin).trans ?_
    have h0 : k0_off2 (grid0.coords t) 0 ≤ (y 0).val ∧ (y 0).val < k0_off2 (grid0.coords t) 0 + 2048 := hin 0
    rw [e0] at h0
    have hq : (y 0).val / 2048 = t.val % 2 := by omega
    unfold orFull orOf
    rw [hq, show t.val / 2 * 2 + t.val % 2 = t.val by omega, pt_val]
    refine congrArg _ (funext fun a => Fin.ext ?_)
    rw [Rect.unitLocal_val]
    match a with
    | ⟨0, _⟩ => show (y 0).val - k0_off2 (grid0.coords t) 0 = (y 0).val % 2048; rw [e0]; omega
    | ⟨1, _⟩ => show (y 1).val - k0_off2 (grid0.coords t) 1 = (y 1).val; rw [e1]; omega
  · refine (dif_neg hin).trans ?_
    have hlt : ¬ (y 0).val / 2048 = t.val % 2 := fun hq => hin fun a => by
      match a with
      | ⟨0, _⟩ =>
        show k0_off2 (grid0.coords t) 0 ≤ (y 0).val ∧ (y 0).val < k0_off2 (grid0.coords t) 0 + 2048
        rw [e0]; omega
      | ⟨1, _⟩ =>
        show k0_off2 (grid0.coords t) 1 ≤ (y 1).val ∧ (y 1).val < k0_off2 (grid0.coords t) 1 + 128
        rw [e1]; omega
    exact found15 m (by omega) h y (by omega)

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d))
    ∗ (∃ d, owns (c : Thread nD τ) (win0_12.stage (cfg0.slots t 12)) fullShare ((dats m 0 c).before 12 t d))
    ∗ (∃ d, owns (c : Thread nD τ) (win0_13.stage (cfg0.slots t 13)) fullShare ((dats m 0 c).before 13 t d))
    ∗ (∃ Y, ⌜(rdat m c).Finds 14 t Y⌝ ∗ owns (c : Thread nD τ) (win0_14.stage (cfg0.slots t 14)) fullShare Y)
    ∗ (∃ Y, ⌜(rdat m c).Finds 15 t Y⌝ ∗ owns (c : Thread nD τ) (win0_15.stage (cfg0.slots t 15)) fullShare Y))

/-- and what it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ owns (c : Thread nD τ) (win0_9.stage (cfg0.slots t 9)) fullShare ((dats m 0 c).after 9 t)
    ∗ owns (c : Thread nD τ) (win0_10.stage (cfg0.slots t 10)) fullShare ((dats m 0 c).after 10 t)
    ∗ owns (c : Thread nD τ) (win0_11.stage (cfg0.slots t 11)) fullShare ((dats m 0 c).after 11 t)
    ∗ owns (c : Thread nD τ) (win0_12.stage (cfg0.slots t 12)) fullShare ((dats m 0 c).after 12 t)
    ∗ owns (c : Thread nD τ) (win0_13.stage (cfg0.slots t 13)) fullShare ((dats m 0 c).after 13 t)
    ∗ (∃ X, ⌜Rl0 m c 14 t X⌝ ∗ owns (c : Thread nD τ) (win0_14.stage (cfg0.slots t 14)) fullShare X)
    ∗ (∃ X, ⌜Rl0 m c 15 t X⌝ ∗ owns (c : Thread nD τ) (win0_15.stage (cfg0.slots t 15)) fullShare X))

set_option maxHeartbeats 4000000 in
/-- The body at any point: the inputs at their blocks, the carried rows and state at what the point before left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).owesAt () t.succ = (dats m 0 c).owesAt () t.castSucc from rfl,
    show (dats m 0 c).Φ t.castSucc = PhiC m c t.val from rfl, show (dats m 0 c).Φ t.succ = PhiC m c (t.val + 1) from rfl]
  unfold PhiC
  iintro ⟨⟨⟨%hl, %st, %hC, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%Y14, %hY14, H14⟩, ⟨%Y15, %hY15, H15⟩⟩
  iapply (body_run c (grid0.coords t) _ _ _ _ _ _ _ _ _ _ _ _ _ _ _ _ _ _ _ _ _ _ _ _ _ _ _ _ _ _ _ _ _ _ _ _ (blkAt m c t) Y15 hl st Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexact H15
  isplitl [HS0]; · iexact HS0
  isplitl [HS1]; · iexact HS1
  iintro ⟨H0, H1, H2, H3, H4, H5, H6, H7, H8, H9, H10, H11, H12, H13, H14, H15, HS0, HS1⟩
  isplitl [HS0 HS1 Hg]
  · isplitl [HS0 HS1]
    · iexists _; iexists _; isplitr; swap
      · isplitl [HS0]
        · iexact HS0
        iexact HS1
      ipureintro
      intro _
      rw [show t.val + 1 - 1 = t.val by omega, pt_val, stateIn_carried m hC]
      exact ⟨rfl, rfl⟩
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]
  · iexists _; isplitr; swap
    · iexact H14
    ipureintro
    show _ = ocOf m c t.val
    unfold ocOf
    rw [pt_val, haloIn_carried m hC]
  iexists _; isplitr; swap
  · iexact H15
  ipureintro
  rw [stateIn_carried m hC]
  exact put15 m hY15

theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : Pipeline.BodyObligationRel (dats (F := F) m 0 c) (defs₀ (F := F)) Variants.none () Set.univ held0 (Rl0 m c) := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (rdat m c).Φ 0 := by
  rw [show (rdat m c).Φ 0 = PhiC m c 0 from rfl, PhiA0_eq]
  unfold PhiC
  iintro ⟨⟨⟨%hl, HS0⟩, ⟨%st, HS1⟩⟩, Hg⟩
  isplitl [HS0 HS1]
  · iexists hl; iexists st; isplitr
    · ipureintro; exact fun h => absurd rfl h
    isplitl [HS0]
    · iexact HS0
    iexact HS1
  iexact Hg

/-- After the last point the invariant gives the launch's back. -/
theorem hout (c : Dev nD) : (rdat m c).Φ (Fin.last cfg0.N) ⊢ Pipeline.ΦA spec0 c := by
  rw [show (rdat m c).Φ (Fin.last cfg0.N) = PhiC m c cfg0.N from rfl, PhiA0_eq]
  unfold PhiC
  iintro ⟨⟨%hl, %st, %_, HS0, HS1⟩, Hg⟩
  isplitl [HS0 HS1]
  · isplitl [HS0]
    · iexists _; iexact HS0
    iexists _; iexact HS1
  iexact Hg

/-! ## The run and the frame -/

-- the launch theorem's implicit arguments are found by unifying its conclusion with this one
set_option backward.isDefEq.respectTransparency.types false in
/-- The run: every weakly fair execution of the program terminates, with every array as the relational proof data say and every semaphore
    counter at zero. -/
theorem run_main_quiescent : θ_run defs (onTc (τ := τ) (main (F := F))) (s₀ m ρ)
    (fun r => Pipeline.RDat.FramePost (cfgs 0) (rdat m) (V m) r ∧ r.2.sem = fun _ => 0) :=
  Pipeline.RDat.θ_run_frame_track_shared (Q' := _) cfgs (0 : Fin 1) launch₀0 defs₀ Variants.none (rdat m) m ρ main
    (hbody := fun c => (body_obligation m c).toRRel) (hq := fun _ _ _ => rfl)
    (howed := fun _ _ => rfl) (V := V m) (hmain := hmain m Variants.none) (hA := A_eq m) (hin := hin m) (hout := hout m)

/-- The frame: the argument arrays end unchanged, every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
      ⟨(Pipeline.RDat.FramePost.arr_in h.1 c 1 rfl).trans ((A_eq m c 1).trans (V_main_arg0 m c)),
      (Pipeline.RDat.FramePost.arr_in h.1 c 5 rfl).trans ((A_eq m c 5).trans (V_main_arg1 m c)),
      (Pipeline.RDat.FramePost.arr_in h.1 c 6 rfl).trans ((A_eq m c 6).trans (V_main_arg2 m c)),
      ((h.1 c).2 main_arg3 (Pipeline.mem_restRefs_of main_arg3 (by decide) (by decide))).trans (V_main_arg3 m c),
      (Pipeline.RDat.FramePost.arr_in h.1 c 11 rfl).trans ((A_eq m c 11).trans (V_main_arg4 m c))⟩, h.2⟩) (run_main_quiescent m ρ)

end Cert.KernelIdeal.Gen

end
-- ==== Proof.RefFrame.lean ====
module

public import proofs.«01_k».proof.Defs
public import proofs.«01_k».proof.Proof.Gen.ReferenceIdeal.Run
public import Idealize.ShloMosaic.Lib.Claim

@[expose] public section

set_option maxRecDepth 16384

noncomputable section

open Idealize.ShloMosaic Idealize.ShloMosaic.TcCoe Idealize.SL.Sem Idealize.ShloMosaic.StableHlo

/-! # The recurrence's reference keeps its arguments -/

namespace Cert.ReferenceIdeal.Value

open Cert.ReferenceIdeal Cert.ReferenceIdeal.Gen

variable {F : FTy → Type} [FloatOps F]

/-- A reference outside a stretch's list of written ones is written by none of its operations. -/
theorem not_written {ops : List (HloOp τ sig (Elt F))} {W : List (Ref sig .tc)}
    (h : ops.Forall fun op => op.writes ⊆ (W.map (Proc.devRef (τ := τ) .tc)).toFinset) (b : Ref sig .tc) (hb : b ∉ W) :
    ∀ op ∈ ops, (Proc.devRef .tc b : DevRef τ sig) ∉ op.writes := fun op hop hm => by
  obtain ⟨r, hr, e⟩ := List.mem_map.mp (List.mem_toFinset.mp (List.forall_iff_forall_mem.mp h op hop hm))
  exact hb (Proc.devRef_injective .tc e ▸ hr)

/-- Stretches that do not write a buffer leave it as it is. -/
theorem afterL_keep (b : DevRef τ sig) : ∀ (items : List (List (HloOp τ sig (Elt F)))) (X : Valuation τ sig (Elt F)),
    (∀ ops ∈ items, ∀ op ∈ ops, b ∉ op.writes) → afterL items X b = X b
  | [], _, _ => rfl
  | ops :: rest, X, h => (afterL_keep b rest _ fun o ho => h o (List.mem_cons_of_mem _ ho)).trans
      (after_of_forall_not_mem ops X (h ops List.mem_cons_self))

/-- The references `hostOps0_7` writes. -/
abbrev written7 : List (Ref sig .tc) := [main_v174, main_v175, main_v176, main_cst_15, main_v177, main_v178, main_cst_16, main_v179, main_v180, main_cst_17, main_v181, main_v182, main_v183, main_v184, main_v185]
theorem written7_eq : (hostOps0_7 : List (HloOp τ sig (Elt F))).Forall fun op => op.writes ⊆ (written7.map (Proc.devRef (τ := τ) .tc)).toFinset :=
  forall_writes_sub_of_map rfl
/-- The references `hostOps0_8` writes. -/
abbrev written8 : List (Ref sig .tc) := [main_call7_v0, main_call7_v1, main_call7_cst, main_call7_v2, main_call7_v3, main_call7_cst_0, main_call7_v4, main_call7_v5, main_v186]
theorem written8_eq : (hostOps0_8 : List (HloOp τ sig (Elt F))).Forall fun op => op.writes ⊆ (written8.map (Proc.devRef (τ := τ) .tc)).toFinset :=
  forall_writes_sub_of_map rfl
/-- The references `hostOps0_9` writes. -/
abbrev written9 : List (Ref sig .tc) := [main_v187, main_v188, main_v189, main_v190, main_v191]
theorem written9_eq : (hostOps0_9 : List (HloOp τ sig (Elt F))).Forall fun op => op.writes ⊆ (written9.map (Proc.devRef (τ := τ) .tc)).toFinset :=
  forall_writes_sub_of_map rfl

/-- A buffer written neither before, nor in, nor after the loop ends as it was at the launch. -/
theorem keep (b : Ref sig .tc)
    (h0 : b ∉ hostOps0_W ++ hostOps0_1_W ++ hostOps0_2_W ++ hostOps0_3_W ++ hostOps0_4_W ++ hostOps0_5_W ++ hostOps0_6_W)
    (h1 : b ∉ while0Ops0_W ++ while0Ops0_1_W ++ while0Ops0_2_W ++ while0Ops0_3_W ++ while0Ops0_4_W ++ while0Ops0_5_W ++ condOps_W)
    (h2 : b ∉ written7 ++ written8 ++ written9)
    (m : (ℓ : Loc nD τ sig) → Buf (Elt F) ℓ) (c : Dev nD) :
    finalContents condOps preI bodyI postI 32 m c (Proc.devRef .tc b) = m ((c.tc : Thread nD τ).loc b) := by
  simp only [List.mem_append, not_or] at h0 h1 h2
  have hc : ∀ op ∈ (condOps : List (HloOp τ sig (Elt F))), (Proc.devRef .tc b : DevRef τ sig) ∉ op.writes := not_written condOps_writes b h1.2
  have hb : ∀ ops ∈ (bodyI : List (List (HloOp τ sig (Elt F)))), ∀ op ∈ ops, (Proc.devRef .tc b : DevRef τ sig) ∉ op.writes := by
    intro ops ho
    simp only [List.mem_cons, List.not_mem_nil, or_false] at ho
    rcases ho with rfl | rfl | rfl | rfl | rfl | rfl
    · exact not_written while0Ops0_writes b h1.1.1.1.1.1.1
    · exact not_written while0Ops0_1_writes b h1.1.1.1.1.1.2
    · exact not_written while0Ops0_2_writes b h1.1.1.1.1.2
    · exact not_written while0Ops0_3_writes b h1.1.1.1.2
    · exact not_written while0Ops0_4_writes b h1.1.1.2
    · exact not_written while0Ops0_5_writes b h1.1.2
  have hpr : ∀ ops ∈ (preI : List (List (HloOp τ sig (Elt F)))), ∀ op ∈ ops, (Proc.devRef .tc b : DevRef τ sig) ∉ op.writes := by
    intro ops ho
    simp only [List.mem_cons, List.not_mem_nil, or_false] at ho
    rcases ho with rfl | rfl | rfl | rfl | rfl | rfl | rfl
    · exact not_written hostOps0_writes b h0.1.1.1.1.1.1
    · exact not_written hostOps0_1_writes b h0.1.1.1.1.1.2
    · exact not_written hostOps0_2_writes b h0.1.1.1.1.2
    · exact not_written hostOps0_3_writes b h0.1.1.1.2
    · exact not_written hostOps0_4_writes b h0.1.1.2
    · exact not_written hostOps0_5_writes b h0.1.2
    · exact not_written hostOps0_6_writes b h0.2
  have hpo : ∀ ops ∈ (postI : List (List (HloOp τ sig (Elt F)))), ∀ op ∈ ops, (Proc.devRef .tc b : DevRef τ sig) ∉ op.writes := by
    intro ops ho
    simp only [List.mem_cons, List.not_mem_nil, or_false] at ho
    rcases ho with rfl | rfl | rfl
    · exact not_written written7_eq b h2.1.1
    · exact not_written written8_eq b h2.1.2
    · exact not_written written9_eq b h2.2
  have hk : ∀ k, atTrip condOps bodyI (entryContents preI m) k c (Proc.devRef .tc b) = m ((c.tc : Thread nD τ).loc b) := by
    intro k
    induction k with
    | zero => exact (afterL_keep _ preI _ hpr).trans rfl
    | succ k ih =>
      rw [atTrip_succ]
      exact (afterL_keep _ bodyI _ hb).trans ((after_of_forall_not_mem condOps _ hc).trans ih)
  exact (afterL_keep _ postI _ hpo).trans ((after_of_forall_not_mem condOps _ hc).trans (hk 32))

/-- The reference runs to its end, its five arguments end unchanged, and no counter is left. -/
theorem frame (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run (defs (F := F)) _ _).mono (fun r h => ⟨fun c =>
      ⟨(h c main_arg0 rfl).trans (keep main_arg0 (by decide) (by decide) (by decide) m c),
       (h c main_arg1 rfl).trans (keep main_arg1 (by decide) (by decide) (by decide) m c),
       (h c main_arg2 rfl).trans (keep main_arg2 (by decide) (by decide) (by decide) m c),
       (h c main_arg3 rfl).trans (keep main_arg3 (by decide) (by decide) (by decide) m c),
       (h c main_arg4 rfl).trans (keep main_arg4 (by decide) (by decide) (by decide) m c)⟩,
      sem_eq_zero_of_no_sems (by decide) r.2⟩) (run_fold m ρ)

end Cert.ReferenceIdeal.Value

end
-- ==== Proof.Body6.lean ====
module

public import proofs.«01_k».proof.Proof.Gen.Kernel6Ideal.Frame
public import proofs.«01_k».proof.Proof.Gen.Kernel6Ideal.Skeleton
public import Idealize.ShloMosaic.Lib.VecWindow

@[expose] public section

set_option maxRecDepth 16384

noncomputable section

namespace Cert.Kernel6Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first point of a column block: the guard under which the kernel clears the carried convolution rows. -/
abbrev cond0_0 (i : grid0.Coords) : Prop := (Scalar.cmpi .ne (Scalar.extui (Scalar.cmpi .eq (BitVec.ofNat 32 (i 1).val) 0#32)) 0#32) = 1#1

/-- The position of a point: its column block times the number of row blocks, plus its row block. -/
abbrev stepW (i : grid0.Coords) : BitVec 32 := Scalar.addi (Scalar.muli (BitVec.ofNat 32 (i 0).val) 16#32) (BitVec.ofNat 32 (i 1).val)

/-- The divisor of the floor remainder: 2, as the kernel selects it. -/
abbrev halfW : BitVec 32 := Scalar.select (Scalar.cmpi .eq 2#32 0#32) 1#32 2#32

/-- Which half of a head's sequence a point treats: the floor remainder of its position by 2. -/
abbrev partW (i : grid0.Coords) : BitVec 32 :=
  Scalar.select (Scalar.andi (Scalar.xori (Scalar.cmpi .slt (Scalar.remsi (stepW i) halfW) 0#32) (Scalar.cmpi .slt halfW 0#32))
      (Scalar.cmpi .ne (Scalar.remsi (stepW i) halfW) 0#32))
    (Scalar.addi (Scalar.remsi (stepW i) halfW) halfW) (Scalar.remsi (stepW i) halfW)

/-- The first half of a head's sequence: the guard under which the kernel clears the carried state. -/
abbrev cond0_1 (i : grid0.Coords) : Prop := (Scalar.cmpi .ne (Scalar.extui (Scalar.cmpi .eq (partW i) 0#32)) 0#32) = 1#1

/-- What the fourteen input windows hold at a point: the head's log decays, a block of rows, the four column blocks of the projection
    weight (signal, outer gate, inner gate, output gate), the taps and the bias, the head's queries, keys, values and gate, and the rotary
    cosines and signed sines. -/
structure Blk (F : FTy → Type) where
  lg : Vec F S12 .f32
  hb : Vec F S1024x2048 .bf16
  wu : Vec F S1x2048x256 .f32
  wb : Vec F S1x2048x256 .f32
  wc : Vec F S1x2048x256 .f32
  wz : Vec F S1x2048x256 .f32
  cw : Vec F S3x256 .f32
  cb : Vec F S1x256 .f32
  qb : Vec F S1x4096x128 .bf16
  kb : Vec F S1x4096x128 .bf16
  vb : Vec F S1x4096x128 .bf16
  gb : Vec F S1x4096x128 .bf16
  co : Vec F S4096x128 .f32
  si : Vec F S4096x128 .f32

/-- The rows of a head's sequence a point treats, of an array stored as one slab of rows. -/
abbrev rowsR (i : grid0.Coords) : Rect S4096x128 := Rect.unit (s := S4096x128) (k0_off2 i) S2048x128.size (k0_off2_inb i)

/-- The same rows of a slab under a leading axis of extent one. -/
abbrev slabR (i : grid0.Coords) : Rect S1x4096x128 := Rect.unit (s := S1x4096x128) (k0_off3 i) S1x2048x128.size (k0_off3_inb i)

/-- The log decay of the point's head. -/
def lgAt (i : grid0.Coords) (X : Blk F) : Elt F .f32 :=
  View.ld X.lg (Rect.unit (s := S12) (k0_off1 i) S1.size (k0_off1_inb i)) (Shape.Idx.first (Nat.lt_of_lt_of_eq Nat.one_pos numel1_S1.symm))

/-- The inner gate's product of the point: the row block times the gate's columns. -/
def cPart (X : Blk F) : FVec F S1024x256 .f32 := k0_pay9 X.hb X.wc

/-- The gated signal of the point: inner gate times signal. -/
def cuAt (X : Blk F) : FVec F S1024x256 .f32 := k0_pay17 X.hb (cPart X) X.wu

/-- The last eight rows of the gated signal: what the next row block's convolution reaches back to. -/
def haloAt (X : Blk F) : FVec F S8x256 .f32 := k0_pay39 (cuAt X)

/-- The rotated queries of the point's rows, sixteen chunks. -/
def qAt (i : grid0.Coords) (X : Blk F) : FVec F S16x128x128 .f32 :=
  k0_pay12 (View.ld X.co (rowsR i)) (View.ld X.si (rowsR i)) (View.ld X.qb (slabR i))

/-- The masked scores of the point's chunks. -/
def innAt (i : grid0.Coords) (X : Blk F) : FVec F S16x128x128 .f32 :=
  k0_pay15 (k0_pay3 (lgAt i X)) (View.ld X.co (rowsR i)) (View.ld X.si (rowsR i)) (View.ld X.qb (slabR i)) (View.ld X.kb (slabR i))

/-- Each chunk's own contribution to the state. -/
def kvAt (i : grid0.Coords) (X : Blk F) : FVec F S16x128x128 .f32 :=
  k0_pay16 (k0_pay5 (lgAt i X)) (View.ld X.co (rowsR i)) (View.ld X.si (rowsR i)) (View.ld X.kb (slabR i)) (View.ld X.vb (slabR i))

/-- A chunk's decay. -/
def cdAt (i : grid0.Coords) (X : Blk F) : FVec F S128x128 .f32 := k0_pay6 (lgAt i X)

/-- The state after the point's sixteen chunks, from the state `st` before them. -/
def stateAt (i : grid0.Coords) (X : Blk F) (st : Vec F S128x128 .f32) : FVec F S128x128 .f32 :=
  k0_pay33 (cdAt i X) (kvAt i X) (k0_pay29 (cdAt i X) (kvAt i X) st)

/-- The retention of the point's chunks before the output gate, from the state `st` before them. -/
def retAt (i : grid0.Coords) (X : Blk F) (st : Vec F S128x128 .f32) : FVec F S16x128x128 .f32 :=
  k0_pay34 (k0_pay4 (lgAt i X)) (cdAt i X) (qAt i X) (k0_pay14 (View.ld X.vb (slabR i))) (innAt i X) (kvAt i X) st
    (k0_pay18 (cdAt i X) (kvAt i X) st) (k0_pay19 (cdAt i X) (kvAt i X) st) (k0_pay20 (cdAt i X) (kvAt i X) st)
    (k0_pay21 (cdAt i X) (kvAt i X) st) (k0_pay22 (cdAt i X) (kvAt i X) st) (k0_pay23 (cdAt i X) (kvAt i X) st)
    (k0_pay24 (cdAt i X) (kvAt i X) st) (k0_pay25 (cdAt i X) (kvAt i X) st) (k0_pay26 (cdAt i X) (kvAt i X) st)
    (k0_pay27 (cdAt i X) (kvAt i X) st) (k0_pay28 (cdAt i X) (kvAt i X) st) (k0_pay29 (cdAt i X) (kvAt i X) st)

/-- The rows of the retention result the point stores. -/
def orAt (i : grid0.Coords) (X : Blk F) (st : Vec F S128x128 .f32) : FVec F S2048x128 .bf16 :=
  k0_pay37 (retAt i X st) (View.ld X.gb (slabR i))

/-- The remainder of the row block by the number of row blocks of a sequence, as the kernel computes it before its sign correction. -/
abbrev remW (i : grid0.Coords) : BitVec 32 := Scalar.remsi (BitVec.ofNat 32 (i 1).val) 4#32

/-- Whether that remainder needs the sign correction. -/
abbrev adjW (i : grid0.Coords) : BitVec 1 :=
  Scalar.andi (Scalar.xori (Scalar.cmpi .slt (remW i) 0#32) (Scalar.cmpi .slt 4#32 0#32))
    (Scalar.cmpi .ne (remW i) 0#32)

/-- The block of the convolution result the point stores, from the eight rows `hl` carried from the row block before. -/
def ocAt (i : grid0.Coords) (X : Blk F) (hl : Vec F S8x256 .f32) : FVec F S1024x256 .bf16 :=
  k0_pay1 (k0_pay35 X.hb X.wz) (k0_pay36 X.hb X.wb)
    (k0_pay40 (cuAt X) 4#32 (remW i) (adjW i) hl)
    (k0_pay41 (cuAt X) 4#32 (remW i) (adjW i) hl)
    (k0_pay42 (cuAt X) X.cb (View.ld X.cw (Rect.unit (s := S3x256) ![2, 0] S1x256.size inb_S3x256_S1x256_2_0)))
    (View.ld X.cw (Rect.unit (s := S3x256) ![0, 0] S1x256.size inb_S3x256_S1x256_0_0))
    (View.ld X.cw (Rect.unit (s := S3x256) ![1, 0] S1x256.size inb_S3x256_S1x256_1_0))

/-- The rows a point finds carried: cleared at the first point of a column block. -/
def haloIn (i : grid0.Coords) (hl : Vec F S8x256 .f32) : Vec F S8x256 .f32 := if cond0_0 i then k0_pay7 (F := F) else hl

/-- The state a point finds carried: cleared in the first half of a head's sequence. -/
def stateIn (i : grid0.Coords) (st : Vec F S128x128 .f32) : Vec F S128x128 .f32 := if cond0_1 i then k0_pay8 (F := F) else st

/-- A load of a whole rank-2 buffer reads its contents. -/
theorem full2 {a b : ℕ} {sp : Space} {e : EltTy} (v : View sig .tc sp ⟨2, ![a, b]⟩ e) (f : v.ty.Contents (Elt F))
    (inb : ∀ x, (![0, 0] : Fin 2 → ℕ) x + (![a, b] : Fin 2 → ℕ) x ≤ (⟨2, ![a, b]⟩ : Shape).size x) :
    v.readAt (Elt F) (Rect.unit (s := ⟨2, ![a, b]⟩) ![0, 0] ![a, b] inb).toLoadRect f = v.read (Elt F) f :=
  View.readAt_full v f inb

/-- A load of a whole rank-3 buffer reads its contents. -/
theorem full3 {a b d : ℕ} {sp : Space} {e : EltTy} (v : View sig .tc sp ⟨3, ![a, b, d]⟩ e) (f : v.ty.Contents (Elt F))
    (inb : ∀ x, (![0, 0, 0] : Fin 3 → ℕ) x + (![a, b, d] : Fin 3 → ℕ) x ≤ (⟨3, ![a, b, d]⟩ : Shape).size x) :
    v.readAt (Elt F) (Rect.unit (s := ⟨3, ![a, b, d]⟩) ![0, 0, 0] ![a, b, d] inb).toLoadRect f = v.read (Elt F) f :=
  View.readAt_full v f inb

/-- A load of a whole rank-2 buffer after a store of the whole buffer reads what was stored. -/
theorem cov2 {a b : ℕ} {sp : Space} {e : EltTy} (v : View sig .tc sp ⟨2, ![a, b]⟩ e)
    (inb inb' : ∀ x, (![0, 0] : Fin 2 → ℕ) x + (![a, b] : Fin 2 → ℕ) x ≤ (⟨2, ![a, b]⟩ : Shape).size x)
    (w : (⟨2, ![a, b]⟩ : Shape).Idx → Elt F e) (L : List (View.Piece (Elt F) ⟨2, ![a, b]⟩ e)) :
    v.readCov (⟨Rect.unit (s := ⟨2, ![a, b]⟩) ![0, 0] ![a, b] inb', w⟩ :: L) (Rect.unit (s := ⟨2, ![a, b]⟩) ![0, 0] ![a, b] inb).toLoadRect = w :=
  View.readCov_full v inb inb' w L

section Run

attribute [local irreducible] k0_pay1 k0_pay2 k0_pay3 k0_pay4 k0_pay5 k0_pay6 k0_pay7 k0_pay8 k0_pay9 k0_pay10 k0_pay11 k0_pay12 k0_pay13 k0_pay14 k0_pay15 k0_pay16 k0_pay17 k0_pay18 k0_pay19 k0_pay20 k0_pay21 k0_pay22 k0_pay23 k0_pay24 k0_pay25 k0_pay26 k0_pay27 k0_pay28 k0_pay29 k0_pay30 k0_pay31 k0_pay32 k0_pay33 k0_pay34 k0_pay35 k0_pay36 k0_pay37 k0_pay38 k0_pay39 k0_pay40 k0_pay41 k0_pay42

variable (c : Dev nD) (i : grid0.Coords)
  (arg2 : Memref sig .tc .smem S12 .f32) (harg2 : arg2.IsWhole)
  (arg3 : Memref sig .tc .vmem S1024x2048 .bf16) (harg3 : arg3.IsWhole)
  (arg4 : Memref sig .tc .vmem S1x2048x256 .f32) (harg4 : arg4.IsWhole)
  (arg5 : Memref sig .tc .vmem S1x2048x256 .f32) (harg5 : arg5.IsWhole)
  (arg6 : Memref sig .tc .vmem S1x2048x256 .f32) (harg6 : arg6.IsWhole)
  (arg7 : Memref sig .tc .vmem S1x2048x256 .f32) (harg7 : arg7.IsWhole)
  (arg8 : Memref sig .tc .vmem S3x256 .f32) (harg8 : arg8.IsWhole)
  (arg9 : Memref sig .tc .vmem S1x256 .f32) (harg9 : arg9.IsWhole)
  (arg10 : Memref sig .tc .vmem S1x4096x128 .bf16) (harg10 : arg10.IsWhole)
  (arg11 : Memref sig .tc .vmem S1x4096x128 .bf16) (harg11 : arg11.IsWhole)
  (arg12 : Memref sig .tc .vmem S1x4096x128 .bf16) (harg12 : arg12.IsWhole)
  (arg13 : Memref sig .tc .vmem S1x4096x128 .bf16) (harg13 : arg13.IsWhole)
  (arg14 : Memref sig .tc .vmem S4096x128 .f32) (harg14 : arg14.IsWhole)
  (arg15 : Memref sig .tc .vmem S4096x128 .f32) (harg15 : arg15.IsWhole)
  (arg16 : Memref sig .tc .vmem S1024x256 .bf16) (harg16 : arg16.IsWhole)
  (arg17 : Memref sig .tc .vmem S4096x128 .bf16) (harg17 : arg17.IsWhole)
  (arg18 : Memref sig .tc .vmem S8x256 .f32) (harg18 : arg18.IsWhole)
  (arg19 : Memref sig .tc .vmem S128x128 .f32) (harg19 : arg19.IsWhole)

set_option maxHeartbeats 4000000 in
/-- The kernel's body on any whole staging memrefs: with the inputs at `X`, the retention window at `Y`, the carried rows at `hl` and the carried
    state at `st`, it leaves the inputs as they are, the convolution window at `ocAt`, the retention window at `Y` with the point's rows
    overwritten by `orAt`, the carried rows at `haloAt` and the carried state at `stateAt`. -/
theorem body_run (X : Blk F) (Y : Vec F S4096x128 .bf16) (hl : Vec F S8x256 .f32) (st : Vec F S128x128 .f32) (E : Set ℕ) (K : PUnit → sProp 𝕄) :
    iprop(owns (c : Thread nD τ) arg2 fullShare X.lg ∗ owns (c : Thread nD τ) arg3 fullShare X.hb ∗ owns (c : Thread nD τ) arg4 fullShare X.wu ∗ owns (c : Thread nD τ) arg5 fullShare X.wb ∗ owns (c : Thread nD τ) arg6 fullShare X.wc ∗ owns (c : Thread nD τ) arg7 fullShare X.wz ∗ owns (c : Thread nD τ) arg8 fullShare X.cw ∗ owns (c : Thread nD τ) arg9 fullShare X.cb ∗ owns (c : Thread nD τ) arg10 fullShare X.qb ∗ owns (c : Thread nD τ) arg11 fullShare X.kb ∗ owns (c : Thread nD τ) arg12 fullShare X.vb ∗ owns (c : Thread nD τ) arg13 fullShare X.gb ∗ owns (c : Thread nD τ) arg14 fullShare X.co ∗ owns (c : Thread nD τ) arg15 fullShare X.si ∗ (∃ d, owns (c : Thread nD τ) arg16 fullShare d) ∗ owns (c : Thread nD τ) arg17 fullShare Y ∗ owns (c : Thread nD τ) arg18 fullShare hl ∗ owns (c : Thread nD τ) arg19 fullShare st
        ∗ (iprop(owns (c : Thread nD τ) arg2 fullShare X.lg ∗ owns (c : Thread nD τ) arg3 fullShare X.hb ∗ owns (c : Thread nD τ) arg4 fullShare X.wu ∗ owns (c : Thread nD τ) arg5 fullShare X.wb ∗ owns (c : Thread nD τ) arg6 fullShare X.wc ∗ owns (c : Thread nD τ) arg7 fullShare X.wz ∗ owns (c : Thread nD τ) arg8 fullShare X.cw ∗ owns (c : Thread nD τ) arg9 fullShare X.cb ∗ owns (c : Thread nD τ) arg10 fullShare X.qb ∗ owns (c : Thread nD τ) arg11 fullShare X.kb ∗ owns (c : Thread nD τ) arg12 fullShare X.vb ∗ owns (c : Thread nD τ) arg13 fullShare X.gb ∗ owns (c : Thread nD τ) arg14 fullShare X.co ∗ owns (c : Thread nD τ) arg15 fullShare X.si ∗ owns (c : Thread nD τ) arg16 fullShare (ocAt i X (haloIn i hl))
            ∗ owns (c : Thread nD τ) arg17 fullShare (VecWindow.put Y (k0_off2 i) S2048x128.size (orAt i X (stateIn i st)))
            ∗ owns (c : Thread nD τ) arg18 fullShare (haloAt X)
            ∗ owns (c : Thread nD τ) arg19 fullShare (stateAt i X (stateIn i st))) -∗ K ⟨⟩))
      ⊢ wp frame (wpE (defs₀ (F := F)) Variants.none c none) E (cc0_conv_and_retention i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_conv_and_retention_eq_skeleton]; unfold cc0_conv_and_retention_skel
  simp only [k0_part1_eq_skeleton, k0_part2_eq_skeleton, k0_part3_eq_skeleton, k0_part4_eq_skeleton, k0_part5_eq_skeleton, k0_part6_eq_skeleton, k0_part7_eq_skeleton]
  by_cases hc0 : cond0_0 i <;> by_cases hc1 : cond0_1 i
  all_goals
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%f15, %hf15, H15⟩, ⟨%fs0, %hfs0, HS0⟩, ⟨%fs1, %hfs1, HS1⟩, Hk⟩
    cases X
    dsimp only at hf0 hf1 hf2 hf3 hf4 hf5 hf6 hf7 hf8 hf9 hf10 hf11 hf12 hf13 ⊢
    subst hf0 hf1 hf2 hf3 hf4 hf5 hf6 hf7 hf8 hf9 hf10 hf11 hf12 hf13 hf15 hfs0 hfs1
    sl_exec (disch := first | sl_exact hc0 | sl_exact hc1)
    sl_step
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; · ipureintro; rfl
      iexact H4
    isplitl [H5]
    · iexists _; isplitr; · ipureintro; rfl
      iexact H5
    isplitl [H6]
    · iexists _; isplitr; · ipureintro; rfl
      iexact H6
    isplitl [H7]
    · iexists _; isplitr; · ipureintro; rfl
      iexact H7
    isplitl [H8]
    · iexists _; isplitr; · ipureintro; rfl
      iexact H8
    isplitl [H9]
    · iexists _; isplitr; · ipureintro; rfl
      iexact H9
    isplitl [H10]
    · iexists _; isplitr; · ipureintro; rfl
      iexact H10
    isplitl [H11]
    · iexists _; isplitr; · ipureintro; rfl
      iexact H11
    isplitl [H12]
    · iexists _; isplitr; · ipureintro; rfl
      iexact H12
    isplitl [H13]
    · iexists _; isplitr; · ipureintro; rfl
      iexact H13
    isplitl [H14]
    · iexists _; isplitr; swap; · iexact H14
      ipureintro
      refine (View.read_writes_full _ _ _ _ _).trans ?_
      sl_unfold_words
      simp only [full2, full3, cov2]
      first | rw [show haloIn i _ = _ from if_pos hc0] | rw [show haloIn i _ = _ from if_neg hc0]
      rfl
    isplitl [H15]
    · iexists _; isplitr; swap; · iexact H15
      ipureintro
      refine (View.read_writes_cons_put _ _ _ _ _ rfl).trans ?_
      sl_unfold_words
      simp only [full2, full3, cov2]
      first | rw [show stateIn i _ = _ from if_pos hc1] | rw [show stateIn i _ = _ from if_neg hc1]
      rfl
    isplitl [HS0]
    · iexists _; isplitr; swap; · iexact HS0
      ipureintro
      refine (View.read_writes_full _ _ _ _ _).trans ?_
      sl_unfold_words
      simp only [full2, full3, cov2]
      rfl
    iexists _; isplitr; swap; · iexact HS1
    ipureintro
    refine (View.read_writes_full _ _ _ _ _).trans ?_
    sl_unfold_words
    simp only [full2, full3, cov2]
    first | rw [show stateIn i _ = _ from if_pos hc1] | rw [show stateIn i _ = _ from if_neg hc1]
    rfl

end Run

end Cert.Kernel6Ideal.Gen

end
-- ==== Proof.Frame6.lean ====
module

public import proofs.«01_k».proof.Proof.Gen.Kernel6Ideal.Frame
public import proofs.«01_k».proof.Proof.Body6
public import Idealize.ShloMosaic.Lib.Pipeline.DatRel
public import Idealize.ShloMosaic.Lib.Pipeline.ArrRel

@[expose] public section

set_option maxRecDepth 16384

noncomputable section

namespace Cert.Kernel6Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The convolution rows are cleared at the first point of a column block. -/
theorem hcond0_0 : ∀ t : Fin cfg0.N, cond0_0 (grid0.coords t) ↔ t.val % 16 = 0 :=
  (by decide +kernel : ∀ t : Fin grid0.N, cond0_0 (grid0.coords t) ↔ t.val % 16 = 0)

/-- The state is cleared at the even points. -/
theorem hcond0_1 : ∀ t : Fin cfg0.N, cond0_1 (grid0.coords t) ↔ t.val % 2 = 0 :=
  (by decide +kernel : ∀ t : Fin grid0.N, cond0_1 (grid0.coords t) ↔ t.val % 2 = 0)

/-- The rows of a head's sequence that a point treats begin at 0 at an even point and at 2048 at an odd one. -/
theorem off2_at : ∀ t : Fin cfg0.N, k0_off2 (grid0.coords t) 0 = t.val % 2 * 2048 ∧ k0_off2 (grid0.coords t) 1 = 0 :=
  (by decide +kernel : ∀ t : Fin grid0.N, k0_off2 (grid0.coords t) 0 = t.val % 2 * 2048 ∧ k0_off2 (grid0.coords t) 1 = 0)

/-- There are 96 points. -/
theorem N96 : cfg0.N = 96 := N_0

/-- A number as a point. -/
def pt (n : ℕ) : Fin cfg0.N := ⟨n % 96, lt_of_lt_of_eq (Nat.mod_lt n (by decide)) N96.symm⟩

theorem pt_val (t : Fin cfg0.N) : pt t.val = t :=
  Fin.ext (Nat.mod_eq_of_lt (lt_of_lt_of_eq t.isLt N96))

/-! ## What the points read and leave -/

/-- What the input windows hold at point `t`. -/
def blkAt (c : Dev nD) (t : Fin cfg0.N) : Blk F :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t⟩

/-- The rows the convolution of point `n` finds carried: none at the first point of a column block, else the last rows of the point before. -/
def haloBefore (c : Dev nD) (n : ℕ) : Vec F S8x256 .f32 := if n % 16 = 0 then k0_pay7 (F := F) else haloAt (blkAt m c (pt (n - 1)))

/-- The state point `n` starts from: zero at an even point, else the state after the point before, itself started from zero. -/
def stateBefore (c : Dev nD) (n : ℕ) : Vec F S128x128 .f32 :=
  if n % 2 = 0 then k0_pay8 (F := F) else stateAt (grid0.coords (pt (n - 1))) (blkAt m c (pt (n - 1))) (k0_pay8 (F := F))

/-- The block of the convolution result point `n` stores. -/
def ocOf (c : Dev nD) (n : ℕ) : FVec F S1024x256 .bf16 := ocAt (grid0.coords (pt n)) (blkAt m c (pt n)) (haloBefore m c n)

/-- The rows of the retention result point `n` stores. -/
def orOf (c : Dev nD) (n : ℕ) : FVec F S2048x128 .bf16 := orAt (grid0.coords (pt n)) (blkAt m c (pt n)) (stateBefore m c n)

/-- A row of a head's sequence within its half. -/
def halfIx (y : S4096x128.Idx) : S2048x128.Idx := fun
  | ⟨0, _⟩ => ⟨(y 0).val % 2048, Nat.mod_lt _ (by decide)⟩
  | ⟨1, _⟩ => y 1
  | ⟨_ + 2, h⟩ => absurd h (Nat.not_lt.2 (Nat.le_add_left _ _))

/-- A head's whole retention result, both halves: those of the two points of its unit (point `n` being either). -/
def orFull (c : Dev nD) (n : ℕ) : Vec F S4096x128 .bf16 := fun y => orOf m c (n / 2 * 2 + (y 0).val / 2048) (halfIx y)

/-- The two output windows are held to a predicate. -/
def held0 : Fin cfg0.W → Bool := fun w => w.val == 14 || w.val == 15

/-- What is said of the two output windows: the convolution window holds the point's block; the retention window holds the unit's result in
    the rows treated so far. -/
def Rl0 (c : Dev nD) (w : Fin cfg0.W) (t : Fin cfg0.N) : ((cfg0.win w).block.Idx → Elt F (cfg0.win w).elt) → Prop :=
  match w with
  | ⟨14, _⟩ => fun X => X = ocOf m c t.val
  | ⟨15, _⟩ => fun (X : Vec F S4096x128 .bf16) => ∀ y : S4096x128.Idx, (y 0).val / 2048 ≤ t.val % 2 → X y = orFull m c t.val y
  | _ => fun _ => True

/-- The scratch operands: the kernel's own two buffers. -/
abbrev scM0_0 : Memref sig .tc .vmem S8x256 .f32 := Memref.whole cc0_scratch0
abbrev scM0_1 : Memref sig .tc .vmem S128x128 .f32 := Memref.whole cc0_scratch1

/-- The launch's invariant with the scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; rfl

/-- What is known of the carried rows and the carried state before position `n`: after a point, what that point left. -/
def Carried (c : Dev nD) (n : ℕ) (hl : Vec F S8x256 .f32) (st : Vec F S128x128 .f32) : Prop :=
  n ≠ 0 → hl = haloAt (blkAt m c (pt (n - 1))) ∧ st = stateAt (grid0.coords (pt (n - 1))) (blkAt m c (pt (n - 1))) (stateBefore m c (n - 1))

/-- The invariant before position `n`: the two scratch buffers at carried contents, and the generator register at some state. -/
def PhiC (c : Dev nD) (n : ℕ) : sProp 𝕄 :=
  iprop((∃ hl, ∃ st, ⌜Carried m c n hl st⌝ ∗ owns (c : Thread nD τ) scM0_0 fullShare hl ∗ owns (c : Thread nD τ) scM0_1 fullShare st) ∗ (∃ r, prngReg c r))

/-- The rows a point finds, from the carried ones. -/
theorem haloIn_carried {c : Dev nD} {t : Fin cfg0.N} {hl : Vec F S8x256 .f32} {st : Vec F S128x128 .f32} (h : Carried m c t.val hl st) :
    haloIn (grid0.coords t) hl = haloBefore m c t.val := by
  unfold haloIn haloBefore
  by_cases h0 : t.val % 16 = 0
  · rw [if_pos ((hcond0_0 t).mpr h0), if_pos h0]
  · rw [if_neg (fun h' => h0 ((hcond0_0 t).mp h')), if_neg h0]
    exact (h (fun hz => h0 (by rw [hz]))).1

/-- The state a point finds, from the carried one. -/
theorem stateIn_carried {c : Dev nD} {t : Fin cfg0.N} {hl : Vec F S8x256 .f32} {st : Vec F S128x128 .f32} (h : Carried m c t.val hl st) :
    stateIn (grid0.coords t) st = stateBefore m c t.val := by
  unfold stateIn
  by_cases h0 : t.val % 2 = 0
  · rw [if_pos ((hcond0_1 t).mpr h0)]; unfold stateBefore; rw [if_pos h0]
  · rw [if_neg (fun h' => h0 ((hcond0_1 t).mp h')), (h (fun hz => h0 (by rw [hz]))).2]
    have hp : (t.val - 1) % 2 = 0 := by omega
    unfold stateBefore
    rw [if_neg h0, if_pos hp]

/-- The proof data of the one pipeline on core `c`: the arrays as the region finds them; after the body each input's buffer at its block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, h⟩ => Pipeline.Dat.unnamed (cfg := cfg0) ⟨14, h⟩ t
    | ⟨15, h⟩ => Pipeline.Dat.unnamed (cfg := cfg0) ⟨15, h⟩ t
    | ⟨_ + 16, h⟩ => absurd h (Nat.not_lt.2 (Nat.le_add_left _ _))
  Φ t := PhiC m c t.val
  q w := Pipeline.shareOf spec0 w
  owed _ := 0

/-- The proof data's arrays are the region-entry contents. -/
theorem A_eq (c : Dev nD) (w : Fin cfg0.W) : (dats m 0 c).A w = V m c (Pipeline.arrRef spec0 w) := by
  dsimp only [dats]

/-- The proof data with the output windows held to `Rl0`. -/
abbrev rdat (c : Dev nD) : Pipeline.RDat τ (Elt F) Unit ℕ (UR sig nD τ) ℕ cfg0 c := (dats m 0 c).toRRel held0 (Rl0 m c)

theorem before0_0 (c : Dev nD) (t : Fin cfg0.N) (d) : (dats m 0 c).before 0 t d = iblk m c 0 t :=
  before0_0_of m (dats m 0 c) (A_eq m c 0) (fun t => by dsimp only [dats]) t d
theorem before0_1 (c : Dev nD) (t : Fin cfg0.N) (d) : (dats m 0 c).before 1 t d = iblk m c 1 t :=
  before0_1_of m (dats m 0 c) (A_eq m c 1) (fun t => by dsimp only [dats]) t d
theorem before0_2 (c : Dev nD) (t : Fin cfg0.N) (d) : (dats m 0 c).before 2 t d = iblk m c 2 t :=
  before0_2_of m (dats m 0 c) (A_eq m c 2) (fun t => by dsimp only [dats]) t d
theorem before0_3 (c : Dev nD) (t : Fin cfg0.N) (d) : (dats m 0 c).before 3 t d = iblk m c 3 t :=
  before0_3_of m (dats m 0 c) (A_eq m c 3) (fun t => by dsimp only [dats]) t d
theorem before0_4 (c : Dev nD) (t : Fin cfg0.N) (d) : (dats m 0 c).before 4 t d = iblk m c 4 t :=
  before0_4_of m (dats m 0 c) (A_eq m c 4) (fun t => by dsimp only [dats]) t d
theorem before0_5 (c : Dev nD) (t : Fin cfg0.N) (d) : (dats m 0 c).before 5 t d = iblk m c 5 t :=
  before0_5_of m (dats m 0 c) (A_eq m c 5) (fun t => by dsimp only [dats]) t d
theorem before0_6 (c : Dev nD) (t : Fin cfg0.N) (d) : (dats m 0 c).before 6 t d = iblk m c 6 t :=
  before0_6_of m (dats m 0 c) (A_eq m c 6) (fun t => by dsimp only [dats]) t d
theorem before0_7 (c : Dev nD) (t : Fin cfg0.N) (d) : (dats m 0 c).before 7 t d = iblk m c 7 t :=
  before0_7_of m (dats m 0 c) (A_eq m c 7) (fun t => by dsimp only [dats]) t d
theorem before0_8 (c : Dev nD) (t : Fin cfg0.N) (d) : (dats m 0 c).before 8 t d = iblk m c 8 t :=
  before0_8_of m (dats m 0 c) (A_eq m c 8) (fun t => by dsimp only [dats]) t d
theorem before0_9 (c : Dev nD) (t : Fin cfg0.N) (d) : (dats m 0 c).before 9 t d = iblk m c 9 t :=
  before0_9_of m (dats m 0 c) (A_eq m c 9) (fun t => by dsimp only [dats]) t d
theorem before0_10 (c : Dev nD) (t : Fin cfg0.N) (d) : (dats m 0 c).before 10 t d = iblk m c 10 t :=
  before0_10_of m (dats m 0 c) (A_eq m c 10) (fun t => by dsimp only [dats]) t d
theorem before0_11 (c : Dev nD) (t : Fin cfg0.N) (d) : (dats m 0 c).before 11 t d = iblk m c 11 t :=
  before0_11_of m (dats m 0 c) (A_eq m c 11) (fun t => by dsimp only [dats]) t d
theorem before0_12 (c : Dev nD) (t : Fin cfg0.N) (d) : (dats m 0 c).before 12 t d = iblk m c 12 t :=
  before0_12_of m (dats m 0 c) (A_eq m c 12) (fun t => by dsimp only [dats]) t d
theorem before0_13 (c : Dev nD) (t : Fin cfg0.N) (d) : (dats m 0 c).before 13 t d = iblk m c 13 t :=
  before0_13_of m (dats m 0 c) (A_eq m c 13) (fun t => by dsimp only [dats]) t d

/-- At an odd point the retention window still holds the unit's result in its first half. -/
theorem found15 {c : Dev nD} {t : Fin cfg0.N} {Y : Vec F S4096x128 .bf16} (h1 : t.val % 2 ≠ 0) (h : (rdat m c).Finds 15 t Y)
    (y : S4096x128.Idx) (hy : (y 0).val / 2048 = 0) : Y y = orFull m c t.val y := by
  have ht : t.val ≠ 0 := fun hz => h1 (by rw [hz])
  have hfl := (((rdat m c).finds_of_pos (w := 15) (t := t) rfl ht Y).mp h).resolve_left fun hf => by
    have := (flush0_15 ⟨t.val - 1, Nat.lt_of_le_of_lt (Nat.sub_le _ _) t.isLt⟩).mp hf
    dsimp only at this
    omega
  have hR : Rl0 m c 15 ⟨t.val - 1, Nat.lt_of_le_of_lt (Nat.sub_le _ _) t.isLt⟩ Y := (dats m 0 c).toRRel_leaves (fgt := held0) (Rl := Rl0 m c) rfl hfl
  have e : orFull m c (t.val - 1) y = orFull m c t.val y := by
    unfold orFull; rw [show (t.val - 1) / 2 = t.val / 2 by omega]
  rw [← e]
  exact hR y (by dsimp only; omega)

/-- A point's rows put over what the window held: the unit's result in the rows treated so far. -/
theorem put15 {c : Dev nD} {t : Fin cfg0.N} {Y : Vec F S4096x128 .bf16} (h : (rdat m c).Finds 15 t Y) :
    Rl0 m c 15 t (VecWindow.put Y (k0_off2 (grid0.coords t)) S2048x128.size (orAt (grid0.coords t) (blkAt m c t) (stateBefore m c t.val))) := by
  intro y hy
  obtain ⟨e0, e1⟩ := off2_at t
  have hy0 : (y 0).val < 4096 := (y 0).isLt
  have hy1 : (y 1).val < 128 := (y 1).isLt
  by_cases hin : ∀ a, k0_off2 (grid0.coords t) a ≤ (y a).val ∧ (y a).val < k0_off2 (grid0.coords t) a + S2048x128.size a
  · refine (dif_pos hin).trans ?_
    have h0 : k0_off2 (grid0.coords t) 0 ≤ (y 0).val ∧ (y 0).val < k0_off2 (grid0.coords t) 0 + 2048 := hin 0
    rw [e0] at h0
    have hq : (y 0).val / 2048 = t.val % 2 := by omega
    unfold orFull orOf
    rw [hq, show t.val / 2 * 2 + t.val % 2 = t.val by omega, pt_val]
    refine congrArg _ (funext fun a => Fin.ext ?_)
    rw [Rect.unitLocal_val]
    match a with
    | ⟨0, _⟩ => show (y 0).val - k0_off2 (grid0.coords t) 0 = (y 0).val % 2048; rw [e0]; omega
    | ⟨1, _⟩ => show (y 1).val - k0_off2 (grid0.coords t) 1 = (y 1).val; rw [e1]; omega
  · refine (dif_neg hin).trans ?_
    have hlt : ¬ (y 0).val / 2048 = t.val % 2 := fun hq => hin fun a => by
      match a with
      | ⟨0, _⟩ =>
        show k0_off2 (grid0.coords t) 0 ≤ (y 0).val ∧ (y 0).val < k0_off2 (grid0.coords t) 0 + 2048
        rw [e0]; omega
      | ⟨1, _⟩ =>
        show k0_off2 (grid0.coords t) 1 ≤ (y 1).val ∧ (y 1).val < k0_off2 (grid0.coords t) 1 + 128
        rw [e1]; omega
    exact found15 m (by omega) h y (by omega)

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d))
    ∗ (∃ d, owns (c : Thread nD τ) (win0_12.stage (cfg0.slots t 12)) fullShare ((dats m 0 c).before 12 t d))
    ∗ (∃ d, owns (c : Thread nD τ) (win0_13.stage (cfg0.slots t 13)) fullShare ((dats m 0 c).before 13 t d))
    ∗ (∃ Y, ⌜(rdat m c).Finds 14 t Y⌝ ∗ owns (c : Thread nD τ) (win0_14.stage (cfg0.slots t 14)) fullShare Y)
    ∗ (∃ Y, ⌜(rdat m c).Finds 15 t Y⌝ ∗ owns (c : Thread nD τ) (win0_15.stage (cfg0.slots t 15)) fullShare Y))

/-- and what it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ owns (c : Thread nD τ) (win0_9.stage (cfg0.slots t 9)) fullShare ((dats m 0 c).after 9 t)
    ∗ owns (c : Thread nD τ) (win0_10.stage (cfg0.slots t 10)) fullShare ((dats m 0 c).after 10 t)
    ∗ owns (c : Thread nD τ) (win0_11.stage (cfg0.slots t 11)) fullShare ((dats m 0 c).after 11 t)
    ∗ owns (c : Thread nD τ) (win0_12.stage (cfg0.slots t 12)) fullShare ((dats m 0 c).after 12 t)
    ∗ owns (c : Thread nD τ) (win0_13.stage (cfg0.slots t 13)) fullShare ((dats m 0 c).after 13 t)
    ∗ (∃ X, ⌜Rl0 m c 14 t X⌝ ∗ owns (c : Thread nD τ) (win0_14.stage (cfg0.slots t 14)) fullShare X)
    ∗ (∃ X, ⌜Rl0 m c 15 t X⌝ ∗ owns (c : Thread nD τ) (win0_15.stage (cfg0.slots t 15)) fullShare X))

set_option maxHeartbeats 4000000 in
/-- The body at any point: the inputs at their blocks, the carried rows and state at what the point before left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).owesAt () t.succ = (dats m 0 c).owesAt () t.castSucc from rfl,
    show (dats m 0 c).Φ t.castSucc = PhiC m c t.val from rfl, show (dats m 0 c).Φ t.succ = PhiC m c (t.val + 1) from rfl]
  unfold PhiC
  iintro ⟨⟨⟨%hl, %st, %hC, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%Y14, %hY14, H14⟩, ⟨%Y15, %hY15, H15⟩⟩
  iapply (body_run c (grid0.coords t) _ _ _ _ _ _ _ _ _ _ _ _ _ _ _ _ _ _ _ _ _ _ _ _ _ _ _ _ _ _ _ _ _ _ _ _ (blkAt m c t) Y15 hl st Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexact H15
  isplitl [HS0]; · iexact HS0
  isplitl [HS1]; · iexact HS1
  iintro ⟨H0, H1, H2, H3, H4, H5, H6, H7, H8, H9, H10, H11, H12, H13, H14, H15, HS0, HS1⟩
  isplitl [HS0 HS1 Hg]
  · isplitl [HS0 HS1]
    · iexists _; iexists _; isplitr; swap
      · isplitl [HS0]
        · iexact HS0
        iexact HS1
      ipureintro
      intro _
      rw [show t.val + 1 - 1 = t.val by omega, pt_val, stateIn_carried m hC]
      exact ⟨rfl, rfl⟩
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]
  · iexists _; isplitr; swap
    · iexact H14
    ipureintro
    show _ = ocOf m c t.val
    unfold ocOf
    rw [pt_val, haloIn_carried m hC]
  iexists _; isplitr; swap
  · iexact H15
  ipureintro
  rw [stateIn_carried m hC]
  exact put15 m hY15

theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : Pipeline.BodyObligationRel (dats (F := F) m 0 c) (defs₀ (F := F)) Variants.none () Set.univ held0 (Rl0 m c) := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (rdat m c).Φ 0 := by
  rw [show (rdat m c).Φ 0 = PhiC m c 0 from rfl, PhiA0_eq]
  unfold PhiC
  iintro ⟨⟨⟨%hl, HS0⟩, ⟨%st, HS1⟩⟩, Hg⟩
  isplitl [HS0 HS1]
  · iexists hl; iexists st; isplitr
    · ipureintro; exact fun h => absurd rfl h
    isplitl [HS0]
    · iexact HS0
    iexact HS1
  iexact Hg

/-- After the last point the invariant gives the launch's back. -/
theorem hout (c : Dev nD) : (rdat m c).Φ (Fin.last cfg0.N) ⊢ Pipeline.ΦA spec0 c := by
  rw [show (rdat m c).Φ (Fin.last cfg0.N) = PhiC m c cfg0.N from rfl, PhiA0_eq]
  unfold PhiC
  iintro ⟨⟨%hl, %st, %_, HS0, HS1⟩, Hg⟩
  isplitl [HS0 HS1]
  · isplitl [HS0]
    · iexists _; iexact HS0
    iexists _; iexact HS1
  iexact Hg

/-! ## The run and the frame -/

-- the launch theorem's implicit arguments are found by unifying its conclusion with this one
set_option backward.isDefEq.respectTransparency.types false in
/-- The run: every weakly fair execution of the program terminates, with every array as the relational proof data say and every semaphore
    counter at zero. -/
theorem run_main_quiescent : θ_run defs (onTc (τ := τ) (main (F := F))) (s₀ m ρ)
    (fun r => Pipeline.RDat.FramePost (cfgs 0) (rdat m) (V m) r ∧ r.2.sem = fun _ => 0) :=
  Pipeline.RDat.θ_run_frame_track_shared (Q' := _) cfgs (0 : Fin 1) launch₀0 defs₀ Variants.none (rdat m) m ρ main
    (hbody := fun c => (body_obligation m c).toRRel) (hq := fun _ _ _ => rfl)
    (howed := fun _ _ => rfl) (V := V m) (hmain := hmain m Variants.none) (hA := A_eq m) (hin := hin m) (hout := hout m)

/-- The frame: the argument arrays end unchanged, every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
      ⟨(Pipeline.RDat.FramePost.arr_in h.1 c 1 rfl).trans ((A_eq m c 1).trans (V_main_arg0 m c)),
      (Pipeline.RDat.FramePost.arr_in h.1 c 5 rfl).trans ((A_eq m c 5).trans (V_main_arg1 m c)),
      (Pipeline.RDat.FramePost.arr_in h.1 c 6 rfl).trans ((A_eq m c 6).trans (V_main_arg2 m c)),
      ((h.1 c).2 main_arg3 (Pipeline.mem_restRefs_of main_arg3 (by decide) (by decide))).trans (V_main_arg3 m c),
      (Pipeline.RDat.FramePost.arr_in h.1 c 11 rfl).trans ((A_eq m c 11).trans (V_main_arg4 m c))⟩, h.2⟩) (run_main_quiescent m ρ)

end Cert.Kernel6Ideal.Gen

end
-- ==== Proof.Body10.lean ====
module

public import proofs.«01_k».proof.Proof.Gen.Kernel10Ideal.Frame
public import proofs.«01_k».proof.Proof.Gen.Kernel10Ideal.Skeleton
public import Idealize.ShloMosaic.Lib.VecWindow

@[expose] public section

set_option maxRecDepth 16384

noncomputable section

namespace Cert.Kernel10Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first point of a column block: the guard under which the kernel clears the carried convolution rows. -/
abbrev cond0_0 (i : grid0.Coords) : Prop := (Scalar.cmpi .ne (Scalar.extui (Scalar.cmpi .eq (BitVec.ofNat 32 (i 1).val) 0#32)) 0#32) = 1#1

/-- The position of a point: its column block times the number of row blocks, plus its row block. -/
abbrev stepW (i : grid0.Coords) : BitVec 32 := Scalar.addi (Scalar.muli (BitVec.ofNat 32 (i 0).val) 16#32) (BitVec.ofNat 32 (i 1).val)

/-- The divisor of the floor remainder: 2, as the kernel selects it. -/
abbrev halfW : BitVec 32 := Scalar.select (Scalar.cmpi .eq 2#32 0#32) 1#32 2#32

/-- Which half of a head's sequence a point treats: the floor remainder of its position by 2. -/
abbrev partW (i : grid0.Coords) : BitVec 32 :=
  Scalar.select (Scalar.andi (Scalar.xori (Scalar.cmpi .slt (Scalar.remsi (stepW i) halfW) 0#32) (Scalar.cmpi .slt halfW 0#32))
      (Scalar.cmpi .ne (Scalar.remsi (stepW i) halfW) 0#32))
    (Scalar.addi (Scalar.remsi (stepW i) halfW) halfW) (Scalar.remsi (stepW i) halfW)

/-- The first half of a head's sequence: the guard under which the kernel clears the carried state. -/
abbrev cond0_1 (i : grid0.Coords) : Prop := (Scalar.cmpi .ne (Scalar.extui (Scalar.cmpi .eq (partW i) 0#32)) 0#32) = 1#1

/-- What the fourteen input windows hold at a point: the head's log decays, a block of rows, the four column blocks of the projection
    weight (signal, outer gate, inner gate, output gate), the taps and the bias, the head's queries, keys, values and gate, and the rotary
    cosines and signed sines. -/
structure Blk (F : FTy → Type) where
  lg : Vec F S12 .f32
  hb : Vec F S1024x2048 .bf16
  wu : Vec F S1x2048x256 .f32
  wb : Vec F S1x2048x256 .f32
  wc : Vec F S1x2048x256 .f32
  wz : Vec F S1x2048x256 .f32
  cw : Vec F S3x256 .f32
  cb : Vec F S1x256 .f32
  qb : Vec F S1x4096x128 .bf16
  kb : Vec F S1x4096x128 .bf16
  vb : Vec F S1x4096x128 .bf16
  gb : Vec F S1x4096x128 .bf16
  co : Vec F S4096x128 .f32
  si : Vec F S4096x128 .f32

/-- The rows of a head's sequence a point treats, of an array stored as one slab of rows. -/
abbrev rowsR (i : grid0.Coords) : Rect S4096x128 := Rect.unit (s := S4096x128) (k0_off2 i) S2048x128.size (k0_off2_inb i)

/-- The same rows of a slab under a leading axis of extent one. -/
abbrev slabR (i : grid0.Coords) : Rect S1x4096x128 := Rect.unit (s := S1x4096x128) (k0_off3 i) S1x2048x128.size (k0_off3_inb i)

/-- The log decay of the point's head. -/
def lgAt (i : grid0.Coords) (X : Blk F) : Elt F .f32 :=
  View.ld X.lg (Rect.unit (s := S12) (k0_off1 i) S1.size (k0_off1_inb i)) (Shape.Idx.first (Nat.lt_of_lt_of_eq Nat.one_pos numel1_S1.symm))

/-- The inner gate's product of the point: the row block times the gate's columns. -/
def cPart (X : Blk F) : FVec F S1024x256 .f32 := k0_pay9 X.hb X.wc

/-- The gated signal of the point: inner gate times signal. -/
def cuAt (X : Blk F) : FVec F S1024x256 .f32 := k0_pay17 X.hb (cPart X) X.wu

/-- The last eight rows of the gated signal: what the next row block's convolution reaches back to. -/
def haloAt (X : Blk F) : FVec F S8x256 .f32 := k0_pay39 (cuAt X)

/-- The rotated queries of the point's rows, sixteen chunks. -/
def qAt (i : grid0.Coords) (X : Blk F) : FVec F S16x128x128 .f32 :=
  k0_pay12 (View.ld X.co (rowsR i)) (View.ld X.si (rowsR i)) (View.ld X.qb (slabR i))

/-- The masked scores of the point's chunks. -/
def innAt (i : grid0.Coords) (X : Blk F) : FVec F S16x128x128 .f32 :=
  k0_pay15 (k0_pay3 (lgAt i X)) (View.ld X.co (rowsR i)) (View.ld X.si (rowsR i)) (View.ld X.qb (slabR i)) (View.ld X.kb (slabR i))

/-- Each chunk's own contribution to the state. -/
def kvAt (i : grid0.Coords) (X : Blk F) : FVec F S16x128x128 .f32 :=
  k0_pay16 (k0_pay5 (lgAt i X)) (View.ld X.co (rowsR i)) (View.ld X.si (rowsR i)) (View.ld X.kb (slabR i)) (View.ld X.vb (slabR i))

/-- A chunk's decay. -/
def cdAt (i : grid0.Coords) (X : Blk F) : FVec F S128x128 .f32 := k0_pay6 (lgAt i X)

/-- The state after the point's sixteen chunks, from the state `st` before them. -/
def stateAt (i : grid0.Coords) (X : Blk F) (st : Vec F S128x128 .f32) : FVec F S128x128 .f32 :=
  k0_pay33 (cdAt i X) (kvAt i X) (k0_pay29 (cdAt i X) (kvAt i X) st)

/-- The retention of the point's chunks before the output gate, from the state `st` before them. -/
def retAt (i : grid0.Coords) (X : Blk F) (st : Vec F S128x128 .f32) : FVec F S16x128x128 .f32 :=
  k0_pay34 (k0_pay4 (lgAt i X)) (cdAt i X) (qAt i X) (k0_pay14 (View.ld X.vb (slabR i))) (innAt i X) (kvAt i X) st
    (k0_pay18 (cdAt i X) (kvAt i X) st) (k0_pay19 (cdAt i X) (kvAt i X) st) (k0_pay20 (cdAt i X) (kvAt i X) st)
    (k0_pay21 (cdAt i X) (kvAt i X) st) (k0_pay22 (cdAt i X) (kvAt i X) st) (k0_pay23 (cdAt i X) (kvAt i X) st)
    (k0_pay24 (cdAt i X) (kvAt i X) st) (k0_pay25 (cdAt i X) (kvAt i X) st) (k0_pay26 (cdAt i X) (kvAt i X) st)
    (k0_pay27 (cdAt i X) (kvAt i X) st) (k0_pay28 (cdAt i X) (kvAt i X) st) (k0_pay29 (cdAt i X) (kvAt i X) st)

/-- The rows of the retention result the point stores. -/
def orAt (i : grid0.Coords) (X : Blk F) (st : Vec F S128x128 .f32) : FVec F S2048x128 .bf16 :=
  k0_pay37 (retAt i X st) (View.ld X.gb (slabR i))

/-- The remainder of the row block by the number of row blocks of a sequence, as the kernel computes it before its sign correction. -/
abbrev remW (i : grid0.Coords) : BitVec 32 := Scalar.remsi (BitVec.ofNat 32 (i 1).val) 4#32

/-- Whether that remainder needs the sign correction. -/
abbrev adjW (i : grid0.Coords) : BitVec 1 :=
  Scalar.andi (Scalar.xori (Scalar.cmpi .slt (remW i) 0#32) (Scalar.cmpi .slt 4#32 0#32))
    (Scalar.cmpi .ne (remW i) 0#32)

/-- The block of the convolution result the point stores, from the eight rows `hl` carried from the row block before. -/
def ocAt (i : grid0.Coords) (X : Blk F) (hl : Vec F S8x256 .f32) : FVec F S1024x256 .bf16 :=
  k0_pay1 (k0_pay35 X.hb X.wz) (k0_pay36 X.hb X.wb)
    (k0_pay40 (cuAt X) 4#32 (remW i) (adjW i) hl)
    (k0_pay41 (cuAt X) 4#32 (remW i) (adjW i) hl)
    (k0_pay42 (cuAt X) X.cb (View.ld X.cw (Rect.unit (s := S3x256) ![2, 0] S1x256.size inb_S3x256_S1x256_2_0)))
    (View.ld X.cw (Rect.unit (s := S3x256) ![0, 0] S1x256.size inb_S3x256_S1x256_0_0))
    (View.ld X.cw (Rect.unit (s := S3x256) ![1, 0] S1x256.size inb_S3x256_S1x256_1_0))

/-- The rows a point finds carried: cleared at the first point of a column block. -/
def haloIn (i : grid0.Coords) (hl : Vec F S8x256 .f32) : Vec F S8x256 .f32 := if cond0_0 i then k0_pay7 (F := F) else hl

/-- The state a point finds carried: cleared in the first half of a head's sequence. -/
def stateIn (i : grid0.Coords) (st : Vec F S128x128 .f32) : Vec F S128x128 .f32 := if cond0_1 i then k0_pay8 (F := F) else st

/-- A load of a whole rank-2 buffer reads its contents. -/
theorem full2 {a b : ℕ} {sp : Space} {e : EltTy} (v : View sig .tc sp ⟨2, ![a, b]⟩ e) (f : v.ty.Contents (Elt F))
    (inb : ∀ x, (![0, 0] : Fin 2 → ℕ) x + (![a, b] : Fin 2 → ℕ) x ≤ (⟨2, ![a, b]⟩ : Shape).size x) :
    v.readAt (Elt F) (Rect.unit (s := ⟨2, ![a, b]⟩) ![0, 0] ![a, b] inb).toLoadRect f = v.read (Elt F) f :=
  View.readAt_full v f inb

/-- A load of a whole rank-3 buffer reads its contents. -/
theorem full3 {a b d : ℕ} {sp : Space} {e : EltTy} (v : View sig .tc sp ⟨3, ![a, b, d]⟩ e) (f : v.ty.Contents (Elt F))
    (inb : ∀ x, (![0, 0, 0] : Fin 3 → ℕ) x + (![a, b, d] : Fin 3 → ℕ) x ≤ (⟨3, ![a, b, d]⟩ : Shape).size x) :
    v.readAt (Elt F) (Rect.unit (s := ⟨3, ![a, b, d]⟩) ![0, 0, 0] ![a, b, d] inb).toLoadRect f = v.read (Elt F) f :=
  View.readAt_full v f inb

/-- A load of a whole rank-2 buffer after a store of the whole buffer reads what was stored. -/
theorem cov2 {a b : ℕ} {sp : Space} {e : EltTy} (v : View sig .tc sp ⟨2, ![a, b]⟩ e)
    (inb inb' : ∀ x, (![0, 0] : Fin 2 → ℕ) x + (![a, b] : Fin 2 → ℕ) x ≤ (⟨2, ![a, b]⟩ : Shape).size x)
    (w : (⟨2, ![a, b]⟩ : Shape).Idx → Elt F e) (L : List (View.Piece (Elt F) ⟨2, ![a, b]⟩ e)) :
    v.readCov (⟨Rect.unit (s := ⟨2, ![a, b]⟩) ![0, 0] ![a, b] inb', w⟩ :: L) (Rect.unit (s := ⟨2, ![a, b]⟩) ![0, 0] ![a, b] inb).toLoadRect = w :=
  View.readCov_full v inb inb' w L

section Run

attribute [local irreducible] k0_pay1 k0_pay2 k0_pay3 k0_pay4 k0_pay5 k0_pay6 k0_pay7 k0_pay8 k0_pay9 k0_pay10 k0_pay11 k0_pay12 k0_pay13 k0_pay14 k0_pay15 k0_pay16 k0_pay17 k0_pay18 k0_pay19 k0_pay20 k0_pay21 k0_pay22 k0_pay23 k0_pay24 k0_pay25 k0_pay26 k0_pay27 k0_pay28 k0_pay29 k0_pay30 k0_pay31 k0_pay32 k0_pay33 k0_pay34 k0_pay35 k0_pay36 k0_pay37 k0_pay38 k0_pay39 k0_pay40 k0_pay41 k0_pay42

variable (c : Dev nD) (i : grid0.Coords)
  (arg2 : Memref sig .tc .smem S12 .f32) (harg2 : arg2.IsWhole)
  (arg3 : Memref sig .tc .vmem S1024x2048 .bf16) (harg3 : arg3.IsWhole)
  (arg4 : Memref sig .tc .vmem S1x2048x256 .f32) (harg4 : arg4.IsWhole)
  (arg5 : Memref sig .tc .vmem S1x2048x256 .f32) (harg5 : arg5.IsWhole)
  (arg6 : Memref sig .tc .vmem S1x2048x256 .f32) (harg6 : arg6.IsWhole)
  (arg7 : Memref sig .tc .vmem S1x2048x256 .f32) (harg7 : arg7.IsWhole)
  (arg8 : Memref sig .tc .vmem S3x256 .f32) (harg8 : arg8.IsWhole)
  (arg9 : Memref sig .tc .vmem S1x256 .f32) (harg9 : arg9.IsWhole)
  (arg10 : Memref sig .tc .vmem S1x4096x128 .bf16) (harg10 : arg10.IsWhole)
  (arg11 : Memref sig .tc .vmem S1x4096x128 .bf16) (harg11 : arg11.IsWhole)
  (arg12 : Memref sig .tc .vmem S1x4096x128 .bf16) (harg12 : arg12.IsWhole)
  (arg13 : Memref sig .tc .vmem S1x4096x128 .bf16) (harg13 : arg13.IsWhole)
  (arg14 : Memref sig .tc .vmem S4096x128 .f32) (harg14 : arg14.IsWhole)
  (arg15 : Memref sig .tc .vmem S4096x128 .f32) (harg15 : arg15.IsWhole)
  (arg16 : Memref sig .tc .vmem S1024x256 .bf16) (harg16 : arg16.IsWhole)
  (arg17 : Memref sig .tc .vmem S4096x128 .bf16) (harg17 : arg17.IsWhole)
  (arg18 : Memref sig .tc .vmem S8x256 .f32) (harg18 : arg18.IsWhole)
  (arg19 : Memref sig .tc .vmem S128x128 .f32) (harg19 : arg19.IsWhole)

set_option maxHeartbeats 4000000 in
/-- The kernel's body on any whole staging memrefs: with the inputs at `X`, the retention window at `Y`, the carried rows at `hl` and the carried
    state at `st`, it leaves the inputs as they are, the convolution window at `ocAt`, the retention window at `Y` with the point's rows
    overwritten by `orAt`, the carried rows at `haloAt` and the carried state at `stateAt`. -/
theorem body_run (X : Blk F) (Y : Vec F S4096x128 .bf16) (hl : Vec F S8x256 .f32) (st : Vec F S128x128 .f32) (E : Set ℕ) (K : PUnit → sProp 𝕄) :
    iprop(owns (c : Thread nD τ) arg2 fullShare X.lg ∗ owns (c : Thread nD τ) arg3 fullShare X.hb ∗ owns (c : Thread nD τ) arg4 fullShare X.wu ∗ owns (c : Thread nD τ) arg5 fullShare X.wb ∗ owns (c : Thread nD τ) arg6 fullShare X.wc ∗ owns (c : Thread nD τ) arg7 fullShare X.wz ∗ owns (c : Thread nD τ) arg8 fullShare X.cw ∗ owns (c : Thread nD τ) arg9 fullShare X.cb ∗ owns (c : Thread nD τ) arg10 fullShare X.qb ∗ owns (c : Thread nD τ) arg11 fullShare X.kb ∗ owns (c : Thread nD τ) arg12 fullShare X.vb ∗ owns (c : Thread nD τ) arg13 fullShare X.gb ∗ owns (c : Thread nD τ) arg14 fullShare X.co ∗ owns (c : Thread nD τ) arg15 fullShare X.si ∗ (∃ d, owns (c : Thread nD τ) arg16 fullShare d) ∗ owns (c : Thread nD τ) arg17 fullShare Y ∗ owns (c : Thread nD τ) arg18 fullShare hl ∗ owns (c : Thread nD τ) arg19 fullShare st
        ∗ (iprop(owns (c : Thread nD τ) arg2 fullShare X.lg ∗ owns (c : Thread nD τ) arg3 fullShare X.hb ∗ owns (c : Thread nD τ) arg4 fullShare X.wu ∗ owns (c : Thread nD τ) arg5 fullShare X.wb ∗ owns (c : Thread nD τ) arg6 fullShare X.wc ∗ owns (c : Thread nD τ) arg7 fullShare X.wz ∗ owns (c : Thread nD τ) arg8 fullShare X.cw ∗ owns (c : Thread nD τ) arg9 fullShare X.cb ∗ owns (c : Thread nD τ) arg10 fullShare X.qb ∗ owns (c : Thread nD τ) arg11 fullShare X.kb ∗ owns (c : Thread nD τ) arg12 fullShare X.vb ∗ owns (c : Thread nD τ) arg13 fullShare X.gb ∗ owns (c : Thread nD τ) arg14 fullShare X.co ∗ owns (c : Thread nD τ) arg15 fullShare X.si ∗ owns (c : Thread nD τ) arg16 fullShare (ocAt i X (haloIn i hl))
            ∗ owns (c : Thread nD τ) arg17 fullShare (VecWindow.put Y (k0_off2 i) S2048x128.size (orAt i X (stateIn i st)))
            ∗ owns (c : Thread nD τ) arg18 fullShare (haloAt X)
            ∗ owns (c : Thread nD τ) arg19 fullShare (stateAt i X (stateIn i st))) -∗ K ⟨⟩))
      ⊢ wp frame (wpE (defs₀ (F := F)) Variants.none c none) E (cc0_conv_and_retention i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_conv_and_retention_eq_skeleton]; unfold cc0_conv_and_retention_skel
  simp only [k0_part1_eq_skeleton, k0_part2_eq_skeleton, k0_part3_eq_skeleton, k0_part4_eq_skeleton, k0_part5_eq_skeleton, k0_part6_eq_skeleton, k0_part7_eq_skeleton]
  by_cases hc0 : cond0_0 i <;> by_cases hc1 : cond0_1 i
  all_goals
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%f15, %hf15, H15⟩, ⟨%fs0, %hfs0, HS0⟩, ⟨%fs1, %hfs1, HS1⟩, Hk⟩
    cases X
    dsimp only at hf0 hf1 hf2 hf3 hf4 hf5 hf6 hf7 hf8 hf9 hf10 hf11 hf12 hf13 ⊢
    subst hf0 hf1 hf2 hf3 hf4 hf5 hf6 hf7 hf8 hf9 hf10 hf11 hf12 hf13 hf15 hfs0 hfs1
    sl_exec (disch := first | sl_exact hc0 | sl_exact hc1)
    sl_step
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; · ipureintro; rfl
      iexact H4
    isplitl [H5]
    · iexists _; isplitr; · ipureintro; rfl
      iexact H5
    isplitl [H6]
    · iexists _; isplitr; · ipureintro; rfl
      iexact H6
    isplitl [H7]
    · iexists _; isplitr; · ipureintro; rfl
      iexact H7
    isplitl [H8]
    · iexists _; isplitr; · ipureintro; rfl
      iexact H8
    isplitl [H9]
    · iexists _; isplitr; · ipureintro; rfl
      iexact H9
    isplitl [H10]
    · iexists _; isplitr; · ipureintro; rfl
      iexact H10
    isplitl [H11]
    · iexists _; isplitr; · ipureintro; rfl
      iexact H11
    isplitl [H12]
    · iexists _; isplitr; · ipureintro; rfl
      iexact H12
    isplitl [H13]
    · iexists _; isplitr; · ipureintro; rfl
      iexact H13
    isplitl [H14]
    · iexists _; isplitr; swap; · iexact H14
      ipureintro
      refine (View.read_writes_full _ _ _ _ _).trans ?_
      sl_unfold_words
      simp only [full2, full3, cov2]
      first | rw [show haloIn i _ = _ from if_pos hc0] | rw [show haloIn i _ = _ from if_neg hc0]
      rfl
    isplitl [H15]
    · iexists _; isplitr; swap; · iexact H15
      ipureintro
      refine (View.read_writes_cons_put _ _ _ _ _ rfl).trans ?_
      sl_unfold_words
      simp only [full2, full3, cov2]
      first | rw [show stateIn i _ = _ from if_pos hc1] | rw [show stateIn i _ = _ from if_neg hc1]
      rfl
    isplitl [HS0]
    · iexists _; isplitr; swap; · iexact HS0
      ipureintro
      refine (View.read_writes_full _ _ _ _ _).trans ?_
      sl_unfold_words
      simp only [full2, full3, cov2]
      rfl
    iexists _; isplitr; swap; · iexact HS1
    ipureintro
    refine (View.read_writes_full _ _ _ _ _).trans ?_
    sl_unfold_words
    simp only [full2, full3, cov2]
    first | rw [show stateIn i _ = _ from if_pos hc1] | rw [show stateIn i _ = _ from if_neg hc1]
    rfl

end Run

end Cert.Kernel10Ideal.Gen

end
-- ==== Proof.Frame10.lean ====
module

public import proofs.«01_k».proof.Proof.Gen.Kernel10Ideal.Frame
public import proofs.«01_k».proof.Proof.Body10
public import Idealize.ShloMosaic.Lib.Pipeline.DatRel
public import Idealize.ShloMosaic.Lib.Pipeline.ArrRel

@[expose] public section

set_option maxRecDepth 16384

noncomputable section

namespace Cert.Kernel10Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The convolution rows are cleared at the first point of a column block. -/
theorem hcond0_0 : ∀ t : Fin cfg0.N, cond0_0 (grid0.coords t) ↔ t.val % 16 = 0 :=
  (by decide +kernel : ∀ t : Fin grid0.N, cond0_0 (grid0.coords t) ↔ t.val % 16 = 0)

/-- The state is cleared at the even points. -/
theorem hcond0_1 : ∀ t : Fin cfg0.N, cond0_1 (grid0.coords t) ↔ t.val % 2 = 0 :=
  (by decide +kernel : ∀ t : Fin grid0.N, cond0_1 (grid0.coords t) ↔ t.val % 2 = 0)

/-- The rows of a head's sequence that a point treats begin at 0 at an even point and at 2048 at an odd one. -/
theorem off2_at : ∀ t : Fin cfg0.N, k0_off2 (grid0.coords t) 0 = t.val % 2 * 2048 ∧ k0_off2 (grid0.coords t) 1 = 0 :=
  (by decide +kernel : ∀ t : Fin grid0.N, k0_off2 (grid0.coords t) 0 = t.val % 2 * 2048 ∧ k0_off2 (grid0.coords t) 1 = 0)

/-- There are 96 points. -/
theorem N96 : cfg0.N = 96 := N_0

/-- A number as a point. -/
def pt (n : ℕ) : Fin cfg0.N := ⟨n % 96, lt_of_lt_of_eq (Nat.mod_lt n (by decide)) N96.symm⟩

theorem pt_val (t : Fin cfg0.N) : pt t.val = t :=
  Fin.ext (Nat.mod_eq_of_lt (lt_of_lt_of_eq t.isLt N96))

/-! ## What the points read and leave -/

/-- What the input windows hold at point `t`. -/
def blkAt (c : Dev nD) (t : Fin cfg0.N) : Blk F :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t⟩

/-- The rows the convolution of point `n` finds carried: none at the first point of a column block, else the last rows of the point before. -/
def haloBefore (c : Dev nD) (n : ℕ) : Vec F S8x256 .f32 := if n % 16 = 0 then k0_pay7 (F := F) else haloAt (blkAt m c (pt (n - 1)))

/-- The state point `n` starts from: zero at an even point, else the state after the point before, itself started from zero. -/
def stateBefore (c : Dev nD) (n : ℕ) : Vec F S128x128 .f32 :=
  if n % 2 = 0 then k0_pay8 (F := F) else stateAt (grid0.coords (pt (n - 1))) (blkAt m c (pt (n - 1))) (k0_pay8 (F := F))

/-- The block of the convolution result point `n` stores. -/
def ocOf (c : Dev nD) (n : ℕ) : FVec F S1024x256 .bf16 := ocAt (grid0.coords (pt n)) (blkAt m c (pt n)) (haloBefore m c n)

/-- The rows of the retention result point `n` stores. -/
def orOf (c : Dev nD) (n : ℕ) : FVec F S2048x128 .bf16 := orAt (grid0.coords (pt n)) (blkAt m c (pt n)) (stateBefore m c n)

/-- A row of a head's sequence within its half. -/
def halfIx (y : S4096x128.Idx) : S2048x128.Idx := fun
  | ⟨0, _⟩ => ⟨(y 0).val % 2048, Nat.mod_lt _ (by decide)⟩
  | ⟨1, _⟩ => y 1
  | ⟨_ + 2, h⟩ => absurd h (Nat.not_lt.2 (Nat.le_add_left _ _))

/-- A head's whole retention result, both halves: those of the two points of its unit (point `n` being either). -/
def orFull (c : Dev nD) (n : ℕ) : Vec F S4096x128 .bf16 := fun y => orOf m c (n / 2 * 2 + (y 0).val / 2048) (halfIx y)

/-- The two output windows are held to a predicate. -/
def held0 : Fin cfg0.W → Bool := fun w => w.val == 14 || w.val == 15

/-- What is said of the two output windows: the convolution window holds the point's block; the retention window holds the unit's result in
    the rows treated so far. -/
def Rl0 (c : Dev nD) (w : Fin cfg0.W) (t : Fin cfg0.N) : ((cfg0.win w).block.Idx → Elt F (cfg0.win w).elt) → Prop :=
  match w with
  | ⟨14, _⟩ => fun X => X = ocOf m c t.val
  | ⟨15, _⟩ => fun (X : Vec F S4096x128 .bf16) => ∀ y : S4096x128.Idx, (y 0).val / 2048 ≤ t.val % 2 → X y = orFull m c t.val y
  | _ => fun _ => True

/-- The scratch operands: the kernel's own two buffers. -/
abbrev scM0_0 : Memref sig .tc .vmem S8x256 .f32 := Memref.whole cc0_scratch0
abbrev scM0_1 : Memref sig .tc .vmem S128x128 .f32 := Memref.whole cc0_scratch1

/-- The launch's invariant with the scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; rfl

/-- What is known of the carried rows and the carried state before position `n`: after a point, what that point left. -/
def Carried (c : Dev nD) (n : ℕ) (hl : Vec F S8x256 .f32) (st : Vec F S128x128 .f32) : Prop :=
  n ≠ 0 → hl = haloAt (blkAt m c (pt (n - 1))) ∧ st = stateAt (grid0.coords (pt (n - 1))) (blkAt m c (pt (n - 1))) (stateBefore m c (n - 1))

/-- The invariant before position `n`: the two scratch buffers at carried contents, and the generator register at some state. -/
def PhiC (c : Dev nD) (n : ℕ) : sProp 𝕄 :=
  iprop((∃ hl, ∃ st, ⌜Carried m c n hl st⌝ ∗ owns (c : Thread nD τ) scM0_0 fullShare hl ∗ owns (c : Thread nD τ) scM0_1 fullShare st) ∗ (∃ r, prngReg c r))

/-- The rows a point finds, from the carried ones. -/
theorem haloIn_carried {c : Dev nD} {t : Fin cfg0.N} {hl : Vec F S8x256 .f32} {st : Vec F S128x128 .f32} (h : Carried m c t.val hl st) :
    haloIn (grid0.coords t) hl = haloBefore m c t.val := by
  unfold haloIn haloBefore
  by_cases h0 : t.val % 16 = 0
  · rw [if_pos ((hcond0_0 t).mpr h0), if_pos h0]
  · rw [if_neg (fun h' => h0 ((hcond0_0 t).mp h')), if_neg h0]
    exact (h (fun hz => h0 (by rw [hz]))).1

/-- The state a point finds, from the carried one. -/
theorem stateIn_carried {c : Dev nD} {t : Fin cfg0.N} {hl : Vec F S8x256 .f32} {st : Vec F S128x128 .f32} (h : Carried m c t.val hl st) :
    stateIn (grid0.coords t) st = stateBefore m c t.val := by
  unfold stateIn
  by_cases h0 : t.val % 2 = 0
  · rw [if_pos ((hcond0_1 t).mpr h0)]; unfold stateBefore; rw [if_pos h0]
  · rw [if_neg (fun h' => h0 ((hcond0_1 t).mp h')), (h (fun hz => h0 (by rw [hz]))).2]
    have hp : (t.val - 1) % 2 = 0 := by omega
    unfold stateBefore
    rw [if_neg h0, if_pos hp]

/-- The proof data of the one pipeline on core `c`: the arrays as the region finds them; after the body each input's buffer at its block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, h⟩ => Pipeline.Dat.unnamed (cfg := cfg0) ⟨14, h⟩ t
    | ⟨15, h⟩ => Pipeline.Dat.unnamed (cfg := cfg0) ⟨15, h⟩ t
    | ⟨_ + 16, h⟩ => absurd h (Nat.not_lt.2 (Nat.le_add_left _ _))
  Φ t := PhiC m c t.val
  q w := Pipeline.shareOf spec0 w
  owed _ := 0

/-- The proof data's arrays are the region-entry contents. -/
theorem A_eq (c : Dev nD) (w : Fin cfg0.W) : (dats m 0 c).A w = V m c (Pipeline.arrRef spec0 w) := by
  dsimp only [dats]

/-- The proof data with the output windows held to `Rl0`. -/
abbrev rdat (c : Dev nD) : Pipeline.RDat τ (Elt F) Unit ℕ (UR sig nD τ) ℕ cfg0 c := (dats m 0 c).toRRel held0 (Rl0 m c)

theorem before0_0 (c : Dev nD) (t : Fin cfg0.N) (d) : (dats m 0 c).before 0 t d = iblk m c 0 t :=
  before0_0_of m (dats m 0 c) (A_eq m c 0) (fun t => by dsimp only [dats]) t d
theorem before0_1 (c : Dev nD) (t : Fin cfg0.N) (d) : (dats m 0 c).before 1 t d = iblk m c 1 t :=
  before0_1_of m (dats m 0 c) (A_eq m c 1) (fun t => by dsimp only [dats]) t d
theorem before0_2 (c : Dev nD) (t : Fin cfg0.N) (d) : (dats m 0 c).before 2 t d = iblk m c 2 t :=
  before0_2_of m (dats m 0 c) (A_eq m c 2) (fun t => by dsimp only [dats]) t d
theorem before0_3 (c : Dev nD) (t : Fin cfg0.N) (d) : (dats m 0 c).before 3 t d = iblk m c 3 t :=
  before0_3_of m (dats m 0 c) (A_eq m c 3) (fun t => by dsimp only [dats]) t d
theorem before0_4 (c : Dev nD) (t : Fin cfg0.N) (d) : (dats m 0 c).before 4 t d = iblk m c 4 t :=
  before0_4_of m (dats m 0 c) (A_eq m c 4) (fun t => by dsimp only [dats]) t d
theorem before0_5 (c : Dev nD) (t : Fin cfg0.N) (d) : (dats m 0 c).before 5 t d = iblk m c 5 t :=
  before0_5_of m (dats m 0 c) (A_eq m c 5) (fun t => by dsimp only [dats]) t d
theorem before0_6 (c : Dev nD) (t : Fin cfg0.N) (d) : (dats m 0 c).before 6 t d = iblk m c 6 t :=
  before0_6_of m (dats m 0 c) (A_eq m c 6) (fun t => by dsimp only [dats]) t d
theorem before0_7 (c : Dev nD) (t : Fin cfg0.N) (d) : (dats m 0 c).before 7 t d = iblk m c 7 t :=
  before0_7_of m (dats m 0 c) (A_eq m c 7) (fun t => by dsimp only [dats]) t d
theorem before0_8 (c : Dev nD) (t : Fin cfg0.N) (d) : (dats m 0 c).before 8 t d = iblk m c 8 t :=
  before0_8_of m (dats m 0 c) (A_eq m c 8) (fun t => by dsimp only [dats]) t d
theorem before0_9 (c : Dev nD) (t : Fin cfg0.N) (d) : (dats m 0 c).before 9 t d = iblk m c 9 t :=
  before0_9_of m (dats m 0 c) (A_eq m c 9) (fun t => by dsimp only [dats]) t d
theorem before0_10 (c : Dev nD) (t : Fin cfg0.N) (d) : (dats m 0 c).before 10 t d = iblk m c 10 t :=
  before0_10_of m (dats m 0 c) (A_eq m c 10) (fun t => by dsimp only [dats]) t d
theorem before0_11 (c : Dev nD) (t : Fin cfg0.N) (d) : (dats m 0 c).before 11 t d = iblk m c 11 t :=
  before0_11_of m (dats m 0 c) (A_eq m c 11) (fun t => by dsimp only [dats]) t d
theorem before0_12 (c : Dev nD) (t : Fin cfg0.N) (d) : (dats m 0 c).before 12 t d = iblk m c 12 t :=
  before0_12_of m (dats m 0 c) (A_eq m c 12) (fun t => by dsimp only [dats]) t d
theorem before0_13 (c : Dev nD) (t : Fin cfg0.N) (d) : (dats m 0 c).before 13 t d = iblk m c 13 t :=
  before0_13_of m (dats m 0 c) (A_eq m c 13) (fun t => by dsimp only [dats]) t d

/-- At an odd point the retention window still holds the unit's result in its first half. -/
theorem found15 {c : Dev nD} {t : Fin cfg0.N} {Y : Vec F S4096x128 .bf16} (h1 : t.val % 2 ≠ 0) (h : (rdat m c).Finds 15 t Y)
    (y : S4096x128.Idx) (hy : (y 0).val / 2048 = 0) : Y y = orFull m c t.val y := by
  have ht : t.val ≠ 0 := fun hz => h1 (by rw [hz])
  have hfl := (((rdat m c).finds_of_pos (w := 15) (t := t) rfl ht Y).mp h).resolve_left fun hf => by
    have := (flush0_15 ⟨t.val - 1, Nat.lt_of_le_of_lt (Nat.sub_le _ _) t.isLt⟩).mp hf
    dsimp only at this
    omega
  have hR : Rl0 m c 15 ⟨t.val - 1, Nat.lt_of_le_of_lt (Nat.sub_le _ _) t.isLt⟩ Y := (dats m 0 c).toRRel_leaves (fgt := held0) (Rl := Rl0 m c) rfl hfl
  have e : orFull m c (t.val - 1) y = orFull m c t.val y := by
    unfold orFull; rw [show (t.val - 1) / 2 = t.val / 2 by omega]
  rw [← e]
  exact hR y (by dsimp only; omega)

/-- A point's rows put over what the window held: the unit's result in the rows treated so far. -/
theorem put15 {c : Dev nD} {t : Fin cfg0.N} {Y : Vec F S4096x128 .bf16} (h : (rdat m c).Finds 15 t Y) :
    Rl0 m c 15 t (VecWindow.put Y (k0_off2 (grid0.coords t)) S2048x128.size (orAt (grid0.coords t) (blkAt m c t) (stateBefore m c t.val))) := by
  intro y hy
  obtain ⟨e0, e1⟩ := off2_at t
  have hy0 : (y 0).val < 4096 := (y 0).isLt
  have hy1 : (y 1).val < 128 := (y 1).isLt
  by_cases hin : ∀ a, k0_off2 (grid0.coords t) a ≤ (y a).val ∧ (y a).val < k0_off2 (grid0.coords t) a + S2048x128.size a
  · refine (dif_pos hin).trans ?_
    have h0 : k0_off2 (grid0.coords t) 0 ≤ (y 0).val ∧ (y 0).val < k0_off2 (grid0.coords t) 0 + 2048 := hin 0
    rw [e0] at h0
    have hq : (y 0).val / 2048 = t.val % 2 := by omega
    unfold orFull orOf
    rw [hq, show t.val / 2 * 2 + t.val % 2 = t.val by omega, pt_val]
    refine congrArg _ (funext fun a => Fin.ext ?_)
    rw [Rect.unitLocal_val]
    match a with
    | ⟨0, _⟩ => show (y 0).val - k0_off2 (grid0.coords t) 0 = (y 0).val % 2048; rw [e0]; omega
    | ⟨1, _⟩ => show (y 1).val - k0_off2 (grid0.coords t) 1 = (y 1).val; rw [e1]; omega
  · refine (dif_neg hin).trans ?_
    have hlt : ¬ (y 0).val / 2048 = t.val % 2 := fun hq => hin fun a => by
      match a with
      | ⟨0, _⟩ =>
        show k0_off2 (grid0.coords t) 0 ≤ (y 0).val ∧ (y 0).val < k0_off2 (grid0.coords t) 0 + 2048
        rw [e0]; omega
      | ⟨1, _⟩ =>
        show k0_off2 (grid0.coords t) 1 ≤ (y 1).val ∧ (y 1).val < k0_off2 (grid0.coords t) 1 + 128
        rw [e1]; omega
    exact found15 m (by omega) h y (by omega)

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d))
    ∗ (∃ d, owns (c : Thread nD τ) (win0_12.stage (cfg0.slots t 12)) fullShare ((dats m 0 c).before 12 t d))
    ∗ (∃ d, owns (c : Thread nD τ) (win0_13.stage (cfg0.slots t 13)) fullShare ((dats m 0 c).before 13 t d))
    ∗ (∃ Y, ⌜(rdat m c).Finds 14 t Y⌝ ∗ owns (c : Thread nD τ) (win0_14.stage (cfg0.slots t 14)) fullShare Y)
    ∗ (∃ Y, ⌜(rdat m c).Finds 15 t Y⌝ ∗ owns (c : Thread nD τ) (win0_15.stage (cfg0.slots t 15)) fullShare Y))

/-- and what it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ owns (c : Thread nD τ) (win0_9.stage (cfg0.slots t 9)) fullShare ((dats m 0 c).after 9 t)
    ∗ owns (c : Thread nD τ) (win0_10.stage (cfg0.slots t 10)) fullShare ((dats m 0 c).after 10 t)
    ∗ owns (c : Thread nD τ) (win0_11.stage (cfg0.slots t 11)) fullShare ((dats m 0 c).after 11 t)
    ∗ owns (c : Thread nD τ) (win0_12.stage (cfg0.slots t 12)) fullShare ((dats m 0 c).after 12 t)
    ∗ owns (c : Thread nD τ) (win0_13.stage (cfg0.slots t 13)) fullShare ((dats m 0 c).after 13 t)
    ∗ (∃ X, ⌜Rl0 m c 14 t X⌝ ∗ owns (c : Thread nD τ) (win0_14.stage (cfg0.slots t 14)) fullShare X)
    ∗ (∃ X, ⌜Rl0 m c 15 t X⌝ ∗ owns (c : Thread nD τ) (win0_15.stage (cfg0.slots t 15)) fullShare X))

set_option maxHeartbeats 4000000 in
/-- The body at any point: the inputs at their blocks, the carried rows and state at what the point before left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).owesAt () t.succ = (dats m 0 c).owesAt () t.castSucc from rfl,
    show (dats m 0 c).Φ t.castSucc = PhiC m c t.val from rfl, show (dats m 0 c).Φ t.succ = PhiC m c (t.val + 1) from rfl]
  unfold PhiC
  iintro ⟨⟨⟨%hl, %st, %hC, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%Y14, %hY14, H14⟩, ⟨%Y15, %hY15, H15⟩⟩
  iapply (body_run c (grid0.coords t) _ _ _ _ _ _ _ _ _ _ _ _ _ _ _ _ _ _ _ _ _ _ _ _ _ _ _ _ _ _ _ _ _ _ _ _ (blkAt m c t) Y15 hl st Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexact H15
  isplitl [HS0]; · iexact HS0
  isplitl [HS1]; · iexact HS1
  iintro ⟨H0, H1, H2, H3, H4, H5, H6, H7, H8, H9, H10, H11, H12, H13, H14, H15, HS0, HS1⟩
  isplitl [HS0 HS1 Hg]
  · isplitl [HS0 HS1]
    · iexists _; iexists _; isplitr; swap
      · isplitl [HS0]
        · iexact HS0
        iexact HS1
      ipureintro
      intro _
      rw [show t.val + 1 - 1 = t.val by omega, pt_val, stateIn_carried m hC]
      exact ⟨rfl, rfl⟩
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]
  · iexists _; isplitr; swap
    · iexact H14
    ipureintro
    show _ = ocOf m c t.val
    unfold ocOf
    rw [pt_val, haloIn_carried m hC]
  iexists _; isplitr; swap
  · iexact H15
  ipureintro
  rw [stateIn_carried m hC]
  exact put15 m hY15

theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : Pipeline.BodyObligationRel (dats (F := F) m 0 c) (defs₀ (F := F)) Variants.none () Set.univ held0 (Rl0 m c) := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (rdat m c).Φ 0 := by
  rw [show (rdat m c).Φ 0 = PhiC m c 0 from rfl, PhiA0_eq]
  unfold PhiC
  iintro ⟨⟨⟨%hl, HS0⟩, ⟨%st, HS1⟩⟩, Hg⟩
  isplitl [HS0 HS1]
  · iexists hl; iexists st; isplitr
    · ipureintro; exact fun h => absurd rfl h
    isplitl [HS0]
    · iexact HS0
    iexact HS1
  iexact Hg

/-- After the last point the invariant gives the launch's back. -/
theorem hout (c : Dev nD) : (rdat m c).Φ (Fin.last cfg0.N) ⊢ Pipeline.ΦA spec0 c := by
  rw [show (rdat m c).Φ (Fin.last cfg0.N) = PhiC m c cfg0.N from rfl, PhiA0_eq]
  unfold PhiC
  iintro ⟨⟨%hl, %st, %_, HS0, HS1⟩, Hg⟩
  isplitl [HS0 HS1]
  · isplitl [HS0]
    · iexists _; iexact HS0
    iexists _; iexact HS1
  iexact Hg

/-! ## The run and the frame -/

-- the launch theorem's implicit arguments are found by unifying its conclusion with this one
set_option backward.isDefEq.respectTransparency.types false in
/-- The run: every weakly fair execution of the program terminates, with every array as the relational proof data say and every semaphore
    counter at zero. -/
theorem run_main_quiescent : θ_run defs (onTc (τ := τ) (main (F := F))) (s₀ m ρ)
    (fun r => Pipeline.RDat.FramePost (cfgs 0) (rdat m) (V m) r ∧ r.2.sem = fun _ => 0) :=
  Pipeline.RDat.θ_run_frame_track_shared (Q' := _) cfgs (0 : Fin 1) launch₀0 defs₀ Variants.none (rdat m) m ρ main
    (hbody := fun c => (body_obligation m c).toRRel) (hq := fun _ _ _ => rfl)
    (howed := fun _ _ => rfl) (V := V m) (hmain := hmain m Variants.none) (hA := A_eq m) (hin := hin m) (hout := hout m)

/-- The frame: the argument arrays end unchanged, every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
      ⟨(Pipeline.RDat.FramePost.arr_in h.1 c 1 rfl).trans ((A_eq m c 1).trans (V_main_arg0 m c)),
      (Pipeline.RDat.FramePost.arr_in h.1 c 5 rfl).trans ((A_eq m c 5).trans (V_main_arg1 m c)),
      (Pipeline.RDat.FramePost.arr_in h.1 c 6 rfl).trans ((A_eq m c 6).trans (V_main_arg2 m c)),
      ((h.1 c).2 main_arg3 (Pipeline.mem_restRefs_of main_arg3 (by decide) (by decide))).trans (V_main_arg3 m c),
      (Pipeline.RDat.FramePost.arr_in h.1 c 11 rfl).trans ((A_eq m c 11).trans (V_main_arg4 m c))⟩, h.2⟩) (run_main_quiescent m ρ)

end Cert.Kernel10Ideal.Gen

end
-- ==== Proof.Value2.lean ====
module

public import proofs.«01_k».proof.Defs
public import proofs.«01_k».proof.Proof.Gen.Kernel2Ideal.Value
public import proofs.«01_k».proof.Proof.Gen.Reference2Ideal.Read
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

/-! # The input projection: 96 slabs of 128 columns -/

namespace Cert.Reference2Ideal.Read

open Cert.Reference2Ideal

/-- The reference's slab `s` at row `r`, lane `l`: row `r` of `h` times column `12288 + 128 s + l` of the first layer's matrix. -/
theorem ref_apply (x0 : FVec Ideal S16384x2048 .bf16) (x1 : FVec Ideal S2x2048x24576 .f32) (s : Fin 96) (r : Fin 16384) (l : Fin 128) :
    val_main_v7 (F := Ideal) x0 x1 (ix3 s r l)
      = ∑ k : Fin 2048, (x0 (ix2 r k) : EReal) * (x1 (ix3 0 k ⟨12288 + (s.val * 128 + l.val), by have := s.isLt; have := l.isLt; omega⟩) : EReal) := by
  pointwise [val_main_v7, val_main_v6, val_main_v5, val_main_v4, val_main_v3, val_main_v2, val_main_v1, val_main_v0]

end Cert.Reference2Ideal.Read

namespace Cert.Kernel2Ideal.Value

open Cert.Kernel2Ideal Cert.Kernel2Ideal.Gen

/-- A block's product at a row and a column. -/
theorem pay_apply (P0 : FVec Ideal S2048x2048 .bf16) (P1 : FVec Ideal S1x2048x1024 .f32) (r : Fin 2048) (l : Fin 1024) :
    k0_pay4 (F := Ideal) P0 P1 (ix2 r l) = ∑ k : Fin 2048, (P0 (ix2 r k) : EReal) * (P1 (ix3 0 k l) : EReal) := by
  pointwise [k0_pay4]

/-- Which block each window is on at point `t`. -/
theorem idx : ∀ t : Fin cfg0.N, (win0_0.index t 0 = t.val % 8 ∧ win0_0.index t 1 = 0)
    ∧ (win0_1.index t 0 = 0 ∧ win0_1.index t 1 = 0 ∧ win0_1.index t 2 = 12 + t.val / 8)
    ∧ (win0_2.index t 0 = t.val / 8 ∧ win0_2.index t 1 = t.val % 8 ∧ win0_2.index t 2 = 0) :=
  (by decide +kernel : ∀ t : Fin grid0.N, (win0_0.index t 0 = t.val % 8 ∧ win0_0.index t 1 = 0)
    ∧ (win0_1.index t 0 = 0 ∧ win0_1.index t 1 = 0 ∧ win0_1.index t 2 = 12 + t.val / 8)
    ∧ (win0_2.index t 0 = t.val / 8 ∧ win0_2.index t 1 = t.val % 8 ∧ win0_2.index t 2 = 0))

theorem N96 : cfg0.N = 96 := N_0

variable (m : (ℓ : Loc nD τ sig) → Buf (Elt Ideal) ℓ) (ρ : Dev nD → PrngReg)

/-- The rows of `h` at point `t`. -/
theorem blk0 (c : Dev nD) (t : Fin cfg0.N) (r k : Fin 2048) :
    iblk m c 0 t (ix2 r k) = m ((c : Thread nD τ).loc main_arg0) (ix2 ⟨t.val % 8 * 2048 + r.val, by have := r.isLt; omega⟩ k) := by
  unfold iblk
  rw [View.read_apply]
  show V m c main_arg0 _ = _
  rw [V_main_arg0]
  congr 1
  funext a
  apply Fin.ext
  match a with
  | ⟨0, _⟩ => show win0_0.index t 0 * 2048 + 1 * r.val = t.val % 8 * 2048 + r.val; rw [(idx t).1.1]; omega
  | ⟨1, _⟩ => show win0_0.index t 1 * 2048 + 1 * k.val = k.val; rw [(idx t).1.2]; omega

/-- The columns of the matrix at point `t`. -/
theorem blk1 (c : Dev nD) (t : Fin cfg0.N) (k : Fin 2048) (l : Fin 1024) :
    iblk m c 1 t (ix3 0 k l) = m ((c : Thread nD τ).loc main_arg1)
      (ix3 0 k ⟨12288 + t.val / 8 * 1024 + l.val, by have := l.isLt; have := t.isLt; have := N96; omega⟩) := by
  unfold iblk
  rw [View.read_apply]
  show V m c main_arg1 _ = _
  rw [V_main_arg1]
  congr 1
  funext a
  apply Fin.ext
  match a with
  | ⟨0, _⟩ => show win0_1.index t 0 * 1 + 1 * 0 = 0; rw [(idx t).2.1.1]
  | ⟨1, _⟩ => show win0_1.index t 1 * 2048 + 1 * k.val = k.val; rw [(idx t).2.1.2.1]; omega
  | ⟨2, _⟩ => show win0_1.index t 2 * 1024 + 1 * l.val = 12288 + t.val / 8 * 1024 + l.val; rw [(idx t).2.1.2.2]; omega

/-- The reference's result at the launched arguments. -/
abbrev result (c : Dev nD) : Buf (Elt Ideal) ((c : Thread nD τ).loc main_v0) :=
  Cert.Reference2Ideal.Read.val_main_v7 (F := Ideal) (m ((c : Thread nD τ).loc main_arg0)) (m ((c : Thread nD τ).loc main_arg1))

theorem hz2 : (![0, 0] : Fin 2 → Nat) = fun _ => 0 := funext fun a => by fin_cases a <;> rfl
theorem hz3 : (![0, 0, 0] : Fin 3 → Nat) = fun _ => 0 := funext fun a => by fin_cases a <;> rfl

attribute [local irreducible] k0_pay4 Cert.Reference2Ideal.Read.val_main_v7

/-- A slab's element of a block's product. -/
theorem E2_apply (P0 : FVec Ideal S2048x2048 .bf16) (P1 : FVec Ideal S1x2048x1024 .f32) (s : Fin 8) (r : Fin 2048) (l : Fin 128) :
    E2 (F := Ideal) P0 P1 (ix3 s r l)
      = ∑ k : Fin 2048, (P0 (ix2 r k) : EReal) * (P1 (ix3 0 k ⟨s.val * 128 + l.val, by have := s.isLt; have := l.isLt; omega⟩) : EReal) := by
  have e : ix2_0 (ix3 s r l) = ix2 r ⟨s.val * 128 + l.val, by have := s.isLt; have := l.isLt; omega⟩ := by
    funext a
    match a with
    | ⟨0, _⟩ => rfl
    | ⟨1, _⟩ => rfl
  rw [← pay_apply, ← e]
  show FloatOps.truncf (F := Ideal) .bf16 bitsLt_bf16_f32 (k0_pay4 (F := Ideal) P0 P1 (ix2_0 (ix3 s r l))) = _
  generalize k0_pay4 (F := Ideal) P0 P1 (ix2_0 (ix3 s r l)) = z
  rfl

/-- What point `t` writes back is its block of the reference's result. -/
theorem flushed_eq (c : Dev nD) (t : Fin cfg0.N) (hf : (cfg0.win 2).flush t = true) :
    (dats m 0 c).flushed 2 t = ((cfg0.win 2).blk t).view.read (Elt Ideal) (result m c) := by
  rw [flushed2]
  unfold_out out0_2
  rw [View.ld_unit_zero hz2, View.ld_unit_zero hz3]
  funext (y : S8x2048x128.Idx)
  refine (canon2_eq _ _ y).trans ?_
  obtain ⟨s, r, l, rfl⟩ : ∃ (s : Fin 8) (r : Fin 2048) (l : Fin 128), y = ix3 s r l := ⟨y 0, y 1, y 2, eq_ix3 y⟩
  rw [View.read_apply]
  have hs := s.isLt
  have hr := r.isLt
  have hl := l.isLt
  have ht : t.val < 96 := lt_of_lt_of_eq t.isLt N96
  rw [E2_apply]
  have e : ((cfg0.win 2).blk t).view.emb (ix3 s r l) = ix3 ⟨t.val / 8 * 8 + s.val, by omega⟩ ⟨t.val % 8 * 2048 + r.val, by omega⟩ l := by
    funext a
    apply Fin.ext
    match a with
    | ⟨0, _⟩ => show win0_2.index t 0 * 8 + 1 * s.val = t.val / 8 * 8 + s.val; rw [(idx t).2.2.1]; omega
    | ⟨1, _⟩ => show win0_2.index t 1 * 2048 + 1 * r.val = t.val % 8 * 2048 + r.val; rw [(idx t).2.2.2.1]; omega
    | ⟨2, _⟩ => show win0_2.index t 2 * 128 + 1 * l.val = l.val; rw [(idx t).2.2.2.2]; omega
  show _ = result m c (((cfg0.win 2).blk t).view.emb (ix3 s r l))
  rw [e]
  refine Eq.trans ?_ (Cert.Reference2Ideal.Read.ref_apply _ _ _ _ _).symm
  refine Finset.sum_congr (M := EReal) rfl fun k _ => ?_
  rw [blk0, blk1]
  refine congrArg _ (congrArg _ ?_)
  congr 1
  apply Fin.ext
  show 12288 + t.val / 8 * 1024 + (s.val * 128 + l.val) = 12288 + ((t.val / 8 * 8 + s.val) * 128 + l.val)
  omega

/-- The slabs the run leaves are the reference's: the points' blocks cover the result. -/
theorem final (c : Dev nD) : (dats m 0 c).arrAt 2 cfg0.N = result m c :=
  (dats m 0 c).arrAt_eq_of_cover 2 (result m c) (flushed_eq m c) fun (i : S96x16384x128.Idx) => by
    have h0 : (i 0).val < 96 := (i 0).isLt
    have h1 : (i 1).val < 16384 := (i 1).isLt
    have h2 : (i 2).val < 128 := (i 2).isLt
    refine ⟨⟨(i 0).val / 8 * 8 + (i 1).val / 2048, by rw [N96]; omega⟩, flush0_2 _, ?_⟩
    generalize ht : (⟨(i 0).val / 8 * 8 + (i 1).val / 2048, _⟩ : Fin cfg0.N) = t
    have hv : t.val = (i 0).val / 8 * 8 + (i 1).val / 2048 := by rw [← ht]
    show i ∈ ((View.whole main_v0).slice (win0_2.rect t)).set
    rw [View.set_slice_whole, Rect.mem_set_unit]
    intro a
    match a with
    | ⟨0, _⟩ => show win0_2.index t 0 * 8 ≤ (i 0).val ∧ (i 0).val < win0_2.index t 0 * 8 + 8; rw [(idx t).2.2.1]; omega
    | ⟨1, _⟩ => show win0_2.index t 1 * 2048 ≤ (i 1).val ∧ (i 1).val < win0_2.index t 1 * 2048 + 2048; rw [(idx t).2.2.2.1]; omega
    | ⟨2, _⟩ => show win0_2.index t 2 * 128 ≤ (i 2).val ∧ (i 2).val < win0_2.index t 2 * 128 + 128; rw [(idx t).2.2.2.2]; omega

/-- The claim: both programs end with the reference's slabs. -/
theorem algebraic : Cert.algebraic_Kernel2Ideal_Reference2Ideal := by
  intro m g m' g' _ hag
  refine ⟨fun c => result m c, ?_, ?_⟩
  · exact (θ_run _ _ _).mono (fun r h c => ⟨(h c).1.trans (final m c), (h c).2⟩) (run_blocks m g)
  · exact (θ_run _ _ _).mono (fun r h c => ⟨(h c).1.trans (by
      rw [(hag c).1, (hag c).2]
      exact Cert.Reference2Ideal.Read.val_main_v7_eq _ _), (h c).2⟩) (Cert.Reference2Ideal.Value.run m' g')

end Cert.Kernel2Ideal.Value

end
-- ==== Proof.Value3.lean ====
module

public import proofs.«01_k».proof.Defs
public import proofs.«01_k».proof.Proof.Gen.Kernel3Ideal.Value
public import proofs.«01_k».proof.Proof.Gen.Reference3Ideal.Read
public import Idealize.ShloMosaic.Lib.Pointwise
public import Idealize.ShloMosaic.Lib.WholeRead
public import Idealize.ShloMosaic.Lib.Claim

@[expose] public section

set_option maxRecDepth 16384

noncomputable section

open Idealize.ShloMosaic Idealize.ShloMosaic.TcCoe Idealize.SL.Sem
open Idealize.ShloMosaic.Pipeline (Dat)

/-! # Attention's projection: 48 slabs of 128 columns, in two orders of the positions -/

namespace Cert.Kernel3Ideal.Value

open Cert.Kernel3Ideal Cert.Kernel3Ideal.Gen

/-- The factor of slab `s` of a point's eight: attention's scale for q's slabs, one for the others. -/
def fac (i : grid0.Coords) (s : Nat) : EReal :=
  Scalar.select (Scalar.cmpi .slt (Scalar.addi (Scalar.muli (BitVec.ofNat 32 (i 0).val) 8#32) (BitVec.ofNat 32 s)) 12#32)
    (Scalar.ofBits (F := Ideal) .f32 0x3E0293EE#32) (Scalar.ofBits (F := Ideal) .f32 0x3F800000#32)

/-- The products of a pair of slabs. -/
theorem prod_apply (P0 : FVec Ideal S1024x2048 .bf16) (P1 : FVec Ideal S1x2048x256 .f32) (r : Fin 1024) (l : Fin 256) :
    k0_pay1 (F := Ideal) P0 P1 (ix2 r l) = ∑ k : Fin 2048, (P0 (ix2 r k) : EReal) * (P1 (ix3 0 k l) : EReal) := by
  pointwise [k0_pay1]

theorem pay17_eq : @k0_pay17 Ideal _ = k0_pay1 := rfl
theorem pay33_eq : @k0_pay33 Ideal _ = k0_pay1 := rfl
theorem pay49_eq : @k0_pay49 Ideal _ = k0_pay1 := rfl

attribute [local irreducible] k0_pay1

/-- Slab 0 of a point: its factor times the product. -/
theorem core0 (i : grid0.Coords) (P0 : FVec Ideal S1024x2048 .bf16) (P1 : FVec Ideal S1x2048x256 .f32) (r : Fin 1024) (l : Fin 128) :
    k0_pay2 (F := Ideal) i P0 P1 (ix2 r l)
      = (∑ k : Fin 2048, (P0 (ix2 r k) : EReal) * (P1 (ix3 0 k ⟨l.val, by have := l.isLt; omega⟩) : EReal)) * fac i 0 := by
  rw [← prod_apply]
  have e : k0_pay2 (F := Ideal) i P0 P1 (ix2 r l)
      = (k0_pay1 (F := Ideal) P0 P1 (ix2 ⟨0 + r.val, by have := r.isLt; omega⟩ ⟨0 + l.val, by have := l.isLt; omega⟩) : EReal) * fac i 0 := by
    pointwise [k0_pay2, fac]
  rw [e]
  congr 2
  simp only [Nat.zero_add]

/-- Slab 1 of a point: its factor times the product. -/
theorem core1 (i : grid0.Coords) (P0 : FVec Ideal S1024x2048 .bf16) (P1 : FVec Ideal S1x2048x256 .f32) (r : Fin 1024) (l : Fin 128) :
    k0_pay10 (F := Ideal) (BitVec.ofNat 32 (i 0).val) (k0_pay1 P0 P1) (ix2 r l)
      = (∑ k : Fin 2048, (P0 (ix2 r k) : EReal) * (P1 (ix3 0 k ⟨128 + l.val, by have := l.isLt; omega⟩) : EReal)) * fac i 1 := by
  rw [← prod_apply]
  generalize k0_pay1 (F := Ideal) P0 P1 = v
  pointwise [k0_pay10, fac]

/-- Slab 2 of a point: its factor times the product. -/
theorem core2 (i : grid0.Coords) (P0 : FVec Ideal S1024x2048 .bf16) (P1 : FVec Ideal S1x2048x256 .f32) (r : Fin 1024) (l : Fin 128) :
    k0_pay18 (F := Ideal) (BitVec.ofNat 32 (i 0).val) P0 P1 (ix2 r l)
      = (∑ k : Fin 2048, (P0 (ix2 r k) : EReal) * (P1 (ix3 0 k ⟨l.val, by have := l.isLt; omega⟩) : EReal)) * fac i 2 := by
  rw [← prod_apply]
  have e : k0_pay18 (F := Ideal) (BitVec.ofNat 32 (i 0).val) P0 P1 (ix2 r l)
      = (k0_pay1 (F := Ideal) P0 P1 (ix2 ⟨0 + r.val, by have := r.isLt; omega⟩ ⟨0 + l.val, by have := l.isLt; omega⟩) : EReal) * fac i 2 := by
    pointwise [k0_pay18, fac]
    rw [pay17_eq]
  rw [e]
  congr 2
  simp only [Nat.zero_add]

/-- Slab 3 of a point: its factor times the product. -/
theorem core3 (i : grid0.Coords) (P0 : FVec Ideal S1024x2048 .bf16) (P1 : FVec Ideal S1x2048x256 .f32) (r : Fin 1024) (l : Fin 128) :
    k0_pay26 (F := Ideal) (BitVec.ofNat 32 (i 0).val) (k0_pay17 P0 P1) (ix2 r l)
      = (∑ k : Fin 2048, (P0 (ix2 r k) : EReal) * (P1 (ix3 0 k ⟨128 + l.val, by have := l.isLt; omega⟩) : EReal)) * fac i 3 := by
  rw [← prod_apply, pay17_eq]
  generalize k0_pay1 (F := Ideal) P0 P1 = v
  pointwise [k0_pay26, fac]

/-- Slab 4 of a point: its factor times the product. -/
theorem core4 (i : grid0.Coords) (P0 : FVec Ideal S1024x2048 .bf16) (P1 : FVec Ideal S1x2048x256 .f32) (r : Fin 1024) (l : Fin 128) :
    k0_pay34 (F := Ideal) (BitVec.ofNat 32 (i 0).val) P0 P1 (ix2 r l)
      = (∑ k : Fin 2048, (P0 (ix2 r k) : EReal) * (P1 (ix3 0 k ⟨l.val, by have := l.isLt; omega⟩) : EReal)) * fac i 4 := by
  rw [← prod_apply]
  have e : k0_pay34 (F := Ideal) (BitVec.ofNat 32 (i 0).val) P0 P1 (ix2 r l)
      = (k0_pay1 (F := Ideal) P0 P1 (ix2 ⟨0 + r.val, by have := r.isLt; omega⟩ ⟨0 + l.val, by have := l.isLt; omega⟩) : EReal) * fac i 4 := by
    pointwise [k0_pay34, fac]
    rw [pay33_eq]
  rw [e]
  congr 2
  simp only [Nat.zero_add]

/-- Slab 5 of a point: its factor times the product. -/
theorem core5 (i : grid0.Coords) (P0 : FVec Ideal S1024x2048 .bf16) (P1 : FVec Ideal S1x2048x256 .f32) (r : Fin 1024) (l : Fin 128) :
    k0_pay42 (F := Ideal) (BitVec.ofNat 32 (i 0).val) (k0_pay33 P0 P1) (ix2 r l)
      = (∑ k : Fin 2048, (P0 (ix2 r k) : EReal) * (P1 (ix3 0 k ⟨128 + l.val, by have := l.isLt; omega⟩) : EReal)) * fac i 5 := by
  rw [← prod_apply, pay33_eq]
  generalize k0_pay1 (F := Ideal) P0 P1 = v
  pointwise [k0_pay42, fac]

/-- Slab 6 of a point: its factor times the product. -/
theorem core6 (i : grid0.Coords) (P0 : FVec Ideal S1024x2048 .bf16) (P1 : FVec Ideal S1x2048x256 .f32) (r : Fin 1024) (l : Fin 128) :
    k0_pay50 (F := Ideal) (BitVec.ofNat 32 (i 0).val) P0 P1 (ix2 r l)
      = (∑ k : Fin 2048, (P0 (ix2 r k) : EReal) * (P1 (ix3 0 k ⟨l.val, by have := l.isLt; omega⟩) : EReal)) * fac i 6 := by
  rw [← prod_apply]
  have e : k0_pay50 (F := Ideal) (BitVec.ofNat 32 (i 0).val) P0 P1 (ix2 r l)
      = (k0_pay1 (F := Ideal) P0 P1 (ix2 ⟨0 + r.val, by have := r.isLt; omega⟩ ⟨0 + l.val, by have := l.isLt; omega⟩) : EReal) * fac i 6 := by
    pointwise [k0_pay50, fac]
    rw [pay49_eq]
  rw [e]
  congr 2
  simp only [Nat.zero_add]

/-- Slab 7 of a point: its factor times the product. -/
theorem core7 (i : grid0.Coords) (P0 : FVec Ideal S1024x2048 .bf16) (P1 : FVec Ideal S1x2048x256 .f32) (r : Fin 1024) (l : Fin 128) :
    k0_pay57 (F := Ideal) (BitVec.ofNat 32 (i 0).val) (k0_pay49 P0 P1) (ix2 r l)
      = (∑ k : Fin 2048, (P0 (ix2 r k) : EReal) * (P1 (ix3 0 k ⟨128 + l.val, by have := l.isLt; omega⟩) : EReal)) * fac i 7 := by
  rw [← prod_apply, pay49_eq]
  generalize k0_pay1 (F := Ideal) P0 P1 = v
  pointwise [k0_pay57, fac]

attribute [local irreducible] k0_pay2 k0_pay10 k0_pay18 k0_pay26 k0_pay34 k0_pay42 k0_pay50 k0_pay57 fac

/-- A point's slab `s` at row `r`, lane `l`. -/
def G (i : grid0.Coords) (x0 : Vec Ideal S1024x2048 .bf16) (x1 : Vec Ideal S1x2048x1024 .f32) (s : Fin 8) (r : Fin 1024) (l : Fin 128) : EReal :=
  (∑ k : Fin 2048, (x0 (ix2 r k) : EReal) * (x1 (ix3 0 k ⟨s.val * 128 + l.val, by have := s.isLt; have := l.isLt; omega⟩) : EReal)) * fac i s.val

theorem castN (V : FVec Ideal S1024x128 .f32) (r : Fin 1024) (l : Fin 128) :
    shapeCast S1x1024x128 (truncf (F := Ideal) .bf16 V bitsLt_bf16_f32) shapeCasts_S1024x128_S1x1024x128 (ix3 0 r l) = V (ix2 r l) := by
  pointwise []

theorem castS (V : FVec Ideal S1024x128 .f32) (r : Fin 1024) (l : Fin 128) :
    shapeCast S1x1024x128 V shapeCasts_S1024x128_S1x1024x128 (ix3 0 r l) = V (ix2 r l) := by
  pointwise []

theorem castC (V : FVec Ideal S1x256x128 .f32) (q : Fin 256) (l : Fin 128) :
    shapeCast S1x1x1x256x128 (shapeCast S256x128 V shapeCasts_S1x256x128_S256x128) shapeCasts_S256x128_S1x1x1x256x128 (ix5 0 0 0 q l) = V (ix3 0 q l) := by
  pointwise []

/-- Every fourth row of the slab written last, read back. -/
theorem strided (v : View sig .tc .vmem S8x1024x128 .f32) (n : Nat) (inb) (W : (Rect.unit (s := S8x1024x128) ![n, 0, 0] ![1, 1024, 128] inb).shape.Idx → EReal)
    (L : List (View.Piece (Elt Ideal) S8x1024x128 .f32)) (ρ : Nat) (hρ : ρ < 4) (inb') (q : Fin 256) (l : Fin 128) :
    v.readCov (Val := Elt Ideal) (⟨Rect.unit ![n, 0, 0] ![1, 1024, 128] inb, W⟩ :: L) { off := ![n, ρ, 0], size := ![1, 256, 128], stride := ![1, 4, 1], inb := inb' } (ix3 0 q l)
      = W (ix3 0 ⟨4 * q.val + ρ, by have := q.isLt; omega⟩ l) := by
  rw [View.readCov_eq_canon']
  refine Eq.trans (congrArg _ ?_) (View.canon_cons_emb _ W L (ix3 0 ⟨4 * q.val + ρ, by have := q.isLt; omega⟩ l))
  funext a
  apply Fin.ext
  match a with
  | ⟨0, _⟩ => rfl
  | ⟨1, _⟩ => show ρ + 4 * q.val = 0 + 1 * (4 * q.val + ρ); omega
  | ⟨2, _⟩ => rfl

theorem ix_of (x : S1x1x1x256x128.Idx) : ∃ (q : Fin 256) (l : Fin 128), x = ix5 0 0 0 q l :=
  ⟨x 3, x 4, (eq_ix5 x).trans (by congr 1 <;> exact Subsingleton.elim (α := Fin 1) _ _)⟩

theorem G_congr (i : grid0.Coords) (x0 : Vec Ideal S1024x2048 .bf16) (x1 : Vec Ideal S1x2048x1024 .f32) {s s' : Fin 8} {r r' : Fin 1024} {l l' : Fin 128}
    (hs : s.val = s'.val) (hr : r.val = r'.val) (hl : l.val = l'.val) : G i x0 x1 s r l = G i x0 x1 s' r' l' := by
  rw [Fin.ext hs, Fin.ext hr, Fin.ext hl]

section
variable (c : Dev nD) (i : grid0.Coords) (arg2 : Memref sig .tc .vmem S1024x2048 .bf16) (harg2 : arg2.IsWhole) (arg3 : Memref sig .tc .vmem S1x2048x1024 .f32) (harg3 : arg3.IsWhole) (arg4 : Memref sig .tc .vmem S8x1024x128 .bf16) (harg4 : arg4.IsWhole) (arg5 : Memref sig .tc .vmem S8x1x4x256x128 .f32) (harg5 : arg5.IsWhole) (arg6 : Memref sig .tc .vmem S8x1024x128 .f32) (harg6 : arg6.IsWhole)
    (x0 : Vec Ideal S1024x2048 .bf16) (x1 : Vec Ideal S1x2048x1024 .f32)

/-- The rows as the body loads them. -/
abbrev A : Vec Ideal S1024x2048 .bf16 :=
  View.readAt (Elt Ideal) arg2.view (Rect.unit (s := S1024x2048) ![0, 0] ![1024, 2048] inb_S1024x2048_S1024x2048_0_0).toLoadRect (harg2.unread x0)

theorem ldA (r : Fin 1024) (k : Fin 2048) : A arg2 harg2 x0 (ix2 r k) = x0 (ix2 r k) := by
  refine (harg2.readAt_unread x0 _ _).trans (congrArg x0 ?_)
  funext a
  apply Fin.ext
  match a with
  | ⟨0, _⟩ => show 0 + 1 * r.val = r.val; omega
  | ⟨1, _⟩ => show 0 + 1 * k.val = k.val; omega

theorem ldB (o : Nat) (ho : o + 256 ≤ 1024) (inb) (k : Fin 2048) (l : Fin 256) :
    View.readAt (Elt Ideal) arg3.view (Rect.unit (s := S1x2048x1024) ![0, 0, o] ![1, 2048, 256] inb).toLoadRect (harg3.unread x1) (ix3 0 k l)
      = x1 (ix3 0 k ⟨o + l.val, by have := l.isLt; omega⟩) := by
  refine (harg3.readAt_unread x1 _ _).trans (congrArg x1 ?_)
  funext a
  apply Fin.ext
  match a with
  | ⟨0, _⟩ => rfl
  | ⟨1, _⟩ => show 0 + 1 * k.val = k.val; omega
  | ⟨2, _⟩ => show o + 1 * l.val = o + l.val; omega

/-- What the body computes for slab 0. -/
abbrev slab0 : FVec Ideal S1024x128 .f32 := k0_pay2 (F := Ideal) i (A arg2 harg2 x0) (View.readAt (Elt Ideal) arg3.view (Rect.unit (s := S1x2048x1024) ![0, 0, 0] ![1, 2048, 256] inb_S1x2048x1024_S1x2048x256_0_0_0).toLoadRect (harg3.unread x1))

theorem slab0_apply (r : Fin 1024) (l : Fin 128) : slab0 i arg2 harg2 arg3 harg3 x0 x1 (ix2 r l) = G i x0 x1 0 r l := by
  refine (core0 i _ _ r l).trans ?_
  unfold G
  refine congrArg (· * fac i 0) ?_
  refine Finset.sum_congr (M := EReal) rfl fun k _ => ?_
  rw [ldA, ldB arg3 harg3 x1 0 (by omega)]
  refine congrArg _ (congrArg x1 (congrArg (ix3 0 k) (Fin.ext ?_)))
  show 0 + l.val = 0 * 128 + l.val
  omega

/-- What the body computes for slab 1. -/
abbrev slab1 : FVec Ideal S1024x128 .f32 := k0_pay10 (F := Ideal) (BitVec.ofNat 32 (i 0).val) (k0_pay1 (A arg2 harg2 x0) (View.readAt (Elt Ideal) arg3.view (Rect.unit (s := S1x2048x1024) ![0, 0, 0] ![1, 2048, 256] inb_S1x2048x1024_S1x2048x256_0_0_0).toLoadRect (harg3.unread x1)))

theorem slab1_apply (r : Fin 1024) (l : Fin 128) : slab1 i arg2 harg2 arg3 harg3 x0 x1 (ix2 r l) = G i x0 x1 1 r l := by
  refine (core1 i _ _ r l).trans ?_
  unfold G
  refine congrArg (· * fac i 1) ?_
  refine Finset.sum_congr (M := EReal) rfl fun k _ => ?_
  rw [ldA, ldB arg3 harg3 x1 0 (by omega)]
  refine congrArg _ (congrArg x1 (congrArg (ix3 0 k) (Fin.ext ?_)))
  show 0 + (128 + l.val) = 1 * 128 + l.val
  omega

/-- What the body computes for slab 2. -/
abbrev slab2 : FVec Ideal S1024x128 .f32 := k0_pay18 (F := Ideal) (BitVec.ofNat 32 (i 0).val) (A arg2 harg2 x0) (View.readAt (Elt Ideal) arg3.view (Rect.unit (s := S1x2048x1024) ![0, 0, 256] ![1, 2048, 256] inb_S1x2048x1024_S1x2048x256_0_0_256).toLoadRect (harg3.unread x1))

theorem slab2_apply (r : Fin 1024) (l : Fin 128) : slab2 i arg2 harg2 arg3 harg3 x0 x1 (ix2 r l) = G i x0 x1 2 r l := by
  refine (core2 i _ _ r l).trans ?_
  unfold G
  refine congrArg (· * fac i 2) ?_
  refine Finset.sum_congr (M := EReal) rfl fun k _ => ?_
  rw [ldA, ldB arg3 harg3 x1 256 (by omega)]
  refine congrArg _ (congrArg x1 (congrArg (ix3 0 k) (Fin.ext ?_)))
  show 256 + l.val = 2 * 128 + l.val
  omega

/-- What the body computes for slab 3. -/
abbrev slab3 : FVec Ideal S1024x128 .f32 := k0_pay26 (F := Ideal) (BitVec.ofNat 32 (i 0).val) (k0_pay17 (A arg2 harg2 x0) (View.readAt (Elt Ideal) arg3.view (Rect.unit (s := S1x2048x1024) ![0, 0, 256] ![1, 2048, 256] inb_S1x2048x1024_S1x2048x256_0_0_256).toLoadRect (harg3.unread x1)))

theorem slab3_apply (r : Fin 1024) (l : Fin 128) : slab3 i arg2 harg2 arg3 harg3 x0 x1 (ix2 r l) = G i x0 x1 3 r l := by
  refine (core3 i _ _ r l).trans ?_
  unfold G
  refine congrArg (· * fac i 3) ?_
  refine Finset.sum_congr (M := EReal) rfl fun k _ => ?_
  rw [ldA, ldB arg3 harg3 x1 256 (by omega)]
  refine congrArg _ (congrArg x1 (congrArg (ix3 0 k) (Fin.ext ?_)))
  show 256 + (128 + l.val) = 3 * 128 + l.val
  omega

/-- What the body computes for slab 4. -/
abbrev slab4 : FVec Ideal S1024x128 .f32 := k0_pay34 (F := Ideal) (BitVec.ofNat 32 (i 0).val) (A arg2 harg2 x0) (View.readAt (Elt Ideal) arg3.view (Rect.unit (s := S1x2048x1024) ![0, 0, 512] ![1, 2048, 256] inb_S1x2048x1024_S1x2048x256_0_0_512).toLoadRect (harg3.unread x1))

theorem slab4_apply (r : Fin 1024) (l : Fin 128) : slab4 i arg2 harg2 arg3 harg3 x0 x1 (ix2 r l) = G i x0 x1 4 r l := by
  refine (core4 i _ _ r l).trans ?_
  unfold G
  refine congrArg (· * fac i 4) ?_
  refine Finset.sum_congr (M := EReal) rfl fun k _ => ?_
  rw [ldA, ldB arg3 harg3 x1 512 (by omega)]
  refine congrArg _ (congrArg x1 (congrArg (ix3 0 k) (Fin.ext ?_)))
  show 512 + l.val = 4 * 128 + l.val
  omega

/-- What the body computes for slab 5. -/
abbrev slab5 : FVec Ideal S1024x128 .f32 := k0_pay42 (F := Ideal) (BitVec.ofNat 32 (i 0).val) (k0_pay33 (A arg2 harg2 x0) (View.readAt (Elt Ideal) arg3.view (Rect.unit (s := S1x2048x1024) ![0, 0, 512] ![1, 2048, 256] inb_S1x2048x1024_S1x2048x256_0_0_512).toLoadRect (harg3.unread x1)))

theorem slab5_apply (r : Fin 1024) (l : Fin 128) : slab5 i arg2 harg2 arg3 harg3 x0 x1 (ix2 r l) = G i x0 x1 5 r l := by
  refine (core5 i _ _ r l).trans ?_
  unfold G
  refine congrArg (· * fac i 5) ?_
  refine Finset.sum_congr (M := EReal) rfl fun k _ => ?_
  rw [ldA, ldB arg3 harg3 x1 512 (by omega)]
  refine congrArg _ (congrArg x1 (congrArg (ix3 0 k) (Fin.ext ?_)))
  show 512 + (128 + l.val) = 5 * 128 + l.val
  omega

/-- What the body computes for slab 6. -/
abbrev slab6 : FVec Ideal S1024x128 .f32 := k0_pay50 (F := Ideal) (BitVec.ofNat 32 (i 0).val) (A arg2 harg2 x0) (View.readAt (Elt Ideal) arg3.view (Rect.unit (s := S1x2048x1024) ![0, 0, 768] ![1, 2048, 256] inb_S1x2048x1024_S1x2048x256_0_0_768).toLoadRect (harg3.unread x1))

theorem slab6_apply (r : Fin 1024) (l : Fin 128) : slab6 i arg2 harg2 arg3 harg3 x0 x1 (ix2 r l) = G i x0 x1 6 r l := by
  refine (core6 i _ _ r l).trans ?_
  unfold G
  refine congrArg (· * fac i 6) ?_
  refine Finset.sum_congr (M := EReal) rfl fun k _ => ?_
  rw [ldA, ldB arg3 harg3 x1 768 (by omega)]
  refine congrArg _ (congrArg x1 (congrArg (ix3 0 k) (Fin.ext ?_)))
  show 768 + l.val = 6 * 128 + l.val
  omega

/-- What the body computes for slab 7. -/
abbrev slab7 : FVec Ideal S1024x128 .f32 := k0_pay57 (F := Ideal) (BitVec.ofNat 32 (i 0).val) (k0_pay49 (A arg2 harg2 x0) (View.readAt (Elt Ideal) arg3.view (Rect.unit (s := S1x2048x1024) ![0, 0, 768] ![1, 2048, 256] inb_S1x2048x1024_S1x2048x256_0_0_768).toLoadRect (harg3.unread x1)))

theorem slab7_apply (r : Fin 1024) (l : Fin 128) : slab7 i arg2 harg2 arg3 harg3 x0 x1 (ix2 r l) = G i x0 x1 7 r l := by
  refine (core7 i _ _ r l).trans ?_
  unfold G
  refine congrArg (· * fac i 7) ?_
  refine Finset.sum_congr (M := EReal) rfl fun k _ => ?_
  rw [ldA, ldB arg3 harg3 x1 768 (by omega)]
  refine congrArg _ (congrArg x1 (congrArg (ix3 0 k) (Fin.ext ?_)))
  show 768 + (128 + l.val) = 7 * 128 + l.val
  omega

/-- Every fourth row of slab 0, as the body reads it back. -/
theorem back0 (ρ : Nat) (hρ : ρ < 4) (inb') (q : Fin 256) (l : Fin 128) :
    arg6.view.readCov (Val := Elt Ideal) (kernelRun0_A.sl.HS0_1 c i arg2 harg2 arg3 harg3 x0 x1)
        { off := ![0, ρ, 0], size := ![1, 256, 128], stride := ![1, 4, 1], inb := inb' } (ix3 0 q l)
      = G i x0 x1 0 ⟨4 * q.val + ρ, by have := q.isLt; omega⟩ l := by
  unfold kernelRun0_A.sl.HS0_1
  refine (strided arg6.view 0 _ _ _ ρ hρ inb' q l).trans ?_
  exact (castS (slab0 i arg2 harg2 arg3 harg3 x0 x1) _ l).trans (slab0_apply i arg2 harg2 arg3 harg3 x0 x1 _ l)

/-- Every fourth row of slab 1, as the body reads it back. -/
theorem back1 (ρ : Nat) (hρ : ρ < 4) (inb') (q : Fin 256) (l : Fin 128) :
    arg6.view.readCov (Val := Elt Ideal) (kernelRun0_A.sl.HS0_2 c i arg2 harg2 arg3 harg3 x0 x1)
        { off := ![1, ρ, 0], size := ![1, 256, 128], stride := ![1, 4, 1], inb := inb' } (ix3 0 q l)
      = G i x0 x1 1 ⟨4 * q.val + ρ, by have := q.isLt; omega⟩ l := by
  unfold kernelRun0_A.sl.HS0_2
  refine (strided arg6.view 1 _ _ _ ρ hρ inb' q l).trans ?_
  exact (castS (slab1 i arg2 harg2 arg3 harg3 x0 x1) _ l).trans (slab1_apply i arg2 harg2 arg3 harg3 x0 x1 _ l)

/-- Every fourth row of slab 2, as the body reads it back. -/
theorem back2 (ρ : Nat) (hρ : ρ < 4) (inb') (q : Fin 256) (l : Fin 128) :
    arg6.view.readCov (Val := Elt Ideal) (kernelRun0_A.sl.HS0_3 c i arg2 harg2 arg3 harg3 x0 x1)
        { off := ![2, ρ, 0], size := ![1, 256, 128], stride := ![1, 4, 1], inb := inb' } (ix3 0 q l)
      = G i x0 x1 2 ⟨4 * q.val + ρ, by have := q.isLt; omega⟩ l := by
  unfold kernelRun0_A.sl.HS0_3
  refine (strided arg6.view 2 _ _ _ ρ hρ inb' q l).trans ?_
  exact (castS (slab2 i arg2 harg2 arg3 harg3 x0 x1) _ l).trans (slab2_apply i arg2 harg2 arg3 harg3 x0 x1 _ l)

/-- Every fourth row of slab 3, as the body reads it back. -/
theorem back3 (ρ : Nat) (hρ : ρ < 4) (inb') (q : Fin 256) (l : Fin 128) :
    arg6.view.readCov (Val := Elt Ideal) (kernelRun0_A.sl.HS0_4 c i arg2 harg2 arg3 harg3 x0 x1)
        { off := ![3, ρ, 0], size := ![1, 256, 128], stride := ![1, 4, 1], inb := inb' } (ix3 0 q l)
      = G i x0 x1 3 ⟨4 * q.val + ρ, by have := q.isLt; omega⟩ l := by
  unfold kernelRun0_A.sl.HS0_4
  refine (strided arg6.view 3 _ _ _ ρ hρ inb' q l).trans ?_
  exact (castS (slab3 i arg2 harg2 arg3 harg3 x0 x1) _ l).trans (slab3_apply i arg2 harg2 arg3 harg3 x0 x1 _ l)

/-- Every fourth row of slab 4, as the body reads it back. -/
theorem back4 (ρ : Nat) (hρ : ρ < 4) (inb') (q : Fin 256) (l : Fin 128) :
    arg6.view.readCov (Val := Elt Ideal) (kernelRun0_A.sl.HS0_5 c i arg2 harg2 arg3 harg3 x0 x1)
        { off := ![4, ρ, 0], size := ![1, 256, 128], stride := ![1, 4, 1], inb := inb' } (ix3 0 q l)
      = G i x0 x1 4 ⟨4 * q.val + ρ, by have := q.isLt; omega⟩ l := by
  unfold kernelRun0_A.sl.HS0_5
  refine (strided arg6.view 4 _ _ _ ρ hρ inb' q l).trans ?_
  exact (castS (slab4 i arg2 harg2 arg3 harg3 x0 x1) _ l).trans (slab4_apply i arg2 harg2 arg3 harg3 x0 x1 _ l)

/-- Every fourth row of slab 5, as the body reads it back. -/
theorem back5 (ρ : Nat) (hρ : ρ < 4) (inb') (q : Fin 256) (l : Fin 128) :
    arg6.view.readCov (Val := Elt Ideal) (kernelRun0_A.sl.HS0_6 c i arg2 harg2 arg3 harg3 x0 x1)
        { off := ![5, ρ, 0], size := ![1, 256, 128], stride := ![1, 4, 1], inb := inb' } (ix3 0 q l)
      = G i x0 x1 5 ⟨4 * q.val + ρ, by have := q.isLt; omega⟩ l := by
  unfold kernelRun0_A.sl.HS0_6
  refine (strided arg6.view 5 _ _ _ ρ hρ inb' q l).trans ?_
  exact (castS (slab5 i arg2 harg2 arg3 harg3 x0 x1) _ l).trans (slab5_apply i arg2 harg2 arg3 harg3 x0 x1 _ l)

/-- Every fourth row of slab 6, as the body reads it back. -/
theorem back6 (ρ : Nat) (hρ : ρ < 4) (inb') (q : Fin 256) (l : Fin 128) :
    arg6.view.readCov (Val := Elt Ideal) (kernelRun0_A.sl.HS0_7 c i arg2 harg2 arg3 harg3 x0 x1)
        { off := ![6, ρ, 0], size := ![1, 256, 128], stride := ![1, 4, 1], inb := inb' } (ix3 0 q l)
      = G i x0 x1 6 ⟨4 * q.val + ρ, by have := q.isLt; omega⟩ l := by
  unfold kernelRun0_A.sl.HS0_7
  refine (strided arg6.view 6 _ _ _ ρ hρ inb' q l).trans ?_
  exact (castS (slab6 i arg2 harg2 arg3 harg3 x0 x1) _ l).trans (slab6_apply i arg2 harg2 arg3 harg3 x0 x1 _ l)

/-- Every fourth row of slab 7, as the body reads it back. -/
theorem back7 (ρ : Nat) (hρ : ρ < 4) (inb') (q : Fin 256) (l : Fin 128) :
    arg6.view.readCov (Val := Elt Ideal) (kernelRun0_A.sl.HS0_8 c i arg2 harg2 arg3 harg3 x0 x1)
        { off := ![7, ρ, 0], size := ![1, 256, 128], stride := ![1, 4, 1], inb := inb' } (ix3 0 q l)
      = G i x0 x1 7 ⟨4 * q.val + ρ, by have := q.isLt; omega⟩ l := by
  unfold kernelRun0_A.sl.HS0_8
  refine (strided arg6.view 7 _ _ _ ρ hρ inb' q l).trans ?_
  exact (castS (slab7 i arg2 harg2 arg3 harg3 x0 x1) _ l).trans (slab7_apply i arg2 harg2 arg3 harg3 x0 x1 _ l)

/-- The slabs a point leaves. -/
theorem out2_apply (s : Fin 8) (r : Fin 1024) (l : Fin 128) :
    out0_A_2 (F := Ideal) c i arg2 harg2 arg3 harg3 arg4 harg4 arg5 harg5 arg6 harg6 x0 x1 (ix3 s r l) = G i x0 x1 s r l := by
  unfold out0_A_2
  rw [View.read_writes_junk_eq_canon]
  refine View.canon_apply_of_pieces (Val := Elt Ideal) (e := .bf16) (fun y : S8x1024x128.Idx => G i x0 x1 (y 0) (y 1) (y 2)) _ ?_ (ix3 s r l)
    (cover0_A_2 (F := Ideal) c i arg2 harg2 arg3 harg3 arg4 harg4 arg5 harg5 arg6 harg6 x0 x1 (ix3 s r l))
  unfold kernelRun0_A
  dsimp only
  simp only [List.forall_mem_cons, List.not_mem_nil, false_imp_iff, implies_true, and_true]
  refine ⟨?_, ?_, ?_, ?_, ?_, ?_, ?_, ?_⟩
  · intro (x : S1x1024x128.Idx)
    obtain ⟨r, l, rfl⟩ : ∃ (r : Fin 1024) (l : Fin 128), x = ix3 0 r l := ⟨x 1, x 2, (eq_ix3 x).trans (by congr 1; exact Subsingleton.elim (α := Fin 1) _ _)⟩
    refine (castN (slab7 i arg2 harg2 arg3 harg3 x0 x1) r l).trans ((slab7_apply i arg2 harg2 arg3 harg3 x0 x1 r l).trans ?_)
    refine G_congr i x0 x1 rfl ?_ ?_
    · show r.val = 0 + 1 * r.val; omega
    · show l.val = 0 + 1 * l.val; omega
  · intro (x : S1x1024x128.Idx)
    obtain ⟨r, l, rfl⟩ : ∃ (r : Fin 1024) (l : Fin 128), x = ix3 0 r l := ⟨x 1, x 2, (eq_ix3 x).trans (by congr 1; exact Subsingleton.elim (α := Fin 1) _ _)⟩
    refine (castN (slab6 i arg2 harg2 arg3 harg3 x0 x1) r l).trans ((slab6_apply i arg2 harg2 arg3 harg3 x0 x1 r l).trans ?_)
    refine G_congr i x0 x1 rfl ?_ ?_
    · show r.val = 0 + 1 * r.val; omega
    · show l.val = 0 + 1 * l.val; omega
  · intro (x : S1x1024x128.Idx)
    obtain ⟨r, l, rfl⟩ : ∃ (r : Fin 1024) (l : Fin 128), x = ix3 0 r l := ⟨x 1, x 2, (eq_ix3 x).trans (by congr 1; exact Subsingleton.elim (α := Fin 1) _ _)⟩
    refine (castN (slab5 i arg2 harg2 arg3 harg3 x0 x1) r l).trans ((slab5_apply i arg2 harg2 arg3 harg3 x0 x1 r l).trans ?_)
    refine G_congr i x0 x1 rfl ?_ ?_
    · show r.val = 0 + 1 * r.val; omega
    · show l.val = 0 + 1 * l.val; omega
  · intro (x : S1x1024x128.Idx)
    obtain ⟨r, l, rfl⟩ : ∃ (r : Fin 1024) (l : Fin 128), x = ix3 0 r l := ⟨x 1, x 2, (eq_ix3 x).trans (by congr 1; exact Subsingleton.elim (α := Fin 1) _ _)⟩
    refine (castN (slab4 i arg2 harg2 arg3 harg3 x0 x1) r l).trans ((slab4_apply i arg2 harg2 arg3 harg3 x0 x1 r l).trans ?_)
    refine G_congr i x0 x1 rfl ?_ ?_
    · show r.val = 0 + 1 * r.val; omega
    · show l.val = 0 + 1 * l.val; omega
  · intro (x : S1x1024x128.Idx)
    obtain ⟨r, l, rfl⟩ : ∃ (r : Fin 1024) (l : Fin 128), x = ix3 0 r l := ⟨x 1, x 2, (eq_ix3 x).trans (by congr 1; exact Subsingleton.elim (α := Fin 1) _ _)⟩
    refine (castN (slab3 i arg2 harg2 arg3 harg3 x0 x1) r l).trans ((slab3_apply i arg2 harg2 arg3 harg3 x0 x1 r l).trans ?_)
    refine G_congr i x0 x1 rfl ?_ ?_
    · show r.val = 0 + 1 * r.val; omega
    · show l.val = 0 + 1 * l.val; omega
  · intro (x : S1x1024x128.Idx)
    obtain ⟨r, l, rfl⟩ : ∃ (r : Fin 1024) (l : Fin 128), x = ix3 0 r l := ⟨x 1, x 2, (eq_ix3 x).trans (by congr 1; exact Subsingleton.elim (α := Fin 1) _ _)⟩
    refine (castN (slab2 i arg2 harg2 arg3 harg3 x0 x1) r l).trans ((slab2_apply i arg2 harg2 arg3 harg3 x0 x1 r l).trans ?_)
    refine G_congr i x0 x1 rfl ?_ ?_
    · show r.val = 0 + 1 * r.val; omega
    · show l.val = 0 + 1 * l.val; omega
  · intro (x : S1x1024x128.Idx)
    obtain ⟨r, l, rfl⟩ : ∃ (r : Fin 1024) (l : Fin 128), x = ix3 0 r l := ⟨x 1, x 2, (eq_ix3 x).trans (by congr 1; exact Subsingleton.elim (α := Fin 1) _ _)⟩
    refine (castN (slab1 i arg2 harg2 arg3 harg3 x0 x1) r l).trans ((slab1_apply i arg2 harg2 arg3 harg3 x0 x1 r l).trans ?_)
    refine G_congr i x0 x1 rfl ?_ ?_
    · show r.val = 0 + 1 * r.val; omega
    · show l.val = 0 + 1 * l.val; omega
  · intro (x : S1x1024x128.Idx)
    obtain ⟨r, l, rfl⟩ : ∃ (r : Fin 1024) (l : Fin 128), x = ix3 0 r l := ⟨x 1, x 2, (eq_ix3 x).trans (by congr 1; exact Subsingleton.elim (α := Fin 1) _ _)⟩
    refine (castN (slab0 i arg2 harg2 arg3 harg3 x0 x1) r l).trans ((slab0_apply i arg2 harg2 arg3 harg3 x0 x1 r l).trans ?_)
    refine G_congr i x0 x1 rfl ?_ ?_
    · show r.val = 0 + 1 * r.val; omega
    · show l.val = 0 + 1 * l.val; omega

/-- The slabs with a point's rows sorted by remainder mod 4. -/
theorem out3_apply (s : Fin 8) (ρ : Fin 4) (q : Fin 256) (l : Fin 128) :
    out0_A_3 (F := Ideal) c i arg2 harg2 arg3 harg3 arg4 harg4 arg5 harg5 arg6 harg6 x0 x1 (ix5 s 0 ρ q l)
      = G i x0 x1 s ⟨4 * q.val + ρ.val, by have := q.isLt; have := ρ.isLt; omega⟩ l := by
  unfold out0_A_3
  rw [View.read_writes_junk_eq_canon]
  refine View.canon_apply_of_pieces (Val := Elt Ideal) (e := .f32) (fun y : S8x1x4x256x128.Idx => G i x0 x1 (y 0)
      ⟨4 * (y 3).val + (y 2).val, by have h3 : (y 3).val < 256 := (y 3).isLt; have h2 : (y 2).val < 4 := (y 2).isLt; omega⟩ (y 4)) _ ?_ (ix5 s 0 ρ q l)
    (cover0_A_3 (F := Ideal) c i arg2 harg2 arg3 harg3 arg4 harg4 arg5 harg5 arg6 harg6 x0 x1 (ix5 s 0 ρ q l))
  unfold kernelRun0_A
  dsimp only
  simp only [List.forall_mem_cons, List.not_mem_nil, false_imp_iff, implies_true, and_true]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  · intro (x : S1x1x1x256x128.Idx)
    obtain ⟨q, l, rfl⟩ := ix_of x
    refine (castC (arg6.view.readCov (Val := Elt Ideal) (kernelRun0_A.sl.HS0_8 c i arg2 harg2 arg3 harg3 x0 x1)
      { off := ![7, 3, 0], size := ![1, 256, 128], stride := ![1, 4, 1], inb := inb_S8x1024x128_S1x256x128_7_3_0_s_1_4_1 }) q l).trans ((back7 c i arg2 harg2 arg3 harg3 arg6 x0 x1 3 (by omega) _ q l).trans ?_)
    refine G_congr i x0 x1 rfl ?_ ?_
    · show 4 * q.val + 3 = 4 * (0 + 1 * q.val) + (3 + 1 * 0); omega
    · show l.val = 0 + 1 * l.val; omega
  · intro (x : S1x1x1x256x128.Idx)
    obtain ⟨q, l, rfl⟩ := ix_of x
    refine (castC (arg6.view.readCov (Val := Elt Ideal) (kernelRun0_A.sl.HS0_8 c i arg2 harg2 arg3 harg3 x0 x1)
      { off := ![7, 2, 0], size := ![1, 256, 128], stride := ![1, 4, 1], inb := inb_S8x1024x128_S1x256x128_7_2_0_s_1_4_1 }) q l).trans ((back7 c i arg2 harg2 arg3 harg3 arg6 x0 x1 2 (by omega) _ q l).trans ?_)
    refine G_congr i x0 x1 rfl ?_ ?_
    · show 4 * q.val + 2 = 4 * (0 + 1 * q.val) + (2 + 1 * 0); omega
    · show l.val = 0 + 1 * l.val; omega
  · intro (x : S1x1x1x256x128.Idx)
    obtain ⟨q, l, rfl⟩ := ix_of x
    refine (castC (arg6.view.readCov (Val := Elt Ideal) (kernelRun0_A.sl.HS0_8 c i arg2 harg2 arg3 harg3 x0 x1)
      { off := ![7, 1, 0], size := ![1, 256, 128], stride := ![1, 4, 1], inb := inb_S8x1024x128_S1x256x128_7_1_0_s_1_4_1 }) q l).trans ((back7 c i arg2 harg2 arg3 harg3 arg6 x0 x1 1 (by omega) _ q l).trans ?_)
    refine G_congr i x0 x1 rfl ?_ ?_
    · show 4 * q.val + 1 = 4 * (0 + 1 * q.val) + (1 + 1 * 0); omega
    · show l.val = 0 + 1 * l.val; omega
  · intro (x : S1x1x1x256x128.Idx)
    obtain ⟨q, l, rfl⟩ := ix_of x
    refine (castC (arg6.view.readCov (Val := Elt Ideal) (kernelRun0_A.sl.HS0_8 c i arg2 harg2 arg3 harg3 x0 x1)
      { off := ![7, 0, 0], size := ![1, 256, 128], stride := ![1, 4, 1], inb := inb_S8x1024x128_S1x256x128_7_0_0_s_1_4_1 }) q l).trans ((back7 c i arg2 harg2 arg3 harg3 arg6 x0 x1 0 (by omega) _ q l).trans ?_)
    refine G_congr i x0 x1 rfl ?_ ?_
    · show 4 * q.val + 0 = 4 * (0 + 1 * q.val) + (0 + 1 * 0); omega
    · show l.val = 0 + 1 * l.val; omega
  · intro (x : S1x1x1x256x128.Idx)
    obtain ⟨q, l, rfl⟩ := ix_of x
    refine (castC (arg6.view.readCov (Val := Elt Ideal) (kernelRun0_A.sl.HS0_7 c i arg2 harg2 arg3 harg3 x0 x1)
      { off := ![6, 3, 0], size := ![1, 256, 128], stride := ![1, 4, 1], inb := inb_S8x1024x128_S1x256x128_6_3_0_s_1_4_1 }) q l).trans ((back6 c i arg2 harg2 arg3 harg3 arg6 x0 x1 3 (by omega) _ q l).trans ?_)
    refine G_congr i x0 x1 rfl ?_ ?_
    · show 4 * q.val + 3 = 4 * (0 + 1 * q.val) + (3 + 1 * 0); omega
    · show l.val = 0 + 1 * l.val; omega
  · intro (x : S1x1x1x256x128.Idx)
    obtain ⟨q, l, rfl⟩ := ix_of x
    refine (castC (arg6.view.readCov (Val := Elt Ideal) (kernelRun0_A.sl.HS0_7 c i arg2 harg2 arg3 harg3 x0 x1)
      { off := ![6, 2, 0], size := ![1, 256, 128], stride := ![1, 4, 1], inb := inb_S8x1024x128_S1x256x128_6_2_0_s_1_4_1 }) q l).trans ((back6 c i arg2 harg2 arg3 harg3 arg6 x0 x1 2 (by omega) _ q l).trans ?_)
    refine G_congr i x0 x1 rfl ?_ ?_
    · show 4 * q.val + 2 = 4 * (0 + 1 * q.val) + (2 + 1 * 0); omega
    · show l.val = 0 + 1 * l.val; omega
  · intro (x : S1x1x1x256x128.Idx)
    obtain ⟨q, l, rfl⟩ := ix_of x
    refine (castC (arg6.view.readCov (Val := Elt Ideal) (kernelRun0_A.sl.HS0_7 c i arg2 harg2 arg3 harg3 x0 x1)
      { off := ![6, 1, 0], size := ![1, 256, 128], stride := ![1, 4, 1], inb := inb_S8x1024x128_S1x256x128_6_1_0_s_1_4_1 }) q l).trans ((back6 c i arg2 harg2 arg3 harg3 arg6 x0 x1 1 (by omega) _ q l).trans ?_)
    refine G_congr i x0 x1 rfl ?_ ?_
    · show 4 * q.val + 1 = 4 * (0 + 1 * q.val) + (1 + 1 * 0); omega
    · show l.val = 0 + 1 * l.val; omega
  · intro (x : S1x1x1x256x128.Idx)
    obtain ⟨q, l, rfl⟩ := ix_of x
    refine (castC (arg6.view.readCov (Val := Elt Ideal) (kernelRun0_A.sl.HS0_7 c i arg2 harg2 arg3 harg3 x0 x1)
      { off := ![6, 0, 0], size := ![1, 256, 128], stride := ![1, 4, 1], inb := inb_S8x1024x128_S1x256x128_6_0_0_s_1_4_1 }) q l).trans ((back6 c i arg2 harg2 arg3 harg3 arg6 x0 x1 0 (by omega) _ q l).trans ?_)
    refine G_congr i x0 x1 rfl ?_ ?_
    · show 4 * q.val + 0 = 4 * (0 + 1 * q.val) + (0 + 1 * 0); omega
    · show l.val = 0 + 1 * l.val; omega
  · intro (x : S1x1x1x256x128.Idx)
    obtain ⟨q, l, rfl⟩ := ix_of x
    refine (castC (arg6.view.readCov (Val := Elt Ideal) (kernelRun0_A.sl.HS0_6 c i arg2 harg2 arg3 harg3 x0 x1)
      { off := ![5, 3, 0], size := ![1, 256, 128], stride := ![1, 4, 1], inb := inb_S8x1024x128_S1x256x128_5_3_0_s_1_4_1 }) q l).trans ((back5 c i arg2 harg2 arg3 harg3 arg6 x0 x1 3 (by omega) _ q l).trans ?_)
    refine G_congr i x0 x1 rfl ?_ ?_
    · show 4 * q.val + 3 = 4 * (0 + 1 * q.val) + (3 + 1 * 0); omega
    · show l.val = 0 + 1 * l.val; omega
  · intro (x : S1x1x1x256x128.Idx)
    obtain ⟨q, l, rfl⟩ := ix_of x
    refine (castC (arg6.view.readCov (Val := Elt Ideal) (kernelRun0_A.sl.HS0_6 c i arg2 harg2 arg3 harg3 x0 x1)
      { off := ![5, 2, 0], size := ![1, 256, 128], stride := ![1, 4, 1], inb := inb_S8x1024x128_S1x256x128_5_2_0_s_1_4_1 }) q l).trans ((back5 c i arg2 harg2 arg3 harg3 arg6 x0 x1 2 (by omega) _ q l).trans ?_)
    refine G_congr i x0 x1 rfl ?_ ?_
    · show 4 * q.val + 2 = 4 * (0 + 1 * q.val) + (2 + 1 * 0); omega
    · show l.val = 0 + 1 * l.val; omega
  · intro (x : S1x1x1x256x128.Idx)
    obtain ⟨q, l, rfl⟩ := ix_of x
    refine (castC (arg6.view.readCov (Val := Elt Ideal) (kernelRun0_A.sl.HS0_6 c i arg2 harg2 arg3 harg3 x0 x1)
      { off := ![5, 1, 0], size := ![1, 256, 128], stride := ![1, 4, 1], inb := inb_S8x1024x128_S1x256x128_5_1_0_s_1_4_1 }) q l).trans ((back5 c i arg2 harg2 arg3 harg3 arg6 x0 x1 1 (by omega) _ q l).trans ?_)
    refine G_congr i x0 x1 rfl ?_ ?_
    · show 4 * q.val + 1 = 4 * (0 + 1 * q.val) + (1 + 1 * 0); omega
    · show l.val = 0 + 1 * l.val; omega
  · intro (x : S1x1x1x256x128.Idx)
    obtain ⟨q, l, rfl⟩ := ix_of x
    refine (castC (arg6.view.readCov (Val := Elt Ideal) (kernelRun0_A.sl.HS0_6 c i arg2 harg2 arg3 harg3 x0 x1)
      { off := ![5, 0, 0], size := ![1, 256, 128], stride := ![1, 4, 1], inb := inb_S8x1024x128_S1x256x128_5_0_0_s_1_4_1 }) q l).trans ((back5 c i arg2 harg2 arg3 harg3 arg6 x0 x1 0 (by omega) _ q l).trans ?_)
    refine G_congr i x0 x1 rfl ?_ ?_
    · show 4 * q.val + 0 = 4 * (0 + 1 * q.val) + (0 + 1 * 0); omega
    · show l.val = 0 + 1 * l.val; omega
  · intro (x : S1x1x1x256x128.Idx)
    obtain ⟨q, l, rfl⟩ := ix_of x
    refine (castC (arg6.view.readCov (Val := Elt Ideal) (kernelRun0_A.sl.HS0_5 c i arg2 harg2 arg3 harg3 x0 x1)
      { off := ![4, 3, 0], size := ![1, 256, 128], stride := ![1, 4, 1], inb := inb_S8x1024x128_S1x256x128_4_3_0_s_1_4_1 }) q l).trans ((back4 c i arg2 harg2 arg3 harg3 arg6 x0 x1 3 (by omega) _ q l).trans ?_)
    refine G_congr i x0 x1 rfl ?_ ?_
    · show 4 * q.val + 3 = 4 * (0 + 1 * q.val) + (3 + 1 * 0); omega
    · show l.val = 0 + 1 * l.val; omega
  · intro (x : S1x1x1x256x128.Idx)
    obtain ⟨q, l, rfl⟩ := ix_of x
    refine (castC (arg6.view.readCov (Val := Elt Ideal) (kernelRun0_A.sl.HS0_5 c i arg2 harg2 arg3 harg3 x0 x1)
      { off := ![4, 2, 0], size := ![1, 256, 128], stride := ![1, 4, 1], inb := inb_S8x1024x128_S1x256x128_4_2_0_s_1_4_1 }) q l).trans ((back4 c i arg2 harg2 arg3 harg3 arg6 x0 x1 2 (by omega) _ q l).trans ?_)
    refine G_congr i x0 x1 rfl ?_ ?_
    · show 4 * q.val + 2 = 4 * (0 + 1 * q.val) + (2 + 1 * 0); omega
    · show l.val = 0 + 1 * l.val; omega
  · intro (x : S1x1x1x256x128.Idx)
    obtain ⟨q, l, rfl⟩ := ix_of x
    refine (castC (arg6.view.readCov (Val := Elt Ideal) (kernelRun0_A.sl.HS0_5 c i arg2 harg2 arg3 harg3 x0 x1)
      { off := ![4, 1, 0], size := ![1, 256, 128], stride := ![1, 4, 1], inb := inb_S8x1024x128_S1x256x128_4_1_0_s_1_4_1 }) q l).trans ((back4 c i arg2 harg2 arg3 harg3 arg6 x0 x1 1 (by omega) _ q l).trans ?_)
    refine G_congr i x0 x1 rfl ?_ ?_
    · show 4 * q.val + 1 = 4 * (0 + 1 * q.val) + (1 + 1 * 0); omega
    · show l.val = 0 + 1 * l.val; omega
  · intro (x : S1x1x1x256x128.Idx)
    obtain ⟨q, l, rfl⟩ := ix_of x
    refine (castC (arg6.view.readCov (Val := Elt Ideal) (kernelRun0_A.sl.HS0_5 c i arg2 harg2 arg3 harg3 x0 x1)
      { off := ![4, 0, 0], size := ![1, 256, 128], stride := ![1, 4, 1], inb := inb_S8x1024x128_S1x256x128_4_0_0_s_1_4_1 }) q l).trans ((back4 c i arg2 harg2 arg3 harg3 arg6 x0 x1 0 (by omega) _ q l).trans ?_)
    refine G_congr i x0 x1 rfl ?_ ?_
    · show 4 * q.val + 0 = 4 * (0 + 1 * q.val) + (0 + 1 * 0); omega
    · show l.val = 0 + 1 * l.val; omega
  · intro (x : S1x1x1x256x128.Idx)
    obtain ⟨q, l, rfl⟩ := ix_of x
    refine (castC (arg6.view.readCov (Val := Elt Ideal) (kernelRun0_A.sl.HS0_4 c i arg2 harg2 arg3 harg3 x0 x1)
      { off := ![3, 3, 0], size := ![1, 256, 128], stride := ![1, 4, 1], inb := inb_S8x1024x128_S1x256x128_3_3_0_s_1_4_1 }) q l).trans ((back3 c i arg2 harg2 arg3 harg3 arg6 x0 x1 3 (by omega) _ q l).trans ?_)
    refine G_congr i x0 x1 rfl ?_ ?_
    · show 4 * q.val + 3 = 4 * (0 + 1 * q.val) + (3 + 1 * 0); omega
    · show l.val = 0 + 1 * l.val; omega
  · intro (x : S1x1x1x256x128.Idx)
    obtain ⟨q, l, rfl⟩ := ix_of x
    refine (castC (arg6.view.readCov (Val := Elt Ideal) (kernelRun0_A.sl.HS0_4 c i arg2 harg2 arg3 harg3 x0 x1)
      { off := ![3, 2, 0], size := ![1, 256, 128], stride := ![1, 4, 1], inb := inb_S8x1024x128_S1x256x128_3_2_0_s_1_4_1 }) q l).trans ((back3 c i arg2 harg2 arg3 harg3 arg6 x0 x1 2 (by omega) _ q l).trans ?_)
    refine G_congr i x0 x1 rfl ?_ ?_
    · show 4 * q.val + 2 = 4 * (0 + 1 * q.val) + (2 + 1 * 0); omega
    · show l.val = 0 + 1 * l.val; omega
  · intro (x : S1x1x1x256x128.Idx)
    obtain ⟨q, l, rfl⟩ := ix_of x
    refine (castC (arg6.view.readCov (Val := Elt Ideal) (kernelRun0_A.sl.HS0_4 c i arg2 harg2 arg3 harg3 x0 x1)
      { off := ![3, 1, 0], size := ![1, 256, 128], stride := ![1, 4, 1], inb := inb_S8x1024x128_S1x256x128_3_1_0_s_1_4_1 }) q l).trans ((back3 c i arg2 harg2 arg3 harg3 arg6 x0 x1 1 (by omega) _ q l).trans ?_)
    refine G_congr i x0 x1 rfl ?_ ?_
    · show 4 * q.val + 1 = 4 * (0 + 1 * q.val) + (1 + 1 * 0); omega
    · show l.val = 0 + 1 * l.val; omega
  · intro (x : S1x1x1x256x128.Idx)
    obtain ⟨q, l, rfl⟩ := ix_of x
    refine (castC (arg6.view.readCov (Val := Elt Ideal) (kernelRun0_A.sl.HS0_4 c i arg2 harg2 arg3 harg3 x0 x1)
      { off := ![3, 0, 0], size := ![1, 256, 128], stride := ![1, 4, 1], inb := inb_S8x1024x128_S1x256x128_3_0_0_s_1_4_1 }) q l).trans ((back3 c i arg2 harg2 arg3 harg3 arg6 x0 x1 0 (by omega) _ q l).trans ?_)
    refine G_congr i x0 x1 rfl ?_ ?_
    · show 4 * q.val + 0 = 4 * (0 + 1 * q.val) + (0 + 1 * 0); omega
    · show l.val = 0 + 1 * l.val; omega
  · intro (x : S1x1x1x256x128.Idx)
    obtain ⟨q, l, rfl⟩ := ix_of x
    refine (castC (arg6.view.readCov (Val := Elt Ideal) (kernelRun0_A.sl.HS0_3 c i arg2 harg2 arg3 harg3 x0 x1)
      { off := ![2, 3, 0], size := ![1, 256, 128], stride := ![1, 4, 1], inb := inb_S8x1024x128_S1x256x128_2_3_0_s_1_4_1 }) q l).trans ((back2 c i arg2 harg2 arg3 harg3 arg6 x0 x1 3 (by omega) _ q l).trans ?_)
    refine G_congr i x0 x1 rfl ?_ ?_
    · show 4 * q.val + 3 = 4 * (0 + 1 * q.val) + (3 + 1 * 0); omega
    · show l.val = 0 + 1 * l.val; omega
  · intro (x : S1x1x1x256x128.Idx)
    obtain ⟨q, l, rfl⟩ := ix_of x
    refine (castC (arg6.view.readCov (Val := Elt Ideal) (kernelRun0_A.sl.HS0_3 c i arg2 harg2 arg3 harg3 x0 x1)
      { off := ![2, 2, 0], size := ![1, 256, 128], stride := ![1, 4, 1], inb := inb_S8x1024x128_S1x256x128_2_2_0_s_1_4_1 }) q l).trans ((back2 c i arg2 harg2 arg3 harg3 arg6 x0 x1 2 (by omega) _ q l).trans ?_)
    refine G_congr i x0 x1 rfl ?_ ?_
    · show 4 * q.val + 2 = 4 * (0 + 1 * q.val) + (2 + 1 * 0); omega
    · show l.val = 0 + 1 * l.val; omega
  · intro (x : S1x1x1x256x128.Idx)
    obtain ⟨q, l, rfl⟩ := ix_of x
    refine (castC (arg6.view.readCov (Val := Elt Ideal) (kernelRun0_A.sl.HS0_3 c i arg2 harg2 arg3 harg3 x0 x1)
      { off := ![2, 1, 0], size := ![1, 256, 128], stride := ![1, 4, 1], inb := inb_S8x1024x128_S1x256x128_2_1_0_s_1_4_1 }) q l).trans ((back2 c i arg2 harg2 arg3 harg3 arg6 x0 x1 1 (by omega) _ q l).trans ?_)
    refine G_congr i x0 x1 rfl ?_ ?_
    · show 4 * q.val + 1 = 4 * (0 + 1 * q.val) + (1 + 1 * 0); omega
    · show l.val = 0 + 1 * l.val; omega
  · intro (x : S1x1x1x256x128.Idx)
    obtain ⟨q, l, rfl⟩ := ix_of x
    refine (castC (arg6.view.readCov (Val := Elt Ideal) (kernelRun0_A.sl.HS0_3 c i arg2 harg2 arg3 harg3 x0 x1)
      { off := ![2, 0, 0], size := ![1, 256, 128], stride := ![1, 4, 1], inb := inb_S8x1024x128_S1x256x128_2_0_0_s_1_4_1 }) q l).trans ((back2 c i arg2 harg2 arg3 harg3 arg6 x0 x1 0 (by omega) _ q l).trans ?_)
    refine G_congr i x0 x1 rfl ?_ ?_
    · show 4 * q.val + 0 = 4 * (0 + 1 * q.val) + (0 + 1 * 0); omega
    · show l.val = 0 + 1 * l.val; omega
  · intro (x : S1x1x1x256x128.Idx)
    obtain ⟨q, l, rfl⟩ := ix_of x
    refine (castC (arg6.view.readCov (Val := Elt Ideal) (kernelRun0_A.sl.HS0_2 c i arg2 harg2 arg3 harg3 x0 x1)
      { off := ![1, 3, 0], size := ![1, 256, 128], stride := ![1, 4, 1], inb := inb_S8x1024x128_S1x256x128_1_3_0_s_1_4_1 }) q l).trans ((back1 c i arg2 harg2 arg3 harg3 arg6 x0 x1 3 (by omega) _ q l).trans ?_)
    refine G_congr i x0 x1 rfl ?_ ?_
    · show 4 * q.val + 3 = 4 * (0 + 1 * q.val) + (3 + 1 * 0); omega
    · show l.val = 0 + 1 * l.val; omega
  · intro (x : S1x1x1x256x128.Idx)
    obtain ⟨q, l, rfl⟩ := ix_of x
    refine (castC (arg6.view.readCov (Val := Elt Ideal) (kernelRun0_A.sl.HS0_2 c i arg2 harg2 arg3 harg3 x0 x1)
      { off := ![1, 2, 0], size := ![1, 256, 128], stride := ![1, 4, 1], inb := inb_S8x1024x128_S1x256x128_1_2_0_s_1_4_1 }) q l).trans ((back1 c i arg2 harg2 arg3 harg3 arg6 x0 x1 2 (by omega) _ q l).trans ?_)
    refine G_congr i x0 x1 rfl ?_ ?_
    · show 4 * q.val + 2 = 4 * (0 + 1 * q.val) + (2 + 1 * 0); omega
    · show l.val = 0 + 1 * l.val; omega
  · intro (x : S1x1x1x256x128.Idx)
    obtain ⟨q, l, rfl⟩ := ix_of x
    refine (castC (arg6.view.readCov (Val := Elt Ideal) (kernelRun0_A.sl.HS0_2 c i arg2 harg2 arg3 harg3 x0 x1)
      { off := ![1, 1, 0], size := ![1, 256, 128], stride := ![1, 4, 1], inb := inb_S8x1024x128_S1x256x128_1_1_0_s_1_4_1 }) q l).trans ((back1 c i arg2 harg2 arg3 harg3 arg6 x0 x1 1 (by omega) _ q l).trans ?_)
    refine G_congr i x0 x1 rfl ?_ ?_
    · show 4 * q.val + 1 = 4 * (0 + 1 * q.val) + (1 + 1 * 0); omega
    · show l.val = 0 + 1 * l.val; omega
  · intro (x : S1x1x1x256x128.Idx)
    obtain ⟨q, l, rfl⟩ := ix_of x
    refine (castC (arg6.view.readCov (Val := Elt Ideal) (kernelRun0_A.sl.HS0_2 c i arg2 harg2 arg3 harg3 x0 x1)
      { off := ![1, 0, 0], size := ![1, 256, 128], stride := ![1, 4, 1], inb := inb_S8x1024x128_S1x256x128_1_0_0_s_1_4_1 }) q l).trans ((back1 c i arg2 harg2 arg3 harg3 arg6 x0 x1 0 (by omega) _ q l).trans ?_)
    refine G_congr i x0 x1 rfl ?_ ?_
    · show 4 * q.val + 0 = 4 * (0 + 1 * q.val) + (0 + 1 * 0); omega
    · show l.val = 0 + 1 * l.val; omega
  · intro (x : S1x1x1x256x128.Idx)
    obtain ⟨q, l, rfl⟩ := ix_of x
    refine (castC (arg6.view.readCov (Val := Elt Ideal) (kernelRun0_A.sl.HS0_1 c i arg2 harg2 arg3 harg3 x0 x1)
      { off := ![0, 3, 0], size := ![1, 256, 128], stride := ![1, 4, 1], inb := inb_S8x1024x128_S1x256x128_0_3_0_s_1_4_1 }) q l).trans ((back0 c i arg2 harg2 arg3 harg3 arg6 x0 x1 3 (by omega) _ q l).trans ?_)
    refine G_congr i x0 x1 rfl ?_ ?_
    · show 4 * q.val + 3 = 4 * (0 + 1 * q.val) + (3 + 1 * 0); omega
    · show l.val = 0 + 1 * l.val; omega
  · intro (x : S1x1x1x256x128.Idx)
    obtain ⟨q, l, rfl⟩ := ix_of x
    refine (castC (arg6.view.readCov (Val := Elt Ideal) (kernelRun0_A.sl.HS0_1 c i arg2 harg2 arg3 harg3 x0 x1)
      { off := ![0, 2, 0], size := ![1, 256, 128], stride := ![1, 4, 1], inb := inb_S8x1024x128_S1x256x128_0_2_0_s_1_4_1 }) q l).trans ((back0 c i arg2 harg2 arg3 harg3 arg6 x0 x1 2 (by omega) _ q l).trans ?_)
    refine G_congr i x0 x1 rfl ?_ ?_
    · show 4 * q.val + 2 = 4 * (0 + 1 * q.val) + (2 + 1 * 0); omega
    · show l.val = 0 + 1 * l.val; omega
  · intro (x : S1x1x1x256x128.Idx)
    obtain ⟨q, l, rfl⟩ := ix_of x
    refine (castC (arg6.view.readCov (Val := Elt Ideal) (kernelRun0_A.sl.HS0_1 c i arg2 harg2 arg3 harg3 x0 x1)
      { off := ![0, 1, 0], size := ![1, 256, 128], stride := ![1, 4, 1], inb := inb_S8x1024x128_S1x256x128_0_1_0_s_1_4_1 }) q l).trans ((back0 c i arg2 harg2 arg3 harg3 arg6 x0 x1 1 (by omega) _ q l).trans ?_)
    refine G_congr i x0 x1 rfl ?_ ?_
    · show 4 * q.val + 1 = 4 * (0 + 1 * q.val) + (1 + 1 * 0); omega
    · show l.val = 0 + 1 * l.val; omega
  · intro (x : S1x1x1x256x128.Idx)
    obtain ⟨q, l, rfl⟩ := ix_of x
    refine (castC (arg6.view.readCov (Val := Elt Ideal) (kernelRun0_A.sl.HS0_1 c i arg2 harg2 arg3 harg3 x0 x1)
      { off := ![0, 0, 0], size := ![1, 256, 128], stride := ![1, 4, 1], inb := inb_S8x1024x128_S1x256x128_0_0_0_s_1_4_1 }) q l).trans ((back0 c i arg2 harg2 arg3 harg3 arg6 x0 x1 0 (by omega) _ q l).trans ?_)
    refine G_congr i x0 x1 rfl ?_ ?_
    · show 4 * q.val + 0 = 4 * (0 + 1 * q.val) + (0 + 1 * 0); omega
    · show l.val = 0 + 1 * l.val; omega

end

attribute [local irreducible] G

theorem coords0 : ∀ t : Fin cfg0.N, (grid0.coords t 0).val = t.val / 16 :=
  (by decide +kernel : ∀ t : Fin grid0.N, (grid0.coords t 0).val = t.val / 16)

/-- The factor of slab `s` of the 48. -/
def sc (s : Nat) : EReal := if s < 12 then Scalar.ofBits (F := Ideal) .f32 0x3E0293EE#32 else Scalar.ofBits (F := Ideal) .f32 0x3F800000#32

theorem sel_of (b : BitVec 1) (p : Prop) [Decidable p] (h : b = if p then 1#1 else 0#1) (x y : EReal) :
    Scalar.select b x y = if p then x else y := by
  subst h
  by_cases hp : p
  · rw [if_pos hp, if_pos hp]; rfl
  · rw [if_neg hp, if_neg hp]; rfl

theorem fac_eq (i : grid0.Coords) (s : Fin 8) : fac i s.val = sc ((i 0).val * 8 + s.val) := by
  unfold fac sc
  refine sel_of _ _ ?_ _ _
  have hi : (i 0).val < 6 := (i 0).isLt
  generalize (i 0).val = n at hi
  revert n s
  decide +kernel

theorem rsel : ∀ s : Fin 48, ∀ l : Fin 128, IntOp.cmpi .slt (BitVec.ofNat 32 (s.val * 128 + l.val)) 1536#32 = if s.val < 12 then 1#1 else 0#1 := by
  decide +kernel

/-- Which block each window is on at point `t`. -/
theorem idx : ∀ t : Fin cfg0.N, (win0_0.index t 0 = t.val % 16 ∧ win0_0.index t 1 = 0)
    ∧ (win0_1.index t 0 = 0 ∧ win0_1.index t 1 = 0 ∧ win0_1.index t 2 = t.val / 16)
    ∧ (win0_2.index t 0 = t.val / 16 ∧ win0_2.index t 1 = t.val % 16 ∧ win0_2.index t 2 = 0)
    ∧ (win0_3.index t 0 = t.val / 16 ∧ win0_3.index t 1 = t.val % 16 / 4 ∧ win0_3.index t 2 = 0 ∧ win0_3.index t 3 = t.val % 4 ∧ win0_3.index t 4 = 0) :=
  (by decide +kernel : ∀ t : Fin grid0.N, (win0_0.index t 0 = t.val % 16 ∧ win0_0.index t 1 = 0)
    ∧ (win0_1.index t 0 = 0 ∧ win0_1.index t 1 = 0 ∧ win0_1.index t 2 = t.val / 16)
    ∧ (win0_2.index t 0 = t.val / 16 ∧ win0_2.index t 1 = t.val % 16 ∧ win0_2.index t 2 = 0)
    ∧ (win0_3.index t 0 = t.val / 16 ∧ win0_3.index t 1 = t.val % 16 / 4 ∧ win0_3.index t 2 = 0 ∧ win0_3.index t 3 = t.val % 4 ∧ win0_3.index t 4 = 0))

theorem N96 : cfg0.N = 96 := N_0

end Cert.Kernel3Ideal.Value

namespace Cert.Reference3Ideal.Read

open Cert.Reference3Ideal

/-- The reference's slab `s` at row `r`, lane `l`: row `r` of `h` times column `128 s + l` of the first layer's matrix, scaled. -/
theorem ref_apply (x0 : FVec Ideal S16384x2048 .bf16) (x1 : FVec Ideal S2x2048x24576 .f32) (s : Fin 48) (r : Fin 16384) (l : Fin 128) :
    val_main_v14 (F := Ideal) x0 x1 (ix3 s r l)
      = (∑ k : Fin 2048, (x0 (ix2 r k) : EReal) * (x1 (ix3 0 k ⟨s.val * 128 + l.val, by have := s.isLt; have := l.isLt; omega⟩) : EReal)) * Cert.Kernel3Ideal.Value.sc s.val := by
  have e : val_main_v14 (F := Ideal) x0 x1 (ix3 s r l)
      = (∑ k : Fin 2048, (x0 (ix2 r k) : EReal) * (x1 (ix3 0 k ⟨s.val * 128 + l.val, by have := s.isLt; have := l.isLt; omega⟩) : EReal))
        * Scalar.select (IntOp.cmpi .slt (BitVec.ofNat 32 (s.val * 128 + l.val)) 1536#32) (Scalar.ofBits (F := Ideal) .f32 0x3E0293EE#32) (Scalar.ofBits (F := Ideal) .f32 0x3F800000#32) := by
    have h : val_main_v10 (F := Ideal) = val_main_v9 := rfl
    have h9 (j : Fin 6144) : val_main_v9 (F := Ideal) (ix2 0 j)
        = Scalar.select (IntOp.cmpi .slt (BitVec.ofNat 32 j.val) 1536#32) (Scalar.ofBits (F := Ideal) .f32 0x3E0293EE#32) (Scalar.ofBits (F := Ideal) .f32 0x3F800000#32) := by
      pointwise [val_main_v9, val_main_v8, val_main_v7, val_main_v6, val_main_v5, val_main_c, val_main_cst, val_main_cst_0, val_main_call0_v0, val_main_call0_v1]
    rw [← h9 ⟨s.val * 128 + l.val, by have := s.isLt; have := l.isLt; omega⟩]
    unfold val_main_v14 val_main_v13 val_main_v12 val_main_v11
    rw [h]
    generalize val_main_v9 (F := Ideal) = y
    pointwise [val_main_v4, val_main_v3, val_main_v2, val_main_v1, val_main_v0]
  rw [e]
  unfold Cert.Kernel3Ideal.Value.sc
  exact congrArg _ (Cert.Kernel3Ideal.Value.sel_of _ _ (Cert.Kernel3Ideal.Value.rsel s l) _ _)

theorem ref15 (x0 : FVec Ideal S16384x2048 .bf16) (x1 : FVec Ideal S2x2048x24576 .f32) (s : Fin 48) (r : Fin 16384) (l : Fin 128) :
    val_main_v15 (F := Ideal) x0 x1 (ix3 s r l) = val_main_v14 (F := Ideal) x0 x1 (ix3 s r l) := by
  unfold val_main_v15
  generalize val_main_v14 (F := Ideal) x0 x1 = y
  rfl

/-- The second result: the same slabs, sequence `b`'s rows sorted by remainder mod 4. -/
theorem ref17 (x0 : FVec Ideal S16384x2048 .bf16) (x1 : FVec Ideal S2x2048x24576 .f32) (s : Fin 48) (b ρ : Fin 4) (q : Fin 1024) (l : Fin 128) :
    val_main_v17 (F := Ideal) x0 x1 (ix5 s b ρ q l)
      = val_main_v14 (F := Ideal) x0 x1 (ix3 s ⟨b.val * 4096 + q.val * 4 + ρ.val, by have := b.isLt; have := q.isLt; have := ρ.isLt; omega⟩ l) := by
  unfold val_main_v17 val_main_v16
  generalize val_main_v14 (F := Ideal) x0 x1 = y
  pointwise []

end Cert.Reference3Ideal.Read

namespace Cert.Kernel3Ideal.Value

open Cert.Kernel3Ideal Cert.Kernel3Ideal.Gen

variable (m : (ℓ : Loc nD τ sig) → Buf (Elt Ideal) ℓ) (ρ : Dev nD → PrngReg)

/-- The rows of `h` at point `t`. -/
theorem blk0 (c : Dev nD) (t : Fin cfg0.N) (r : Fin 1024) (k : Fin 2048) :
    iblk m c 0 t (ix2 r k) = m ((c : Thread nD τ).loc main_arg0) (ix2 ⟨t.val % 16 * 1024 + r.val, by have := r.isLt; omega⟩ k) := by
  unfold iblk
  rw [View.read_apply]
  show V m c main_arg0 _ = _
  rw [V_main_arg0]
  congr 1
  funext a
  apply Fin.ext
  match a with
  | ⟨0, _⟩ => show win0_0.index t 0 * 1024 + 1 * r.val = t.val % 16 * 1024 + r.val; rw [(idx t).1.1]; omega
  | ⟨1, _⟩ => show win0_0.index t 1 * 2048 + 1 * k.val = k.val; rw [(idx t).1.2]; omega

/-- The columns of the matrix at point `t`. -/
theorem blk1 (c : Dev nD) (t : Fin cfg0.N) (k : Fin 2048) (l : Fin 1024) :
    iblk m c 1 t (ix3 0 k l) = m ((c : Thread nD τ).loc main_arg1)
      (ix3 0 k ⟨t.val / 16 * 1024 + l.val, by have := l.isLt; have := t.isLt; have := N96; omega⟩) := by
  unfold iblk
  rw [View.read_apply]
  show V m c main_arg1 _ = _
  rw [V_main_arg1]
  congr 1
  funext a
  apply Fin.ext
  match a with
  | ⟨0, _⟩ => show win0_1.index t 0 * 1 + 1 * 0 = 0; rw [(idx t).2.1.1]
  | ⟨1, _⟩ => show win0_1.index t 1 * 2048 + 1 * k.val = k.val; rw [(idx t).2.1.2.1]; omega
  | ⟨2, _⟩ => show win0_1.index t 2 * 1024 + 1 * l.val = t.val / 16 * 1024 + l.val; rw [(idx t).2.1.2.2]; omega

/-- The reference's results at the launched arguments. -/
abbrev result2 (c : Dev nD) : Buf (Elt Ideal) ((c : Thread nD τ).loc main_v0_0) :=
  Cert.Reference3Ideal.Read.val_main_v15 (F := Ideal) (m ((c : Thread nD τ).loc main_arg0)) (m ((c : Thread nD τ).loc main_arg1))
abbrev result3 (c : Dev nD) : Buf (Elt Ideal) ((c : Thread nD τ).loc main_v0_1) :=
  Cert.Reference3Ideal.Read.val_main_v17 (F := Ideal) (m ((c : Thread nD τ).loc main_arg0)) (m ((c : Thread nD τ).loc main_arg1))

attribute [local irreducible] Cert.Reference3Ideal.Read.val_main_v14 Cert.Reference3Ideal.Read.val_main_v15 Cert.Reference3Ideal.Read.val_main_v17 sc fac

/-- A point's slab is the reference's, on the point's rows. -/
theorem G_eq (c : Dev nD) (t : Fin cfg0.N) (s : Fin 8) (r : Fin 1024) (l : Fin 128) :
    G (grid0.coords t) (iblk m c 0 t) (iblk m c 1 t) s r l
      = Cert.Reference3Ideal.Read.val_main_v14 (F := Ideal) (m ((c : Thread nD τ).loc main_arg0)) (m ((c : Thread nD τ).loc main_arg1))
          (ix3 ⟨t.val / 16 * 8 + s.val, by have := s.isLt; have := t.isLt; have := N96; omega⟩ ⟨t.val % 16 * 1024 + r.val, by have := r.isLt; omega⟩ l) := by
  refine Eq.trans ?_ (Cert.Reference3Ideal.Read.ref_apply _ _ _ _ _).symm
  unfold G
  rw [fac_eq, coords0]
  refine congrArg (· * sc (t.val / 16 * 8 + s.val)) ?_
  refine Finset.sum_congr (M := EReal) rfl fun k _ => ?_
  rw [blk0, blk1]
  refine congrArg _ (congrArg _ (congrArg (ix3 0 k) (Fin.ext ?_)))
  show t.val / 16 * 1024 + (s.val * 128 + l.val) = (t.val / 16 * 8 + s.val) * 128 + l.val
  omega

/-- What point `t` writes back of the first result is its block of the reference's. -/
theorem flushed2_eq (c : Dev nD) (t : Fin cfg0.N) (hf : (cfg0.win 2).flush t = true) :
    (dats m 0 c).flushed 2 t = ((cfg0.win 2).blk t).view.read (Elt Ideal) (result2 m c) := by
  rw [flushed2_A]
  funext (y : S8x1024x128.Idx)
  obtain ⟨s, r, l, rfl⟩ : ∃ (s : Fin 8) (r : Fin 1024) (l : Fin 128), y = ix3 s r l := ⟨y 0, y 1, y 2, eq_ix3 y⟩
  rw [View.read_apply]
  have ht : t.val < 96 := lt_of_lt_of_eq t.isLt N96
  have hs := s.isLt
  have hr := r.isLt
  have e : ((cfg0.win 2).blk t).view.emb (ix3 s r l) = ix3 ⟨t.val / 16 * 8 + s.val, by omega⟩ ⟨t.val % 16 * 1024 + r.val, by omega⟩ l := by
    funext a
    apply Fin.ext
    match a with
    | ⟨0, _⟩ => show win0_2.index t 0 * 8 + 1 * s.val = t.val / 16 * 8 + s.val; rw [(idx t).2.2.1.1]; omega
    | ⟨1, _⟩ => show win0_2.index t 1 * 1024 + 1 * r.val = t.val % 16 * 1024 + r.val; rw [(idx t).2.2.1.2.1]; omega
    | ⟨2, _⟩ => show win0_2.index t 2 * 128 + 1 * l.val = l.val; rw [(idx t).2.2.1.2.2]; omega
  show out0_A_2 (F := Ideal) c (grid0.coords t) (ms0_0 t) (hs0_0 t) (ms0_1 t) (hs0_1 t) (ms0_2 t) (hs0_2 t) (ms0_3 t) (hs0_3 t) scM0_0 (Memref.isWhole_whole _) (iblk m c 0 t) (iblk m c 1 t) (ix3 s r l)
    = result2 m c (((cfg0.win 2).blk t).view.emb (ix3 s r l))
  rw [e, out2_apply, G_eq]
  exact (Cert.Reference3Ideal.Read.ref15 _ _ _ _ _).symm

/-- The same of the second result. -/
theorem flushed3_eq (c : Dev nD) (t : Fin cfg0.N) (hf : (cfg0.win 3).flush t = true) :
    (dats m 0 c).flushed 3 t = ((cfg0.win 3).blk t).view.read (Elt Ideal) (result3 m c) := by
  rw [flushed3_A]
  funext (y : S8x1x4x256x128.Idx)
  obtain ⟨s, u, q, l, rfl⟩ : ∃ (s : Fin 8) (u : Fin 4) (q : Fin 256) (l : Fin 128), y = ix5 s 0 u q l :=
    ⟨y 0, y 2, y 3, y 4, (eq_ix5 y).trans (by congr 1; exact Subsingleton.elim (α := Fin 1) _ _)⟩
  rw [View.read_apply]
  have ht : t.val < 96 := lt_of_lt_of_eq t.isLt N96
  have hs := s.isLt
  have hq := q.isLt
  have hu := u.isLt
  have e : ((cfg0.win 3).blk t).view.emb (ix5 s 0 u q l)
      = ix5 ⟨t.val / 16 * 8 + s.val, by omega⟩ ⟨t.val % 16 / 4, by omega⟩ u ⟨t.val % 4 * 256 + q.val, by omega⟩ l := by
    funext a
    apply Fin.ext
    match a with
    | ⟨0, _⟩ => show win0_3.index t 0 * 8 + 1 * s.val = t.val / 16 * 8 + s.val; rw [(idx t).2.2.2.1]; omega
    | ⟨1, _⟩ => show win0_3.index t 1 * 1 + 1 * 0 = t.val % 16 / 4; rw [(idx t).2.2.2.2.1]; omega
    | ⟨2, _⟩ => show win0_3.index t 2 * 4 + 1 * u.val = u.val; rw [(idx t).2.2.2.2.2.1]; omega
    | ⟨3, _⟩ => show win0_3.index t 3 * 256 + 1 * q.val = t.val % 4 * 256 + q.val; rw [(idx t).2.2.2.2.2.2.1]; omega
    | ⟨4, _⟩ => show win0_3.index t 4 * 128 + 1 * l.val = l.val; rw [(idx t).2.2.2.2.2.2.2]; omega
  show out0_A_3 (F := Ideal) c (grid0.coords t) (ms0_0 t) (hs0_0 t) (ms0_1 t) (hs0_1 t) (ms0_2 t) (hs0_2 t) (ms0_3 t) (hs0_3 t) scM0_0 (Memref.isWhole_whole _) (iblk m c 0 t) (iblk m c 1 t) (ix5 s 0 u q l)
    = result3 m c (((cfg0.win 3).blk t).view.emb (ix5 s 0 u q l))
  rw [e, out3_apply, G_eq]
  refine Eq.trans ?_ (Cert.Reference3Ideal.Read.ref17 _ _ _ _ _ _ _).symm
  refine congrArg _ (congrArg (fun z => ix3 _ z l) (Fin.ext ?_))
  show t.val % 16 * 1024 + (4 * q.val + u.val) = t.val % 16 / 4 * 4096 + (t.val % 4 * 256 + q.val) * 4 + u.val
  omega

/-- The slabs the run leaves are the reference's: the points' blocks cover the result. -/
theorem final2 (c : Dev nD) : (dats m 0 c).arrAt 2 cfg0.N = result2 m c :=
  (dats m 0 c).arrAt_eq_of_cover 2 (result2 m c) (flushed2_eq m c) fun (i : S48x16384x128.Idx) => by
    have h0 : (i 0).val < 48 := (i 0).isLt
    have h1 : (i 1).val < 16384 := (i 1).isLt
    have h2 : (i 2).val < 128 := (i 2).isLt
    refine ⟨⟨(i 0).val / 8 * 16 + (i 1).val / 1024, by rw [N96]; omega⟩, flush0_2 _, ?_⟩
    generalize ht : (⟨(i 0).val / 8 * 16 + (i 1).val / 1024, _⟩ : Fin cfg0.N) = t
    have hv : t.val = (i 0).val / 8 * 16 + (i 1).val / 1024 := by rw [← ht]
    show i ∈ ((View.whole main_v0_0).slice (win0_2.rect t)).set
    rw [View.set_slice_whole, Rect.mem_set_unit]
    intro a
    match a with
    | ⟨0, _⟩ => show win0_2.index t 0 * 8 ≤ (i 0).val ∧ (i 0).val < win0_2.index t 0 * 8 + 8; rw [(idx t).2.2.1.1]; omega
    | ⟨1, _⟩ => show win0_2.index t 1 * 1024 ≤ (i 1).val ∧ (i 1).val < win0_2.index t 1 * 1024 + 1024; rw [(idx t).2.2.1.2.1]; omega
    | ⟨2, _⟩ => show win0_2.index t 2 * 128 ≤ (i 2).val ∧ (i 2).val < win0_2.index t 2 * 128 + 128; rw [(idx t).2.2.1.2.2]; omega

/-- The same of the second result. -/
theorem final3 (c : Dev nD) : (dats m 0 c).arrAt 3 cfg0.N = result3 m c :=
  (dats m 0 c).arrAt_eq_of_cover 3 (result3 m c) (flushed3_eq m c) fun (i : S48x4x4x1024x128.Idx) => by
    have h0 : (i 0).val < 48 := (i 0).isLt
    have h1 : (i 1).val < 4 := (i 1).isLt
    have h2 : (i 2).val < 4 := (i 2).isLt
    have h3 : (i 3).val < 1024 := (i 3).isLt
    have h4 : (i 4).val < 128 := (i 4).isLt
    refine ⟨⟨(i 0).val / 8 * 16 + (i 1).val * 4 + (i 3).val / 256, by rw [N96]; omega⟩, flush0_3 _, ?_⟩
    generalize ht : (⟨(i 0).val / 8 * 16 + (i 1).val * 4 + (i 3).val / 256, _⟩ : Fin cfg0.N) = t
    have hv : t.val = (i 0).val / 8 * 16 + (i 1).val * 4 + (i 3).val / 256 := by rw [← ht]
    show i ∈ ((View.whole main_v0_1).slice (win0_3.rect t)).set
    rw [View.set_slice_whole, Rect.mem_set_unit]
    intro a
    match a with
    | ⟨0, _⟩ => show win0_3.index t 0 * 8 ≤ (i 0).val ∧ (i 0).val < win0_3.index t 0 * 8 + 8; rw [(idx t).2.2.2.1]; omega
    | ⟨1, _⟩ => show win0_3.index t 1 * 1 ≤ (i 1).val ∧ (i 1).val < win0_3.index t 1 * 1 + 1; rw [(idx t).2.2.2.2.1]; omega
    | ⟨2, _⟩ => show win0_3.index t 2 * 4 ≤ (i 2).val ∧ (i 2).val < win0_3.index t 2 * 4 + 4; rw [(idx t).2.2.2.2.2.1]; omega
    | ⟨3, _⟩ => show win0_3.index t 3 * 256 ≤ (i 3).val ∧ (i 3).val < win0_3.index t 3 * 256 + 256; rw [(idx t).2.2.2.2.2.2.1]; omega
    | ⟨4, _⟩ => show win0_3.index t 4 * 128 ≤ (i 4).val ∧ (i 4).val < win0_3.index t 4 * 128 + 128; rw [(idx t).2.2.2.2.2.2.2]; omega

/-- The claim: both programs end with the reference's slabs, in both orders. -/
theorem algebraic : Cert.algebraic_Kernel3Ideal_Reference3Ideal := by
  intro m g m' g' _ hag
  refine ⟨fun c => result2 m c, fun c => result3 m c, ?_, ?_⟩
  · exact (θ_run _ _ _).mono (fun r h c => ⟨(h c).1.trans (final2 m c), (h c).2.1.trans (final3 m c), (h c).2.2⟩) (run_blocks m g)
  · exact (θ_run _ _ _).mono (fun r h c => ⟨(h c).1.trans (by
      rw [(hag c).1, (hag c).2]
      exact Cert.Reference3Ideal.Read.val_main_v15_eq _ _), (h c).2.1.trans (by
      rw [(hag c).1, (hag c).2]
      exact Cert.Reference3Ideal.Read.val_main_v17_eq _ _), (h c).2.2⟩) (Cert.Reference3Ideal.Value.run m' g')

end Cert.Kernel3Ideal.Value

end
-- ==== Proof.Sigmoid.lean ====
module

public import proofs.«01_k».proof.Defs
public import Idealize.ShloMosaic.Lib.Pointwise
public import Idealize.ShloMosaic.Lib.Claim

@[expose] public section

noncomputable section

open Idealize.ShloMosaic

namespace Cert.Sigmoid

theorem half_bits : Ideal.ofBits .f32 0x3F000000#32 = ((1 / 2 : ℝ) : EReal) := by
  simp [Ideal.ofBits, Ideal.ieee, -EReal.coe_mul]
  norm_num

theorem one_bits : Ideal.ofBits .f32 0x3F800000#32 = ((1 : ℝ) : EReal) := by
  simp [Ideal.ofBits, Ideal.ieee, -EReal.coe_mul]
  norm_num

/-- Half the hyperbolic tangent of half plus a half is the logistic function written with the exponential, at every extended real. -/
theorem gate_eq (z : EReal) :
    Ideal.ofBits .f32 0x3F000000#32 * Ideal.tanh (Ideal.ofBits .f32 0x3F000000#32 * z) + Ideal.ofBits .f32 0x3F000000#32
      = Ideal.div (Ideal.ofBits .f32 0x3F800000#32) (Ideal.ofBits .f32 0x3F800000#32 + Ideal.exp (-z)) := by
  rw [half_bits, one_bits, show ((1 : ℝ) : EReal) = 1 from EReal.coe_one]
  show _ = Ideal.logistic z
  induction z using EReal.rec with
  | bot =>
    rw [EReal.coe_mul_bot_of_pos (by norm_num), Ideal.tanh_bot, Ideal.logistic_bot,
      show (-1 : EReal) = ((-1 : ℝ) : EReal) by simp, ← EReal.coe_mul, ← EReal.coe_add]
    norm_num
  | top =>
    rw [EReal.coe_mul_top_of_pos (by norm_num), Ideal.tanh_top, Ideal.logistic_top,
      show (1 : EReal) = ((1 : ℝ) : EReal) by simp, ← EReal.coe_mul, ← EReal.coe_add]
    norm_num
  | coe r =>
    rw [← EReal.coe_mul, Ideal.tanh_coe, Ideal.logistic_coe, ← EReal.coe_mul, ← EReal.coe_add]
    refine congrArg _ ?_
    have h1 : Real.exp (-r) = Real.exp (-(1 / 2 * r)) * Real.exp (-(1 / 2 * r)) := by
      rw [← Real.exp_add]; ring_nf
    have h2 : Real.exp (1 / 2 * r) * Real.exp (-(1 / 2 * r)) = 1 := by
      rw [← Real.exp_add, add_neg_cancel, Real.exp_zero]
    rw [Real.tanh_eq_sinh_div_cosh, Real.sinh_eq, Real.cosh_eq, h1]
    generalize Real.exp (1 / 2 * r) = a at *
    have hb : 0 < Real.exp (-(1 / 2 * r)) := Real.exp_pos _
    generalize Real.exp (-(1 / 2 * r)) = b at *
    have ha : a = 1 / b := by field_simp; exact h2
    subst ha
    field_simp
    ring

end Cert.Sigmoid

end
-- ==== Proof.Value4.lean ====
module

public import proofs.«01_k».proof.Defs
public import proofs.«01_k».proof.Proof.Gen.Kernel4Ideal.Value
public import proofs.«01_k».proof.Proof.Gen.Reference4Ideal.Read
public import proofs.«01_k».proof.Proof.Sigmoid
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

/-! # The merge of the three branches, each weighed by its gate -/

namespace Cert.Kernel4Ideal.Value

/-- The gate as the kernel computes it, with a hyperbolic tangent. -/
def gate (z : EReal) : EReal :=
  Ideal.ofBits .f32 0x3F000000#32 * Ideal.tanh (Ideal.ofBits .f32 0x3F000000#32 * z) + Ideal.ofBits .f32 0x3F000000#32

/-- The gate as the reference computes it, with an exponential. -/
def sigm (z : EReal) : EReal :=
  Ideal.div (Ideal.ofBits .f32 0x3F800000#32) (Ideal.ofBits .f32 0x3F800000#32 + Ideal.exp (-z))

end Cert.Kernel4Ideal.Value

namespace Cert.Reference4Ideal.Read

open Cert.Reference4Ideal Cert.Kernel4Ideal.Value

/-- The first branch's product at row `r`, column `l`. -/
theorem proda_apply (x1 : FVec Ideal S16384x1536 .bf16) (x4 : FVec Ideal S2x1536x2048 .f32) (r : Fin 16384) (l : Fin 2048) :
    val_main_v13 (F := Ideal) x1 x4 (ix2 r l) = ∑ k : Fin 1536, (x1 (ix2 r k) : EReal) * (x4 (ix3 0 k l) : EReal) := by
  pointwise [val_main_v13, val_main_v12, val_main_v11, val_main_v10]

/-- The second branch's product at row `r`, column `l`. -/
theorem prodc_apply (x1 : FVec Ideal S16384x1536 .bf16) (x4 : FVec Ideal S2x1536x2048 .f32) (r : Fin 16384) (l : Fin 2048) :
    val_main_v28 (F := Ideal) x1 x4 (ix2 r l) = ∑ k : Fin 1536, (x1 (ix2 r k) : EReal) * (x4 (ix3 0 k l) : EReal) := by
  pointwise [val_main_v28, val_main_v27, val_main_v26, val_main_v25]

/-- The third branch's product at row `r`, column `l`. -/
theorem prodr_apply (x1 : FVec Ideal S16384x1536 .bf16) (x4 : FVec Ideal S2x1536x2048 .f32) (r : Fin 16384) (l : Fin 2048) :
    val_main_v44 (F := Ideal) x1 x4 (ix2 r l) = ∑ k : Fin 1536, (x1 (ix2 r k) : EReal) * (x4 (ix3 0 k l) : EReal) := by
  pointwise [val_main_v44, val_main_v43, val_main_v42, val_main_v41]

attribute [local irreducible] val_main_v13 val_main_v28 val_main_v44

/-- The reference's result at row `r`, column `128 q + l`: three gates times three products. -/
theorem ref_apply (x0 : FVec Ideal S96x16384x128 .bf16) (x1 x2 x3 : FVec Ideal S16384x1536 .bf16)
    (x4 x5 x6 : FVec Ideal S2x1536x2048 .f32) (r : Fin 16384) (q : Fin 16) (l : Fin 128) :
    val_main_v47 (F := Ideal) x0 x1 x2 x3 x4 x5 x6 (ix2 r ⟨q.val * 128 + l.val, by have := q.isLt; have := l.isLt; omega⟩)
      = sigm (x0 (ix3 ⟨48 + q.val, by have := q.isLt; omega⟩ r l)) * val_main_v13 (F := Ideal) x1 x4 (ix2 r ⟨q.val * 128 + l.val, by have := q.isLt; have := l.isLt; omega⟩)
        + sigm (x0 (ix3 ⟨64 + q.val, by have := q.isLt; omega⟩ r l)) * val_main_v28 (F := Ideal) x2 x5 (ix2 r ⟨q.val * 128 + l.val, by have := q.isLt; have := l.isLt; omega⟩)
        + sigm (x0 (ix3 ⟨80 + q.val, by have := q.isLt; omega⟩ r l)) * val_main_v44 (F := Ideal) x3 x6 (ix2 r ⟨q.val * 128 + l.val, by have := q.isLt; have := l.isLt; omega⟩) := by
  unfold sigm
  pointwise [val_main_v47, val_main_v46, val_main_v45, val_main_v40, val_main_v39, val_main_v38, val_main_v37, val_main_v36, val_main_v35, val_main_v34,
    val_main_v33, val_main_v32, val_main_v31, val_main_v30, val_main_v29, val_main_v24, val_main_v23, val_main_v22, val_main_v21, val_main_v20,
    val_main_v19, val_main_v18, val_main_v17, val_main_v16, val_main_v15, val_main_v14, val_main_v9, val_main_v8, val_main_v7, val_main_v6, val_main_v5,
    val_main_v4, val_main_v3, val_main_v2, val_main_v1, val_main_v0, val_main_cst, val_main_cst_0, val_main_cst_1, val_main_cst_2, val_main_cst_3, val_main_cst_4]

end Cert.Reference4Ideal.Read

namespace Cert.Kernel4Ideal.Value

open Cert.Kernel4Ideal Cert.Kernel4Ideal.Gen

theorem prod0_apply (v0 : FVec Ideal S1024x1536 .bf16) (v1 : FVec Ideal S1x1536x512 .f32) (r : Fin 1024) (l : Fin 512) :
    k0_pay2 (F := Ideal) v0 v1 (ix2 r l) = ∑ k : Fin 1536, (v0 (ix2 r k) : EReal) * (v1 (ix3 0 k l) : EReal) := by
  pointwise [k0_pay2]

theorem prod1_apply (v0 : FVec Ideal S1024x1536 .bf16) (v1 : FVec Ideal S1x1536x512 .f32) (r : Fin 1024) (l : Fin 512) :
    k0_pay3 (F := Ideal) v0 v1 (ix2 r l) = ∑ k : Fin 1536, (v0 (ix2 r k) : EReal) * (v1 (ix3 0 k l) : EReal) := by
  pointwise [k0_pay3]

theorem prod2_apply (v0 : FVec Ideal S1024x1536 .bf16) (v1 : FVec Ideal S1x1536x512 .f32) (r : Fin 1024) (l : Fin 512) :
    k0_pay4 (F := Ideal) v0 v1 (ix2 r l) = ∑ k : Fin 1536, (v0 (ix2 r k) : EReal) * (v1 (ix3 0 k l) : EReal) := by
  pointwise [k0_pay4]

attribute [local irreducible] k0_pay2 k0_pay3 k0_pay4

/-- Columns 0 to 127 of a block. -/
theorem piece0 (v0 : FVec Ideal S1024x1536 .bf16) (v1 : FVec Ideal S1x1536x512 .f32) (P Q : FVec Ideal S1024x512 .f32)
    (a b g : FVec Ideal S1x1024x128 .bf16) (r : Fin 1024) (l : Fin 128) :
    k0_pay7 (F := Ideal) P Q (k0_pay5 v0 v1 a) (k0_pay6 b) (Scalar.ofBits .f32 0x3F000000#32) g (ix2 r l)
      = gate (a (ix3 0 r l)) * k0_pay2 (F := Ideal) v0 v1 (ix2 r ⟨0 + l.val, by have := l.isLt; omega⟩)
        + gate (b (ix3 0 r l)) * P (ix2 r ⟨0 + l.val, by have := l.isLt; omega⟩)
        + gate (g (ix3 0 r l)) * Q (ix2 r ⟨0 + l.val, by have := l.isLt; omega⟩) := by
  unfold gate
  pointwise [k0_pay7, k0_pay5, k0_pay6]

/-- Columns 128 to 255 of a block. -/
theorem piece1 (O P Q : FVec Ideal S1024x512 .f32) (a b g : FVec Ideal S1x1024x128 .bf16) (r : Fin 1024) (l : Fin 128) :
    k0_pay10 (F := Ideal) P Q (k0_pay8 O a) (k0_pay9 b) g (ix2 r l)
      = gate (a (ix3 0 r l)) * O (ix2 r ⟨128 + l.val, by have := l.isLt; omega⟩)
        + gate (b (ix3 0 r l)) * P (ix2 r ⟨128 + l.val, by have := l.isLt; omega⟩)
        + gate (g (ix3 0 r l)) * Q (ix2 r ⟨128 + l.val, by have := l.isLt; omega⟩) := by
  unfold gate
  pointwise [k0_pay10, k0_pay8, k0_pay9]

/-- Columns 256 to 383 of a block. -/
theorem piece2 (O P Q : FVec Ideal S1024x512 .f32) (a b g : FVec Ideal S1x1024x128 .bf16) (r : Fin 1024) (l : Fin 128) :
    k0_pay13 (F := Ideal) P Q (k0_pay11 O a) (k0_pay12 b) g (ix2 r l)
      = gate (a (ix3 0 r l)) * O (ix2 r ⟨256 + l.val, by have := l.isLt; omega⟩)
        + gate (b (ix3 0 r l)) * P (ix2 r ⟨256 + l.val, by have := l.isLt; omega⟩)
        + gate (g (ix3 0 r l)) * Q (ix2 r ⟨256 + l.val, by have := l.isLt; omega⟩) := by
  unfold gate
  pointwise [k0_pay13, k0_pay11, k0_pay12]

/-- Columns 384 to 511 of a block. -/
theorem piece3 (O P Q : FVec Ideal S1024x512 .f32) (a b g : FVec Ideal S1x1024x128 .bf16) (r : Fin 1024) (l : Fin 128) :
    k0_pay1 (F := Ideal) P Q (k0_pay14 O a) b g (ix2 r l)
      = gate (a (ix3 0 r l)) * O (ix2 r ⟨384 + l.val, by have := l.isLt; omega⟩)
        + gate (b (ix3 0 r l)) * P (ix2 r ⟨384 + l.val, by have := l.isLt; omega⟩)
        + gate (g (ix3 0 r l)) * Q (ix2 r ⟨384 + l.val, by have := l.isLt; omega⟩) := by
  unfold gate
  pointwise [k0_pay1, k0_pay14]

theorem gate_eq_sigm (z : EReal) : gate z = sigm z := Cert.Sigmoid.gate_eq z

/-- Which block each window is on at point `t`. -/
theorem idx : ∀ t : Fin cfg0.N, (win0_0.index t 0 = t.val % 16 ∧ win0_0.index t 1 = 0) ∧ (win0_1.index t 0 = t.val % 16 ∧ win0_1.index t 1 = 0)
    ∧ (win0_2.index t 0 = t.val % 16 ∧ win0_2.index t 1 = 0)
    ∧ (win0_3.index t 0 = 12 + t.val / 16 ∧ win0_3.index t 1 = t.val % 16 ∧ win0_3.index t 2 = 0)
    ∧ (win0_4.index t 0 = 16 + t.val / 16 ∧ win0_4.index t 1 = t.val % 16 ∧ win0_4.index t 2 = 0)
    ∧ (win0_5.index t 0 = 20 + t.val / 16 ∧ win0_5.index t 1 = t.val % 16 ∧ win0_5.index t 2 = 0)
    ∧ (win0_6.index t 0 = 0 ∧ win0_6.index t 1 = 0 ∧ win0_6.index t 2 = t.val / 16)
    ∧ (win0_7.index t 0 = 0 ∧ win0_7.index t 1 = 0 ∧ win0_7.index t 2 = t.val / 16)
    ∧ (win0_8.index t 0 = 0 ∧ win0_8.index t 1 = 0 ∧ win0_8.index t 2 = t.val / 16)
    ∧ (win0_9.index t 0 = t.val % 16 ∧ win0_9.index t 1 = t.val / 16) :=
  (by decide +kernel : ∀ t : Fin grid0.N, (win0_0.index t 0 = t.val % 16 ∧ win0_0.index t 1 = 0) ∧ (win0_1.index t 0 = t.val % 16 ∧ win0_1.index t 1 = 0)
    ∧ (win0_2.index t 0 = t.val % 16 ∧ win0_2.index t 1 = 0)
    ∧ (win0_3.index t 0 = 12 + t.val / 16 ∧ win0_3.index t 1 = t.val % 16 ∧ win0_3.index t 2 = 0)
    ∧ (win0_4.index t 0 = 16 + t.val / 16 ∧ win0_4.index t 1 = t.val % 16 ∧ win0_4.index t 2 = 0)
    ∧ (win0_5.index t 0 = 20 + t.val / 16 ∧ win0_5.index t 1 = t.val % 16 ∧ win0_5.index t 2 = 0)
    ∧ (win0_6.index t 0 = 0 ∧ win0_6.index t 1 = 0 ∧ win0_6.index t 2 = t.val / 16)
    ∧ (win0_7.index t 0 = 0 ∧ win0_7.index t 1 = 0 ∧ win0_7.index t 2 = t.val / 16)
    ∧ (win0_8.index t 0 = 0 ∧ win0_8.index t 1 = 0 ∧ win0_8.index t 2 = t.val / 16)
    ∧ (win0_9.index t 0 = t.val % 16 ∧ win0_9.index t 1 = t.val / 16))

theorem N64 : cfg0.N = 64 := N_0

variable (m : (ℓ : Loc nD τ sig) → Buf (Elt Ideal) ℓ) (ρ : Dev nD → PrngReg)

/-- A branch's rows at point `t`. -/
theorem blk0 (c : Dev nD) (t : Fin cfg0.N) (r : Fin 1024) (k : Fin 1536) :
    iblk m c 0 t (ix2 r k) = m ((c : Thread nD τ).loc main_arg1) (ix2 ⟨t.val % 16 * 1024 + r.val, by have := r.isLt; omega⟩ k) := by
  unfold iblk
  rw [View.read_apply]
  show V m c main_arg1 _ = _
  rw [V_main_arg1]
  congr 1
  funext a
  apply Fin.ext
  match a with
  | ⟨0, _⟩ => show win0_0.index t 0 * 1024 + 1 * r.val = t.val % 16 * 1024 + r.val; rw [(idx t).1.1]; omega
  | ⟨1, _⟩ => show win0_0.index t 1 * 1536 + 1 * k.val = k.val; rw [(idx t).1.2]; omega

/-- A branch's rows at point `t`. -/
theorem blk1 (c : Dev nD) (t : Fin cfg0.N) (r : Fin 1024) (k : Fin 1536) :
    iblk m c 1 t (ix2 r k) = m ((c : Thread nD τ).loc main_arg2) (ix2 ⟨t.val % 16 * 1024 + r.val, by have := r.isLt; omega⟩ k) := by
  unfold iblk
  rw [View.read_apply]
  show V m c main_arg2 _ = _
  rw [V_main_arg2]
  congr 1
  funext a
  apply Fin.ext
  match a with
  | ⟨0, _⟩ => show win0_1.index t 0 * 1024 + 1 * r.val = t.val % 16 * 1024 + r.val; rw [(idx t).2.1.1]; omega
  | ⟨1, _⟩ => show win0_1.index t 1 * 1536 + 1 * k.val = k.val; rw [(idx t).2.1.2]; omega

/-- A branch's rows at point `t`. -/
theorem blk2 (c : Dev nD) (t : Fin cfg0.N) (r : Fin 1024) (k : Fin 1536) :
    iblk m c 2 t (ix2 r k) = m ((c : Thread nD τ).loc main_arg3) (ix2 ⟨t.val % 16 * 1024 + r.val, by have := r.isLt; omega⟩ k) := by
  unfold iblk
  rw [View.read_apply]
  show V m c main_arg3 _ = _
  rw [V_main_arg3]
  congr 1
  funext a
  apply Fin.ext
  match a with
  | ⟨0, _⟩ => show win0_2.index t 0 * 1024 + 1 * r.val = t.val % 16 * 1024 + r.val; rw [(idx t).2.2.1.1]; omega
  | ⟨1, _⟩ => show win0_2.index t 1 * 1536 + 1 * k.val = k.val; rw [(idx t).2.2.1.2]; omega

/-- A branch's gates at point `t`. -/
theorem blk3 (c : Dev nD) (t : Fin cfg0.N) (s : Fin 4) (r : Fin 1024) (l : Fin 128) :
    iblk m c 3 t (ix3 s r l) = m ((c : Thread nD τ).loc main_arg0)
      (ix3 ⟨48 + (t.val / 16 * 4 + s.val), by have := s.isLt; have := t.isLt; have := N64; omega⟩ ⟨t.val % 16 * 1024 + r.val, by have := r.isLt; omega⟩ l) := by
  unfold iblk
  rw [View.read_apply]
  show V m c main_arg0 _ = _
  rw [V_main_arg0]
  congr 1
  funext a
  apply Fin.ext
  match a with
  | ⟨0, _⟩ => show win0_3.index t 0 * 4 + 1 * s.val = 48 + (t.val / 16 * 4 + s.val); rw [(idx t).2.2.2.1.1]; omega
  | ⟨1, _⟩ => show win0_3.index t 1 * 1024 + 1 * r.val = t.val % 16 * 1024 + r.val; rw [(idx t).2.2.2.1.2.1]; omega
  | ⟨2, _⟩ => show win0_3.index t 2 * 128 + 1 * l.val = l.val; rw [(idx t).2.2.2.1.2.2]; omega

/-- A branch's gates at point `t`. -/
theorem blk4 (c : Dev nD) (t : Fin cfg0.N) (s : Fin 4) (r : Fin 1024) (l : Fin 128) :
    iblk m c 4 t (ix3 s r l) = m ((c : Thread nD τ).loc main_arg0)
      (ix3 ⟨64 + (t.val / 16 * 4 + s.val), by have := s.isLt; have := t.isLt; have := N64; omega⟩ ⟨t.val % 16 * 1024 + r.val, by have := r.isLt; omega⟩ l) := by
  unfold iblk
  rw [View.read_apply]
  show V m c main_arg0 _ = _
  rw [V_main_arg0]
  congr 1
  funext a
  apply Fin.ext
  match a with
  | ⟨0, _⟩ => show win0_4.index t 0 * 4 + 1 * s.val = 64 + (t.val / 16 * 4 + s.val); rw [(idx t).2.2.2.2.1.1]; omega
  | ⟨1, _⟩ => show win0_4.index t 1 * 1024 + 1 * r.val = t.val % 16 * 1024 + r.val; rw [(idx t).2.2.2.2.1.2.1]; omega
  | ⟨2, _⟩ => show win0_4.index t 2 * 128 + 1 * l.val = l.val; rw [(idx t).2.2.2.2.1.2.2]; omega

/-- A branch's gates at point `t`. -/
theorem blk5 (c : Dev nD) (t : Fin cfg0.N) (s : Fin 4) (r : Fin 1024) (l : Fin 128) :
    iblk m c 5 t (ix3 s r l) = m ((c : Thread nD τ).loc main_arg0)
      (ix3 ⟨80 + (t.val / 16 * 4 + s.val), by have := s.isLt; have := t.isLt; have := N64; omega⟩ ⟨t.val % 16 * 1024 + r.val, by have := r.isLt; omega⟩ l) := by
  unfold iblk
  rw [View.read_apply]
  show V m c main_arg0 _ = _
  rw [V_main_arg0]
  congr 1
  funext a
  apply Fin.ext
  match a with
  | ⟨0, _⟩ => show win0_5.index t 0 * 4 + 1 * s.val = 80 + (t.val / 16 * 4 + s.val); rw [(idx t).2.2.2.2.2.1.1]; omega
  | ⟨1, _⟩ => show win0_5.index t 1 * 1024 + 1 * r.val = t.val % 16 * 1024 + r.val; rw [(idx t).2.2.2.2.2.1.2.1]; omega
  | ⟨2, _⟩ => show win0_5.index t 2 * 128 + 1 * l.val = l.val; rw [(idx t).2.2.2.2.2.1.2.2]; omega

/-- A branch's matrix at point `t`. -/
theorem blk6 (c : Dev nD) (t : Fin cfg0.N) (k : Fin 1536) (l : Fin 512) :
    iblk m c 6 t (ix3 0 k l) = m ((c : Thread nD τ).loc main_arg4)
      (ix3 0 k ⟨t.val / 16 * 512 + l.val, by have := l.isLt; have := t.isLt; have := N64; omega⟩) := by
  unfold iblk
  rw [View.read_apply]
  show V m c main_arg4 _ = _
  rw [V_main_arg4]
  congr 1
  funext a
  apply Fin.ext
  match a with
  | ⟨0, _⟩ => show win0_6.index t 0 * 1 + 1 * 0 = 0; rw [(idx t).2.2.2.2.2.2.1.1]
  | ⟨1, _⟩ => show win0_6.index t 1 * 1536 + 1 * k.val = k.val; rw [(idx t).2.2.2.2.2.2.1.2.1]; omega
  | ⟨2, _⟩ => show win0_6.index t 2 * 512 + 1 * l.val = t.val / 16 * 512 + l.val; rw [(idx t).2.2.2.2.2.2.1.2.2]; omega

/-- A branch's matrix at point `t`. -/
theorem blk7 (c : Dev nD) (t : Fin cfg0.N) (k : Fin 1536) (l : Fin 512) :
    iblk m c 7 t (ix3 0 k l) = m ((c : Thread nD τ).loc main_arg5)
      (ix3 0 k ⟨t.val / 16 * 512 + l.val, by have := l.isLt; have := t.isLt; have := N64; omega⟩) := by
  unfold iblk
  rw [View.read_apply]
  show V m c main_arg5 _ = _
  rw [V_main_arg5]
  congr 1
  funext a
  apply Fin.ext
  match a with
  | ⟨0, _⟩ => show win0_7.index t 0 * 1 + 1 * 0 = 0; rw [(idx t).2.2.2.2.2.2.2.1.1]
  | ⟨1, _⟩ => show win0_7.index t 1 * 1536 + 1 * k.val = k.val; rw [(idx t).2.2.2.2.2.2.2.1.2.1]; omega
  | ⟨2, _⟩ => show win0_7.index t 2 * 512 + 1 * l.val = t.val / 16 * 512 + l.val; rw [(idx t).2.2.2.2.2.2.2.1.2.2]; omega

/-- A branch's matrix at point `t`. -/
theorem blk8 (c : Dev nD) (t : Fin cfg0.N) (k : Fin 1536) (l : Fin 512) :
    iblk m c 8 t (ix3 0 k l) = m ((c : Thread nD τ).loc main_arg6)
      (ix3 0 k ⟨t.val / 16 * 512 + l.val, by have := l.isLt; have := t.isLt; have := N64; omega⟩) := by
  unfold iblk
  rw [View.read_apply]
  show V m c main_arg6 _ = _
  rw [V_main_arg6]
  congr 1
  funext a
  apply Fin.ext
  match a with
  | ⟨0, _⟩ => show win0_8.index t 0 * 1 + 1 * 0 = 0; rw [(idx t).2.2.2.2.2.2.2.2.1.1]
  | ⟨1, _⟩ => show win0_8.index t 1 * 1536 + 1 * k.val = k.val; rw [(idx t).2.2.2.2.2.2.2.2.1.2.1]; omega
  | ⟨2, _⟩ => show win0_8.index t 2 * 512 + 1 * l.val = t.val / 16 * 512 + l.val; rw [(idx t).2.2.2.2.2.2.2.2.1.2.2]; omega

theorem hz2 : (![0, 0] : Fin 2 → Nat) = fun _ => 0 := funext fun a => by fin_cases a <;> rfl
theorem hz3 : (![0, 0, 0] : Fin 3 → Nat) = fun _ => 0 := funext fun a => by fin_cases a <;> rfl

/-- The block a point computes, at its row and column: three gates times three products. -/
def merged (O P Q : FVec Ideal S1024x512 .f32) (a b g : FVec Ideal S4x1024x128 .bf16) (y : S1024x512.Idx) : EReal :=
  gate (a (ix3 ⟨(y 1).val / 128, by have : (y 1).val < 512 := (y 1).isLt; omega⟩ (y 0) ⟨(y 1).val % 128, by omega⟩)) * O y
    + gate (b (ix3 ⟨(y 1).val / 128, by have : (y 1).val < 512 := (y 1).isLt; omega⟩ (y 0) ⟨(y 1).val % 128, by omega⟩)) * P y
    + gate (g (ix3 ⟨(y 1).val / 128, by have : (y 1).val < 512 := (y 1).isLt; omega⟩ (y 0) ⟨(y 1).val % 128, by omega⟩)) * Q y

/-- The block's value at column `128 q + l`. -/
theorem merged_at (O P Q : FVec Ideal S1024x512 .f32) (a b g : FVec Ideal S4x1024x128 .bf16) (r : Fin 1024) (q : Fin 4) (l : Fin 128) (j : Fin 512)
    (hj : j.val = q.val * 128 + l.val) :
    merged O P Q a b g (ix2 r j) = gate (a (ix3 q r l)) * O (ix2 r j) + gate (b (ix3 q r l)) * P (ix2 r j) + gate (g (ix3 q r l)) * Q (ix2 r j) := by
  have hl := l.isLt
  have e : (ix3 ⟨j.val / 128, by have := j.isLt; omega⟩ r ⟨j.val % 128, by omega⟩ : S4x1024x128.Idx) = ix3 q r l := by
    funext k
    apply Fin.ext
    match k with
    | ⟨0, _⟩ => show j.val / 128 = q.val; omega
    | ⟨1, _⟩ => rfl
    | ⟨2, _⟩ => show j.val % 128 = l.val; omega
  rw [← e]
  rfl

/-- A block's four pieces are the columns of one block. -/
theorem out_apply (x0 x1 x2 : FVec Ideal S1024x1536 .bf16) (x3 x4 x5 : FVec Ideal S4x1024x128 .bf16) (x6 x7 x8 : FVec Ideal S1x1536x512 .f32)
    (y : S1024x512.Idx) :
    out0_9 (F := Ideal) x0 x1 x2 x3 x4 x5 x6 x7 x8 y = merged (k0_pay2 x0 x6) (k0_pay3 x1 x7) (k0_pay4 x2 x8) x3 x4 x5 y := by
  unfold_out out0_9
  rw [View.ld_unit_zero hz2, View.ld_unit_zero hz3, View.ld_unit_zero hz2, View.ld_unit_zero hz3, View.ld_unit_zero hz2, View.ld_unit_zero hz3]
  refine View.canon_apply_of_pieces (Val := Elt Ideal) (e := .bf16) (merged (k0_pay2 x0 x6) (k0_pay3 x1 x7) (k0_pay4 x2 x8) x3 x4 x5) _ ?_ y (cover0_9 _ _ _ _ y)
  have hld : ∀ (x : FVec Ideal S4x1024x128 .bf16) (n : Nat) (hn : n < 4) (h : ∀ a, _) (r : Fin 1024) (l : Fin 128),
      (View.ld (Val := Elt Ideal) (e' := .bf16) x (Rect.unit (s := S4x1024x128) ![n, 0, 0] S1x1024x128.size h) (ix3 0 r l) : EReal) = x (ix3 ⟨n, hn⟩ r l) := by
    intro x n hn h r l
    refine congrArg x (funext fun k => Fin.ext ?_)
    match k with
    | ⟨0, _⟩ => show n + 1 * 0 = n; omega
    | ⟨1, _⟩ => show 0 + 1 * r.val = r.val; omega
    | ⟨2, _⟩ => show 0 + 1 * l.val = l.val; omega
  have he : ∀ (o : Nat) (h : ∀ a, _) (ho : o + 128 ≤ 512) (r : Fin 1024) (l : Fin 128),
      (Rect.unit (s := S1024x512) ![0, o] S1024x128.size h).emb (ix2 r l) = ix2 r ⟨o + l.val, by have := l.isLt; omega⟩ := by
    intro o h ho r l
    funext k
    apply Fin.ext
    match k with
    | ⟨0, _⟩ => show 0 + 1 * r.val = r.val; omega
    | ⟨1, _⟩ => show o + 1 * l.val = o + l.val; omega
  intro p hp
  simp only [List.mem_cons, List.not_mem_nil, or_false] at hp
  rcases hp with rfl | rfl | rfl | rfl <;> intro (x : S1024x128.Idx) <;>
    obtain ⟨r, l, rfl⟩ : ∃ (r : Fin 1024) (l : Fin 128), x = ix2 r l := ⟨x 0, x 1, eq_ix2 x⟩
  · refine (piece3 _ _ _ _ _ _ r l).trans ?_
    rw [hld x3 3 (by omega), hld x4 3 (by omega), hld x5 3 (by omega)]
    refine ((congrArg _ (he 384 inb_S1024x512_S1024x128_0_384 (by omega) r l)).trans (merged_at _ _ _ _ _ _ r 3 l _ (by show 384 + l.val = 3 * 128 + l.val; omega))).symm
  · refine (piece2 _ _ _ _ _ _ r l).trans ?_
    rw [hld x3 2 (by omega), hld x4 2 (by omega), hld x5 2 (by omega)]
    refine ((congrArg _ (he 256 inb_S1024x512_S1024x128_0_256 (by omega) r l)).trans (merged_at _ _ _ _ _ _ r 2 l _ (by show 256 + l.val = 2 * 128 + l.val; omega))).symm
  · refine (piece1 _ _ _ _ _ _ r l).trans ?_
    rw [hld x3 1 (by omega), hld x4 1 (by omega), hld x5 1 (by omega)]
    refine ((congrArg _ (he 128 inb_S1024x512_S1024x128_0_128 (by omega) r l)).trans (merged_at _ _ _ _ _ _ r 1 l _ (by show 128 + l.val = 1 * 128 + l.val; omega))).symm
  · refine (piece0 _ _ _ _ _ _ _ r l).trans ?_
    rw [hld x3 0 (by omega), hld x4 0 (by omega), hld x5 0 (by omega)]
    refine ((congrArg _ (he 0 inb_S1024x512_S1024x128_0_0 (by omega) r l)).trans (merged_at _ _ _ _ _ _ r 0 l _ (by show 0 + l.val = 0 * 128 + l.val; omega))).symm

/-- The reference's result at the launched arguments. -/
abbrev result (c : Dev nD) : Buf (Elt Ideal) ((c : Thread nD τ).loc main_v0) :=
  Cert.Reference4Ideal.Read.val_main_v47 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6))

attribute [local irreducible] out0_9 Cert.Reference4Ideal.Read.val_main_v47 Cert.Reference4Ideal.Read.val_main_v13
  Cert.Reference4Ideal.Read.val_main_v28 Cert.Reference4Ideal.Read.val_main_v44

/-- What point `t` writes back is its block of the reference's result. -/
theorem flushed_eq (c : Dev nD) (t : Fin cfg0.N) (hf : (cfg0.win 9).flush t = true) :
    (dats m 0 c).flushed 9 t = ((cfg0.win 9).blk t).view.read (Elt Ideal) (result m c) := by
  rw [flushed9]
  funext (y : S1024x512.Idx)
  refine (out_apply _ _ _ _ _ _ _ _ _ y).trans ?_
  have ht : t.val < 64 := lt_of_lt_of_eq t.isLt N64
  obtain ⟨r, j, rfl⟩ : ∃ (r : Fin 1024) (j : Fin 512), y = ix2 r j := ⟨y 0, y 1, eq_ix2 y⟩
  obtain ⟨q, l, hj⟩ : ∃ (q : Fin 4) (l : Fin 128), j.val = q.val * 128 + l.val :=
    ⟨⟨j.val / 128, by have := j.isLt; omega⟩, ⟨j.val % 128, by omega⟩, by show j.val = j.val / 128 * 128 + j.val % 128; omega⟩
  have hq := q.isLt
  have hr := r.isLt
  have hl := l.isLt
  rw [merged_at _ _ _ _ _ _ r q l j hj, View.read_apply]
  have e : ((cfg0.win 9).blk t).view.emb (ix2 r j)
      = ix2 ⟨t.val % 16 * 1024 + r.val, by omega⟩ ⟨(⟨t.val / 16 * 4 + q.val, by omega⟩ : Fin 16).val * 128 + l.val, by
        show (t.val / 16 * 4 + q.val) * 128 + l.val < 2048; omega⟩ := by
    funext a
    apply Fin.ext
    match a with
    | ⟨0, _⟩ => show win0_9.index t 0 * 1024 + 1 * r.val = t.val % 16 * 1024 + r.val; rw [(idx t).2.2.2.2.2.2.2.2.2.1]; omega
    | ⟨1, _⟩ =>
      show win0_9.index t 1 * 512 + 1 * j.val = (t.val / 16 * 4 + q.val) * 128 + l.val
      rw [(idx t).2.2.2.2.2.2.2.2.2.2]; omega
  show _ = result m c (((cfg0.win 9).blk t).view.emb (ix2 r j))
  rw [e]
  refine Eq.trans ?_ (Cert.Reference4Ideal.Read.ref_apply _ _ _ _ _ _ _ _ _ _).symm
  have hc : ∀ h : t.val / 16 * 512 + j.val < 2048,
      (⟨t.val / 16 * 512 + j.val, h⟩ : Fin 2048) = ⟨(⟨t.val / 16 * 4 + q.val, by omega⟩ : Fin 16).val * 128 + l.val, by
        show (t.val / 16 * 4 + q.val) * 128 + l.val < 2048; omega⟩ := fun _ => Fin.ext (by
          show t.val / 16 * 512 + j.val = (t.val / 16 * 4 + q.val) * 128 + l.val; omega)
  rw [blk3, blk4, blk5, gate_eq_sigm, gate_eq_sigm, gate_eq_sigm]
  refine congrArg₂ (· + ·) (congrArg₂ (· + ·) (congrArg _ ?_) (congrArg _ ?_)) (congrArg _ ?_)
  · refine (prod0_apply _ _ _ _).trans (Eq.trans ?_ (Cert.Reference4Ideal.Read.proda_apply _ _ _ _).symm)
    refine Finset.sum_congr (M := EReal) rfl fun k _ => ?_
    rw [blk0, blk6, hc]
  · refine (prod1_apply _ _ _ _).trans (Eq.trans ?_ (Cert.Reference4Ideal.Read.prodc_apply _ _ _ _).symm)
    refine Finset.sum_congr (M := EReal) rfl fun k _ => ?_
    rw [blk1, blk7, hc]
  · refine (prod2_apply _ _ _ _).trans (Eq.trans ?_ (Cert.Reference4Ideal.Read.prodr_apply _ _ _ _).symm)
    refine Finset.sum_congr (M := EReal) rfl fun k _ => ?_
    rw [blk2, blk8, hc]

/-- The array the run leaves is the reference's result: the points' blocks cover it. -/
theorem final (c : Dev nD) : (dats m 0 c).arrAt 9 cfg0.N = result m c :=
  (dats m 0 c).arrAt_eq_of_cover 9 (result m c) (flushed_eq m c) fun (i : S16384x2048.Idx) => by
    have h0 : (i 0).val < 16384 := (i 0).isLt
    have h1 : (i 1).val < 2048 := (i 1).isLt
    refine ⟨⟨(i 1).val / 512 * 16 + (i 0).val / 1024, by rw [N64]; omega⟩, flush0_9 _, ?_⟩
    generalize ht : (⟨(i 1).val / 512 * 16 + (i 0).val / 1024, _⟩ : Fin cfg0.N) = t
    have hv : t.val = (i 1).val / 512 * 16 + (i 0).val / 1024 := by rw [← ht]
    show i ∈ ((View.whole main_v0).slice (win0_9.rect t)).set
    rw [View.set_slice_whole, Rect.mem_set_unit]
    intro a
    match a with
    | ⟨0, _⟩ => show win0_9.index t 0 * 1024 ≤ (i 0).val ∧ (i 0).val < win0_9.index t 0 * 1024 + 1024; rw [(idx t).2.2.2.2.2.2.2.2.2.1]; omega
    | ⟨1, _⟩ => show win0_9.index t 1 * 512 ≤ (i 1).val ∧ (i 1).val < win0_9.index t 1 * 512 + 512; rw [(idx t).2.2.2.2.2.2.2.2.2.2]; omega

/-- The claim: both programs end with the reference's result. -/
theorem algebraic : Cert.algebraic_Kernel4Ideal_Reference4Ideal := by
  intro m g m' g' _ hag
  refine ⟨fun c => result m c, ?_, ?_⟩
  · exact (θ_run _ _ _).mono (fun r h c => ⟨(h c).1.trans (final m c), (h c).2⟩) (run_blocks m g)
  · exact (θ_run _ _ _).mono (fun r h c => ⟨(h c).1.trans (by
      rw [(hag c).1, (hag c).2.1, (hag c).2.2.1, (hag c).2.2.2.1, (hag c).2.2.2.2.1, (hag c).2.2.2.2.2.1, (hag c).2.2.2.2.2.2]
      exact Cert.Reference4Ideal.Read.val_main_v47_eq _ _ _ _ _ _ _), (h c).2⟩) (Cert.Reference4Ideal.Value.run m' g')

end Cert.Kernel4Ideal.Value

end
-- ==== Proof.Value5.lean ====
module

public import proofs.«01_k».proof.Defs
public import proofs.«01_k».proof.Proof.Gen.Kernel5Ideal.Value
public import proofs.«01_k».proof.Proof.Gen.Reference5Ideal.Read
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

/-! # The output projection with its norm and residual: 32 blocks of 512 rows -/

namespace Cert.Kernel5Ideal.Value

/-- A row divided by its root mean square, at lane `l`. -/
def normed (y : Fin 2048 → EReal) (l : Fin 2048) : EReal :=
  y l * Ideal.rsqrt (Ideal.div (∑ k : Fin 2048, y k * y k) (Ideal.ofBits .f32 0x45000000#32) + Ideal.ofBits .f32 0x358637BD#32)

end Cert.Kernel5Ideal.Value

namespace Cert.Reference5Ideal.Read

open Cert.Reference5Ideal Cert.Kernel5Ideal.Value

/-- The reference's product at a row and a column. -/
theorem prod_apply (x0 : FVec Ideal S16384x2048 .bf16) (x1 : FVec Ideal S2x2048x2048 .f32) (r : Fin 16384) (l : Fin 2048) :
    val_main_v3 (F := Ideal) x0 x1 (ix2 r l) = ∑ k : Fin 2048, (x0 (ix2 r k) : EReal) * (x1 (ix3 1 k l) : EReal) := by
  pointwise [val_main_v3, val_main_v2, val_main_v1, val_main_v0]

attribute [local irreducible] val_main_v3

/-- The reference's result at row `r`, lane `l`. -/
theorem ref_apply (x0 : FVec Ideal S16384x2048 .bf16) (x1 : FVec Ideal S2x2048x2048 .f32) (x2 : FVec Ideal S4x4096x2048 .f32)
    (x3 : FVec Ideal S2048 .f32) (r : Fin 16384) (l : Fin 2048) :
    val_main_v19 (F := Ideal) x0 x1 x2 x3 (ix2 r l)
      = (x2 (ix3 ⟨r.val / 4096, by have := r.isLt; omega⟩ ⟨r.val % 4096, by omega⟩ l) : EReal)
        + normed (fun k => val_main_v3 (F := Ideal) x0 x1 (ix2 r k)) l * (x3 (ix1 l) : EReal) := by
  unfold normed
  pointwise [val_main_v19, val_main_v18, val_main_v17, val_main_v16, val_main_v15, val_main_v14, val_main_v13, val_main_v12, val_main_v11, val_main_v10,
    val_main_v9, val_main_v8, val_main_v7, val_main_v6, val_main_v5, val_main_v4, val_main_cst, val_main_cst_0, val_main_cst_1]

end Cert.Reference5Ideal.Read

namespace Cert.Kernel5Ideal.Value

open Cert.Kernel5Ideal Cert.Kernel5Ideal.Gen

/-- A block's result at a row and a lane. -/
theorem pay_apply (v0 : FVec Ideal S512x2048 .bf16) (v1 : FVec Ideal S1x2048x2048 .f32) (v10 : FVec Ideal S512x2048 .f32)
    (v17 : FVec Ideal S1x2048 .f32) (r : Fin 512) (l : Fin 2048) :
    k0_pay1 (F := Ideal) v0 v1 v10 v17 (ix2 r l)
      = (v10 (ix2 r l) : EReal)
        + normed (fun j => ∑ k : Fin 2048, (v0 (ix2 r k) : EReal) * (v1 (ix3 0 k j) : EReal)) l * (v17 (ix2 0 l) : EReal) := by
  unfold normed
  pointwise [k0_pay1]

/-- Which block each window is on at point `t`. -/
theorem idx : ∀ t : Fin cfg0.N, (win0_0.index t 0 = t.val ∧ win0_0.index t 1 = 0)
    ∧ (win0_1.index t 0 = 1 ∧ win0_1.index t 1 = 0 ∧ win0_1.index t 2 = 0)
    ∧ (win0_2.index t 0 = t.val ∧ win0_2.index t 1 = 0) ∧ (win0_3.index t 0 = 0 ∧ win0_3.index t 1 = 0)
    ∧ (win0_4.index t 0 = t.val ∧ win0_4.index t 1 = 0) :=
  (by decide +kernel : ∀ t : Fin grid0.N, (win0_0.index t 0 = t.val ∧ win0_0.index t 1 = 0)
    ∧ (win0_1.index t 0 = 1 ∧ win0_1.index t 1 = 0 ∧ win0_1.index t 2 = 0)
    ∧ (win0_2.index t 0 = t.val ∧ win0_2.index t 1 = 0) ∧ (win0_3.index t 0 = 0 ∧ win0_3.index t 1 = 0)
    ∧ (win0_4.index t 0 = t.val ∧ win0_4.index t 1 = 0))

theorem N32 : cfg0.N = 32 := N_0

variable (m : (ℓ : Loc nD τ sig) → Buf (Elt Ideal) ℓ) (ρ : Dev nD → PrngReg)

/-- The rows of the merged branches at point `t`. -/
theorem blk0 (c : Dev nD) (t : Fin cfg0.N) (r : Fin 512) (k : Fin 2048) :
    iblk m c 0 t (ix2 r k) = m ((c : Thread nD τ).loc main_arg0)
      (ix2 ⟨t.val * 512 + r.val, by have := r.isLt; have := t.isLt; have := N32; omega⟩ k) := by
  unfold iblk
  rw [View.read_apply]
  show V m c main_arg0 _ = _
  rw [V_main_arg0]
  congr 1
  funext a
  apply Fin.ext
  match a with
  | ⟨0, _⟩ => show win0_0.index t 0 * 512 + 1 * r.val = t.val * 512 + r.val; rw [(idx t).1.1]; omega
  | ⟨1, _⟩ => show win0_0.index t 1 * 2048 + 1 * k.val = k.val; rw [(idx t).1.2]; omega

/-- The second layer's matrix, the same at every point. -/
theorem blk1 (c : Dev nD) (t : Fin cfg0.N) (k l : Fin 2048) :
    iblk m c 1 t (ix3 0 k l) = m ((c : Thread nD τ).loc main_arg1) (ix3 1 k l) := by
  unfold iblk
  rw [View.read_apply]
  show V m c main_arg1 _ = _
  rw [V_main_arg1]
  congr 1
  funext a
  apply Fin.ext
  match a with
  | ⟨0, _⟩ => show win0_1.index t 0 * 1 + 1 * 0 = 1; rw [(idx t).2.1.1]
  | ⟨1, _⟩ => show win0_1.index t 1 * 2048 + 1 * k.val = k.val; rw [(idx t).2.1.2.1]; omega
  | ⟨2, _⟩ => show win0_1.index t 2 * 2048 + 1 * l.val = l.val; rw [(idx t).2.1.2.2]; omega

/-- The residual's rows at point `t`. -/
theorem blk2 (c : Dev nD) (t : Fin cfg0.N) (r : Fin 512) (l : Fin 2048) :
    iblk m c 2 t (ix2 r l) = m ((c : Thread nD τ).loc main_arg2)
      (ix3 ⟨(t.val * 512 + r.val) / 4096, by have := r.isLt; have := t.isLt; have := N32; omega⟩ ⟨(t.val * 512 + r.val) % 4096, by omega⟩ l) := by
  unfold iblk
  rw [View.read_apply]
  show V m c main_v0 _ = _
  entry_read
  have hr := r.isLt
  have hl := l.isLt
  refine shapeCast_apply (m ((c : Thread nD τ).loc main_arg2)) _ _ _ ?_
  refine (Shape.rowMajor_val_three _).trans (Eq.trans ?_ (Shape.rowMajor_val_two _).symm)
  show ((t.val * 512 + r.val) / 4096 * 4096 + (t.val * 512 + r.val) % 4096) * 2048 + l.val
    = (win0_2.index t 0 * 512 + 1 * r.val) * 2048 + (win0_2.index t 1 * 2048 + 1 * l.val)
  rw [(idx t).2.2.1.1, (idx t).2.2.1.2]
  omega

/-- The norm's gains, the same at every point. -/
theorem blk3 (c : Dev nD) (t : Fin cfg0.N) (l : Fin 2048) :
    iblk m c 3 t (ix2 0 l) = m ((c : Thread nD τ).loc main_arg3) (ix1 l) := by
  unfold iblk
  rw [View.read_apply]
  show V m c main_v1 _ = _
  entry_read
  refine shapeCast_apply (m ((c : Thread nD τ).loc main_arg3)) _ _ _ ?_
  refine (Shape.rowMajor_val_one _).trans (Eq.trans ?_ (Shape.rowMajor_val_two _).symm)
  show l.val = (win0_3.index t 0 * 1 + 1 * 0) * 2048 + (win0_3.index t 1 * 2048 + 1 * l.val)
  rw [(idx t).2.2.2.1.1, (idx t).2.2.2.1.2]
  omega

/-- The reference's result at the launched arguments. -/
abbrev result (c : Dev nD) : Buf (Elt Ideal) ((c : Thread nD τ).loc main_v2) :=
  Cert.Reference5Ideal.Read.val_main_v19 (F := Ideal) (m ((c : Thread nD τ).loc main_arg0)) (m ((c : Thread nD τ).loc main_arg1))
    (m ((c : Thread nD τ).loc main_arg2)) (m ((c : Thread nD τ).loc main_arg3))

theorem hz2 : (![0, 0] : Fin 2 → Nat) = fun _ => 0 := funext fun a => by fin_cases a <;> rfl
theorem hz3 : (![0, 0, 0] : Fin 3 → Nat) = fun _ => 0 := funext fun a => by fin_cases a <;> rfl

attribute [local irreducible] k0_pay1 Cert.Reference5Ideal.Read.val_main_v19

/-- What point `t` writes back is its block of the reference's result. -/
theorem flushed_eq (c : Dev nD) (t : Fin cfg0.N) (hf : (cfg0.win 4).flush t = true) :
    (dats m 0 c).flushed 4 t = ((cfg0.win 4).blk t).view.read (Elt Ideal) (result m c) := by
  rw [flushed4]
  unfold out0_4
  rw [View.ld_unit_zero hz2, View.ld_unit_zero hz3, View.ld_unit_zero hz2, View.ld_unit_zero hz2, View.canon_unit_zero hz2]
  funext (y : S512x2048.Idx)
  obtain ⟨r, l, rfl⟩ : ∃ (r : Fin 512) (l : Fin 2048), y = ix2 r l := ⟨y 0, y 1, eq_ix2 y⟩
  rw [View.read_apply]
  have hr := r.isLt
  have hl := l.isLt
  have ht : t.val < 32 := lt_of_lt_of_eq t.isLt N32
  refine (pay_apply _ _ _ _ r l).trans ?_
  have e : ((cfg0.win 4).blk t).view.emb (ix2 r l) = ix2 ⟨t.val * 512 + r.val, by omega⟩ l := by
    funext a
    apply Fin.ext
    match a with
    | ⟨0, _⟩ => show win0_4.index t 0 * 512 + 1 * r.val = t.val * 512 + r.val; rw [(idx t).2.2.2.2.1]; omega
    | ⟨1, _⟩ => show win0_4.index t 1 * 2048 + 1 * l.val = l.val; rw [(idx t).2.2.2.2.2]; omega
  show _ = result m c (((cfg0.win 4).blk t).view.emb (ix2 r l))
  rw [e]
  refine Eq.trans ?_ (Cert.Reference5Ideal.Read.ref_apply _ _ _ _ _ _).symm
  rw [blk2, blk3]
  refine congrArg _ (congrArg (fun z : Fin 2048 → EReal => normed z l * _) (funext fun j => ?_))
  refine Eq.trans ?_ (Cert.Reference5Ideal.Read.prod_apply _ _ _ _).symm
  refine Finset.sum_congr (M := EReal) rfl fun k _ => ?_
  rw [blk0, blk1]

/-- The array the run leaves is the reference's result: the points' blocks cover it. -/
theorem final (c : Dev nD) : (dats m 0 c).arrAt 4 cfg0.N = result m c :=
  (dats m 0 c).arrAt_eq_of_cover 4 (result m c) (flushed_eq m c) fun (i : S16384x2048.Idx) => by
    have h0 : (i 0).val < 16384 := (i 0).isLt
    have h1 : (i 1).val < 2048 := (i 1).isLt
    refine ⟨⟨(i 0).val / 512, by rw [N32]; omega⟩, flush0_4 _, ?_⟩
    generalize ht : (⟨(i 0).val / 512, _⟩ : Fin cfg0.N) = t
    have hv : t.val = (i 0).val / 512 := by rw [← ht]
    show i ∈ ((View.whole main_v2).slice (win0_4.rect t)).set
    rw [View.set_slice_whole, Rect.mem_set_unit]
    intro a
    match a with
    | ⟨0, _⟩ => show win0_4.index t 0 * 512 ≤ (i 0).val ∧ (i 0).val < win0_4.index t 0 * 512 + 512; rw [(idx t).2.2.2.2.1]; omega
    | ⟨1, _⟩ => show win0_4.index t 1 * 2048 ≤ (i 1).val ∧ (i 1).val < win0_4.index t 1 * 2048 + 2048; rw [(idx t).2.2.2.2.2]; omega

/-- The claim: both programs end with the reference's result. -/
theorem algebraic : Cert.algebraic_Kernel5Ideal_Reference5Ideal := by
  intro m g m' g' _ hag
  refine ⟨fun c => result m c, ?_, ?_⟩
  · exact (θ_run _ _ _).mono (fun r h c => ⟨(h c).1.trans (final m c), (h c).2⟩) (run_blocks m g)
  · exact (θ_run _ _ _).mono (fun r h c => ⟨(h c).1.trans (by
      rw [(hag c).1, (hag c).2.1, (hag c).2.2.1, (hag c).2.2.2]
      exact Cert.Reference5Ideal.Read.val_main_v19_eq _ _ _ _), (h c).2⟩) (Cert.Reference5Ideal.Value.run m' g')

end Cert.Kernel5Ideal.Value

end
-- ==== Proof.Conv6.lean ====
module

public import proofs.«01_k».proof.Proof.Gen.Kernel6Ideal.Skeleton
public import proofs.«01_k».proof.Proof.Gen.Reference6Ideal.Read
public import proofs.«01_k».proof.Proof.Sigmoid
public import Idealize.ShloMosaic.Lib.Pointwise
public import Idealize.ShloMosaic.Lib.KernelVsHost

@[expose] public section

set_option maxRecDepth 16384

noncomputable section

open Idealize.ShloMosaic Idealize.ShloMosaic.TcCoe Idealize.SL.Sem

/-! # The gated short convolution: what the kernel's operations and the reference's compute, element by element -/

namespace Cert.Reference6Ideal.Read

open Cert.Reference6Ideal

/-- The input's row `R` times column `o + J` of the first layer's matrix. -/
def col (x0 : FVec Ideal S16384x2048 .bf16) (x1 : FVec Ideal S2x2048x24576 .f32) (o : ℕ) (ho : o ≤ 10752) (R : Fin 16384) (J : Fin 1536) : EReal :=
  ∑ k : Fin 2048, (x0 (ix2 R k) : EReal) * (x1 (ix3 0 k ⟨o + J.val, by have := J.isLt; omega⟩) : EReal)

theorem colu_apply (x0 : FVec Ideal S16384x2048 .bf16) (x1 : FVec Ideal S2x2048x24576 .f32) (R : Fin 16384) (J : Fin 1536) :
    val_main_v4 (F := Ideal) x0 x1 (ix2 R J) = col x0 x1 6144 (by omega) R J := by
  unfold col
  pointwise [val_main_v4, val_main_v3, val_main_v2, val_main_v1, val_main_v0]

theorem colb_apply (x0 : FVec Ideal S16384x2048 .bf16) (x1 : FVec Ideal S2x2048x24576 .f32) (R : Fin 16384) (J : Fin 1536) :
    val_main_v7 (F := Ideal) x0 x1 (ix2 R J) = col x0 x1 7680 (by omega) R J := by
  unfold col
  pointwise [val_main_v7, val_main_v6, val_main_v2, val_main_v1, val_main_v0]

theorem colc_apply (x0 : FVec Ideal S16384x2048 .bf16) (x1 : FVec Ideal S2x2048x24576 .f32) (R : Fin 16384) (J : Fin 1536) :
    val_main_v10 (F := Ideal) x0 x1 (ix2 R J) = col x0 x1 9216 (by omega) R J := by
  unfold col
  pointwise [val_main_v10, val_main_v9, val_main_v2, val_main_v1, val_main_v0]

theorem colz_apply (x0 : FVec Ideal S16384x2048 .bf16) (x1 : FVec Ideal S2x2048x24576 .f32) (R : Fin 16384) (J : Fin 1536) :
    val_main_v13 (F := Ideal) x0 x1 (ix2 R J) = col x0 x1 10752 (by omega) R J := by
  unfold col
  pointwise [val_main_v13, val_main_v12, val_main_v2, val_main_v1, val_main_v0]

attribute [local irreducible] val_main_v4 val_main_v7 val_main_v10 val_main_v13 col

/-- The gated signal at row `R`, column `J`. -/
def cu (x0 : FVec Ideal S16384x2048 .bf16) (x1 : FVec Ideal S2x2048x24576 .f32) (R : Fin 16384) (J : Fin 1536) : EReal :=
  col x0 x1 9216 (by omega) R J * col x0 x1 6144 (by omega) R J

theorem cu_apply (x0 : FVec Ideal S16384x2048 .bf16) (x1 : FVec Ideal S2x2048x24576 .f32) (b : Fin 4) (s : Fin 4096) (J : Fin 1536) :
    val_main_v15 (F := Ideal) x0 x1 (ix3 b s J) = cu x0 x1 ⟨b.val * 4096 + s.val, by have := b.isLt; have := s.isLt; omega⟩ J := by
  unfold cu
  rw [← colc_apply, ← colu_apply]
  pointwise [val_main_v15, val_main_v11, val_main_v5]

attribute [local irreducible] val_main_v15

/-- The gated signal with two rows of zeros before each sequence, `d` rows before row `s + 2`. -/
theorem pad_apply' (x0 : FVec Ideal S16384x2048 .bf16) (x1 : FVec Ideal S2x2048x24576 .f32) (b : Fin 4) (s : Fin 4098) (J : Fin 1536) :
    val_main_v16 (F := Ideal) x0 x1 (ix3 b s J)
      = if h : 2 ≤ s.val then cu x0 x1 ⟨b.val * 4096 + (s.val - 2), by have := b.isLt; have := s.isLt; omega⟩ J else 0 := by
  unfold val_main_v16
  by_cases h : 2 ≤ s.val
  · rw [dif_pos h]
    refine (pad_apply_of_inside _ _ _ _ _ _ _ _ (ix3 b ⟨s.val - 2, by have := s.isLt; omega⟩ J) ?_).trans (cu_apply _ _ _ _ _)
    intro a
    match a with
    | ⟨0, _⟩ => show b.val = 0 + b.val * 1; omega
    | ⟨1, _⟩ => show s.val = 2 + (s.val - 2) * 1; omega
    | ⟨2, _⟩ => show J.val = 0 + J.val * 1; omega
  · rw [dif_neg h]
    refine (pad_apply_of_not_inside _ _ _ _ _ _ _ _ 1 ?_).trans ?_
    · rintro ⟨h1, -⟩
      exact h h1
    · show (((0#32 : BitVec 32).toInt : ℝ) : EReal) = 0
      simp

attribute [local irreducible] val_main_v16

/-- The value of the convolution at the row whose gated signal is `a`, with `p` the row before and `q` the row before that. -/
def conv (x2 : FVec Ideal S3x1536 .f32) (x3 : FVec Ideal S1536 .f32) (J : Fin 1536) (a p q : EReal) : EReal :=
  (x3 (ix1 J) : EReal) + (x2 (ix2 2 J) : EReal) * a + (x2 (ix2 0 J) : EReal) * q + (x2 (ix2 1 J) : EReal) * p

/-- The gate as the reference computes it, with an exponential. -/
def sigm (z : EReal) : EReal :=
  Ideal.div (Ideal.ofBits .f32 0x3F800000#32) (Ideal.ofBits .f32 0x3F800000#32 + Ideal.exp (-z))

/-- The reference's result at row `s` of sequence `b`. -/
theorem ref_at (x0 : FVec Ideal S16384x2048 .bf16) (x1 : FVec Ideal S2x2048x24576 .f32) (x2 : FVec Ideal S3x1536 .f32) (x3 : FVec Ideal S1536 .f32)
    (b : Fin 4) (s : Fin 4096) (J : Fin 1536) :
    val_main_v41 (F := Ideal) x0 x1 x2 x3 (ix3 b s J)
      = (val_main_v8 (F := Ideal) x0 x1 (ix3 b s J)
          * conv x2 x3 J (val_main_v15 (F := Ideal) x0 x1 (ix3 b s J))
              (val_main_v16 (F := Ideal) x0 x1 (ix3 b ⟨1 + s.val, by have := s.isLt; omega⟩ J))
              (val_main_v16 (F := Ideal) x0 x1 (ix3 b ⟨s.val, by have := s.isLt; omega⟩ J)))
        * (val_main_v14 (F := Ideal) x0 x1 (ix3 b s J) * sigm (val_main_v14 (F := Ideal) x0 x1 (ix3 b s J))) := by
  unfold sigm conv
  pointwise [val_main_v41, val_main_v40, val_main_call1_v5, val_main_call1_v4, val_main_call1_v3, val_main_call1_v2, val_main_call1_v1, val_main_call1_v0,
    val_main_call1_cst, val_main_call1_cst_0, val_main_v39, val_main_v38, val_main_v37, val_main_v36, val_main_v35, val_main_v34, val_main_v33, val_main_v32,
    val_main_v31, val_main_v30, val_main_v29, val_main_v28, val_main_v27, val_main_v26, val_main_v25, val_main_v24, val_main_v23, val_main_v22, val_main_v21,
    val_main_v20, val_main_v19, val_main_v18, val_main_v17]

attribute [local irreducible] val_main_v41

theorem v8_apply (x0 : FVec Ideal S16384x2048 .bf16) (x1 : FVec Ideal S2x2048x24576 .f32) (b : Fin 4) (s : Fin 4096) (J : Fin 1536) :
    val_main_v8 (F := Ideal) x0 x1 (ix3 b s J) = col x0 x1 7680 (by omega) ⟨b.val * 4096 + s.val, by have := b.isLt; have := s.isLt; omega⟩ J := by
  rw [← colb_apply]
  pointwise [val_main_v8]

theorem v14_apply (x0 : FVec Ideal S16384x2048 .bf16) (x1 : FVec Ideal S2x2048x24576 .f32) (b : Fin 4) (s : Fin 4096) (J : Fin 1536) :
    val_main_v14 (F := Ideal) x0 x1 (ix3 b s J) = col x0 x1 10752 (by omega) ⟨b.val * 4096 + s.val, by have := b.isLt; have := s.isLt; omega⟩ J := by
  rw [← colz_apply]
  pointwise [val_main_v14]

/-- The gated signal `d` rows before row `R`, zero before the sequence's first row. -/
def back (x0 : FVec Ideal S16384x2048 .bf16) (x1 : FVec Ideal S2x2048x24576 .f32) (d : ℕ) (R : Fin 16384) (J : Fin 1536) : EReal :=
  if d ≤ R.val % 4096 then cu x0 x1 ⟨R.val - d, lt_of_le_of_lt (Nat.sub_le _ _) R.isLt⟩ J else 0

/-- The reference's result at row `R`, column `J`. -/
theorem ref_apply (x0 : FVec Ideal S16384x2048 .bf16) (x1 : FVec Ideal S2x2048x24576 .f32) (x2 : FVec Ideal S3x1536 .f32) (x3 : FVec Ideal S1536 .f32)
    (R : Fin 16384) (J : Fin 1536) :
    val_main_v43 (F := Ideal) x0 x1 x2 x3 (ix2 R J)
      = (col x0 x1 7680 (by omega) R J * conv x2 x3 J (cu x0 x1 R J) (back x0 x1 1 R J) (back x0 x1 2 R J))
        * (col x0 x1 10752 (by omega) R J * sigm (col x0 x1 10752 (by omega) R J)) := by
  have hR := R.isLt
  have hJ := J.isLt
  rw [val_main_v43_apply, val_main_v42_apply]
  have e : idx_main_v42 (ix2 R J) = ix3 ⟨R.val / 4096, by omega⟩ ⟨R.val % 4096, by omega⟩ J := by
    funext a
    apply Fin.ext
    match a with
    | ⟨0, _⟩ => show (R.val * 1536 + J.val) / 6291456 = R.val / 4096; omega
    | ⟨1, _⟩ => show (R.val * 1536 + J.val) / 1536 % 4096 = R.val % 4096; omega
    | ⟨2, _⟩ => show (R.val * 1536 + J.val) % 1536 = J.val; omega
  rw [e]
  refine (ref_at x0 x1 x2 x3 _ _ J).trans ?_
  rw [v8_apply, v14_apply, cu_apply, pad_apply', pad_apply']
  have e0 : ∀ h : R.val / 4096 * 4096 + R.val % 4096 < 16384, (⟨R.val / 4096 * 4096 + R.val % 4096, h⟩ : Fin 16384) = R :=
    fun _ => Fin.ext (by show R.val / 4096 * 4096 + R.val % 4096 = R.val; omega)
  dsimp only
  rw [e0]
  unfold back
  refine congrArg (fun y => _ * y * _) (congrArg₂ (fun p q => conv x2 x3 J (cu x0 x1 R J) p q) ?_ ?_)
  · by_cases h : 1 ≤ R.val % 4096
    · rw [dif_pos (by omega), if_pos h]
      exact congrArg (fun R' => cu x0 x1 R' J) (Fin.ext (by show R.val / 4096 * 4096 + (1 + R.val % 4096 - 2) = R.val - 1; omega))
    · rw [dif_neg (by omega), if_neg h]
  · by_cases h : 2 ≤ R.val % 4096
    · rw [dif_pos h, if_pos h]
      exact congrArg (fun R' => cu x0 x1 R' J) (Fin.ext (by show R.val / 4096 * 4096 + (R.val % 4096 - 2) = R.val - 2; omega))
    · rw [dif_neg h, if_neg h]

end Cert.Reference6Ideal.Read

namespace Cert.Kernel6Ideal.Conv

open Cert.Kernel6Ideal Cert.Kernel6Ideal.Gen

theorem pay9_apply (v : FVec Ideal S1024x2048 .bf16) (w : FVec Ideal S1x2048x256 .f32) (r : Fin 1024) (l : Fin 256) :
    k0_pay9 (F := Ideal) v w (ix2 r l) = ∑ k : Fin 2048, (v (ix2 r k) : EReal) * (w (ix3 0 k l) : EReal) := by
  pointwise [k0_pay9]

theorem pay17_apply (v : FVec Ideal S1024x2048 .bf16) (P : FVec Ideal S1024x256 .f32) (w : FVec Ideal S1x2048x256 .f32) (r : Fin 1024) (l : Fin 256) :
    k0_pay17 (F := Ideal) v P w (ix2 r l) = (P (ix2 r l) : EReal) * ∑ k : Fin 2048, (v (ix2 r k) : EReal) * (w (ix3 0 k l) : EReal) := by
  pointwise [k0_pay17]

theorem pay35_apply (v : FVec Ideal S1024x2048 .bf16) (w : FVec Ideal S1x2048x256 .f32) (r : Fin 1024) (l : Fin 256) :
    k0_pay35 (F := Ideal) v w (ix2 r l) = Ideal.ofBits .f32 0x3F000000#32 * ∑ k : Fin 2048, (v (ix2 r k) : EReal) * (w (ix3 0 k l) : EReal) := by
  pointwise [k0_pay35]

theorem pay36_apply (v : FVec Ideal S1024x2048 .bf16) (w : FVec Ideal S1x2048x256 .f32) (r : Fin 1024) (l : Fin 256) :
    k0_pay36 (F := Ideal) v w (ix2 r l) = ∑ k : Fin 2048, (v (ix2 r k) : EReal) * (w (ix3 0 k l) : EReal) := by
  pointwise [k0_pay36]

theorem pay39_apply (C : FVec Ideal S1024x256 .f32) (r : Fin 8) (l : Fin 256) :
    k0_pay39 (F := Ideal) C (ix2 r l) = C (ix2 ⟨1016 + r.val, by have := r.isLt; omega⟩ l) := by
  pointwise [k0_pay39]

theorem pay42_apply (C : FVec Ideal S1024x256 .f32) (b w : FVec Ideal S1x256 .f32) (r : Fin 1024) (l : Fin 256) :
    k0_pay42 (F := Ideal) C b w (ix2 r l) = (b (ix2 0 l) : EReal) + (w (ix2 0 l) : EReal) * C (ix2 r l) := by
  pointwise [k0_pay42]

theorem pay1_apply (H B P Q Y : FVec Ideal S1024x256 .f32) (w0 w1 : FVec Ideal S1x256 .f32) (r : Fin 1024) (l : Fin 256) :
    k0_pay1 (F := Ideal) H B P Q Y w0 w1 (ix2 r l)
      = ((Y (ix2 r l) : EReal) + (w0 (ix2 0 l) : EReal) * Q (ix2 r l) + (w1 (ix2 0 l) : EReal) * P (ix2 r l)) * (B (ix2 r l) * H (ix2 r l))
        * (Ideal.ofBits .f32 0x3F800000#32 + Ideal.tanh (H (ix2 r l))) := by
  pointwise [k0_pay1]

/-- The kernel's remainder of a row block's number by the row blocks of a sequence is zero just when the number's is. -/
theorem start_iff : ∀ n : Fin 16, (Scalar.cmpi .eq
      (Scalar.select (Scalar.andi (Scalar.xori (Scalar.cmpi .slt (Scalar.remsi (BitVec.ofNat 32 n.val) 4#32) 0#32) (Scalar.cmpi .slt 4#32 0#32))
        (Scalar.cmpi .ne (Scalar.remsi (BitVec.ofNat 32 n.val) 4#32) 0#32))
        (Scalar.addi (Scalar.remsi (BitVec.ofNat 32 n.val) 4#32) 4#32) (Scalar.remsi (BitVec.ofNat 32 n.val) 4#32)) 0#32 : BitVec 1)
      = if n.val % 4 = 0 then 1#1 else 0#1 := by decide

/-- The carried rows a row block reaches back to: none at the first row block of a sequence. -/
theorem pay38_apply (n : Fin 16) (hl : FVec Ideal S8x256 .f32) (r : Fin 8) (l : Fin 256) :
    k0_pay38 (F := Ideal) 4#32 (Scalar.remsi (BitVec.ofNat 32 n.val) 4#32)
      (Scalar.andi (Scalar.xori (Scalar.cmpi .slt (Scalar.remsi (BitVec.ofNat 32 n.val) 4#32) 0#32) (Scalar.cmpi .slt 4#32 0#32))
        (Scalar.cmpi .ne (Scalar.remsi (BitVec.ofNat 32 n.val) 4#32) 0#32)) hl (ix2 r l)
      = if n.val % 4 = 0 then (0 : EReal) else hl (ix2 r l) := by
  unfold k0_pay38
  refine (congrArg (fun c => Scalar.select c (broadcast S8x256 (Scalar.ofBits (F := Ideal) .f32 0x00000000#32)) hl (ix2 r l)) (start_iff n)).trans ?_
  by_cases h : n.val % 4 = 0
  · rw [if_pos h, if_pos h]
    exact Ideal.ofBits_zero_f32
  · rw [if_neg h, if_neg h]
    rfl

attribute [local irreducible] k0_pay38

theorem is0 : ∀ r : Fin 8, IntOp.cmpi .eq (BitVec.ofNat 32 r.val) 0#32 = if r.val = 0 then 1#1 else 0#1 := by decide

theorem is1 : ∀ r : Fin 8, IntOp.cmpi .eq (BitVec.ofNat 32 r.val) 1#32 = if r.val = 1 then 1#1 else 0#1 := by decide

theorem back1_low (M : FVec Ideal S8x256 .f32) (C : FVec Ideal S1024x256 .f32) (r : Fin 8) (l : Fin 256) :
    (select (cmpi .eq (iota .tc S8x256 32 [0] iota_S8x256_d0_w32) (broadcast S8x256 0#32))
      (broadcastTo S8x256 (shapeCast S1x256 (extractStridedSlice S1x256 ![7, 0] M slices_S8x256_o7_0_S1x256) shapeCasts_S1x256_S1x256) broadcasts_S1x256_S8x256)
      (extractStridedSlice S8x256 ![0, 0] (dynamicRotate 0 1#32 none C rotates_S1024x256_d0) slices_S1024x256_o0_0_S8x256) : FVec Ideal S8x256 .f32) (ix2 r l)
      = if r.val = 0 then M (ix2 7 l) else C (ix2 ⟨r.val - 1, by have := r.isLt; omega⟩ l) := by
  have hr := r.isLt
  pointwise []
  rw [is0]
  by_cases h : r.val = 0
  · rw [if_pos h, if_pos h]
    rfl
  · rw [if_neg h, if_neg h]
    refine congrArg (fun q => C (ix2 q l)) (Fin.ext ?_)
    show (r.val + 1024 - 1) % 1024 = r.val - 1
    omega

theorem back2_low (M : FVec Ideal S8x256 .f32) (C : FVec Ideal S1024x256 .f32) (r : Fin 8) (l : Fin 256) :
    (select (cmpi .eq (iota .tc S8x256 32 [0] iota_S8x256_d0_w32) (broadcast S8x256 0#32))
      (broadcastTo S8x256 (shapeCast S1x256 (extractStridedSlice S1x256 ![6, 0] M slices_S8x256_o6_0_S1x256) shapeCasts_S1x256_S1x256) broadcasts_S1x256_S8x256)
      (select (cmpi .eq (iota .tc S8x256 32 [0] iota_S8x256_d0_w32) (broadcast S8x256 1#32))
        (broadcastTo S8x256 (shapeCast S1x256 (extractStridedSlice S1x256 ![7, 0] M slices_S8x256_o7_0_S1x256) shapeCasts_S1x256_S1x256) broadcasts_S1x256_S8x256)
        (extractStridedSlice S8x256 ![0, 0] (dynamicRotate 0 2#32 none C rotates_S1024x256_d0) slices_S1024x256_o0_0_S8x256)) : FVec Ideal S8x256 .f32) (ix2 r l)
      = if h : r.val < 2 then M (ix2 ⟨6 + r.val, by omega⟩ l) else C (ix2 ⟨r.val - 2, by have := r.isLt; omega⟩ l) := by
  have hr := r.isLt
  pointwise []
  rw [is0, is1]
  by_cases h : r.val < 2
  · rw [dif_pos h]
    by_cases h0 : r.val = 0
    · rw [if_pos h0]
      refine congrArg (fun q => M (ix2 q l)) (Fin.ext ?_)
      show 6 = 6 + r.val
      omega
    · rw [if_neg h0, if_pos (by omega)]
      refine congrArg (fun q => M (ix2 q l)) (Fin.ext ?_)
      show 7 = 6 + r.val
      omega
  · rw [dif_neg h, if_neg (by omega), if_neg (by omega)]
    refine congrArg (fun q => C (ix2 q l)) (Fin.ext ?_)
    show (r.val + 1024 - 2) % 1024 = r.val - 2
    omega

theorem back_high1 (C : FVec Ideal S1024x256 .f32) (r : Fin 1016) (l : Fin 256) :
    (extractStridedSlice S1016x256 ![8, 0] (dynamicRotate 0 1#32 none C rotates_S1024x256_d0) slices_S1024x256_o8_0_S1016x256 : FVec Ideal S1016x256 .f32) (ix2 r l)
      = C (ix2 ⟨r.val + 7, by have := r.isLt; omega⟩ l) := by
  have hr := r.isLt
  pointwise []
  refine congrArg (fun q => C (ix2 q l)) (Fin.ext ?_)
  show (8 + r.val + 1024 - 1) % 1024 = r.val + 7
  omega

theorem back_high2 (C : FVec Ideal S1024x256 .f32) (r : Fin 1016) (l : Fin 256) :
    (extractStridedSlice S1016x256 ![8, 0] (dynamicRotate 0 2#32 none C rotates_S1024x256_d0) slices_S1024x256_o8_0_S1016x256 : FVec Ideal S1016x256 .f32) (ix2 r l)
      = C (ix2 ⟨r.val + 6, by have := r.isLt; omega⟩ l) := by
  have hr := r.isLt
  pointwise []
  refine congrArg (fun q => C (ix2 q l)) (Fin.ext ?_)
  show (8 + r.val + 1024 - 2) % 1024 = r.val + 6
  omega

/-- Rows 0 to 7 of a block put together of eight rows and the rest. -/
theorem cat_low (A : FVec Ideal S8x256 .f32) (B : FVec Ideal S1016x256 .f32) (r : Fin 1024) (l : Fin 256) (h : r.val < 8) :
    concatenate S1024x256 0 [⟨S8x256, A⟩, ⟨S1016x256, B⟩] concatenates_S8x256_S1016x256_S1024x256_d0 (ix2 r l) = A (ix2 ⟨r.val, h⟩ l) :=
  concatenate_pair_apply_left (t := S1024x256) (s₁ := S8x256) (s₂ := S1016x256) (0 : Fin 2) A B concatenates_S8x256_S1016x256_S1024x256_d0 (ix2 r l) rfl (ix2 ⟨r.val, h⟩ l)
    (fun x => by match x with | ⟨0, _⟩ => rfl | ⟨1, _⟩ => rfl)

/-- Rows 8 on of a block put together of eight rows and the rest. -/
theorem cat_high (A : FVec Ideal S8x256 .f32) (B : FVec Ideal S1016x256 .f32) (r : Fin 1024) (l : Fin 256) (h : ¬r.val < 8) :
    concatenate S1024x256 0 [⟨S8x256, A⟩, ⟨S1016x256, B⟩] concatenates_S8x256_S1016x256_S1024x256_d0 (ix2 r l)
      = B (ix2 ⟨r.val - 8, by have := r.isLt; omega⟩ l) :=
  concatenate_pair_apply_right (t := S1024x256) (s₁ := S8x256) (s₂ := S1016x256) (0 : Fin 2) A B concatenates_S8x256_S1016x256_S1024x256_d0 (ix2 r l) rfl rfl
    (ix2 ⟨r.val - 8, by have := r.isLt; omega⟩ l)
    (fun x hx => by
      match x with
      | ⟨0, _⟩ => exact absurd rfl hx
      | ⟨1, _⟩ => rfl) (by show r.val - 8 + 8 = r.val; omega)

/-- The gated signal of the row before, in a block: the first row reaches the last carried row. -/
theorem pay40_apply (C : FVec Ideal S1024x256 .f32) (a b : BitVec 32) (d : BitVec 1) (hl : FVec Ideal S8x256 .f32) (r : Fin 1024) (l : Fin 256) :
    k0_pay40 (F := Ideal) C a b d hl (ix2 r l)
      = if r.val = 0 then k0_pay38 (F := Ideal) a b d hl (ix2 7 l) else C (ix2 ⟨r.val - 1, by have := r.isLt; omega⟩ l) := by
  have hr := r.isLt
  unfold k0_pay40
  by_cases h : r.val < 8
  · refine (cat_low _ _ r l h).trans ?_
    exact back1_low _ _ _ _
  · refine (cat_high _ _ r l h).trans ?_
    rw [if_neg (by omega)]
    refine (back_high1 _ _ _).trans (congrArg (fun q => C (ix2 q l)) (Fin.ext ?_))
    show r.val - 8 + 7 = r.val - 1
    omega

/-- The gated signal of the row before the row before, in a block: the first two rows reach the last two carried rows. -/
theorem pay41_apply (C : FVec Ideal S1024x256 .f32) (a b : BitVec 32) (d : BitVec 1) (hl : FVec Ideal S8x256 .f32) (r : Fin 1024) (l : Fin 256) :
    k0_pay41 (F := Ideal) C a b d hl (ix2 r l)
      = if h : r.val < 2 then k0_pay38 (F := Ideal) a b d hl (ix2 ⟨6 + r.val, by omega⟩ l) else C (ix2 ⟨r.val - 2, by have := r.isLt; omega⟩ l) := by
  have hr := r.isLt
  unfold k0_pay41
  by_cases h : r.val < 8
  · refine (cat_low _ _ r l h).trans ?_
    exact back2_low _ _ _ _
  · refine (cat_high _ _ r l h).trans ?_
    rw [dif_neg (by omega)]
    refine (back_high2 _ _ _).trans (congrArg (fun q => C (ix2 q l)) (Fin.ext ?_))
    show r.val - 8 + 6 = r.val - 2
    omega

/-- The kernel's order of the gated product is the reference's. -/
theorem gated (Y B Z : EReal) :
    Y * (B * (Ideal.ofBits .f32 0x3F000000#32 * Z)) * (Ideal.ofBits .f32 0x3F800000#32 + Ideal.tanh (Ideal.ofBits .f32 0x3F000000#32 * Z))
      = (B * Y) * (Z * Cert.Reference6Ideal.Read.sigm Z) := by
  have hs : Cert.Reference6Ideal.Read.sigm Z
      = Ideal.ofBits .f32 0x3F000000#32 * (Ideal.ofBits .f32 0x3F800000#32 + Ideal.tanh (Ideal.ofBits .f32 0x3F000000#32 * Z)) := by
    refine (Cert.Sigmoid.gate_eq Z).symm.trans ?_
    have ht : ∃ t : ℝ, Ideal.tanh (Ideal.ofBits .f32 0x3F000000#32 * Z) = (t : EReal) := by
      generalize Ideal.ofBits .f32 0x3F000000#32 * Z = x
      induction x using EReal.rec with
      | bot => exact ⟨-1, by rw [Ideal.tanh_bot]; simp⟩
      | top => exact ⟨1, by rw [Ideal.tanh_top]; simp⟩
      | coe x => exact ⟨_, Ideal.tanh_coe x⟩
    obtain ⟨t, ht⟩ := ht
    rw [ht, Cert.Sigmoid.half_bits, Cert.Sigmoid.one_bits, ← EReal.coe_mul, ← EReal.coe_add, ← EReal.coe_add, ← EReal.coe_mul]
    refine congrArg _ ?_
    ring
  rw [hs]
  ac_rfl

end Cert.Kernel6Ideal.Conv

end
-- ==== Proof.Value6.lean ====
module

public import proofs.«01_k».proof.Defs
public import proofs.«01_k».proof.Proof.Frame6
public import proofs.«01_k».proof.Proof.Conv6
public import proofs.«01_k».proof.Proof.Gen.Reference6Ideal.Run
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

/-! # The gated short convolution's result is the reference's -/

namespace Cert.Kernel6Ideal.Value

open Cert.Kernel6Ideal Cert.Kernel6Ideal.Gen Cert.Kernel6Ideal.Conv Cert.Reference6Ideal.Read

attribute [local irreducible] k0_pay1 k0_pay7 k0_pay9 k0_pay17 k0_pay35 k0_pay36 k0_pay38 k0_pay39 k0_pay40 k0_pay41 k0_pay42

/-- Which block each window is on at point `t`, and the row block's number. -/
theorem idx : ∀ t : Fin cfg0.N, (win0_1.index t 0 = t.val % 16 ∧ win0_1.index t 1 = 0)
    ∧ (win0_2.index t 0 = 0 ∧ win0_2.index t 1 = 0 ∧ win0_2.index t 2 = 24 + t.val / 16)
    ∧ (win0_3.index t 0 = 0 ∧ win0_3.index t 1 = 0 ∧ win0_3.index t 2 = 30 + t.val / 16)
    ∧ (win0_4.index t 0 = 0 ∧ win0_4.index t 1 = 0 ∧ win0_4.index t 2 = 36 + t.val / 16)
    ∧ (win0_5.index t 0 = 0 ∧ win0_5.index t 1 = 0 ∧ win0_5.index t 2 = 42 + t.val / 16)
    ∧ (win0_6.index t 0 = 0 ∧ win0_6.index t 1 = t.val / 16)
    ∧ (win0_7.index t 0 = 0 ∧ win0_7.index t 1 = t.val / 16)
    ∧ (win0_14.index t 0 = t.val % 16 ∧ win0_14.index t 1 = t.val / 16)
    ∧ (grid0.coords t 1).val = t.val % 16 :=
  (by decide +kernel : ∀ t : Fin grid0.N, (win0_1.index t 0 = t.val % 16 ∧ win0_1.index t 1 = 0)
    ∧ (win0_2.index t 0 = 0 ∧ win0_2.index t 1 = 0 ∧ win0_2.index t 2 = 24 + t.val / 16)
    ∧ (win0_3.index t 0 = 0 ∧ win0_3.index t 1 = 0 ∧ win0_3.index t 2 = 30 + t.val / 16)
    ∧ (win0_4.index t 0 = 0 ∧ win0_4.index t 1 = 0 ∧ win0_4.index t 2 = 36 + t.val / 16)
    ∧ (win0_5.index t 0 = 0 ∧ win0_5.index t 1 = 0 ∧ win0_5.index t 2 = 42 + t.val / 16)
    ∧ (win0_6.index t 0 = 0 ∧ win0_6.index t 1 = t.val / 16)
    ∧ (win0_7.index t 0 = 0 ∧ win0_7.index t 1 = t.val / 16)
    ∧ (win0_14.index t 0 = t.val % 16 ∧ win0_14.index t 1 = t.val / 16)
    ∧ (grid0.coords t 1).val = t.val % 16)

variable (m : (ℓ : Loc nD τ sig) → Buf (Elt Ideal) ℓ) (ρ : Dev nD → PrngReg)

theorem lt96 (t : Fin cfg0.N) : t.val < 96 := lt_of_lt_of_eq t.isLt N96

/-- The row of the whole input a row of point `t`'s block is. -/
abbrev rowOf (t : Fin cfg0.N) (r : Fin 1024) : Fin 16384 := ⟨t.val % 16 * 1024 + r.val, by have := r.isLt; omega⟩

/-- The column of the whole result a column of point `t`'s block is. -/
abbrev colOf (t : Fin cfg0.N) (l : Fin 256) : Fin 1536 := ⟨t.val / 16 * 256 + l.val, by have := l.isLt; have := lt96 t; omega⟩

/-- The input's rows at point `t`. -/
theorem blk1 (c : Dev nD) (t : Fin cfg0.N) (r : Fin 1024) (k : Fin 2048) :
    iblk m c 1 t (ix2 r k) = m ((c : Thread nD τ).loc main_arg0) (ix2 (rowOf t r) k) := by
  unfold iblk
  rw [View.read_apply]
  show V m c main_arg0 _ = _
  rw [V_main_arg0]
  congr 1
  funext a
  apply Fin.ext
  match a with
  | ⟨0, _⟩ => show win0_1.index t 0 * 1024 + 1 * r.val = t.val % 16 * 1024 + r.val; rw [(idx t).1.1]; omega
  | ⟨1, _⟩ => show win0_1.index t 1 * 2048 + 1 * k.val = k.val; rw [(idx t).1.2]; omega

/-- The signal's columns at point `t`. -/
theorem blk2 (c : Dev nD) (t : Fin cfg0.N) (k : Fin 2048) (l : Fin 256) :
    iblk m c 2 t (ix3 0 k l) = m ((c : Thread nD τ).loc main_arg1)
      (ix3 0 k ⟨6144 + (colOf t l).val, by have := (colOf t l).isLt; omega⟩) := by
  unfold iblk
  rw [View.read_apply]
  show V m c main_arg1 _ = _
  rw [V_main_arg1]
  congr 1
  funext a
  apply Fin.ext
  match a with
  | ⟨0, _⟩ => show win0_2.index t 0 * 1 + 1 * 0 = 0; rw [(idx t).2.1.1]
  | ⟨1, _⟩ => show win0_2.index t 1 * 2048 + 1 * k.val = k.val; rw [(idx t).2.1.2.1]; omega
  | ⟨2, _⟩ => show win0_2.index t 2 * 256 + 1 * l.val = 6144 + (t.val / 16 * 256 + l.val); rw [(idx t).2.1.2.2]; omega

/-- The outer gate's columns at point `t`. -/
theorem blk3 (c : Dev nD) (t : Fin cfg0.N) (k : Fin 2048) (l : Fin 256) :
    iblk m c 3 t (ix3 0 k l) = m ((c : Thread nD τ).loc main_arg1)
      (ix3 0 k ⟨7680 + (colOf t l).val, by have := (colOf t l).isLt; omega⟩) := by
  unfold iblk
  rw [View.read_apply]
  show V m c main_arg1 _ = _
  rw [V_main_arg1]
  congr 1
  funext a
  apply Fin.ext
  match a with
  | ⟨0, _⟩ => show win0_3.index t 0 * 1 + 1 * 0 = 0; rw [(idx t).2.2.1.1]
  | ⟨1, _⟩ => show win0_3.index t 1 * 2048 + 1 * k.val = k.val; rw [(idx t).2.2.1.2.1]; omega
  | ⟨2, _⟩ => show win0_3.index t 2 * 256 + 1 * l.val = 7680 + (t.val / 16 * 256 + l.val); rw [(idx t).2.2.1.2.2]; omega

/-- The inner gate's columns at point `t`. -/
theorem blk4 (c : Dev nD) (t : Fin cfg0.N) (k : Fin 2048) (l : Fin 256) :
    iblk m c 4 t (ix3 0 k l) = m ((c : Thread nD τ).loc main_arg1)
      (ix3 0 k ⟨9216 + (colOf t l).val, by have := (colOf t l).isLt; omega⟩) := by
  unfold iblk
  rw [View.read_apply]
  show V m c main_arg1 _ = _
  rw [V_main_arg1]
  congr 1
  funext a
  apply Fin.ext
  match a with
  | ⟨0, _⟩ => show win0_4.index t 0 * 1 + 1 * 0 = 0; rw [(idx t).2.2.2.1.1]
  | ⟨1, _⟩ => show win0_4.index t 1 * 2048 + 1 * k.val = k.val; rw [(idx t).2.2.2.1.2.1]; omega
  | ⟨2, _⟩ => show win0_4.index t 2 * 256 + 1 * l.val = 9216 + (t.val / 16 * 256 + l.val); rw [(idx t).2.2.2.1.2.2]; omega

/-- The output gate's columns at point `t`. -/
theorem blk5 (c : Dev nD) (t : Fin cfg0.N) (k : Fin 2048) (l : Fin 256) :
    iblk m c 5 t (ix3 0 k l) = m ((c : Thread nD τ).loc main_arg1)
      (ix3 0 k ⟨10752 + (colOf t l).val, by have := (colOf t l).isLt; omega⟩) := by
  unfold iblk
  rw [View.read_apply]
  show V m c main_arg1 _ = _
  rw [V_main_arg1]
  congr 1
  funext a
  apply Fin.ext
  match a with
  | ⟨0, _⟩ => show win0_5.index t 0 * 1 + 1 * 0 = 0; rw [(idx t).2.2.2.2.1.1]
  | ⟨1, _⟩ => show win0_5.index t 1 * 2048 + 1 * k.val = k.val; rw [(idx t).2.2.2.2.1.2.1]; omega
  | ⟨2, _⟩ => show win0_5.index t 2 * 256 + 1 * l.val = 10752 + (t.val / 16 * 256 + l.val); rw [(idx t).2.2.2.2.1.2.2]; omega

/-- The filter's columns at point `t`. -/
theorem blk6 (c : Dev nD) (t : Fin cfg0.N) (n : Fin 3) (l : Fin 256) :
    iblk m c 6 t (ix2 n l) = m ((c : Thread nD τ).loc main_arg2) (ix2 n (colOf t l)) := by
  unfold iblk
  rw [View.read_apply]
  show V m c main_arg2 _ = _
  rw [V_main_arg2]
  congr 1
  funext a
  apply Fin.ext
  match a with
  | ⟨0, _⟩ => show win0_6.index t 0 * 3 + 1 * n.val = n.val; rw [(idx t).2.2.2.2.2.1.1]; omega
  | ⟨1, _⟩ => show win0_6.index t 1 * 256 + 1 * l.val = t.val / 16 * 256 + l.val; rw [(idx t).2.2.2.2.2.1.2]; omega

/-- The filter's offsets at point `t`. -/
theorem blk7 (c : Dev nD) (t : Fin cfg0.N) (l : Fin 256) :
    iblk m c 7 t (ix2 0 l) = m ((c : Thread nD τ).loc main_arg3) (ix1 (colOf t l)) := by
  unfold iblk
  rw [View.read_apply]
  show V m c main_v25 _ = _
  entry_read
  refine shapeCast_apply (m ((c : Thread nD τ).loc main_arg3)) _ _ _ ?_
  refine (Shape.rowMajor_val_one _).trans (Eq.trans ?_ (Shape.rowMajor_val_two _).symm)
  show t.val / 16 * 256 + l.val = (win0_7.index t 0 * 1 + 1 * 0) * 1536 + (win0_7.index t 1 * 256 + 1 * l.val)
  rw [(idx t).2.2.2.2.2.2.1.1, (idx t).2.2.2.2.2.2.1.2]
  omega

/-- The input and the first layer's matrix, the filter and its offsets, as launched. -/
abbrev a0 (c : Dev nD) : FVec Ideal S16384x2048 .bf16 := m ((c : Thread nD τ).loc main_arg0)
abbrev a1 (c : Dev nD) : FVec Ideal S2x2048x24576 .f32 := m ((c : Thread nD τ).loc main_arg1)
abbrev a2 (c : Dev nD) : FVec Ideal S3x1536 .f32 := m ((c : Thread nD τ).loc main_arg2)
abbrev a3 (c : Dev nD) : FVec Ideal S1536 .f32 := m ((c : Thread nD τ).loc main_arg3)

/-- The gated signal of point `t`'s block. -/
theorem cuAt_apply (c : Dev nD) (t : Fin cfg0.N) (r : Fin 1024) (l : Fin 256) :
    cuAt (blkAt m c t) (ix2 r l) = cu (a0 m c) (a1 m c) (rowOf t r) (colOf t l) := by
  refine (pay17_apply _ _ _ r l).trans ?_
  refine congrArg₂ (fun x y : EReal => x * y) ((pay9_apply _ _ r l).trans ?_) ?_
  · unfold col
    refine Finset.sum_congr (M := EReal) rfl fun k _ => ?_
    exact congrArg₂ (fun x y : EReal => x * y) (blk1 m c t r k) (blk4 m c t k l)
  · unfold col
    refine Finset.sum_congr (M := EReal) rfl fun k _ => ?_
    exact congrArg₂ (fun x y : EReal => x * y) (blk1 m c t r k) (blk2 m c t k l)

/-- The rows point `t` reaches back to: none at the first row block of a sequence, else the last rows of the row block before. -/
theorem halo_apply (c : Dev nD) (t : Fin cfg0.N) (r : Fin 8) (l : Fin 256) :
    k0_pay38 (F := Ideal) 4#32 (remW (grid0.coords t)) (adjW (grid0.coords t)) (haloBefore m c t.val) (ix2 r l)
      = if t.val % 4 = 0 then (0 : EReal)
        else cu (a0 m c) (a1 m c) ⟨t.val % 16 * 1024 + r.val - 8, by have := r.isLt; omega⟩ (colOf t l) := by
  have ht := lt96 t
  have hr := r.isLt
  refine (pay38_apply (grid0.coords t 1) _ r l).trans ?_
  rw [show (grid0.coords t 1).val = t.val % 16 from (idx t).2.2.2.2.2.2.2.2]
  by_cases h : t.val % 4 = 0
  · rw [if_pos (by omega), if_pos h]
  · rw [if_neg (by omega), if_neg h]
    unfold haloBefore
    rw [if_neg (by omega)]
    refine (pay39_apply _ r l).trans ((cuAt_apply m c _ _ l).trans ?_)
    refine congrArg₂ (fun R J => cu (a0 m c) (a1 m c) R J) (Fin.ext ?_) (Fin.ext ?_)
    · show (t.val - 1) % 96 % 16 * 1024 + (1016 + r.val) = t.val % 16 * 1024 + r.val - 8
      omega
    · show (t.val - 1) % 96 / 16 * 256 + l.val = t.val / 16 * 256 + l.val
      omega

/-- A row of the filter's block. -/
theorem ldw (x : FVec Ideal S3x256 .f32) (n : ℕ) (hn : n < 3) (h : ∀ a, _) (l : Fin 256) :
    (View.ld (Val := Elt Ideal) (e' := .f32) x (Rect.unit (s := S3x256) ![n, 0] S1x256.size h) (ix2 0 l) : EReal) = x (ix2 ⟨n, hn⟩ l) := by
  refine congrArg x (funext fun k => Fin.ext ?_)
  match k with
  | ⟨0, _⟩ => show n + 1 * 0 = n; omega
  | ⟨1, _⟩ => show 0 + 1 * l.val = l.val; omega

/-- The gated signal of the row before, in point `t`'s block. -/
theorem back1_apply (c : Dev nD) (t : Fin cfg0.N) (r : Fin 1024) (l : Fin 256) :
    k0_pay40 (F := Ideal) (cuAt (blkAt m c t)) 4#32 (remW (grid0.coords t)) (adjW (grid0.coords t)) (haloBefore m c t.val) (ix2 r l)
      = back (a0 m c) (a1 m c) 1 (rowOf t r) (colOf t l) := by
  have ht := lt96 t
  have hr := r.isLt
  refine (pay40_apply _ _ _ _ _ r l).trans ?_
  unfold back
  dsimp only
  by_cases h : r.val = 0
  · rw [if_pos h]
    refine (halo_apply m c t 7 l).trans ?_
    by_cases h4 : t.val % 4 = 0
    · rw [if_pos h4, if_neg (by omega)]
    · rw [if_neg h4, if_pos (by omega)]
      refine congrArg (fun R => cu (a0 m c) (a1 m c) R (colOf t l)) (Fin.ext ?_)
      show t.val % 16 * 1024 + 7 - 8 = t.val % 16 * 1024 + r.val - 1
      omega
  · rw [if_neg h, if_pos (by omega)]
    refine (cuAt_apply m c t _ l).trans (congrArg (fun R => cu (a0 m c) (a1 m c) R (colOf t l)) (Fin.ext ?_))
    show t.val % 16 * 1024 + (r.val - 1) = t.val % 16 * 1024 + r.val - 1
    omega

/-- The gated signal of the row before the row before, in point `t`'s block. -/
theorem back2_apply (c : Dev nD) (t : Fin cfg0.N) (r : Fin 1024) (l : Fin 256) :
    k0_pay41 (F := Ideal) (cuAt (blkAt m c t)) 4#32 (remW (grid0.coords t)) (adjW (grid0.coords t)) (haloBefore m c t.val) (ix2 r l)
      = back (a0 m c) (a1 m c) 2 (rowOf t r) (colOf t l) := by
  have ht := lt96 t
  have hr := r.isLt
  refine (pay41_apply _ _ _ _ _ r l).trans ?_
  unfold back
  dsimp only
  by_cases h : r.val < 2
  · rw [dif_pos h]
    refine (halo_apply m c t _ l).trans ?_
    by_cases h4 : t.val % 4 = 0
    · rw [if_pos h4, if_neg (by omega)]
    · rw [if_neg h4, if_pos (by omega)]
      refine congrArg (fun R => cu (a0 m c) (a1 m c) R (colOf t l)) (Fin.ext ?_)
      show t.val % 16 * 1024 + (6 + r.val) - 8 = t.val % 16 * 1024 + r.val - 2
      omega
  · rw [dif_neg h, if_pos (by omega)]
    refine (cuAt_apply m c t _ l).trans (congrArg (fun R => cu (a0 m c) (a1 m c) R (colOf t l)) (Fin.ext ?_))
    show t.val % 16 * 1024 + (r.val - 2) = t.val % 16 * 1024 + r.val - 2
    omega

/-- The reference's result at the launched arguments. -/
abbrev result (c : Dev nD) : Buf (Elt Ideal) ((c : Thread nD τ).loc main_v26_0) :=
  Cert.Reference6Ideal.Read.val_main_v43 (F := Ideal) (m ((c : Thread nD τ).loc main_arg0)) (m ((c : Thread nD τ).loc main_arg1))
    (m ((c : Thread nD τ).loc main_arg2)) (m ((c : Thread nD τ).loc main_arg3))

attribute [local irreducible] Cert.Reference6Ideal.Read.val_main_v43 cuAt haloBefore

/-- The block point `t` stores, at its row and column. -/
theorem oc_apply (c : Dev nD) (t : Fin cfg0.N) (r : Fin 1024) (l : Fin 256) :
    ocOf m c t.val (ix2 r l) = result m c (ix2 (rowOf t r) (colOf t l)) := by
  unfold ocOf
  rw [pt_val]
  refine Eq.trans ?_ (ref_apply _ _ _ _ _ _).symm
  unfold ocAt
  refine (pay1_apply _ _ _ _ _ _ _ r l).trans ?_
  have hB : k0_pay36 (F := Ideal) (blkAt m c t).hb (blkAt m c t).wb (ix2 r l) = col (a0 m c) (a1 m c) 7680 (by omega) (rowOf t r) (colOf t l) := by
    refine (pay36_apply _ _ r l).trans ?_
    unfold col
    refine Finset.sum_congr (M := EReal) rfl fun k _ => ?_
    exact congrArg₂ (fun x y : EReal => x * y) (blk1 m c t r k) (blk3 m c t k l)
  have hZ : k0_pay35 (F := Ideal) (blkAt m c t).hb (blkAt m c t).wz (ix2 r l)
      = Ideal.ofBits .f32 0x3F000000#32 * col (a0 m c) (a1 m c) 10752 (by omega) (rowOf t r) (colOf t l) := by
    refine (pay35_apply _ _ r l).trans (congrArg _ ?_)
    unfold col
    refine Finset.sum_congr (M := EReal) rfl fun k _ => ?_
    exact congrArg₂ (fun x y : EReal => x * y) (blk1 m c t r k) (blk5 m c t k l)
  have hw : ∀ (n : ℕ) (hn : n < 3) (h : ∀ a, _),
      (View.ld (Val := Elt Ideal) (e' := .f32) (blkAt m c t).cw (Rect.unit (s := S3x256) ![n, 0] S1x256.size h) (ix2 0 l) : EReal)
        = a2 m c (ix2 ⟨n, hn⟩ (colOf t l)) := fun n hn h => (ldw _ n hn h l).trans (blk6 m c t ⟨n, hn⟩ l)
  have hY : k0_pay42 (F := Ideal) (cuAt (blkAt m c t)) (blkAt m c t).cb
        (View.ld (blkAt m c t).cw (Rect.unit (s := S3x256) ![2, 0] S1x256.size inb_S3x256_S1x256_2_0)) (ix2 r l)
      = (a3 m c (ix1 (colOf t l)) : EReal) + (a2 m c (ix2 2 (colOf t l)) : EReal) * cu (a0 m c) (a1 m c) (rowOf t r) (colOf t l) := by
    refine (pay42_apply _ _ _ r l).trans ?_
    rw [hw 2 (by omega), cuAt_apply]
    exact congrArg (fun x : EReal => x + _) (blk7 m c t l)
  rw [hB, hZ, hY, hw 0 (by omega), hw 1 (by omega), back1_apply, back2_apply]
  exact gated _ _ _

/-- The array's contents after the run, of any data whose convolution window is left at the points' blocks, are the reference's result. -/
theorem final (c : Dev nD) (dat : Dat τ (Elt Ideal) Unit ℕ (UR sig nD τ) ℕ cfg0 c)
    (h : ∀ t : Fin cfg0.N, dat.after 14 t = ocOf m c t.val) : dat.arrAt 14 cfg0.N = result m c :=
  dat.arrAt_eq_of_cover 14 (result m c)
    (fun t hf => by
      funext (y : S1024x256.Idx)
      obtain ⟨r, l, rfl⟩ : ∃ (r : Fin 1024) (l : Fin 256), y = ix2 r l := ⟨y 0, y 1, eq_ix2 y⟩
      have hr := r.isLt
      have hl := l.isLt
      refine (congrFun (h t) (ix2 r l)).trans ((oc_apply m c t r l).trans ?_)
      rw [View.read_apply]
      refine congrArg (result m c) (funext fun a => Fin.ext ?_)
      match a with
      | ⟨0, _⟩ => show t.val % 16 * 1024 + r.val = win0_14.index t 0 * 1024 + 1 * r.val; rw [(idx t).2.2.2.2.2.2.2.1.1]; omega
      | ⟨1, _⟩ => show t.val / 16 * 256 + l.val = win0_14.index t 1 * 256 + 1 * l.val; rw [(idx t).2.2.2.2.2.2.2.1.2]; omega)
    fun (i : S16384x1536.Idx) => by
    have h0 : (i 0).val < 16384 := (i 0).isLt
    have h1 : (i 1).val < 1536 := (i 1).isLt
    refine ⟨⟨(i 1).val / 256 * 16 + (i 0).val / 1024, by rw [N96]; omega⟩, flush0_14 _, ?_⟩
    generalize ht : (⟨(i 1).val / 256 * 16 + (i 0).val / 1024, _⟩ : Fin cfg0.N) = t
    have hv : t.val = (i 1).val / 256 * 16 + (i 0).val / 1024 := by rw [← ht]
    show i ∈ ((View.whole main_v26_0).slice (win0_14.rect t)).set
    rw [View.set_slice_whole, Rect.mem_set_unit]
    intro a
    match a with
    | ⟨0, _⟩ => show win0_14.index t 0 * 1024 ≤ (i 0).val ∧ (i 0).val < win0_14.index t 0 * 1024 + 1024; rw [(idx t).2.2.2.2.2.2.2.1.1]; omega
    | ⟨1, _⟩ => show win0_14.index t 1 * 256 ≤ (i 1).val ∧ (i 1).val < win0_14.index t 1 * 256 + 256; rw [(idx t).2.2.2.2.2.2.2.1.2]; omega

/-- The run: the convolution result ends at the reference's, the arguments end unchanged. -/
theorem run_value : θ_run defs (onTc (τ := τ) (main (F := Ideal))) ⟨m, fun _ => 0, ρ⟩ (fun r => ∀ c : Dev nD,
      r.2.mem ((c.tc : Thread nD τ).loc main_v26_0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => by
      obtain ⟨after, hL, hA⟩ := Pipeline.RDat.FramePost.exists_exact h.1 c
      refine ⟨(hA 14).trans (final m c _ fun t => ?_),
        (Pipeline.RDat.FramePost.arr_in h.1 c 1 rfl).trans ((A_eq m c 1).trans (V_main_arg0 m c)),
        (Pipeline.RDat.FramePost.arr_in h.1 c 5 rfl).trans ((A_eq m c 5).trans (V_main_arg1 m c)),
        (Pipeline.RDat.FramePost.arr_in h.1 c 6 rfl).trans ((A_eq m c 6).trans (V_main_arg2 m c)),
        ((h.1 c).2 main_arg3 (Pipeline.mem_restRefs_of main_arg3 (by decide) (by decide))).trans (V_main_arg3 m c),
        (Pipeline.RDat.FramePost.arr_in h.1 c 11 rfl).trans ((A_eq m c 11).trans (V_main_arg4 m c))⟩
      exact Dat.toRRel_leaves (dats m 0 c) (fgt := held0) (Rl := Rl0 m c) (w := 14) rfl (hL 14 t (flush0_14 t))) (run_main_quiescent m ρ)

/-- The claim: both programs end with the reference's result. -/
theorem algebraic : Cert.algebraic_Kernel6Ideal_Reference6Ideal := by
  intro m g m' g' _ hag
  refine ⟨fun c => result m c, run_value m g, ?_⟩
  exact (θ_run _ _ _).mono (fun r h c => ⟨(h c).1.trans (by
      rw [(Cert.Reference6Ideal.Read.val_main_v43_eq _ _), (hag c).1, (hag c).2.1, (hag c).2.2.1, (hag c).2.2.2.1]), (h c).2⟩)
    (Cert.Reference6Ideal.Value.run m' g')

end Cert.Kernel6Ideal.Value

end
-- ==== Proof.Value7.lean ====
module

public import proofs.«01_k».proof.Defs
public import proofs.«01_k».proof.Proof.Gen.Kernel7Ideal.Value
public import proofs.«01_k».proof.Proof.Gen.Reference7Ideal.Read
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

/-! # The input projection: 96 slabs of 128 columns -/

namespace Cert.Reference7Ideal.Read

open Cert.Reference7Ideal

/-- The reference's slab `s` at row `r`, lane `l`: row `r` of `h` times column `12288 + 128 s + l` of the first layer's matrix. -/
theorem ref_apply (x0 : FVec Ideal S16384x2048 .bf16) (x1 : FVec Ideal S2x2048x24576 .f32) (s : Fin 96) (r : Fin 16384) (l : Fin 128) :
    val_main_v7 (F := Ideal) x0 x1 (ix3 s r l)
      = ∑ k : Fin 2048, (x0 (ix2 r k) : EReal) * (x1 (ix3 1 k ⟨12288 + (s.val * 128 + l.val), by have := s.isLt; have := l.isLt; omega⟩) : EReal) := by
  pointwise [val_main_v7, val_main_v6, val_main_v5, val_main_v4, val_main_v3, val_main_v2, val_main_v1, val_main_v0]

end Cert.Reference7Ideal.Read

namespace Cert.Kernel7Ideal.Value

open Cert.Kernel7Ideal Cert.Kernel7Ideal.Gen

/-- A block's product at a row and a column. -/
theorem pay_apply (P0 : FVec Ideal S2048x2048 .bf16) (P1 : FVec Ideal S1x2048x1024 .f32) (r : Fin 2048) (l : Fin 1024) :
    k0_pay4 (F := Ideal) P0 P1 (ix2 r l) = ∑ k : Fin 2048, (P0 (ix2 r k) : EReal) * (P1 (ix3 0 k l) : EReal) := by
  pointwise [k0_pay4]

/-- Which block each window is on at point `t`. -/
theorem idx : ∀ t : Fin cfg0.N, (win0_0.index t 0 = t.val % 8 ∧ win0_0.index t 1 = 0)
    ∧ (win0_1.index t 0 = 1 ∧ win0_1.index t 1 = 0 ∧ win0_1.index t 2 = 12 + t.val / 8)
    ∧ (win0_2.index t 0 = t.val / 8 ∧ win0_2.index t 1 = t.val % 8 ∧ win0_2.index t 2 = 0) :=
  (by decide +kernel : ∀ t : Fin grid0.N, (win0_0.index t 0 = t.val % 8 ∧ win0_0.index t 1 = 0)
    ∧ (win0_1.index t 0 = 1 ∧ win0_1.index t 1 = 0 ∧ win0_1.index t 2 = 12 + t.val / 8)
    ∧ (win0_2.index t 0 = t.val / 8 ∧ win0_2.index t 1 = t.val % 8 ∧ win0_2.index t 2 = 0))

theorem N96 : cfg0.N = 96 := N_0

variable (m : (ℓ : Loc nD τ sig) → Buf (Elt Ideal) ℓ) (ρ : Dev nD → PrngReg)

/-- The rows of `h` at point `t`. -/
theorem blk0 (c : Dev nD) (t : Fin cfg0.N) (r k : Fin 2048) :
    iblk m c 0 t (ix2 r k) = m ((c : Thread nD τ).loc main_arg0) (ix2 ⟨t.val % 8 * 2048 + r.val, by have := r.isLt; omega⟩ k) := by
  unfold iblk
  rw [View.read_apply]
  show V m c main_arg0 _ = _
  rw [V_main_arg0]
  congr 1
  funext a
  apply Fin.ext
  match a with
  | ⟨0, _⟩ => show win0_0.index t 0 * 2048 + 1 * r.val = t.val % 8 * 2048 + r.val; rw [(idx t).1.1]; omega
  | ⟨1, _⟩ => show win0_0.index t 1 * 2048 + 1 * k.val = k.val; rw [(idx t).1.2]; omega

/-- The columns of the matrix at point `t`. -/
theorem blk1 (c : Dev nD) (t : Fin cfg0.N) (k : Fin 2048) (l : Fin 1024) :
    iblk m c 1 t (ix3 0 k l) = m ((c : Thread nD τ).loc main_arg1)
      (ix3 1 k ⟨12288 + t.val / 8 * 1024 + l.val, by have := l.isLt; have := t.isLt; have := N96; omega⟩) := by
  unfold iblk
  rw [View.read_apply]
  show V m c main_arg1 _ = _
  rw [V_main_arg1]
  congr 1
  funext a
  apply Fin.ext
  match a with
  | ⟨0, _⟩ => show win0_1.index t 0 * 1 + 1 * 0 = 1; rw [(idx t).2.1.1]
  | ⟨1, _⟩ => show win0_1.index t 1 * 2048 + 1 * k.val = k.val; rw [(idx t).2.1.2.1]; omega
  | ⟨2, _⟩ => show win0_1.index t 2 * 1024 + 1 * l.val = 12288 + t.val / 8 * 1024 + l.val; rw [(idx t).2.1.2.2]; omega

/-- The reference's result at the launched arguments. -/
abbrev result (c : Dev nD) : Buf (Elt Ideal) ((c : Thread nD τ).loc main_v0) :=
  Cert.Reference7Ideal.Read.val_main_v7 (F := Ideal) (m ((c : Thread nD τ).loc main_arg0)) (m ((c : Thread nD τ).loc main_arg1))

theorem hz2 : (![0, 0] : Fin 2 → Nat) = fun _ => 0 := funext fun a => by fin_cases a <;> rfl
theorem hz3 : (![0, 0, 0] : Fin 3 → Nat) = fun _ => 0 := funext fun a => by fin_cases a <;> rfl

attribute [local irreducible] k0_pay4 Cert.Reference7Ideal.Read.val_main_v7

/-- A slab's element of a block's product. -/
theorem E2_apply (P0 : FVec Ideal S2048x2048 .bf16) (P1 : FVec Ideal S1x2048x1024 .f32) (s : Fin 8) (r : Fin 2048) (l : Fin 128) :
    E2 (F := Ideal) P0 P1 (ix3 s r l)
      = ∑ k : Fin 2048, (P0 (ix2 r k) : EReal) * (P1 (ix3 0 k ⟨s.val * 128 + l.val, by have := s.isLt; have := l.isLt; omega⟩) : EReal) := by
  have e : ix2_0 (ix3 s r l) = ix2 r ⟨s.val * 128 + l.val, by have := s.isLt; have := l.isLt; omega⟩ := by
    funext a
    match a with
    | ⟨0, _⟩ => rfl
    | ⟨1, _⟩ => rfl
  rw [← pay_apply, ← e]
  show FloatOps.truncf (F := Ideal) .bf16 bitsLt_bf16_f32 (k0_pay4 (F := Ideal) P0 P1 (ix2_0 (ix3 s r l))) = _
  generalize k0_pay4 (F := Ideal) P0 P1 (ix2_0 (ix3 s r l)) = z
  rfl

/-- What point `t` writes back is its block of the reference's result. -/
theorem flushed_eq (c : Dev nD) (t : Fin cfg0.N) (hf : (cfg0.win 2).flush t = true) :
    (dats m 0 c).flushed 2 t = ((cfg0.win 2).blk t).view.read (Elt Ideal) (result m c) := by
  rw [flushed2]
  unfold_out out0_2
  rw [View.ld_unit_zero hz2, View.ld_unit_zero hz3]
  funext (y : S8x2048x128.Idx)
  refine (canon2_eq _ _ y).trans ?_
  obtain ⟨s, r, l, rfl⟩ : ∃ (s : Fin 8) (r : Fin 2048) (l : Fin 128), y = ix3 s r l := ⟨y 0, y 1, y 2, eq_ix3 y⟩
  rw [View.read_apply]
  have hs := s.isLt
  have hr := r.isLt
  have hl := l.isLt
  have ht : t.val < 96 := lt_of_lt_of_eq t.isLt N96
  rw [E2_apply]
  have e : ((cfg0.win 2).blk t).view.emb (ix3 s r l) = ix3 ⟨t.val / 8 * 8 + s.val, by omega⟩ ⟨t.val % 8 * 2048 + r.val, by omega⟩ l := by
    funext a
    apply Fin.ext
    match a with
    | ⟨0, _⟩ => show win0_2.index t 0 * 8 + 1 * s.val = t.val / 8 * 8 + s.val; rw [(idx t).2.2.1]; omega
    | ⟨1, _⟩ => show win0_2.index t 1 * 2048 + 1 * r.val = t.val % 8 * 2048 + r.val; rw [(idx t).2.2.2.1]; omega
    | ⟨2, _⟩ => show win0_2.index t 2 * 128 + 1 * l.val = l.val; rw [(idx t).2.2.2.2]; omega
  show _ = result m c (((cfg0.win 2).blk t).view.emb (ix3 s r l))
  rw [e]
  refine Eq.trans ?_ (Cert.Reference7Ideal.Read.ref_apply _ _ _ _ _).symm
  refine Finset.sum_congr (M := EReal) rfl fun k _ => ?_
  rw [blk0, blk1]
  refine congrArg _ (congrArg _ ?_)
  congr 1
  apply Fin.ext
  show 12288 + t.val / 8 * 1024 + (s.val * 128 + l.val) = 12288 + ((t.val / 8 * 8 + s.val) * 128 + l.val)
  omega

/-- The slabs the run leaves are the reference's: the points' blocks cover the result. -/
theorem final (c : Dev nD) : (dats m 0 c).arrAt 2 cfg0.N = result m c :=
  (dats m 0 c).arrAt_eq_of_cover 2 (result m c) (flushed_eq m c) fun (i : S96x16384x128.Idx) => by
    have h0 : (i 0).val < 96 := (i 0).isLt
    have h1 : (i 1).val < 16384 := (i 1).isLt
    have h2 : (i 2).val < 128 := (i 2).isLt
    refine ⟨⟨(i 0).val / 8 * 8 + (i 1).val / 2048, by rw [N96]; omega⟩, flush0_2 _, ?_⟩
    generalize ht : (⟨(i 0).val / 8 * 8 + (i 1).val / 2048, _⟩ : Fin cfg0.N) = t
    have hv : t.val = (i 0).val / 8 * 8 + (i 1).val / 2048 := by rw [← ht]
    show i ∈ ((View.whole main_v0).slice (win0_2.rect t)).set
    rw [View.set_slice_whole, Rect.mem_set_unit]
    intro a
    match a with
    | ⟨0, _⟩ => show win0_2.index t 0 * 8 ≤ (i 0).val ∧ (i 0).val < win0_2.index t 0 * 8 + 8; rw [(idx t).2.2.1]; omega
    | ⟨1, _⟩ => show win0_2.index t 1 * 2048 ≤ (i 1).val ∧ (i 1).val < win0_2.index t 1 * 2048 + 2048; rw [(idx t).2.2.2.1]; omega
    | ⟨2, _⟩ => show win0_2.index t 2 * 128 ≤ (i 2).val ∧ (i 2).val < win0_2.index t 2 * 128 + 128; rw [(idx t).2.2.2.2]; omega

/-- The claim: both programs end with the reference's slabs. -/
theorem algebraic : Cert.algebraic_Kernel7Ideal_Reference7Ideal := by
  intro m g m' g' _ hag
  refine ⟨fun c => result m c, ?_, ?_⟩
  · exact (θ_run _ _ _).mono (fun r h c => ⟨(h c).1.trans (final m c), (h c).2⟩) (run_blocks m g)
  · exact (θ_run _ _ _).mono (fun r h c => ⟨(h c).1.trans (by
      rw [(hag c).1, (hag c).2]
      exact Cert.Reference7Ideal.Read.val_main_v7_eq _ _), (h c).2⟩) (Cert.Reference7Ideal.Value.run m' g')

end Cert.Kernel7Ideal.Value

end
-- ==== Proof.Value8.lean ====
module

public import proofs.«01_k».proof.Defs
public import proofs.«01_k».proof.Proof.Gen.Kernel8Ideal.Value
public import proofs.«01_k».proof.Proof.Gen.Reference8Ideal.Read
public import Idealize.ShloMosaic.Lib.Pointwise
public import Idealize.ShloMosaic.Lib.WholeRead
public import Idealize.ShloMosaic.Lib.Claim

@[expose] public section

set_option maxRecDepth 16384

noncomputable section

open Idealize.ShloMosaic Idealize.ShloMosaic.TcCoe Idealize.SL.Sem
open Idealize.ShloMosaic.Pipeline (Dat)

/-! # Attention's projection: 48 slabs of 128 columns, in two orders of the positions -/

namespace Cert.Kernel8Ideal.Value

open Cert.Kernel8Ideal Cert.Kernel8Ideal.Gen

/-- The factor of slab `s` of a point's eight: attention's scale for q's slabs, one for the others. -/
def fac (i : grid0.Coords) (s : Nat) : EReal :=
  Scalar.select (Scalar.cmpi .slt (Scalar.addi (Scalar.muli (BitVec.ofNat 32 (i 0).val) 8#32) (BitVec.ofNat 32 s)) 12#32)
    (Scalar.ofBits (F := Ideal) .f32 0x3E0293EE#32) (Scalar.ofBits (F := Ideal) .f32 0x3F800000#32)

/-- The products of a pair of slabs. -/
theorem prod_apply (P0 : FVec Ideal S1024x2048 .bf16) (P1 : FVec Ideal S1x2048x256 .f32) (r : Fin 1024) (l : Fin 256) :
    k0_pay1 (F := Ideal) P0 P1 (ix2 r l) = ∑ k : Fin 2048, (P0 (ix2 r k) : EReal) * (P1 (ix3 0 k l) : EReal) := by
  pointwise [k0_pay1]

theorem pay17_eq : @k0_pay17 Ideal _ = k0_pay1 := rfl
theorem pay33_eq : @k0_pay33 Ideal _ = k0_pay1 := rfl
theorem pay49_eq : @k0_pay49 Ideal _ = k0_pay1 := rfl

attribute [local irreducible] k0_pay1

/-- Slab 0 of a point: its factor times the product. -/
theorem core0 (i : grid0.Coords) (P0 : FVec Ideal S1024x2048 .bf16) (P1 : FVec Ideal S1x2048x256 .f32) (r : Fin 1024) (l : Fin 128) :
    k0_pay2 (F := Ideal) i P0 P1 (ix2 r l)
      = (∑ k : Fin 2048, (P0 (ix2 r k) : EReal) * (P1 (ix3 0 k ⟨l.val, by have := l.isLt; omega⟩) : EReal)) * fac i 0 := by
  rw [← prod_apply]
  have e : k0_pay2 (F := Ideal) i P0 P1 (ix2 r l)
      = (k0_pay1 (F := Ideal) P0 P1 (ix2 ⟨0 + r.val, by have := r.isLt; omega⟩ ⟨0 + l.val, by have := l.isLt; omega⟩) : EReal) * fac i 0 := by
    pointwise [k0_pay2, fac]
  rw [e]
  congr 2
  simp only [Nat.zero_add]

/-- Slab 1 of a point: its factor times the product. -/
theorem core1 (i : grid0.Coords) (P0 : FVec Ideal S1024x2048 .bf16) (P1 : FVec Ideal S1x2048x256 .f32) (r : Fin 1024) (l : Fin 128) :
    k0_pay10 (F := Ideal) (BitVec.ofNat 32 (i 0).val) (k0_pay1 P0 P1) (ix2 r l)
      = (∑ k : Fin 2048, (P0 (ix2 r k) : EReal) * (P1 (ix3 0 k ⟨128 + l.val, by have := l.isLt; omega⟩) : EReal)) * fac i 1 := by
  rw [← prod_apply]
  generalize k0_pay1 (F := Ideal) P0 P1 = v
  pointwise [k0_pay10, fac]

/-- Slab 2 of a point: its factor times the product. -/
theorem core2 (i : grid0.Coords) (P0 : FVec Ideal S1024x2048 .bf16) (P1 : FVec Ideal S1x2048x256 .f32) (r : Fin 1024) (l : Fin 128) :
    k0_pay18 (F := Ideal) (BitVec.ofNat 32 (i 0).val) P0 P1 (ix2 r l)
      = (∑ k : Fin 2048, (P0 (ix2 r k) : EReal) * (P1 (ix3 0 k ⟨l.val, by have := l.isLt; omega⟩) : EReal)) * fac i 2 := by
  rw [← prod_apply]
  have e : k0_pay18 (F := Ideal) (BitVec.ofNat 32 (i 0).val) P0 P1 (ix2 r l)
      = (k0_pay1 (F := Ideal) P0 P1 (ix2 ⟨0 + r.val, by have := r.isLt; omega⟩ ⟨0 + l.val, by have := l.isLt; omega⟩) : EReal) * fac i 2 := by
    pointwise [k0_pay18, fac]
    rw [pay17_eq]
  rw [e]
  congr 2
  simp only [Nat.zero_add]

/-- Slab 3 of a point: its factor times the product. -/
theorem core3 (i : grid0.Coords) (P0 : FVec Ideal S1024x2048 .bf16) (P1 : FVec Ideal S1x2048x256 .f32) (r : Fin 1024) (l : Fin 128) :
    k0_pay26 (F := Ideal) (BitVec.ofNat 32 (i 0).val) (k0_pay17 P0 P1) (ix2 r l)
      = (∑ k : Fin 2048, (P0 (ix2 r k) : EReal) * (P1 (ix3 0 k ⟨128 + l.val, by have := l.isLt; omega⟩) : EReal)) * fac i 3 := by
  rw [← prod_apply, pay17_eq]
  generalize k0_pay1 (F := Ideal) P0 P1 = v
  pointwise [k0_pay26, fac]

/-- Slab 4 of a point: its factor times the product. -/
theorem core4 (i : grid0.Coords) (P0 : FVec Ideal S1024x2048 .bf16) (P1 : FVec Ideal S1x2048x256 .f32) (r : Fin 1024) (l : Fin 128) :
    k0_pay34 (F := Ideal) (BitVec.ofNat 32 (i 0).val) P0 P1 (ix2 r l)
      = (∑ k : Fin 2048, (P0 (ix2 r k) : EReal) * (P1 (ix3 0 k ⟨l.val, by have := l.isLt; omega⟩) : EReal)) * fac i 4 := by
  rw [← prod_apply]
  have e : k0_pay34 (F := Ideal) (BitVec.ofNat 32 (i 0).val) P0 P1 (ix2 r l)
      = (k0_pay1 (F := Ideal) P0 P1 (ix2 ⟨0 + r.val, by have := r.isLt; omega⟩ ⟨0 + l.val, by have := l.isLt; omega⟩) : EReal) * fac i 4 := by
    pointwise [k0_pay34, fac]
    rw [pay33_eq]
  rw [e]
  congr 2
  simp only [Nat.zero_add]

/-- Slab 5 of a point: its factor times the product. -/
theorem core5 (i : grid0.Coords) (P0 : FVec Ideal S1024x2048 .bf16) (P1 : FVec Ideal S1x2048x256 .f32) (r : Fin 1024) (l : Fin 128) :
    k0_pay42 (F := Ideal) (BitVec.ofNat 32 (i 0).val) (k0_pay33 P0 P1) (ix2 r l)
      = (∑ k : Fin 2048, (P0 (ix2 r k) : EReal) * (P1 (ix3 0 k ⟨128 + l.val, by have := l.isLt; omega⟩) : EReal)) * fac i 5 := by
  rw [← prod_apply, pay33_eq]
  generalize k0_pay1 (F := Ideal) P0 P1 = v
  pointwise [k0_pay42, fac]

/-- Slab 6 of a point: its factor times the product. -/
theorem core6 (i : grid0.Coords) (P0 : FVec Ideal S1024x2048 .bf16) (P1 : FVec Ideal S1x2048x256 .f32) (r : Fin 1024) (l : Fin 128) :
    k0_pay50 (F := Ideal) (BitVec.ofNat 32 (i 0).val) P0 P1 (ix2 r l)
      = (∑ k : Fin 2048, (P0 (ix2 r k) : EReal) * (P1 (ix3 0 k ⟨l.val, by have := l.isLt; omega⟩) : EReal)) * fac i 6 := by
  rw [← prod_apply]
  have e : k0_pay50 (F := Ideal) (BitVec.ofNat 32 (i 0).val) P0 P1 (ix2 r l)
      = (k0_pay1 (F := Ideal) P0 P1 (ix2 ⟨0 + r.val, by have := r.isLt; omega⟩ ⟨0 + l.val, by have := l.isLt; omega⟩) : EReal) * fac i 6 := by
    pointwise [k0_pay50, fac]
    rw [pay49_eq]
  rw [e]
  congr 2
  simp only [Nat.zero_add]

/-- Slab 7 of a point: its factor times the product. -/
theorem core7 (i : grid0.Coords) (P0 : FVec Ideal S1024x2048 .bf16) (P1 : FVec Ideal S1x2048x256 .f32) (r : Fin 1024) (l : Fin 128) :
    k0_pay57 (F := Ideal) (BitVec.ofNat 32 (i 0).val) (k0_pay49 P0 P1) (ix2 r l)
      = (∑ k : Fin 2048, (P0 (ix2 r k) : EReal) * (P1 (ix3 0 k ⟨128 + l.val, by have := l.isLt; omega⟩) : EReal)) * fac i 7 := by
  rw [← prod_apply, pay49_eq]
  generalize k0_pay1 (F := Ideal) P0 P1 = v
  pointwise [k0_pay57, fac]

attribute [local irreducible] k0_pay2 k0_pay10 k0_pay18 k0_pay26 k0_pay34 k0_pay42 k0_pay50 k0_pay57 fac

/-- A point's slab `s` at row `r`, lane `l`. -/
def G (i : grid0.Coords) (x0 : Vec Ideal S1024x2048 .bf16) (x1 : Vec Ideal S1x2048x1024 .f32) (s : Fin 8) (r : Fin 1024) (l : Fin 128) : EReal :=
  (∑ k : Fin 2048, (x0 (ix2 r k) : EReal) * (x1 (ix3 0 k ⟨s.val * 128 + l.val, by have := s.isLt; have := l.isLt; omega⟩) : EReal)) * fac i s.val

theorem castN (V : FVec Ideal S1024x128 .f32) (r : Fin 1024) (l : Fin 128) :
    shapeCast S1x1024x128 (truncf (F := Ideal) .bf16 V bitsLt_bf16_f32) shapeCasts_S1024x128_S1x1024x128 (ix3 0 r l) = V (ix2 r l) := by
  pointwise []

theorem castS (V : FVec Ideal S1024x128 .f32) (r : Fin 1024) (l : Fin 128) :
    shapeCast S1x1024x128 V shapeCasts_S1024x128_S1x1024x128 (ix3 0 r l) = V (ix2 r l) := by
  pointwise []

theorem castC (V : FVec Ideal S1x256x128 .f32) (q : Fin 256) (l : Fin 128) :
    shapeCast S1x1x1x256x128 (shapeCast S256x128 V shapeCasts_S1x256x128_S256x128) shapeCasts_S256x128_S1x1x1x256x128 (ix5 0 0 0 q l) = V (ix3 0 q l) := by
  pointwise []

/-- Every fourth row of the slab written last, read back. -/
theorem strided (v : View sig .tc .vmem S8x1024x128 .f32) (n : Nat) (inb) (W : (Rect.unit (s := S8x1024x128) ![n, 0, 0] ![1, 1024, 128] inb).shape.Idx → EReal)
    (L : List (View.Piece (Elt Ideal) S8x1024x128 .f32)) (ρ : Nat) (hρ : ρ < 4) (inb') (q : Fin 256) (l : Fin 128) :
    v.readCov (Val := Elt Ideal) (⟨Rect.unit ![n, 0, 0] ![1, 1024, 128] inb, W⟩ :: L) { off := ![n, ρ, 0], size := ![1, 256, 128], stride := ![1, 4, 1], inb := inb' } (ix3 0 q l)
      = W (ix3 0 ⟨4 * q.val + ρ, by have := q.isLt; omega⟩ l) := by
  rw [View.readCov_eq_canon']
  refine Eq.trans (congrArg _ ?_) (View.canon_cons_emb _ W L (ix3 0 ⟨4 * q.val + ρ, by have := q.isLt; omega⟩ l))
  funext a
  apply Fin.ext
  match a with
  | ⟨0, _⟩ => rfl
  | ⟨1, _⟩ => show ρ + 4 * q.val = 0 + 1 * (4 * q.val + ρ); omega
  | ⟨2, _⟩ => rfl

theorem ix_of (x : S1x1x1x256x128.Idx) : ∃ (q : Fin 256) (l : Fin 128), x = ix5 0 0 0 q l :=
  ⟨x 3, x 4, (eq_ix5 x).trans (by congr 1 <;> exact Subsingleton.elim (α := Fin 1) _ _)⟩

theorem G_congr (i : grid0.Coords) (x0 : Vec Ideal S1024x2048 .bf16) (x1 : Vec Ideal S1x2048x1024 .f32) {s s' : Fin 8} {r r' : Fin 1024} {l l' : Fin 128}
    (hs : s.val = s'.val) (hr : r.val = r'.val) (hl : l.val = l'.val) : G i x0 x1 s r l = G i x0 x1 s' r' l' := by
  rw [Fin.ext hs, Fin.ext hr, Fin.ext hl]

section
variable (c : Dev nD) (i : grid0.Coords) (arg2 : Memref sig .tc .vmem S1024x2048 .bf16) (harg2 : arg2.IsWhole) (arg3 : Memref sig .tc .vmem S1x2048x1024 .f32) (harg3 : arg3.IsWhole) (arg4 : Memref sig .tc .vmem S8x1024x128 .bf16) (harg4 : arg4.IsWhole) (arg5 : Memref sig .tc .vmem S8x1x4x256x128 .f32) (harg5 : arg5.IsWhole) (arg6 : Memref sig .tc .vmem S8x1024x128 .f32) (harg6 : arg6.IsWhole)
    (x0 : Vec Ideal S1024x2048 .bf16) (x1 : Vec Ideal S1x2048x1024 .f32)

/-- The rows as the body loads them. -/
abbrev A : Vec Ideal S1024x2048 .bf16 :=
  View.readAt (Elt Ideal) arg2.view (Rect.unit (s := S1024x2048) ![0, 0] ![1024, 2048] inb_S1024x2048_S1024x2048_0_0).toLoadRect (harg2.unread x0)

theorem ldA (r : Fin 1024) (k : Fin 2048) : A arg2 harg2 x0 (ix2 r k) = x0 (ix2 r k) := by
  refine (harg2.readAt_unread x0 _ _).trans (congrArg x0 ?_)
  funext a
  apply Fin.ext
  match a with
  | ⟨0, _⟩ => show 0 + 1 * r.val = r.val; omega
  | ⟨1, _⟩ => show 0 + 1 * k.val = k.val; omega

theorem ldB (o : Nat) (ho : o + 256 ≤ 1024) (inb) (k : Fin 2048) (l : Fin 256) :
    View.readAt (Elt Ideal) arg3.view (Rect.unit (s := S1x2048x1024) ![0, 0, o] ![1, 2048, 256] inb).toLoadRect (harg3.unread x1) (ix3 0 k l)
      = x1 (ix3 0 k ⟨o + l.val, by have := l.isLt; omega⟩) := by
  refine (harg3.readAt_unread x1 _ _).trans (congrArg x1 ?_)
  funext a
  apply Fin.ext
  match a with
  | ⟨0, _⟩ => rfl
  | ⟨1, _⟩ => show 0 + 1 * k.val = k.val; omega
  | ⟨2, _⟩ => show o + 1 * l.val = o + l.val; omega

/-- What the body computes for slab 0. -/
abbrev slab0 : FVec Ideal S1024x128 .f32 := k0_pay2 (F := Ideal) i (A arg2 harg2 x0) (View.readAt (Elt Ideal) arg3.view (Rect.unit (s := S1x2048x1024) ![0, 0, 0] ![1, 2048, 256] inb_S1x2048x1024_S1x2048x256_0_0_0).toLoadRect (harg3.unread x1))

theorem slab0_apply (r : Fin 1024) (l : Fin 128) : slab0 i arg2 harg2 arg3 harg3 x0 x1 (ix2 r l) = G i x0 x1 0 r l := by
  refine (core0 i _ _ r l).trans ?_
  unfold G
  refine congrArg (· * fac i 0) ?_
  refine Finset.sum_congr (M := EReal) rfl fun k _ => ?_
  rw [ldA, ldB arg3 harg3 x1 0 (by omega)]
  refine congrArg _ (congrArg x1 (congrArg (ix3 0 k) (Fin.ext ?_)))
  show 0 + l.val = 0 * 128 + l.val
  omega

/-- What the body computes for slab 1. -/
abbrev slab1 : FVec Ideal S1024x128 .f32 := k0_pay10 (F := Ideal) (BitVec.ofNat 32 (i 0).val) (k0_pay1 (A arg2 harg2 x0) (View.readAt (Elt Ideal) arg3.view (Rect.unit (s := S1x2048x1024) ![0, 0, 0] ![1, 2048, 256] inb_S1x2048x1024_S1x2048x256_0_0_0).toLoadRect (harg3.unread x1)))

theorem slab1_apply (r : Fin 1024) (l : Fin 128) : slab1 i arg2 harg2 arg3 harg3 x0 x1 (ix2 r l) = G i x0 x1 1 r l := by
  refine (core1 i _ _ r l).trans ?_
  unfold G
  refine congrArg (· * fac i 1) ?_
  refine Finset.sum_congr (M := EReal) rfl fun k _ => ?_
  rw [ldA, ldB arg3 harg3 x1 0 (by omega)]
  refine congrArg _ (congrArg x1 (congrArg (ix3 0 k) (Fin.ext ?_)))
  show 0 + (128 + l.val) = 1 * 128 + l.val
  omega

/-- What the body computes for slab 2. -/
abbrev slab2 : FVec Ideal S1024x128 .f32 := k0_pay18 (F := Ideal) (BitVec.ofNat 32 (i 0).val) (A arg2 harg2 x0) (View.readAt (Elt Ideal) arg3.view (Rect.unit (s := S1x2048x1024) ![0, 0, 256] ![1, 2048, 256] inb_S1x2048x1024_S1x2048x256_0_0_256).toLoadRect (harg3.unread x1))

theorem slab2_apply (r : Fin 1024) (l : Fin 128) : slab2 i arg2 harg2 arg3 harg3 x0 x1 (ix2 r l) = G i x0 x1 2 r l := by
  refine (core2 i _ _ r l).trans ?_
  unfold G
  refine congrArg (· * fac i 2) ?_
  refine Finset.sum_congr (M := EReal) rfl fun k _ => ?_
  rw [ldA, ldB arg3 harg3 x1 256 (by omega)]
  refine congrArg _ (congrArg x1 (congrArg (ix3 0 k) (Fin.ext ?_)))
  show 256 + l.val = 2 * 128 + l.val
  omega

/-- What the body computes for slab 3. -/
abbrev slab3 : FVec Ideal S1024x128 .f32 := k0_pay26 (F := Ideal) (BitVec.ofNat 32 (i 0).val) (k0_pay17 (A arg2 harg2 x0) (View.readAt (Elt Ideal) arg3.view (Rect.unit (s := S1x2048x1024) ![0, 0, 256] ![1, 2048, 256] inb_S1x2048x1024_S1x2048x256_0_0_256).toLoadRect (harg3.unread x1)))

theorem slab3_apply (r : Fin 1024) (l : Fin 128) : slab3 i arg2 harg2 arg3 harg3 x0 x1 (ix2 r l) = G i x0 x1 3 r l := by
  refine (core3 i _ _ r l).trans ?_
  unfold G
  refine congrArg (· * fac i 3) ?_
  refine Finset.sum_congr (M := EReal) rfl fun k _ => ?_
  rw [ldA, ldB arg3 harg3 x1 256 (by omega)]
  refine congrArg _ (congrArg x1 (congrArg (ix3 0 k) (Fin.ext ?_)))
  show 256 + (128 + l.val) = 3 * 128 + l.val
  omega

/-- What the body computes for slab 4. -/
abbrev slab4 : FVec Ideal S1024x128 .f32 := k0_pay34 (F := Ideal) (BitVec.ofNat 32 (i 0).val) (A arg2 harg2 x0) (View.readAt (Elt Ideal) arg3.view (Rect.unit (s := S1x2048x1024) ![0, 0, 512] ![1, 2048, 256] inb_S1x2048x1024_S1x2048x256_0_0_512).toLoadRect (harg3.unread x1))

theorem slab4_apply (r : Fin 1024) (l : Fin 128) : slab4 i arg2 harg2 arg3 harg3 x0 x1 (ix2 r l) = G i x0 x1 4 r l := by
  refine (core4 i _ _ r l).trans ?_
  unfold G
  refine congrArg (· * fac i 4) ?_
  refine Finset.sum_congr (M := EReal) rfl fun k _ => ?_
  rw [ldA, ldB arg3 harg3 x1 512 (by omega)]
  refine congrArg _ (congrArg x1 (congrArg (ix3 0 k) (Fin.ext ?_)))
  show 512 + l.val = 4 * 128 + l.val
  omega

/-- What the body computes for slab 5. -/
abbrev slab5 : FVec Ideal S1024x128 .f32 := k0_pay42 (F := Ideal) (BitVec.ofNat 32 (i 0).val) (k0_pay33 (A arg2 harg2 x0) (View.readAt (Elt Ideal) arg3.view (Rect.unit (s := S1x2048x1024) ![0, 0, 512] ![1, 2048, 256] inb_S1x2048x1024_S1x2048x256_0_0_512).toLoadRect (harg3.unread x1)))

theorem slab5_apply (r : Fin 1024) (l : Fin 128) : slab5 i arg2 harg2 arg3 harg3 x0 x1 (ix2 r l) = G i x0 x1 5 r l := by
  refine (core5 i _ _ r l).trans ?_
  unfold G
  refine congrArg (· * fac i 5) ?_
  refine Finset.sum_congr (M := EReal) rfl fun k _ => ?_
  rw [ldA, ldB arg3 harg3 x1 512 (by omega)]
  refine congrArg _ (congrArg x1 (congrArg (ix3 0 k) (Fin.ext ?_)))
  show 512 + (128 + l.val) = 5 * 128 + l.val
  omega

/-- What the body computes for slab 6. -/
abbrev slab6 : FVec Ideal S1024x128 .f32 := k0_pay50 (F := Ideal) (BitVec.ofNat 32 (i 0).val) (A arg2 harg2 x0) (View.readAt (Elt Ideal) arg3.view (Rect.unit (s := S1x2048x1024) ![0, 0, 768] ![1, 2048, 256] inb_S1x2048x1024_S1x2048x256_0_0_768).toLoadRect (harg3.unread x1))

theorem slab6_apply (r : Fin 1024) (l : Fin 128) : slab6 i arg2 harg2 arg3 harg3 x0 x1 (ix2 r l) = G i x0 x1 6 r l := by
  refine (core6 i _ _ r l).trans ?_
  unfold G
  refine congrArg (· * fac i 6) ?_
  refine Finset.sum_congr (M := EReal) rfl fun k _ => ?_
  rw [ldA, ldB arg3 harg3 x1 768 (by omega)]
  refine congrArg _ (congrArg x1 (congrArg (ix3 0 k) (Fin.ext ?_)))
  show 768 + l.val = 6 * 128 + l.val
  omega

/-- What the body computes for slab 7. -/
abbrev slab7 : FVec Ideal S1024x128 .f32 := k0_pay57 (F := Ideal) (BitVec.ofNat 32 (i 0).val) (k0_pay49 (A arg2 harg2 x0) (View.readAt (Elt Ideal) arg3.view (Rect.unit (s := S1x2048x1024) ![0, 0, 768] ![1, 2048, 256] inb_S1x2048x1024_S1x2048x256_0_0_768).toLoadRect (harg3.unread x1)))

theorem slab7_apply (r : Fin 1024) (l : Fin 128) : slab7 i arg2 harg2 arg3 harg3 x0 x1 (ix2 r l) = G i x0 x1 7 r l := by
  refine (core7 i _ _ r l).trans ?_
  unfold G
  refine congrArg (· * fac i 7) ?_
  refine Finset.sum_congr (M := EReal) rfl fun k _ => ?_
  rw [ldA, ldB arg3 harg3 x1 768 (by omega)]
  refine congrArg _ (congrArg x1 (congrArg (ix3 0 k) (Fin.ext ?_)))
  show 768 + (128 + l.val) = 7 * 128 + l.val
  omega

/-- Every fourth row of slab 0, as the body reads it back. -/
theorem back0 (ρ : Nat) (hρ : ρ < 4) (inb') (q : Fin 256) (l : Fin 128) :
    arg6.view.readCov (Val := Elt Ideal) (kernelRun0_A.sl.HS0_1 c i arg2 harg2 arg3 harg3 x0 x1)
        { off := ![0, ρ, 0], size := ![1, 256, 128], stride := ![1, 4, 1], inb := inb' } (ix3 0 q l)
      = G i x0 x1 0 ⟨4 * q.val + ρ, by have := q.isLt; omega⟩ l := by
  unfold kernelRun0_A.sl.HS0_1
  refine (strided arg6.view 0 _ _ _ ρ hρ inb' q l).trans ?_
  exact (castS (slab0 i arg2 harg2 arg3 harg3 x0 x1) _ l).trans (slab0_apply i arg2 harg2 arg3 harg3 x0 x1 _ l)

/-- Every fourth row of slab 1, as the body reads it back. -/
theorem back1 (ρ : Nat) (hρ : ρ < 4) (inb') (q : Fin 256) (l : Fin 128) :
    arg6.view.readCov (Val := Elt Ideal) (kernelRun0_A.sl.HS0_2 c i arg2 harg2 arg3 harg3 x0 x1)
        { off := ![1, ρ, 0], size := ![1, 256, 128], stride := ![1, 4, 1], inb := inb' } (ix3 0 q l)
      = G i x0 x1 1 ⟨4 * q.val + ρ, by have := q.isLt; omega⟩ l := by
  unfold kernelRun0_A.sl.HS0_2
  refine (strided arg6.view 1 _ _ _ ρ hρ inb' q l).trans ?_
  exact (castS (slab1 i arg2 harg2 arg3 harg3 x0 x1) _ l).trans (slab1_apply i arg2 harg2 arg3 harg3 x0 x1 _ l)

/-- Every fourth row of slab 2, as the body reads it back. -/
theorem back2 (ρ : Nat) (hρ : ρ < 4) (inb') (q : Fin 256) (l : Fin 128) :
    arg6.view.readCov (Val := Elt Ideal) (kernelRun0_A.sl.HS0_3 c i arg2 harg2 arg3 harg3 x0 x1)
        { off := ![2, ρ, 0], size := ![1, 256, 128], stride := ![1, 4, 1], inb := inb' } (ix3 0 q l)
      = G i x0 x1 2 ⟨4 * q.val + ρ, by have := q.isLt; omega⟩ l := by
  unfold kernelRun0_A.sl.HS0_3
  refine (strided arg6.view 2 _ _ _ ρ hρ inb' q l).trans ?_
  exact (castS (slab2 i arg2 harg2 arg3 harg3 x0 x1) _ l).trans (slab2_apply i arg2 harg2 arg3 harg3 x0 x1 _ l)

/-- Every fourth row of slab 3, as the body reads it back. -/
theorem back3 (ρ : Nat) (hρ : ρ < 4) (inb') (q : Fin 256) (l : Fin 128) :
    arg6.view.readCov (Val := Elt Ideal) (kernelRun0_A.sl.HS0_4 c i arg2 harg2 arg3 harg3 x0 x1)
        { off := ![3, ρ, 0], size := ![1, 256, 128], stride := ![1, 4, 1], inb := inb' } (ix3 0 q l)
      = G i x0 x1 3 ⟨4 * q.val + ρ, by have := q.isLt; omega⟩ l := by
  unfold kernelRun0_A.sl.HS0_4
  refine (strided arg6.view 3 _ _ _ ρ hρ inb' q l).trans ?_
  exact (castS (slab3 i arg2 harg2 arg3 harg3 x0 x1) _ l).trans (slab3_apply i arg2 harg2 arg3 harg3 x0 x1 _ l)

/-- Every fourth row of slab 4, as the body reads it back. -/
theorem back4 (ρ : Nat) (hρ : ρ < 4) (inb') (q : Fin 256) (l : Fin 128) :
    arg6.view.readCov (Val := Elt Ideal) (kernelRun0_A.sl.HS0_5 c i arg2 harg2 arg3 harg3 x0 x1)
        { off := ![4, ρ, 0], size := ![1, 256, 128], stride := ![1, 4, 1], inb := inb' } (ix3 0 q l)
      = G i x0 x1 4 ⟨4 * q.val + ρ, by have := q.isLt; omega⟩ l := by
  unfold kernelRun0_A.sl.HS0_5
  refine (strided arg6.view 4 _ _ _ ρ hρ inb' q l).trans ?_
  exact (castS (slab4 i arg2 harg2 arg3 harg3 x0 x1) _ l).trans (slab4_apply i arg2 harg2 arg3 harg3 x0 x1 _ l)

/-- Every fourth row of slab 5, as the body reads it back. -/
theorem back5 (ρ : Nat) (hρ : ρ < 4) (inb') (q : Fin 256) (l : Fin 128) :
    arg6.view.readCov (Val := Elt Ideal) (kernelRun0_A.sl.HS0_6 c i arg2 harg2 arg3 harg3 x0 x1)
        { off := ![5, ρ, 0], size := ![1, 256, 128], stride := ![1, 4, 1], inb := inb' } (ix3 0 q l)
      = G i x0 x1 5 ⟨4 * q.val + ρ, by have := q.isLt; omega⟩ l := by
  unfold kernelRun0_A.sl.HS0_6
  refine (strided arg6.view 5 _ _ _ ρ hρ inb' q l).trans ?_
  exact (castS (slab5 i arg2 harg2 arg3 harg3 x0 x1) _ l).trans (slab5_apply i arg2 harg2 arg3 harg3 x0 x1 _ l)

/-- Every fourth row of slab 6, as the body reads it back. -/
theorem back6 (ρ : Nat) (hρ : ρ < 4) (inb') (q : Fin 256) (l : Fin 128) :
    arg6.view.readCov (Val := Elt Ideal) (kernelRun0_A.sl.HS0_7 c i arg2 harg2 arg3 harg3 x0 x1)
        { off := ![6, ρ, 0], size := ![1, 256, 128], stride := ![1, 4, 1], inb := inb' } (ix3 0 q l)
      = G i x0 x1 6 ⟨4 * q.val + ρ, by have := q.isLt; omega⟩ l := by
  unfold kernelRun0_A.sl.HS0_7
  refine (strided arg6.view 6 _ _ _ ρ hρ inb' q l).trans ?_
  exact (castS (slab6 i arg2 harg2 arg3 harg3 x0 x1) _ l).trans (slab6_apply i arg2 harg2 arg3 harg3 x0 x1 _ l)

/-- Every fourth row of slab 7, as the body reads it back. -/
theorem back7 (ρ : Nat) (hρ : ρ < 4) (inb') (q : Fin 256) (l : Fin 128) :
    arg6.view.readCov (Val := Elt Ideal) (kernelRun0_A.sl.HS0_8 c i arg2 harg2 arg3 harg3 x0 x1)
        { off := ![7, ρ, 0], size := ![1, 256, 128], stride := ![1, 4, 1], inb := inb' } (ix3 0 q l)
      = G i x0 x1 7 ⟨4 * q.val + ρ, by have := q.isLt; omega⟩ l := by
  unfold kernelRun0_A.sl.HS0_8
  refine (strided arg6.view 7 _ _ _ ρ hρ inb' q l).trans ?_
  exact (castS (slab7 i arg2 harg2 arg3 harg3 x0 x1) _ l).trans (slab7_apply i arg2 harg2 arg3 harg3 x0 x1 _ l)

/-- The slabs a point leaves. -/
theorem out2_apply (s : Fin 8) (r : Fin 1024) (l : Fin 128) :
    out0_A_2 (F := Ideal) c i arg2 harg2 arg3 harg3 arg4 harg4 arg5 harg5 arg6 harg6 x0 x1 (ix3 s r l) = G i x0 x1 s r l := by
  unfold out0_A_2
  rw [View.read_writes_junk_eq_canon]
  refine View.canon_apply_of_pieces (Val := Elt Ideal) (e := .bf16) (fun y : S8x1024x128.Idx => G i x0 x1 (y 0) (y 1) (y 2)) _ ?_ (ix3 s r l)
    (cover0_A_2 (F := Ideal) c i arg2 harg2 arg3 harg3 arg4 harg4 arg5 harg5 arg6 harg6 x0 x1 (ix3 s r l))
  unfold kernelRun0_A
  dsimp only
  simp only [List.forall_mem_cons, List.not_mem_nil, false_imp_iff, implies_true, and_true]
  refine ⟨?_, ?_, ?_, ?_, ?_, ?_, ?_, ?_⟩
  · intro (x : S1x1024x128.Idx)
    obtain ⟨r, l, rfl⟩ : ∃ (r : Fin 1024) (l : Fin 128), x = ix3 0 r l := ⟨x 1, x 2, (eq_ix3 x).trans (by congr 1; exact Subsingleton.elim (α := Fin 1) _ _)⟩
    refine (castN (slab7 i arg2 harg2 arg3 harg3 x0 x1) r l).trans ((slab7_apply i arg2 harg2 arg3 harg3 x0 x1 r l).trans ?_)
    refine G_congr i x0 x1 rfl ?_ ?_
    · show r.val = 0 + 1 * r.val; omega
    · show l.val = 0 + 1 * l.val; omega
  · intro (x : S1x1024x128.Idx)
    obtain ⟨r, l, rfl⟩ : ∃ (r : Fin 1024) (l : Fin 128), x = ix3 0 r l := ⟨x 1, x 2, (eq_ix3 x).trans (by congr 1; exact Subsingleton.elim (α := Fin 1) _ _)⟩
    refine (castN (slab6 i arg2 harg2 arg3 harg3 x0 x1) r l).trans ((slab6_apply i arg2 harg2 arg3 harg3 x0 x1 r l).trans ?_)
    refine G_congr i x0 x1 rfl ?_ ?_
    · show r.val = 0 + 1 * r.val; omega
    · show l.val = 0 + 1 * l.val; omega
  · intro (x : S1x1024x128.Idx)
    obtain ⟨r, l, rfl⟩ : ∃ (r : Fin 1024) (l : Fin 128), x = ix3 0 r l := ⟨x 1, x 2, (eq_ix3 x).trans (by congr 1; exact Subsingleton.elim (α := Fin 1) _ _)⟩
    refine (castN (slab5 i arg2 harg2 arg3 harg3 x0 x1) r l).trans ((slab5_apply i arg2 harg2 arg3 harg3 x0 x1 r l).trans ?_)
    refine G_congr i x0 x1 rfl ?_ ?_
    · show r.val = 0 + 1 * r.val; omega
    · show l.val = 0 + 1 * l.val; omega
  · intro (x : S1x1024x128.Idx)
    obtain ⟨r, l, rfl⟩ : ∃ (r : Fin 1024) (l : Fin 128), x = ix3 0 r l := ⟨x 1, x 2, (eq_ix3 x).trans (by congr 1; exact Subsingleton.elim (α := Fin 1) _ _)⟩
    refine (castN (slab4 i arg2 harg2 arg3 harg3 x0 x1) r l).trans ((slab4_apply i arg2 harg2 arg3 harg3 x0 x1 r l).trans ?_)
    refine G_congr i x0 x1 rfl ?_ ?_
    · show r.val = 0 + 1 * r.val; omega
    · show l.val = 0 + 1 * l.val; omega
  · intro (x : S1x1024x128.Idx)
    obtain ⟨r, l, rfl⟩ : ∃ (r : Fin 1024) (l : Fin 128), x = ix3 0 r l := ⟨x 1, x 2, (eq_ix3 x).trans (by congr 1; exact Subsingleton.elim (α := Fin 1) _ _)⟩
    refine (castN (slab3 i arg2 harg2 arg3 harg3 x0 x1) r l).trans ((slab3_apply i arg2 harg2 arg3 harg3 x0 x1 r l).trans ?_)
    refine G_congr i x0 x1 rfl ?_ ?_
    · show r.val = 0 + 1 * r.val; omega
    · show l.val = 0 + 1 * l.val; omega
  · intro (x : S1x1024x128.Idx)
    obtain ⟨r, l, rfl⟩ : ∃ (r : Fin 1024) (l : Fin 128), x = ix3 0 r l := ⟨x 1, x 2, (eq_ix3 x).trans (by congr 1; exact Subsingleton.elim (α := Fin 1) _ _)⟩
    refine (castN (slab2 i arg2 harg2 arg3 harg3 x0 x1) r l).trans ((slab2_apply i arg2 harg2 arg3 harg3 x0 x1 r l).trans ?_)
    refine G_congr i x0 x1 rfl ?_ ?_
    · show r.val = 0 + 1 * r.val; omega
    · show l.val = 0 + 1 * l.val; omega
  · intro (x : S1x1024x128.Idx)
    obtain ⟨r, l, rfl⟩ : ∃ (r : Fin 1024) (l : Fin 128), x = ix3 0 r l := ⟨x 1, x 2, (eq_ix3 x).trans (by congr 1; exact Subsingleton.elim (α := Fin 1) _ _)⟩
    refine (castN (slab1 i arg2 harg2 arg3 harg3 x0 x1) r l).trans ((slab1_apply i arg2 harg2 arg3 harg3 x0 x1 r l).trans ?_)
    refine G_congr i x0 x1 rfl ?_ ?_
    · show r.val = 0 + 1 * r.val; omega
    · show l.val = 0 + 1 * l.val; omega
  · intro (x : S1x1024x128.Idx)
    obtain ⟨r, l, rfl⟩ : ∃ (r : Fin 1024) (l : Fin 128), x = ix3 0 r l := ⟨x 1, x 2, (eq_ix3 x).trans (by congr 1; exact Subsingleton.elim (α := Fin 1) _ _)⟩
    refine (castN (slab0 i arg2 harg2 arg3 harg3 x0 x1) r l).trans ((slab0_apply i arg2 harg2 arg3 harg3 x0 x1 r l).trans ?_)
    refine G_congr i x0 x1 rfl ?_ ?_
    · show r.val = 0 + 1 * r.val; omega
    · show l.val = 0 + 1 * l.val; omega

/-- The slabs with a point's rows sorted by remainder mod 4. -/
theorem out3_apply (s : Fin 8) (ρ : Fin 4) (q : Fin 256) (l : Fin 128) :
    out0_A_3 (F := Ideal) c i arg2 harg2 arg3 harg3 arg4 harg4 arg5 harg5 arg6 harg6 x0 x1 (ix5 s 0 ρ q l)
      = G i x0 x1 s ⟨4 * q.val + ρ.val, by have := q.isLt; have := ρ.isLt; omega⟩ l := by
  unfold out0_A_3
  rw [View.read_writes_junk_eq_canon]
  refine View.canon_apply_of_pieces (Val := Elt Ideal) (e := .f32) (fun y : S8x1x4x256x128.Idx => G i x0 x1 (y 0)
      ⟨4 * (y 3).val + (y 2).val, by have h3 : (y 3).val < 256 := (y 3).isLt; have h2 : (y 2).val < 4 := (y 2).isLt; omega⟩ (y 4)) _ ?_ (ix5 s 0 ρ q l)
    (cover0_A_3 (F := Ideal) c i arg2 harg2 arg3 harg3 arg4 harg4 arg5 harg5 arg6 harg6 x0 x1 (ix5 s 0 ρ q l))
  unfold kernelRun0_A
  dsimp only
  simp only [List.forall_mem_cons, List.not_mem_nil, false_imp_iff, implies_true, and_true]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  · intro (x : S1x1x1x256x128.Idx)
    obtain ⟨q, l, rfl⟩ := ix_of x
    refine (castC (arg6.view.readCov (Val := Elt Ideal) (kernelRun0_A.sl.HS0_8 c i arg2 harg2 arg3 harg3 x0 x1)
      { off := ![7, 3, 0], size := ![1, 256, 128], stride := ![1, 4, 1], inb := inb_S8x1024x128_S1x256x128_7_3_0_s_1_4_1 }) q l).trans ((back7 c i arg2 harg2 arg3 harg3 arg6 x0 x1 3 (by omega) _ q l).trans ?_)
    refine G_congr i x0 x1 rfl ?_ ?_
    · show 4 * q.val + 3 = 4 * (0 + 1 * q.val) + (3 + 1 * 0); omega
    · show l.val = 0 + 1 * l.val; omega
  · intro (x : S1x1x1x256x128.Idx)
    obtain ⟨q, l, rfl⟩ := ix_of x
    refine (castC (arg6.view.readCov (Val := Elt Ideal) (kernelRun0_A.sl.HS0_8 c i arg2 harg2 arg3 harg3 x0 x1)
      { off := ![7, 2, 0], size := ![1, 256, 128], stride := ![1, 4, 1], inb := inb_S8x1024x128_S1x256x128_7_2_0_s_1_4_1 }) q l).trans ((back7 c i arg2 harg2 arg3 harg3 arg6 x0 x1 2 (by omega) _ q l).trans ?_)
    refine G_congr i x0 x1 rfl ?_ ?_
    · show 4 * q.val + 2 = 4 * (0 + 1 * q.val) + (2 + 1 * 0); omega
    · show l.val = 0 + 1 * l.val; omega
  · intro (x : S1x1x1x256x128.Idx)
    obtain ⟨q, l, rfl⟩ := ix_of x
    refine (castC (arg6.view.readCov (Val := Elt Ideal) (kernelRun0_A.sl.HS0_8 c i arg2 harg2 arg3 harg3 x0 x1)
      { off := ![7, 1, 0], size := ![1, 256, 128], stride := ![1, 4, 1], inb := inb_S8x1024x128_S1x256x128_7_1_0_s_1_4_1 }) q l).trans ((back7 c i arg2 harg2 arg3 harg3 arg6 x0 x1 1 (by omega) _ q l).trans ?_)
    refine G_congr i x0 x1 rfl ?_ ?_
    · show 4 * q.val + 1 = 4 * (0 + 1 * q.val) + (1 + 1 * 0); omega
    · show l.val = 0 + 1 * l.val; omega
  · intro (x : S1x1x1x256x128.Idx)
    obtain ⟨q, l, rfl⟩ := ix_of x
    refine (castC (arg6.view.readCov (Val := Elt Ideal) (kernelRun0_A.sl.HS0_8 c i arg2 harg2 arg3 harg3 x0 x1)
      { off := ![7, 0, 0], size := ![1, 256, 128], stride := ![1, 4, 1], inb := inb_S8x1024x128_S1x256x128_7_0_0_s_1_4_1 }) q l).trans ((back7 c i arg2 harg2 arg3 harg3 arg6 x0 x1 0 (by omega) _ q l).trans ?_)
    refine G_congr i x0 x1 rfl ?_ ?_
    · show 4 * q.val + 0 = 4 * (0 + 1 * q.val) + (0 + 1 * 0); omega
    · show l.val = 0 + 1 * l.val; omega
  · intro (x : S1x1x1x256x128.Idx)
    obtain ⟨q, l, rfl⟩ := ix_of x
    refine (castC (arg6.view.readCov (Val := Elt Ideal) (kernelRun0_A.sl.HS0_7 c i arg2 harg2 arg3 harg3 x0 x1)
      { off := ![6, 3, 0], size := ![1, 256, 128], stride := ![1, 4, 1], inb := inb_S8x1024x128_S1x256x128_6_3_0_s_1_4_1 }) q l).trans ((back6 c i arg2 harg2 arg3 harg3 arg6 x0 x1 3 (by omega) _ q l).trans ?_)
    refine G_congr i x0 x1 rfl ?_ ?_
    · show 4 * q.val + 3 = 4 * (0 + 1 * q.val) + (3 + 1 * 0); omega
    · show l.val = 0 + 1 * l.val; omega
  · intro (x : S1x1x1x256x128.Idx)
    obtain ⟨q, l, rfl⟩ := ix_of x
    refine (castC (arg6.view.readCov (Val := Elt Ideal) (kernelRun0_A.sl.HS0_7 c i arg2 harg2 arg3 harg3 x0 x1)
      { off := ![6, 2, 0], size := ![1, 256, 128], stride := ![1, 4, 1], inb := inb_S8x1024x128_S1x256x128_6_2_0_s_1_4_1 }) q l).trans ((back6 c i arg2 harg2 arg3 harg3 arg6 x0 x1 2 (by omega) _ q l).trans ?_)
    refine G_congr i x0 x1 rfl ?_ ?_
    · show 4 * q.val + 2 = 4 * (0 + 1 * q.val) + (2 + 1 * 0); omega
    · show l.val = 0 + 1 * l.val; omega
  · intro (x : S1x1x1x256x128.Idx)
    obtain ⟨q, l, rfl⟩ := ix_of x
    refine (castC (arg6.view.readCov (Val := Elt Ideal) (kernelRun0_A.sl.HS0_7 c i arg2 harg2 arg3 harg3 x0 x1)
      { off := ![6, 1, 0], size := ![1, 256, 128], stride := ![1, 4, 1], inb := inb_S8x1024x128_S1x256x128_6_1_0_s_1_4_1 }) q l).trans ((back6 c i arg2 harg2 arg3 harg3 arg6 x0 x1 1 (by omega) _ q l).trans ?_)
    refine G_congr i x0 x1 rfl ?_ ?_
    · show 4 * q.val + 1 = 4 * (0 + 1 * q.val) + (1 + 1 * 0); omega
    · show l.val = 0 + 1 * l.val; omega
  · intro (x : S1x1x1x256x128.Idx)
    obtain ⟨q, l, rfl⟩ := ix_of x
    refine (castC (arg6.view.readCov (Val := Elt Ideal) (kernelRun0_A.sl.HS0_7 c i arg2 harg2 arg3 harg3 x0 x1)
      { off := ![6, 0, 0], size := ![1, 256, 128], stride := ![1, 4, 1], inb := inb_S8x1024x128_S1x256x128_6_0_0_s_1_4_1 }) q l).trans ((back6 c i arg2 harg2 arg3 harg3 arg6 x0 x1 0 (by omega) _ q l).trans ?_)
    refine G_congr i x0 x1 rfl ?_ ?_
    · show 4 * q.val + 0 = 4 * (0 + 1 * q.val) + (0 + 1 * 0); omega
    · show l.val = 0 + 1 * l.val; omega
  · intro (x : S1x1x1x256x128.Idx)
    obtain ⟨q, l, rfl⟩ := ix_of x
    refine (castC (arg6.view.readCov (Val := Elt Ideal) (kernelRun0_A.sl.HS0_6 c i arg2 harg2 arg3 harg3 x0 x1)
      { off := ![5, 3, 0], size := ![1, 256, 128], stride := ![1, 4, 1], inb := inb_S8x1024x128_S1x256x128_5_3_0_s_1_4_1 }) q l).trans ((back5 c i arg2 harg2 arg3 harg3 arg6 x0 x1 3 (by omega) _ q l).trans ?_)
    refine G_congr i x0 x1 rfl ?_ ?_
    · show 4 * q.val + 3 = 4 * (0 + 1 * q.val) + (3 + 1 * 0); omega
    · show l.val = 0 + 1 * l.val; omega
  · intro (x : S1x1x1x256x128.Idx)
    obtain ⟨q, l, rfl⟩ := ix_of x
    refine (castC (arg6.view.readCov (Val := Elt Ideal) (kernelRun0_A.sl.HS0_6 c i arg2 harg2 arg3 harg3 x0 x1)
      { off := ![5, 2, 0], size := ![1, 256, 128], stride := ![1, 4, 1], inb := inb_S8x1024x128_S1x256x128_5_2_0_s_1_4_1 }) q l).trans ((back5 c i arg2 harg2 arg3 harg3 arg6 x0 x1 2 (by omega) _ q l).trans ?_)
    refine G_congr i x0 x1 rfl ?_ ?_
    · show 4 * q.val + 2 = 4 * (0 + 1 * q.val) + (2 + 1 * 0); omega
    · show l.val = 0 + 1 * l.val; omega
  · intro (x : S1x1x1x256x128.Idx)
    obtain ⟨q, l, rfl⟩ := ix_of x
    refine (castC (arg6.view.readCov (Val := Elt Ideal) (kernelRun0_A.sl.HS0_6 c i arg2 harg2 arg3 harg3 x0 x1)
      { off := ![5, 1, 0], size := ![1, 256, 128], stride := ![1, 4, 1], inb := inb_S8x1024x128_S1x256x128_5_1_0_s_1_4_1 }) q l).trans ((back5 c i arg2 harg2 arg3 harg3 arg6 x0 x1 1 (by omega) _ q l).trans ?_)
    refine G_congr i x0 x1 rfl ?_ ?_
    · show 4 * q.val + 1 = 4 * (0 + 1 * q.val) + (1 + 1 * 0); omega
    · show l.val = 0 + 1 * l.val; omega
  · intro (x : S1x1x1x256x128.Idx)
    obtain ⟨q, l, rfl⟩ := ix_of x
    refine (castC (arg6.view.readCov (Val := Elt Ideal) (kernelRun0_A.sl.HS0_6 c i arg2 harg2 arg3 harg3 x0 x1)
      { off := ![5, 0, 0], size := ![1, 256, 128], stride := ![1, 4, 1], inb := inb_S8x1024x128_S1x256x128_5_0_0_s_1_4_1 }) q l).trans ((back5 c i arg2 harg2 arg3 harg3 arg6 x0 x1 0 (by omega) _ q l).trans ?_)
    refine G_congr i x0 x1 rfl ?_ ?_
    · show 4 * q.val + 0 = 4 * (0 + 1 * q.val) + (0 + 1 * 0); omega
    · show l.val = 0 + 1 * l.val; omega
  · intro (x : S1x1x1x256x128.Idx)
    obtain ⟨q, l, rfl⟩ := ix_of x
    refine (castC (arg6.view.readCov (Val := Elt Ideal) (kernelRun0_A.sl.HS0_5 c i arg2 harg2 arg3 harg3 x0 x1)
      { off := ![4, 3, 0], size := ![1, 256, 128], stride := ![1, 4, 1], inb := inb_S8x1024x128_S1x256x128_4_3_0_s_1_4_1 }) q l).trans ((back4 c i arg2 harg2 arg3 harg3 arg6 x0 x1 3 (by omega) _ q l).trans ?_)
    refine G_congr i x0 x1 rfl ?_ ?_
    · show 4 * q.val + 3 = 4 * (0 + 1 * q.val) + (3 + 1 * 0); omega
    · show l.val = 0 + 1 * l.val; omega
  · intro (x : S1x1x1x256x128.Idx)
    obtain ⟨q, l, rfl⟩ := ix_of x
    refine (castC (arg6.view.readCov (Val := Elt Ideal) (kernelRun0_A.sl.HS0_5 c i arg2 harg2 arg3 harg3 x0 x1)
      { off := ![4, 2, 0], size := ![1, 256, 128], stride := ![1, 4, 1], inb := inb_S8x1024x128_S1x256x128_4_2_0_s_1_4_1 }) q l).trans ((back4 c i arg2 harg2 arg3 harg3 arg6 x0 x1 2 (by omega) _ q l).trans ?_)
    refine G_congr i x0 x1 rfl ?_ ?_
    · show 4 * q.val + 2 = 4 * (0 + 1 * q.val) + (2 + 1 * 0); omega
    · show l.val = 0 + 1 * l.val; omega
  · intro (x : S1x1x1x256x128.Idx)
    obtain ⟨q, l, rfl⟩ := ix_of x
    refine (castC (arg6.view.readCov (Val := Elt Ideal) (kernelRun0_A.sl.HS0_5 c i arg2 harg2 arg3 harg3 x0 x1)
      { off := ![4, 1, 0], size := ![1, 256, 128], stride := ![1, 4, 1], inb := inb_S8x1024x128_S1x256x128_4_1_0_s_1_4_1 }) q l).trans ((back4 c i arg2 harg2 arg3 harg3 arg6 x0 x1 1 (by omega) _ q l).trans ?_)
    refine G_congr i x0 x1 rfl ?_ ?_
    · show 4 * q.val + 1 = 4 * (0 + 1 * q.val) + (1 + 1 * 0); omega
    · show l.val = 0 + 1 * l.val; omega
  · intro (x : S1x1x1x256x128.Idx)
    obtain ⟨q, l, rfl⟩ := ix_of x
    refine (castC (arg6.view.readCov (Val := Elt Ideal) (kernelRun0_A.sl.HS0_5 c i arg2 harg2 arg3 harg3 x0 x1)
      { off := ![4, 0, 0], size := ![1, 256, 128], stride := ![1, 4, 1], inb := inb_S8x1024x128_S1x256x128_4_0_0_s_1_4_1 }) q l).trans ((back4 c i arg2 harg2 arg3 harg3 arg6 x0 x1 0 (by omega) _ q l).trans ?_)
    refine G_congr i x0 x1 rfl ?_ ?_
    · show 4 * q.val + 0 = 4 * (0 + 1 * q.val) + (0 + 1 * 0); omega
    · show l.val = 0 + 1 * l.val; omega
  · intro (x : S1x1x1x256x128.Idx)
    obtain ⟨q, l, rfl⟩ := ix_of x
    refine (castC (arg6.view.readCov (Val := Elt Ideal) (kernelRun0_A.sl.HS0_4 c i arg2 harg2 arg3 harg3 x0 x1)
      { off := ![3, 3, 0], size := ![1, 256, 128], stride := ![1, 4, 1], inb := inb_S8x1024x128_S1x256x128_3_3_0_s_1_4_1 }) q l).trans ((back3 c i arg2 harg2 arg3 harg3 arg6 x0 x1 3 (by omega) _ q l).trans ?_)
    refine G_congr i x0 x1 rfl ?_ ?_
    · show 4 * q.val + 3 = 4 * (0 + 1 * q.val) + (3 + 1 * 0); omega
    · show l.val = 0 + 1 * l.val; omega
  · intro (x : S1x1x1x256x128.Idx)
    obtain ⟨q, l, rfl⟩ := ix_of x
    refine (castC (arg6.view.readCov (Val := Elt Ideal) (kernelRun0_A.sl.HS0_4 c i arg2 harg2 arg3 harg3 x0 x1)
      { off := ![3, 2, 0], size := ![1, 256, 128], stride := ![1, 4, 1], inb := inb_S8x1024x128_S1x256x128_3_2_0_s_1_4_1 }) q l).trans ((back3 c i arg2 harg2 arg3 harg3 arg6 x0 x1 2 (by omega) _ q l).trans ?_)
    refine G_congr i x0 x1 rfl ?_ ?_
    · show 4 * q.val + 2 = 4 * (0 + 1 * q.val) + (2 + 1 * 0); omega
    · show l.val = 0 + 1 * l.val; omega
  · intro (x : S1x1x1x256x128.Idx)
    obtain ⟨q, l, rfl⟩ := ix_of x
    refine (castC (arg6.view.readCov (Val := Elt Ideal) (kernelRun0_A.sl.HS0_4 c i arg2 harg2 arg3 harg3 x0 x1)
      { off := ![3, 1, 0], size := ![1, 256, 128], stride := ![1, 4, 1], inb := inb_S8x1024x128_S1x256x128_3_1_0_s_1_4_1 }) q l).trans ((back3 c i arg2 harg2 arg3 harg3 arg6 x0 x1 1 (by omega) _ q l).trans ?_)
    refine G_congr i x0 x1 rfl ?_ ?_
    · show 4 * q.val + 1 = 4 * (0 + 1 * q.val) + (1 + 1 * 0); omega
    · show l.val = 0 + 1 * l.val; omega
  · intro (x : S1x1x1x256x128.Idx)
    obtain ⟨q, l, rfl⟩ := ix_of x
    refine (castC (arg6.view.readCov (Val := Elt Ideal) (kernelRun0_A.sl.HS0_4 c i arg2 harg2 arg3 harg3 x0 x1)
      { off := ![3, 0, 0], size := ![1, 256, 128], stride := ![1, 4, 1], inb := inb_S8x1024x128_S1x256x128_3_0_0_s_1_4_1 }) q l).trans ((back3 c i arg2 harg2 arg3 harg3 arg6 x0 x1 0 (by omega) _ q l).trans ?_)
    refine G_congr i x0 x1 rfl ?_ ?_
    · show 4 * q.val + 0 = 4 * (0 + 1 * q.val) + (0 + 1 * 0); omega
    · show l.val = 0 + 1 * l.val; omega
  · intro (x : S1x1x1x256x128.Idx)
    obtain ⟨q, l, rfl⟩ := ix_of x
    refine (castC (arg6.view.readCov (Val := Elt Ideal) (kernelRun0_A.sl.HS0_3 c i arg2 harg2 arg3 harg3 x0 x1)
      { off := ![2, 3, 0], size := ![1, 256, 128], stride := ![1, 4, 1], inb := inb_S8x1024x128_S1x256x128_2_3_0_s_1_4_1 }) q l).trans ((back2 c i arg2 harg2 arg3 harg3 arg6 x0 x1 3 (by omega) _ q l).trans ?_)
    refine G_congr i x0 x1 rfl ?_ ?_
    · show 4 * q.val + 3 = 4 * (0 + 1 * q.val) + (3 + 1 * 0); omega
    · show l.val = 0 + 1 * l.val; omega
  · intro (x : S1x1x1x256x128.Idx)
    obtain ⟨q, l, rfl⟩ := ix_of x
    refine (castC (arg6.view.readCov (Val := Elt Ideal) (kernelRun0_A.sl.HS0_3 c i arg2 harg2 arg3 harg3 x0 x1)
      { off := ![2, 2, 0], size := ![1, 256, 128], stride := ![1, 4, 1], inb := inb_S8x1024x128_S1x256x128_2_2_0_s_1_4_1 }) q l).trans ((back2 c i arg2 harg2 arg3 harg3 arg6 x0 x1 2 (by omega) _ q l).trans ?_)
    refine G_congr i x0 x1 rfl ?_ ?_
    · show 4 * q.val + 2 = 4 * (0 + 1 * q.val) + (2 + 1 * 0); omega
    · show l.val = 0 + 1 * l.val; omega
  · intro (x : S1x1x1x256x128.Idx)
    obtain ⟨q, l, rfl⟩ := ix_of x
    refine (castC (arg6.view.readCov (Val := Elt Ideal) (kernelRun0_A.sl.HS0_3 c i arg2 harg2 arg3 harg3 x0 x1)
      { off := ![2, 1, 0], size := ![1, 256, 128], stride := ![1, 4, 1], inb := inb_S8x1024x128_S1x256x128_2_1_0_s_1_4_1 }) q l).trans ((back2 c i arg2 harg2 arg3 harg3 arg6 x0 x1 1 (by omega) _ q l).trans ?_)
    refine G_congr i x0 x1 rfl ?_ ?_
    · show 4 * q.val + 1 = 4 * (0 + 1 * q.val) + (1 + 1 * 0); omega
    · show l.val = 0 + 1 * l.val; omega
  · intro (x : S1x1x1x256x128.Idx)
    obtain ⟨q, l, rfl⟩ := ix_of x
    refine (castC (arg6.view.readCov (Val := Elt Ideal) (kernelRun0_A.sl.HS0_3 c i arg2 harg2 arg3 harg3 x0 x1)
      { off := ![2, 0, 0], size := ![1, 256, 128], stride := ![1, 4, 1], inb := inb_S8x1024x128_S1x256x128_2_0_0_s_1_4_1 }) q l).trans ((back2 c i arg2 harg2 arg3 harg3 arg6 x0 x1 0 (by omega) _ q l).trans ?_)
    refine G_congr i x0 x1 rfl ?_ ?_
    · show 4 * q.val + 0 = 4 * (0 + 1 * q.val) + (0 + 1 * 0); omega
    · show l.val = 0 + 1 * l.val; omega
  · intro (x : S1x1x1x256x128.Idx)
    obtain ⟨q, l, rfl⟩ := ix_of x
    refine (castC (arg6.view.readCov (Val := Elt Ideal) (kernelRun0_A.sl.HS0_2 c i arg2 harg2 arg3 harg3 x0 x1)
      { off := ![1, 3, 0], size := ![1, 256, 128], stride := ![1, 4, 1], inb := inb_S8x1024x128_S1x256x128_1_3_0_s_1_4_1 }) q l).trans ((back1 c i arg2 harg2 arg3 harg3 arg6 x0 x1 3 (by omega) _ q l).trans ?_)
    refine G_congr i x0 x1 rfl ?_ ?_
    · show 4 * q.val + 3 = 4 * (0 + 1 * q.val) + (3 + 1 * 0); omega
    · show l.val = 0 + 1 * l.val; omega
  · intro (x : S1x1x1x256x128.Idx)
    obtain ⟨q, l, rfl⟩ := ix_of x
    refine (castC (arg6.view.readCov (Val := Elt Ideal) (kernelRun0_A.sl.HS0_2 c i arg2 harg2 arg3 harg3 x0 x1)
      { off := ![1, 2, 0], size := ![1, 256, 128], stride := ![1, 4, 1], inb := inb_S8x1024x128_S1x256x128_1_2_0_s_1_4_1 }) q l).trans ((back1 c i arg2 harg2 arg3 harg3 arg6 x0 x1 2 (by omega) _ q l).trans ?_)
    refine G_congr i x0 x1 rfl ?_ ?_
    · show 4 * q.val + 2 = 4 * (0 + 1 * q.val) + (2 + 1 * 0); omega
    · show l.val = 0 + 1 * l.val; omega
  · intro (x : S1x1x1x256x128.Idx)
    obtain ⟨q, l, rfl⟩ := ix_of x
    refine (castC (arg6.view.readCov (Val := Elt Ideal) (kernelRun0_A.sl.HS0_2 c i arg2 harg2 arg3 harg3 x0 x1)
      { off := ![1, 1, 0], size := ![1, 256, 128], stride := ![1, 4, 1], inb := inb_S8x1024x128_S1x256x128_1_1_0_s_1_4_1 }) q l).trans ((back1 c i arg2 harg2 arg3 harg3 arg6 x0 x1 1 (by omega) _ q l).trans ?_)
    refine G_congr i x0 x1 rfl ?_ ?_
    · show 4 * q.val + 1 = 4 * (0 + 1 * q.val) + (1 + 1 * 0); omega
    · show l.val = 0 + 1 * l.val; omega
  · intro (x : S1x1x1x256x128.Idx)
    obtain ⟨q, l, rfl⟩ := ix_of x
    refine (castC (arg6.view.readCov (Val := Elt Ideal) (kernelRun0_A.sl.HS0_2 c i arg2 harg2 arg3 harg3 x0 x1)
      { off := ![1, 0, 0], size := ![1, 256, 128], stride := ![1, 4, 1], inb := inb_S8x1024x128_S1x256x128_1_0_0_s_1_4_1 }) q l).trans ((back1 c i arg2 harg2 arg3 harg3 arg6 x0 x1 0 (by omega) _ q l).trans ?_)
    refine G_congr i x0 x1 rfl ?_ ?_
    · show 4 * q.val + 0 = 4 * (0 + 1 * q.val) + (0 + 1 * 0); omega
    · show l.val = 0 + 1 * l.val; omega
  · intro (x : S1x1x1x256x128.Idx)
    obtain ⟨q, l, rfl⟩ := ix_of x
    refine (castC (arg6.view.readCov (Val := Elt Ideal) (kernelRun0_A.sl.HS0_1 c i arg2 harg2 arg3 harg3 x0 x1)
      { off := ![0, 3, 0], size := ![1, 256, 128], stride := ![1, 4, 1], inb := inb_S8x1024x128_S1x256x128_0_3_0_s_1_4_1 }) q l).trans ((back0 c i arg2 harg2 arg3 harg3 arg6 x0 x1 3 (by omega) _ q l).trans ?_)
    refine G_congr i x0 x1 rfl ?_ ?_
    · show 4 * q.val + 3 = 4 * (0 + 1 * q.val) + (3 + 1 * 0); omega
    · show l.val = 0 + 1 * l.val; omega
  · intro (x : S1x1x1x256x128.Idx)
    obtain ⟨q, l, rfl⟩ := ix_of x
    refine (castC (arg6.view.readCov (Val := Elt Ideal) (kernelRun0_A.sl.HS0_1 c i arg2 harg2 arg3 harg3 x0 x1)
      { off := ![0, 2, 0], size := ![1, 256, 128], stride := ![1, 4, 1], inb := inb_S8x1024x128_S1x256x128_0_2_0_s_1_4_1 }) q l).trans ((back0 c i arg2 harg2 arg3 harg3 arg6 x0 x1 2 (by omega) _ q l).trans ?_)
    refine G_congr i x0 x1 rfl ?_ ?_
    · show 4 * q.val + 2 = 4 * (0 + 1 * q.val) + (2 + 1 * 0); omega
    · show l.val = 0 + 1 * l.val; omega
  · intro (x : S1x1x1x256x128.Idx)
    obtain ⟨q, l, rfl⟩ := ix_of x
    refine (castC (arg6.view.readCov (Val := Elt Ideal) (kernelRun0_A.sl.HS0_1 c i arg2 harg2 arg3 harg3 x0 x1)
      { off := ![0, 1, 0], size := ![1, 256, 128], stride := ![1, 4, 1], inb := inb_S8x1024x128_S1x256x128_0_1_0_s_1_4_1 }) q l).trans ((back0 c i arg2 harg2 arg3 harg3 arg6 x0 x1 1 (by omega) _ q l).trans ?_)
    refine G_congr i x0 x1 rfl ?_ ?_
    · show 4 * q.val + 1 = 4 * (0 + 1 * q.val) + (1 + 1 * 0); omega
    · show l.val = 0 + 1 * l.val; omega
  · intro (x : S1x1x1x256x128.Idx)
    obtain ⟨q, l, rfl⟩ := ix_of x
    refine (castC (arg6.view.readCov (Val := Elt Ideal) (kernelRun0_A.sl.HS0_1 c i arg2 harg2 arg3 harg3 x0 x1)
      { off := ![0, 0, 0], size := ![1, 256, 128], stride := ![1, 4, 1], inb := inb_S8x1024x128_S1x256x128_0_0_0_s_1_4_1 }) q l).trans ((back0 c i arg2 harg2 arg3 harg3 arg6 x0 x1 0 (by omega) _ q l).trans ?_)
    refine G_congr i x0 x1 rfl ?_ ?_
    · show 4 * q.val + 0 = 4 * (0 + 1 * q.val) + (0 + 1 * 0); omega
    · show l.val = 0 + 1 * l.val; omega

end

attribute [local irreducible] G

theorem coords0 : ∀ t : Fin cfg0.N, (grid0.coords t 0).val = t.val / 16 :=
  (by decide +kernel : ∀ t : Fin grid0.N, (grid0.coords t 0).val = t.val / 16)

/-- The factor of slab `s` of the 48. -/
def sc (s : Nat) : EReal := if s < 12 then Scalar.ofBits (F := Ideal) .f32 0x3E0293EE#32 else Scalar.ofBits (F := Ideal) .f32 0x3F800000#32

theorem sel_of (b : BitVec 1) (p : Prop) [Decidable p] (h : b = if p then 1#1 else 0#1) (x y : EReal) :
    Scalar.select b x y = if p then x else y := by
  subst h
  by_cases hp : p
  · rw [if_pos hp, if_pos hp]; rfl
  · rw [if_neg hp, if_neg hp]; rfl

theorem fac_eq (i : grid0.Coords) (s : Fin 8) : fac i s.val = sc ((i 0).val * 8 + s.val) := by
  unfold fac sc
  refine sel_of _ _ ?_ _ _
  have hi : (i 0).val < 6 := (i 0).isLt
  generalize (i 0).val = n at hi
  revert n s
  decide +kernel

theorem rsel : ∀ s : Fin 48, ∀ l : Fin 128, IntOp.cmpi .slt (BitVec.ofNat 32 (s.val * 128 + l.val)) 1536#32 = if s.val < 12 then 1#1 else 0#1 := by
  decide +kernel

/-- Which block each window is on at point `t`. -/
theorem idx : ∀ t : Fin cfg0.N, (win0_0.index t 0 = t.val % 16 ∧ win0_0.index t 1 = 0)
    ∧ (win0_1.index t 0 = 1 ∧ win0_1.index t 1 = 0 ∧ win0_1.index t 2 = t.val / 16)
    ∧ (win0_2.index t 0 = t.val / 16 ∧ win0_2.index t 1 = t.val % 16 ∧ win0_2.index t 2 = 0)
    ∧ (win0_3.index t 0 = t.val / 16 ∧ win0_3.index t 1 = t.val % 16 / 4 ∧ win0_3.index t 2 = 0 ∧ win0_3.index t 3 = t.val % 4 ∧ win0_3.index t 4 = 0) :=
  (by decide +kernel : ∀ t : Fin grid0.N, (win0_0.index t 0 = t.val % 16 ∧ win0_0.index t 1 = 0)
    ∧ (win0_1.index t 0 = 1 ∧ win0_1.index t 1 = 0 ∧ win0_1.index t 2 = t.val / 16)
    ∧ (win0_2.index t 0 = t.val / 16 ∧ win0_2.index t 1 = t.val % 16 ∧ win0_2.index t 2 = 0)
    ∧ (win0_3.index t 0 = t.val / 16 ∧ win0_3.index t 1 = t.val % 16 / 4 ∧ win0_3.index t 2 = 0 ∧ win0_3.index t 3 = t.val % 4 ∧ win0_3.index t 4 = 0))

theorem N96 : cfg0.N = 96 := N_0

end Cert.Kernel8Ideal.Value

namespace Cert.Reference8Ideal.Read

open Cert.Reference8Ideal

/-- The reference's slab `s` at row `r`, lane `l`: row `r` of `h` times column `128 s + l` of the first layer's matrix, scaled. -/
theorem ref_apply (x0 : FVec Ideal S16384x2048 .bf16) (x1 : FVec Ideal S2x2048x24576 .f32) (s : Fin 48) (r : Fin 16384) (l : Fin 128) :
    val_main_v14 (F := Ideal) x0 x1 (ix3 s r l)
      = (∑ k : Fin 2048, (x0 (ix2 r k) : EReal) * (x1 (ix3 1 k ⟨s.val * 128 + l.val, by have := s.isLt; have := l.isLt; omega⟩) : EReal)) * Cert.Kernel8Ideal.Value.sc s.val := by
  have e : val_main_v14 (F := Ideal) x0 x1 (ix3 s r l)
      = (∑ k : Fin 2048, (x0 (ix2 r k) : EReal) * (x1 (ix3 1 k ⟨s.val * 128 + l.val, by have := s.isLt; have := l.isLt; omega⟩) : EReal))
        * Scalar.select (IntOp.cmpi .slt (BitVec.ofNat 32 (s.val * 128 + l.val)) 1536#32) (Scalar.ofBits (F := Ideal) .f32 0x3E0293EE#32) (Scalar.ofBits (F := Ideal) .f32 0x3F800000#32) := by
    have h : val_main_v10 (F := Ideal) = val_main_v9 := rfl
    have h9 (j : Fin 6144) : val_main_v9 (F := Ideal) (ix2 0 j)
        = Scalar.select (IntOp.cmpi .slt (BitVec.ofNat 32 j.val) 1536#32) (Scalar.ofBits (F := Ideal) .f32 0x3E0293EE#32) (Scalar.ofBits (F := Ideal) .f32 0x3F800000#32) := by
      pointwise [val_main_v9, val_main_v8, val_main_v7, val_main_v6, val_main_v5, val_main_c, val_main_cst, val_main_cst_0, val_main_call0_v0, val_main_call0_v1]
    rw [← h9 ⟨s.val * 128 + l.val, by have := s.isLt; have := l.isLt; omega⟩]
    unfold val_main_v14 val_main_v13 val_main_v12 val_main_v11
    rw [h]
    generalize val_main_v9 (F := Ideal) = y
    pointwise [val_main_v4, val_main_v3, val_main_v2, val_main_v1, val_main_v0]
  rw [e]
  unfold Cert.Kernel8Ideal.Value.sc
  exact congrArg _ (Cert.Kernel8Ideal.Value.sel_of _ _ (Cert.Kernel8Ideal.Value.rsel s l) _ _)

theorem ref15 (x0 : FVec Ideal S16384x2048 .bf16) (x1 : FVec Ideal S2x2048x24576 .f32) (s : Fin 48) (r : Fin 16384) (l : Fin 128) :
    val_main_v15 (F := Ideal) x0 x1 (ix3 s r l) = val_main_v14 (F := Ideal) x0 x1 (ix3 s r l) := by
  unfold val_main_v15
  generalize val_main_v14 (F := Ideal) x0 x1 = y
  rfl

/-- The second result: the same slabs, sequence `b`'s rows sorted by remainder mod 4. -/
theorem ref17 (x0 : FVec Ideal S16384x2048 .bf16) (x1 : FVec Ideal S2x2048x24576 .f32) (s : Fin 48) (b ρ : Fin 4) (q : Fin 1024) (l : Fin 128) :
    val_main_v17 (F := Ideal) x0 x1 (ix5 s b ρ q l)
      = val_main_v14 (F := Ideal) x0 x1 (ix3 s ⟨b.val * 4096 + q.val * 4 + ρ.val, by have := b.isLt; have := q.isLt; have := ρ.isLt; omega⟩ l) := by
  unfold val_main_v17 val_main_v16
  generalize val_main_v14 (F := Ideal) x0 x1 = y
  pointwise []

end Cert.Reference8Ideal.Read

namespace Cert.Kernel8Ideal.Value

open Cert.Kernel8Ideal Cert.Kernel8Ideal.Gen

variable (m : (ℓ : Loc nD τ sig) → Buf (Elt Ideal) ℓ) (ρ : Dev nD → PrngReg)

/-- The rows of `h` at point `t`. -/
theorem blk0 (c : Dev nD) (t : Fin cfg0.N) (r : Fin 1024) (k : Fin 2048) :
    iblk m c 0 t (ix2 r k) = m ((c : Thread nD τ).loc main_arg0) (ix2 ⟨t.val % 16 * 1024 + r.val, by have := r.isLt; omega⟩ k) := by
  unfold iblk
  rw [View.read_apply]
  show V m c main_arg0 _ = _
  rw [V_main_arg0]
  congr 1
  funext a
  apply Fin.ext
  match a with
  | ⟨0, _⟩ => show win0_0.index t 0 * 1024 + 1 * r.val = t.val % 16 * 1024 + r.val; rw [(idx t).1.1]; omega
  | ⟨1, _⟩ => show win0_0.index t 1 * 2048 + 1 * k.val = k.val; rw [(idx t).1.2]; omega

/-- The columns of the matrix at point `t`. -/
theorem blk1 (c : Dev nD) (t : Fin cfg0.N) (k : Fin 2048) (l : Fin 1024) :
    iblk m c 1 t (ix3 0 k l) = m ((c : Thread nD τ).loc main_arg1)
      (ix3 1 k ⟨t.val / 16 * 1024 + l.val, by have := l.isLt; have := t.isLt; have := N96; omega⟩) := by
  unfold iblk
  rw [View.read_apply]
  show V m c main_arg1 _ = _
  rw [V_main_arg1]
  congr 1
  funext a
  apply Fin.ext
  match a with
  | ⟨0, _⟩ => show win0_1.index t 0 * 1 + 1 * 0 = 1; rw [(idx t).2.1.1]
  | ⟨1, _⟩ => show win0_1.index t 1 * 2048 + 1 * k.val = k.val; rw [(idx t).2.1.2.1]; omega
  | ⟨2, _⟩ => show win0_1.index t 2 * 1024 + 1 * l.val = t.val / 16 * 1024 + l.val; rw [(idx t).2.1.2.2]; omega

/-- The reference's results at the launched arguments. -/
abbrev result2 (c : Dev nD) : Buf (Elt Ideal) ((c : Thread nD τ).loc main_v0_0) :=
  Cert.Reference8Ideal.Read.val_main_v15 (F := Ideal) (m ((c : Thread nD τ).loc main_arg0)) (m ((c : Thread nD τ).loc main_arg1))
abbrev result3 (c : Dev nD) : Buf (Elt Ideal) ((c : Thread nD τ).loc main_v0_1) :=
  Cert.Reference8Ideal.Read.val_main_v17 (F := Ideal) (m ((c : Thread nD τ).loc main_arg0)) (m ((c : Thread nD τ).loc main_arg1))

attribute [local irreducible] Cert.Reference8Ideal.Read.val_main_v14 Cert.Reference8Ideal.Read.val_main_v15 Cert.Reference8Ideal.Read.val_main_v17 sc fac

/-- A point's slab is the reference's, on the point's rows. -/
theorem G_eq (c : Dev nD) (t : Fin cfg0.N) (s : Fin 8) (r : Fin 1024) (l : Fin 128) :
    G (grid0.coords t) (iblk m c 0 t) (iblk m c 1 t) s r l
      = Cert.Reference8Ideal.Read.val_main_v14 (F := Ideal) (m ((c : Thread nD τ).loc main_arg0)) (m ((c : Thread nD τ).loc main_arg1))
          (ix3 ⟨t.val / 16 * 8 + s.val, by have := s.isLt; have := t.isLt; have := N96; omega⟩ ⟨t.val % 16 * 1024 + r.val, by have := r.isLt; omega⟩ l) := by
  refine Eq.trans ?_ (Cert.Reference8Ideal.Read.ref_apply _ _ _ _ _).symm
  unfold G
  rw [fac_eq, coords0]
  refine congrArg (· * sc (t.val / 16 * 8 + s.val)) ?_
  refine Finset.sum_congr (M := EReal) rfl fun k _ => ?_
  rw [blk0, blk1]
  refine congrArg _ (congrArg _ (congrArg (ix3 1 k) (Fin.ext ?_)))
  show t.val / 16 * 1024 + (s.val * 128 + l.val) = (t.val / 16 * 8 + s.val) * 128 + l.val
  omega

/-- What point `t` writes back of the first result is its block of the reference's. -/
theorem flushed2_eq (c : Dev nD) (t : Fin cfg0.N) (hf : (cfg0.win 2).flush t = true) :
    (dats m 0 c).flushed 2 t = ((cfg0.win 2).blk t).view.read (Elt Ideal) (result2 m c) := by
  rw [flushed2_A]
  funext (y : S8x1024x128.Idx)
  obtain ⟨s, r, l, rfl⟩ : ∃ (s : Fin 8) (r : Fin 1024) (l : Fin 128), y = ix3 s r l := ⟨y 0, y 1, y 2, eq_ix3 y⟩
  rw [View.read_apply]
  have ht : t.val < 96 := lt_of_lt_of_eq t.isLt N96
  have hs := s.isLt
  have hr := r.isLt
  have e : ((cfg0.win 2).blk t).view.emb (ix3 s r l) = ix3 ⟨t.val / 16 * 8 + s.val, by omega⟩ ⟨t.val % 16 * 1024 + r.val, by omega⟩ l := by
    funext a
    apply Fin.ext
    match a with
    | ⟨0, _⟩ => show win0_2.index t 0 * 8 + 1 * s.val = t.val / 16 * 8 + s.val; rw [(idx t).2.2.1.1]; omega
    | ⟨1, _⟩ => show win0_2.index t 1 * 1024 + 1 * r.val = t.val % 16 * 1024 + r.val; rw [(idx t).2.2.1.2.1]; omega
    | ⟨2, _⟩ => show win0_2.index t 2 * 128 + 1 * l.val = l.val; rw [(idx t).2.2.1.2.2]; omega
  show out0_A_2 (F := Ideal) c (grid0.coords t) (ms0_0 t) (hs0_0 t) (ms0_1 t) (hs0_1 t) (ms0_2 t) (hs0_2 t) (ms0_3 t) (hs0_3 t) scM0_0 (Memref.isWhole_whole _) (iblk m c 0 t) (iblk m c 1 t) (ix3 s r l)
    = result2 m c (((cfg0.win 2).blk t).view.emb (ix3 s r l))
  rw [e, out2_apply, G_eq]
  exact (Cert.Reference8Ideal.Read.ref15 _ _ _ _ _).symm

/-- The same of the second result. -/
theorem flushed3_eq (c : Dev nD) (t : Fin cfg0.N) (hf : (cfg0.win 3).flush t = true) :
    (dats m 0 c).flushed 3 t = ((cfg0.win 3).blk t).view.read (Elt Ideal) (result3 m c) := by
  rw [flushed3_A]
  funext (y : S8x1x4x256x128.Idx)
  obtain ⟨s, u, q, l, rfl⟩ : ∃ (s : Fin 8) (u : Fin 4) (q : Fin 256) (l : Fin 128), y = ix5 s 0 u q l :=
    ⟨y 0, y 2, y 3, y 4, (eq_ix5 y).trans (by congr 1; exact Subsingleton.elim (α := Fin 1) _ _)⟩
  rw [View.read_apply]
  have ht : t.val < 96 := lt_of_lt_of_eq t.isLt N96
  have hs := s.isLt
  have hq := q.isLt
  have hu := u.isLt
  have e : ((cfg0.win 3).blk t).view.emb (ix5 s 0 u q l)
      = ix5 ⟨t.val / 16 * 8 + s.val, by omega⟩ ⟨t.val % 16 / 4, by omega⟩ u ⟨t.val % 4 * 256 + q.val, by omega⟩ l := by
    funext a
    apply Fin.ext
    match a with
    | ⟨0, _⟩ => show win0_3.index t 0 * 8 + 1 * s.val = t.val / 16 * 8 + s.val; rw [(idx t).2.2.2.1]; omega
    | ⟨1, _⟩ => show win0_3.index t 1 * 1 + 1 * 0 = t.val % 16 / 4; rw [(idx t).2.2.2.2.1]; omega
    | ⟨2, _⟩ => show win0_3.index t 2 * 4 + 1 * u.val = u.val; rw [(idx t).2.2.2.2.2.1]; omega
    | ⟨3, _⟩ => show win0_3.index t 3 * 256 + 1 * q.val = t.val % 4 * 256 + q.val; rw [(idx t).2.2.2.2.2.2.1]; omega
    | ⟨4, _⟩ => show win0_3.index t 4 * 128 + 1 * l.val = l.val; rw [(idx t).2.2.2.2.2.2.2]; omega
  show out0_A_3 (F := Ideal) c (grid0.coords t) (ms0_0 t) (hs0_0 t) (ms0_1 t) (hs0_1 t) (ms0_2 t) (hs0_2 t) (ms0_3 t) (hs0_3 t) scM0_0 (Memref.isWhole_whole _) (iblk m c 0 t) (iblk m c 1 t) (ix5 s 0 u q l)
    = result3 m c (((cfg0.win 3).blk t).view.emb (ix5 s 0 u q l))
  rw [e, out3_apply, G_eq]
  refine Eq.trans ?_ (Cert.Reference8Ideal.Read.ref17 _ _ _ _ _ _ _).symm
  refine congrArg _ (congrArg (fun z => ix3 _ z l) (Fin.ext ?_))
  show t.val % 16 * 1024 + (4 * q.val + u.val) = t.val % 16 / 4 * 4096 + (t.val % 4 * 256 + q.val) * 4 + u.val
  omega

/-- The slabs the run leaves are the reference's: the points' blocks cover the result. -/
theorem final2 (c : Dev nD) : (dats m 0 c).arrAt 2 cfg0.N = result2 m c :=
  (dats m 0 c).arrAt_eq_of_cover 2 (result2 m c) (flushed2_eq m c) fun (i : S48x16384x128.Idx) => by
    have h0 : (i 0).val < 48 := (i 0).isLt
    have h1 : (i 1).val < 16384 := (i 1).isLt
    have h2 : (i 2).val < 128 := (i 2).isLt
    refine ⟨⟨(i 0).val / 8 * 16 + (i 1).val / 1024, by rw [N96]; omega⟩, flush0_2 _, ?_⟩
    generalize ht : (⟨(i 0).val / 8 * 16 + (i 1).val / 1024, _⟩ : Fin cfg0.N) = t
    have hv : t.val = (i 0).val / 8 * 16 + (i 1).val / 1024 := by rw [← ht]
    show i ∈ ((View.whole main_v0_0).slice (win0_2.rect t)).set
    rw [View.set_slice_whole, Rect.mem_set_unit]
    intro a
    match a with
    | ⟨0, _⟩ => show win0_2.index t 0 * 8 ≤ (i 0).val ∧ (i 0).val < win0_2.index t 0 * 8 + 8; rw [(idx t).2.2.1.1]; omega
    | ⟨1, _⟩ => show win0_2.index t 1 * 1024 ≤ (i 1).val ∧ (i 1).val < win0_2.index t 1 * 1024 + 1024; rw [(idx t).2.2.1.2.1]; omega
    | ⟨2, _⟩ => show win0_2.index t 2 * 128 ≤ (i 2).val ∧ (i 2).val < win0_2.index t 2 * 128 + 128; rw [(idx t).2.2.1.2.2]; omega

/-- The same of the second result. -/
theorem final3 (c : Dev nD) : (dats m 0 c).arrAt 3 cfg0.N = result3 m c :=
  (dats m 0 c).arrAt_eq_of_cover 3 (result3 m c) (flushed3_eq m c) fun (i : S48x4x4x1024x128.Idx) => by
    have h0 : (i 0).val < 48 := (i 0).isLt
    have h1 : (i 1).val < 4 := (i 1).isLt
    have h2 : (i 2).val < 4 := (i 2).isLt
    have h3 : (i 3).val < 1024 := (i 3).isLt
    have h4 : (i 4).val < 128 := (i 4).isLt
    refine ⟨⟨(i 0).val / 8 * 16 + (i 1).val * 4 + (i 3).val / 256, by rw [N96]; omega⟩, flush0_3 _, ?_⟩
    generalize ht : (⟨(i 0).val / 8 * 16 + (i 1).val * 4 + (i 3).val / 256, _⟩ : Fin cfg0.N) = t
    have hv : t.val = (i 0).val / 8 * 16 + (i 1).val * 4 + (i 3).val / 256 := by rw [← ht]
    show i ∈ ((View.whole main_v0_1).slice (win0_3.rect t)).set
    rw [View.set_slice_whole, Rect.mem_set_unit]
    intro a
    match a with
    | ⟨0, _⟩ => show win0_3.index t 0 * 8 ≤ (i 0).val ∧ (i 0).val < win0_3.index t 0 * 8 + 8; rw [(idx t).2.2.2.1]; omega
    | ⟨1, _⟩ => show win0_3.index t 1 * 1 ≤ (i 1).val ∧ (i 1).val < win0_3.index t 1 * 1 + 1; rw [(idx t).2.2.2.2.1]; omega
    | ⟨2, _⟩ => show win0_3.index t 2 * 4 ≤ (i 2).val ∧ (i 2).val < win0_3.index t 2 * 4 + 4; rw [(idx t).2.2.2.2.2.1]; omega
    | ⟨3, _⟩ => show win0_3.index t 3 * 256 ≤ (i 3).val ∧ (i 3).val < win0_3.index t 3 * 256 + 256; rw [(idx t).2.2.2.2.2.2.1]; omega
    | ⟨4, _⟩ => show win0_3.index t 4 * 128 ≤ (i 4).val ∧ (i 4).val < win0_3.index t 4 * 128 + 128; rw [(idx t).2.2.2.2.2.2.2]; omega

/-- The claim: both programs end with the reference's slabs, in both orders. -/
theorem algebraic : Cert.algebraic_Kernel8Ideal_Reference8Ideal := by
  intro m g m' g' _ hag
  refine ⟨fun c => result2 m c, fun c => result3 m c, ?_, ?_⟩
  · exact (θ_run _ _ _).mono (fun r h c => ⟨(h c).1.trans (final2 m c), (h c).2.1.trans (final3 m c), (h c).2.2⟩) (run_blocks m g)
  · exact (θ_run _ _ _).mono (fun r h c => ⟨(h c).1.trans (by
      rw [(hag c).1, (hag c).2]
      exact Cert.Reference8Ideal.Read.val_main_v15_eq _ _), (h c).2.1.trans (by
      rw [(hag c).1, (hag c).2]
      exact Cert.Reference8Ideal.Read.val_main_v17_eq _ _), (h c).2.2⟩) (Cert.Reference8Ideal.Value.run m' g')

end Cert.Kernel8Ideal.Value

end
-- ==== Proof.Value9.lean ====
module

public import proofs.«01_k».proof.Defs
public import proofs.«01_k».proof.Proof.Gen.Kernel9Ideal.Value
public import proofs.«01_k».proof.Proof.Gen.Reference9Ideal.Read
public import proofs.«01_k».proof.Proof.Sigmoid
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

/-! # The merge of the three branches, each weighed by its gate -/

namespace Cert.Kernel9Ideal.Value

/-- The gate as the kernel computes it, with a hyperbolic tangent. -/
def gate (z : EReal) : EReal :=
  Ideal.ofBits .f32 0x3F000000#32 * Ideal.tanh (Ideal.ofBits .f32 0x3F000000#32 * z) + Ideal.ofBits .f32 0x3F000000#32

/-- The gate as the reference computes it, with an exponential. -/
def sigm (z : EReal) : EReal :=
  Ideal.div (Ideal.ofBits .f32 0x3F800000#32) (Ideal.ofBits .f32 0x3F800000#32 + Ideal.exp (-z))

end Cert.Kernel9Ideal.Value

namespace Cert.Reference9Ideal.Read

open Cert.Reference9Ideal Cert.Kernel9Ideal.Value

/-- The first branch's product at row `r`, column `l`. -/
theorem proda_apply (x1 : FVec Ideal S16384x1536 .bf16) (x4 : FVec Ideal S2x1536x2048 .f32) (r : Fin 16384) (l : Fin 2048) :
    val_main_v13 (F := Ideal) x1 x4 (ix2 r l) = ∑ k : Fin 1536, (x1 (ix2 r k) : EReal) * (x4 (ix3 1 k l) : EReal) := by
  pointwise [val_main_v13, val_main_v12, val_main_v11, val_main_v10]

/-- The second branch's product at row `r`, column `l`. -/
theorem prodc_apply (x1 : FVec Ideal S16384x1536 .bf16) (x4 : FVec Ideal S2x1536x2048 .f32) (r : Fin 16384) (l : Fin 2048) :
    val_main_v28 (F := Ideal) x1 x4 (ix2 r l) = ∑ k : Fin 1536, (x1 (ix2 r k) : EReal) * (x4 (ix3 1 k l) : EReal) := by
  pointwise [val_main_v28, val_main_v27, val_main_v26, val_main_v25]

/-- The third branch's product at row `r`, column `l`. -/
theorem prodr_apply (x1 : FVec Ideal S16384x1536 .bf16) (x4 : FVec Ideal S2x1536x2048 .f32) (r : Fin 16384) (l : Fin 2048) :
    val_main_v44 (F := Ideal) x1 x4 (ix2 r l) = ∑ k : Fin 1536, (x1 (ix2 r k) : EReal) * (x4 (ix3 1 k l) : EReal) := by
  pointwise [val_main_v44, val_main_v43, val_main_v42, val_main_v41]

attribute [local irreducible] val_main_v13 val_main_v28 val_main_v44

/-- The reference's result at row `r`, column `128 q + l`: three gates times three products. -/
theorem ref_apply (x0 : FVec Ideal S96x16384x128 .bf16) (x1 x2 x3 : FVec Ideal S16384x1536 .bf16)
    (x4 x5 x6 : FVec Ideal S2x1536x2048 .f32) (r : Fin 16384) (q : Fin 16) (l : Fin 128) :
    val_main_v47 (F := Ideal) x0 x1 x2 x3 x4 x5 x6 (ix2 r ⟨q.val * 128 + l.val, by have := q.isLt; have := l.isLt; omega⟩)
      = sigm (x0 (ix3 ⟨48 + q.val, by have := q.isLt; omega⟩ r l)) * val_main_v13 (F := Ideal) x1 x4 (ix2 r ⟨q.val * 128 + l.val, by have := q.isLt; have := l.isLt; omega⟩)
        + sigm (x0 (ix3 ⟨64 + q.val, by have := q.isLt; omega⟩ r l)) * val_main_v28 (F := Ideal) x2 x5 (ix2 r ⟨q.val * 128 + l.val, by have := q.isLt; have := l.isLt; omega⟩)
        + sigm (x0 (ix3 ⟨80 + q.val, by have := q.isLt; omega⟩ r l)) * val_main_v44 (F := Ideal) x3 x6 (ix2 r ⟨q.val * 128 + l.val, by have := q.isLt; have := l.isLt; omega⟩) := by
  unfold sigm
  pointwise [val_main_v47, val_main_v46, val_main_v45, val_main_v40, val_main_v39, val_main_v38, val_main_v37, val_main_v36, val_main_v35, val_main_v34,
    val_main_v33, val_main_v32, val_main_v31, val_main_v30, val_main_v29, val_main_v24, val_main_v23, val_main_v22, val_main_v21, val_main_v20,
    val_main_v19, val_main_v18, val_main_v17, val_main_v16, val_main_v15, val_main_v14, val_main_v9, val_main_v8, val_main_v7, val_main_v6, val_main_v5,
    val_main_v4, val_main_v3, val_main_v2, val_main_v1, val_main_v0, val_main_cst, val_main_cst_0, val_main_cst_1, val_main_cst_2, val_main_cst_3, val_main_cst_4]

end Cert.Reference9Ideal.Read

namespace Cert.Kernel9Ideal.Value

open Cert.Kernel9Ideal Cert.Kernel9Ideal.Gen

theorem prod0_apply (v0 : FVec Ideal S1024x1536 .bf16) (v1 : FVec Ideal S1x1536x512 .f32) (r : Fin 1024) (l : Fin 512) :
    k0_pay2 (F := Ideal) v0 v1 (ix2 r l) = ∑ k : Fin 1536, (v0 (ix2 r k) : EReal) * (v1 (ix3 0 k l) : EReal) := by
  pointwise [k0_pay2]

theorem prod1_apply (v0 : FVec Ideal S1024x1536 .bf16) (v1 : FVec Ideal S1x1536x512 .f32) (r : Fin 1024) (l : Fin 512) :
    k0_pay3 (F := Ideal) v0 v1 (ix2 r l) = ∑ k : Fin 1536, (v0 (ix2 r k) : EReal) * (v1 (ix3 0 k l) : EReal) := by
  pointwise [k0_pay3]

theorem prod2_apply (v0 : FVec Ideal S1024x1536 .bf16) (v1 : FVec Ideal S1x1536x512 .f32) (r : Fin 1024) (l : Fin 512) :
    k0_pay4 (F := Ideal) v0 v1 (ix2 r l) = ∑ k : Fin 1536, (v0 (ix2 r k) : EReal) * (v1 (ix3 0 k l) : EReal) := by
  pointwise [k0_pay4]

attribute [local irreducible] k0_pay2 k0_pay3 k0_pay4

/-- Columns 0 to 127 of a block. -/
theorem piece0 (v0 : FVec Ideal S1024x1536 .bf16) (v1 : FVec Ideal S1x1536x512 .f32) (P Q : FVec Ideal S1024x512 .f32)
    (a b g : FVec Ideal S1x1024x128 .bf16) (r : Fin 1024) (l : Fin 128) :
    k0_pay7 (F := Ideal) P Q (k0_pay5 v0 v1 a) (k0_pay6 b) (Scalar.ofBits .f32 0x3F000000#32) g (ix2 r l)
      = gate (a (ix3 0 r l)) * k0_pay2 (F := Ideal) v0 v1 (ix2 r ⟨0 + l.val, by have := l.isLt; omega⟩)
        + gate (b (ix3 0 r l)) * P (ix2 r ⟨0 + l.val, by have := l.isLt; omega⟩)
        + gate (g (ix3 0 r l)) * Q (ix2 r ⟨0 + l.val, by have := l.isLt; omega⟩) := by
  unfold gate
  pointwise [k0_pay7, k0_pay5, k0_pay6]

/-- Columns 128 to 255 of a block. -/
theorem piece1 (O P Q : FVec Ideal S1024x512 .f32) (a b g : FVec Ideal S1x1024x128 .bf16) (r : Fin 1024) (l : Fin 128) :
    k0_pay10 (F := Ideal) P Q (k0_pay8 O a) (k0_pay9 b) g (ix2 r l)
      = gate (a (ix3 0 r l)) * O (ix2 r ⟨128 + l.val, by have := l.isLt; omega⟩)
        + gate (b (ix3 0 r l)) * P (ix2 r ⟨128 + l.val, by have := l.isLt; omega⟩)
        + gate (g (ix3 0 r l)) * Q (ix2 r ⟨128 + l.val, by have := l.isLt; omega⟩) := by
  unfold gate
  pointwise [k0_pay10, k0_pay8, k0_pay9]

/-- Columns 256 to 383 of a block. -/
theorem piece2 (O P Q : FVec Ideal S1024x512 .f32) (a b g : FVec Ideal S1x1024x128 .bf16) (r : Fin 1024) (l : Fin 128) :
    k0_pay13 (F := Ideal) P Q (k0_pay11 O a) (k0_pay12 b) g (ix2 r l)
      = gate (a (ix3 0 r l)) * O (ix2 r ⟨256 + l.val, by have := l.isLt; omega⟩)
        + gate (b (ix3 0 r l)) * P (ix2 r ⟨256 + l.val, by have := l.isLt; omega⟩)
        + gate (g (ix3 0 r l)) * Q (ix2 r ⟨256 + l.val, by have := l.isLt; omega⟩) := by
  unfold gate
  pointwise [k0_pay13, k0_pay11, k0_pay12]

/-- Columns 384 to 511 of a block. -/
theorem piece3 (O P Q : FVec Ideal S1024x512 .f32) (a b g : FVec Ideal S1x1024x128 .bf16) (r : Fin 1024) (l : Fin 128) :
    k0_pay1 (F := Ideal) P Q (k0_pay14 O a) b g (ix2 r l)
      = gate (a (ix3 0 r l)) * O (ix2 r ⟨384 + l.val, by have := l.isLt; omega⟩)
        + gate (b (ix3 0 r l)) * P (ix2 r ⟨384 + l.val, by have := l.isLt; omega⟩)
        + gate (g (ix3 0 r l)) * Q (ix2 r ⟨384 + l.val, by have := l.isLt; omega⟩) := by
  unfold gate
  pointwise [k0_pay1, k0_pay14]

theorem gate_eq_sigm (z : EReal) : gate z = sigm z := Cert.Sigmoid.gate_eq z

/-- Which block each window is on at point `t`. -/
theorem idx : ∀ t : Fin cfg0.N, (win0_0.index t 0 = t.val % 16 ∧ win0_0.index t 1 = 0) ∧ (win0_1.index t 0 = t.val % 16 ∧ win0_1.index t 1 = 0)
    ∧ (win0_2.index t 0 = t.val % 16 ∧ win0_2.index t 1 = 0)
    ∧ (win0_3.index t 0 = 12 + t.val / 16 ∧ win0_3.index t 1 = t.val % 16 ∧ win0_3.index t 2 = 0)
    ∧ (win0_4.index t 0 = 16 + t.val / 16 ∧ win0_4.index t 1 = t.val % 16 ∧ win0_4.index t 2 = 0)
    ∧ (win0_5.index t 0 = 20 + t.val / 16 ∧ win0_5.index t 1 = t.val % 16 ∧ win0_5.index t 2 = 0)
    ∧ (win0_6.index t 0 = 1 ∧ win0_6.index t 1 = 0 ∧ win0_6.index t 2 = t.val / 16)
    ∧ (win0_7.index t 0 = 1 ∧ win0_7.index t 1 = 0 ∧ win0_7.index t 2 = t.val / 16)
    ∧ (win0_8.index t 0 = 1 ∧ win0_8.index t 1 = 0 ∧ win0_8.index t 2 = t.val / 16)
    ∧ (win0_9.index t 0 = t.val % 16 ∧ win0_9.index t 1 = t.val / 16) :=
  (by decide +kernel : ∀ t : Fin grid0.N, (win0_0.index t 0 = t.val % 16 ∧ win0_0.index t 1 = 0) ∧ (win0_1.index t 0 = t.val % 16 ∧ win0_1.index t 1 = 0)
    ∧ (win0_2.index t 0 = t.val % 16 ∧ win0_2.index t 1 = 0)
    ∧ (win0_3.index t 0 = 12 + t.val / 16 ∧ win0_3.index t 1 = t.val % 16 ∧ win0_3.index t 2 = 0)
    ∧ (win0_4.index t 0 = 16 + t.val / 16 ∧ win0_4.index t 1 = t.val % 16 ∧ win0_4.index t 2 = 0)
    ∧ (win0_5.index t 0 = 20 + t.val / 16 ∧ win0_5.index t 1 = t.val % 16 ∧ win0_5.index t 2 = 0)
    ∧ (win0_6.index t 0 = 1 ∧ win0_6.index t 1 = 0 ∧ win0_6.index t 2 = t.val / 16)
    ∧ (win0_7.index t 0 = 1 ∧ win0_7.index t 1 = 0 ∧ win0_7.index t 2 = t.val / 16)
    ∧ (win0_8.index t 0 = 1 ∧ win0_8.index t 1 = 0 ∧ win0_8.index t 2 = t.val / 16)
    ∧ (win0_9.index t 0 = t.val % 16 ∧ win0_9.index t 1 = t.val / 16))

theorem N64 : cfg0.N = 64 := N_0

variable (m : (ℓ : Loc nD τ sig) → Buf (Elt Ideal) ℓ) (ρ : Dev nD → PrngReg)

/-- A branch's rows at point `t`. -/
theorem blk0 (c : Dev nD) (t : Fin cfg0.N) (r : Fin 1024) (k : Fin 1536) :
    iblk m c 0 t (ix2 r k) = m ((c : Thread nD τ).loc main_arg1) (ix2 ⟨t.val % 16 * 1024 + r.val, by have := r.isLt; omega⟩ k) := by
  unfold iblk
  rw [View.read_apply]
  show V m c main_arg1 _ = _
  rw [V_main_arg1]
  congr 1
  funext a
  apply Fin.ext
  match a with
  | ⟨0, _⟩ => show win0_0.index t 0 * 1024 + 1 * r.val = t.val % 16 * 1024 + r.val; rw [(idx t).1.1]; omega
  | ⟨1, _⟩ => show win0_0.index t 1 * 1536 + 1 * k.val = k.val; rw [(idx t).1.2]; omega

/-- A branch's rows at point `t`. -/
theorem blk1 (c : Dev nD) (t : Fin cfg0.N) (r : Fin 1024) (k : Fin 1536) :
    iblk m c 1 t (ix2 r k) = m ((c : Thread nD τ).loc main_arg2) (ix2 ⟨t.val % 16 * 1024 + r.val, by have := r.isLt; omega⟩ k) := by
  unfold iblk
  rw [View.read_apply]
  show V m c main_arg2 _ = _
  rw [V_main_arg2]
  congr 1
  funext a
  apply Fin.ext
  match a with
  | ⟨0, _⟩ => show win0_1.index t 0 * 1024 + 1 * r.val = t.val % 16 * 1024 + r.val; rw [(idx t).2.1.1]; omega
  | ⟨1, _⟩ => show win0_1.index t 1 * 1536 + 1 * k.val = k.val; rw [(idx t).2.1.2]; omega

/-- A branch's rows at point `t`. -/
theorem blk2 (c : Dev nD) (t : Fin cfg0.N) (r : Fin 1024) (k : Fin 1536) :
    iblk m c 2 t (ix2 r k) = m ((c : Thread nD τ).loc main_arg3) (ix2 ⟨t.val % 16 * 1024 + r.val, by have := r.isLt; omega⟩ k) := by
  unfold iblk
  rw [View.read_apply]
  show V m c main_arg3 _ = _
  rw [V_main_arg3]
  congr 1
  funext a
  apply Fin.ext
  match a with
  | ⟨0, _⟩ => show win0_2.index t 0 * 1024 + 1 * r.val = t.val % 16 * 1024 + r.val; rw [(idx t).2.2.1.1]; omega
  | ⟨1, _⟩ => show win0_2.index t 1 * 1536 + 1 * k.val = k.val; rw [(idx t).2.2.1.2]; omega

/-- A branch's gates at point `t`. -/
theorem blk3 (c : Dev nD) (t : Fin cfg0.N) (s : Fin 4) (r : Fin 1024) (l : Fin 128) :
    iblk m c 3 t (ix3 s r l) = m ((c : Thread nD τ).loc main_arg0)
      (ix3 ⟨48 + (t.val / 16 * 4 + s.val), by have := s.isLt; have := t.isLt; have := N64; omega⟩ ⟨t.val % 16 * 1024 + r.val, by have := r.isLt; omega⟩ l) := by
  unfold iblk
  rw [View.read_apply]
  show V m c main_arg0 _ = _
  rw [V_main_arg0]
  congr 1
  funext a
  apply Fin.ext
  match a with
  | ⟨0, _⟩ => show win0_3.index t 0 * 4 + 1 * s.val = 48 + (t.val / 16 * 4 + s.val); rw [(idx t).2.2.2.1.1]; omega
  | ⟨1, _⟩ => show win0_3.index t 1 * 1024 + 1 * r.val = t.val % 16 * 1024 + r.val; rw [(idx t).2.2.2.1.2.1]; omega
  | ⟨2, _⟩ => show win0_3.index t 2 * 128 + 1 * l.val = l.val; rw [(idx t).2.2.2.1.2.2]; omega

/-- A branch's gates at point `t`. -/
theorem blk4 (c : Dev nD) (t : Fin cfg0.N) (s : Fin 4) (r : Fin 1024) (l : Fin 128) :
    iblk m c 4 t (ix3 s r l) = m ((c : Thread nD τ).loc main_arg0)
      (ix3 ⟨64 + (t.val / 16 * 4 + s.val), by have := s.isLt; have := t.isLt; have := N64; omega⟩ ⟨t.val % 16 * 1024 + r.val, by have := r.isLt; omega⟩ l) := by
  unfold iblk
  rw [View.read_apply]
  show V m c main_arg0 _ = _
  rw [V_main_arg0]
  congr 1
  funext a
  apply Fin.ext
  match a with
  | ⟨0, _⟩ => show win0_4.index t 0 * 4 + 1 * s.val = 64 + (t.val / 16 * 4 + s.val); rw [(idx t).2.2.2.2.1.1]; omega
  | ⟨1, _⟩ => show win0_4.index t 1 * 1024 + 1 * r.val = t.val % 16 * 1024 + r.val; rw [(idx t).2.2.2.2.1.2.1]; omega
  | ⟨2, _⟩ => show win0_4.index t 2 * 128 + 1 * l.val = l.val; rw [(idx t).2.2.2.2.1.2.2]; omega

/-- A branch's gates at point `t`. -/
theorem blk5 (c : Dev nD) (t : Fin cfg0.N) (s : Fin 4) (r : Fin 1024) (l : Fin 128) :
    iblk m c 5 t (ix3 s r l) = m ((c : Thread nD τ).loc main_arg0)
      (ix3 ⟨80 + (t.val / 16 * 4 + s.val), by have := s.isLt; have := t.isLt; have := N64; omega⟩ ⟨t.val % 16 * 1024 + r.val, by have := r.isLt; omega⟩ l) := by
  unfold iblk
  rw [View.read_apply]
  show V m c main_arg0 _ = _
  rw [V_main_arg0]
  congr 1
  funext a
  apply Fin.ext
  match a with
  | ⟨0, _⟩ => show win0_5.index t 0 * 4 + 1 * s.val = 80 + (t.val / 16 * 4 + s.val); rw [(idx t).2.2.2.2.2.1.1]; omega
  | ⟨1, _⟩ => show win0_5.index t 1 * 1024 + 1 * r.val = t.val % 16 * 1024 + r.val; rw [(idx t).2.2.2.2.2.1.2.1]; omega
  | ⟨2, _⟩ => show win0_5.index t 2 * 128 + 1 * l.val = l.val; rw [(idx t).2.2.2.2.2.1.2.2]; omega

/-- A branch's matrix at point `t`. -/
theorem blk6 (c : Dev nD) (t : Fin cfg0.N) (k : Fin 1536) (l : Fin 512) :
    iblk m c 6 t (ix3 0 k l) = m ((c : Thread nD τ).loc main_arg4)
      (ix3 1 k ⟨t.val / 16 * 512 + l.val, by have := l.isLt; have := t.isLt; have := N64; omega⟩) := by
  unfold iblk
  rw [View.read_apply]
  show V m c main_arg4 _ = _
  rw [V_main_arg4]
  congr 1
  funext a
  apply Fin.ext
  match a with
  | ⟨0, _⟩ => show win0_6.index t 0 * 1 + 1 * 0 = 1; rw [(idx t).2.2.2.2.2.2.1.1]
  | ⟨1, _⟩ => show win0_6.index t 1 * 1536 + 1 * k.val = k.val; rw [(idx t).2.2.2.2.2.2.1.2.1]; omega
  | ⟨2, _⟩ => show win0_6.index t 2 * 512 + 1 * l.val = t.val / 16 * 512 + l.val; rw [(idx t).2.2.2.2.2.2.1.2.2]; omega

/-- A branch's matrix at point `t`. -/
theorem blk7 (c : Dev nD) (t : Fin cfg0.N) (k : Fin 1536) (l : Fin 512) :
    iblk m c 7 t (ix3 0 k l) = m ((c : Thread nD τ).loc main_arg5)
      (ix3 1 k ⟨t.val / 16 * 512 + l.val, by have := l.isLt; have := t.isLt; have := N64; omega⟩) := by
  unfold iblk
  rw [View.read_apply]
  show V m c main_arg5 _ = _
  rw [V_main_arg5]
  congr 1
  funext a
  apply Fin.ext
  match a with
  | ⟨0, _⟩ => show win0_7.index t 0 * 1 + 1 * 0 = 1; rw [(idx t).2.2.2.2.2.2.2.1.1]
  | ⟨1, _⟩ => show win0_7.index t 1 * 1536 + 1 * k.val = k.val; rw [(idx t).2.2.2.2.2.2.2.1.2.1]; omega
  | ⟨2, _⟩ => show win0_7.index t 2 * 512 + 1 * l.val = t.val / 16 * 512 + l.val; rw [(idx t).2.2.2.2.2.2.2.1.2.2]; omega

/-- A branch's matrix at point `t`. -/
theorem blk8 (c : Dev nD) (t : Fin cfg0.N) (k : Fin 1536) (l : Fin 512) :
    iblk m c 8 t (ix3 0 k l) = m ((c : Thread nD τ).loc main_arg6)
      (ix3 1 k ⟨t.val / 16 * 512 + l.val, by have := l.isLt; have := t.isLt; have := N64; omega⟩) := by
  unfold iblk
  rw [View.read_apply]
  show V m c main_arg6 _ = _
  rw [V_main_arg6]
  congr 1
  funext a
  apply Fin.ext
  match a with
  | ⟨0, _⟩ => show win0_8.index t 0 * 1 + 1 * 0 = 1; rw [(idx t).2.2.2.2.2.2.2.2.1.1]
  | ⟨1, _⟩ => show win0_8.index t 1 * 1536 + 1 * k.val = k.val; rw [(idx t).2.2.2.2.2.2.2.2.1.2.1]; omega
  | ⟨2, _⟩ => show win0_8.index t 2 * 512 + 1 * l.val = t.val / 16 * 512 + l.val; rw [(idx t).2.2.2.2.2.2.2.2.1.2.2]; omega

theorem hz2 : (![0, 0] : Fin 2 → Nat) = fun _ => 0 := funext fun a => by fin_cases a <;> rfl
theorem hz3 : (![0, 0, 0] : Fin 3 → Nat) = fun _ => 0 := funext fun a => by fin_cases a <;> rfl

/-- The block a point computes, at its row and column: three gates times three products. -/
def merged (O P Q : FVec Ideal S1024x512 .f32) (a b g : FVec Ideal S4x1024x128 .bf16) (y : S1024x512.Idx) : EReal :=
  gate (a (ix3 ⟨(y 1).val / 128, by have : (y 1).val < 512 := (y 1).isLt; omega⟩ (y 0) ⟨(y 1).val % 128, by omega⟩)) * O y
    + gate (b (ix3 ⟨(y 1).val / 128, by have : (y 1).val < 512 := (y 1).isLt; omega⟩ (y 0) ⟨(y 1).val % 128, by omega⟩)) * P y
    + gate (g (ix3 ⟨(y 1).val / 128, by have : (y 1).val < 512 := (y 1).isLt; omega⟩ (y 0) ⟨(y 1).val % 128, by omega⟩)) * Q y

/-- The block's value at column `128 q + l`. -/
theorem merged_at (O P Q : FVec Ideal S1024x512 .f32) (a b g : FVec Ideal S4x1024x128 .bf16) (r : Fin 1024) (q : Fin 4) (l : Fin 128) (j : Fin 512)
    (hj : j.val = q.val * 128 + l.val) :
    merged O P Q a b g (ix2 r j) = gate (a (ix3 q r l)) * O (ix2 r j) + gate (b (ix3 q r l)) * P (ix2 r j) + gate (g (ix3 q r l)) * Q (ix2 r j) := by
  have hl := l.isLt
  have e : (ix3 ⟨j.val / 128, by have := j.isLt; omega⟩ r ⟨j.val % 128, by omega⟩ : S4x1024x128.Idx) = ix3 q r l := by
    funext k
    apply Fin.ext
    match k with
    | ⟨0, _⟩ => show j.val / 128 = q.val; omega
    | ⟨1, _⟩ => rfl
    | ⟨2, _⟩ => show j.val % 128 = l.val; omega
  rw [← e]
  rfl

/-- A block's four pieces are the columns of one block. -/
theorem out_apply (x0 x1 x2 : FVec Ideal S1024x1536 .bf16) (x3 x4 x5 : FVec Ideal S4x1024x128 .bf16) (x6 x7 x8 : FVec Ideal S1x1536x512 .f32)
    (y : S1024x512.Idx) :
    out0_9 (F := Ideal) x0 x1 x2 x3 x4 x5 x6 x7 x8 y = merged (k0_pay2 x0 x6) (k0_pay3 x1 x7) (k0_pay4 x2 x8) x3 x4 x5 y := by
  unfold_out out0_9
  rw [View.ld_unit_zero hz2, View.ld_unit_zero hz3, View.ld_unit_zero hz2, View.ld_unit_zero hz3, View.ld_unit_zero hz2, View.ld_unit_zero hz3]
  refine View.canon_apply_of_pieces (Val := Elt Ideal) (e := .bf16) (merged (k0_pay2 x0 x6) (k0_pay3 x1 x7) (k0_pay4 x2 x8) x3 x4 x5) _ ?_ y (cover0_9 _ _ _ _ y)
  have hld : ∀ (x : FVec Ideal S4x1024x128 .bf16) (n : Nat) (hn : n < 4) (h : ∀ a, _) (r : Fin 1024) (l : Fin 128),
      (View.ld (Val := Elt Ideal) (e' := .bf16) x (Rect.unit (s := S4x1024x128) ![n, 0, 0] S1x1024x128.size h) (ix3 0 r l) : EReal) = x (ix3 ⟨n, hn⟩ r l) := by
    intro x n hn h r l
    refine congrArg x (funext fun k => Fin.ext ?_)
    match k with
    | ⟨0, _⟩ => show n + 1 * 0 = n; omega
    | ⟨1, _⟩ => show 0 + 1 * r.val = r.val; omega
    | ⟨2, _⟩ => show 0 + 1 * l.val = l.val; omega
  have he : ∀ (o : Nat) (h : ∀ a, _) (ho : o + 128 ≤ 512) (r : Fin 1024) (l : Fin 128),
      (Rect.unit (s := S1024x512) ![0, o] S1024x128.size h).emb (ix2 r l) = ix2 r ⟨o + l.val, by have := l.isLt; omega⟩ := by
    intro o h ho r l
    funext k
    apply Fin.ext
    match k with
    | ⟨0, _⟩ => show 0 + 1 * r.val = r.val; omega
    | ⟨1, _⟩ => show o + 1 * l.val = o + l.val; omega
  intro p hp
  simp only [List.mem_cons, List.not_mem_nil, or_false] at hp
  rcases hp with rfl | rfl | rfl | rfl <;> intro (x : S1024x128.Idx) <;>
    obtain ⟨r, l, rfl⟩ : ∃ (r : Fin 1024) (l : Fin 128), x = ix2 r l := ⟨x 0, x 1, eq_ix2 x⟩
  · refine (piece3 _ _ _ _ _ _ r l).trans ?_
    rw [hld x3 3 (by omega), hld x4 3 (by omega), hld x5 3 (by omega)]
    refine ((congrArg _ (he 384 inb_S1024x512_S1024x128_0_384 (by omega) r l)).trans (merged_at _ _ _ _ _ _ r 3 l _ (by show 384 + l.val = 3 * 128 + l.val; omega))).symm
  · refine (piece2 _ _ _ _ _ _ r l).trans ?_
    rw [hld x3 2 (by omega), hld x4 2 (by omega), hld x5 2 (by omega)]
    refine ((congrArg _ (he 256 inb_S1024x512_S1024x128_0_256 (by omega) r l)).trans (merged_at _ _ _ _ _ _ r 2 l _ (by show 256 + l.val = 2 * 128 + l.val; omega))).symm
  · refine (piece1 _ _ _ _ _ _ r l).trans ?_
    rw [hld x3 1 (by omega), hld x4 1 (by omega), hld x5 1 (by omega)]
    refine ((congrArg _ (he 128 inb_S1024x512_S1024x128_0_128 (by omega) r l)).trans (merged_at _ _ _ _ _ _ r 1 l _ (by show 128 + l.val = 1 * 128 + l.val; omega))).symm
  · refine (piece0 _ _ _ _ _ _ _ r l).trans ?_
    rw [hld x3 0 (by omega), hld x4 0 (by omega), hld x5 0 (by omega)]
    refine ((congrArg _ (he 0 inb_S1024x512_S1024x128_0_0 (by omega) r l)).trans (merged_at _ _ _ _ _ _ r 0 l _ (by show 0 + l.val = 0 * 128 + l.val; omega))).symm

/-- The reference's result at the launched arguments. -/
abbrev result (c : Dev nD) : Buf (Elt Ideal) ((c : Thread nD τ).loc main_v0) :=
  Cert.Reference9Ideal.Read.val_main_v47 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6))

attribute [local irreducible] out0_9 Cert.Reference9Ideal.Read.val_main_v47 Cert.Reference9Ideal.Read.val_main_v13
  Cert.Reference9Ideal.Read.val_main_v28 Cert.Reference9Ideal.Read.val_main_v44

/-- What point `t` writes back is its block of the reference's result. -/
theorem flushed_eq (c : Dev nD) (t : Fin cfg0.N) (hf : (cfg0.win 9).flush t = true) :
    (dats m 0 c).flushed 9 t = ((cfg0.win 9).blk t).view.read (Elt Ideal) (result m c) := by
  rw [flushed9]
  funext (y : S1024x512.Idx)
  refine (out_apply _ _ _ _ _ _ _ _ _ y).trans ?_
  have ht : t.val < 64 := lt_of_lt_of_eq t.isLt N64
  obtain ⟨r, j, rfl⟩ : ∃ (r : Fin 1024) (j : Fin 512), y = ix2 r j := ⟨y 0, y 1, eq_ix2 y⟩
  obtain ⟨q, l, hj⟩ : ∃ (q : Fin 4) (l : Fin 128), j.val = q.val * 128 + l.val :=
    ⟨⟨j.val / 128, by have := j.isLt; omega⟩, ⟨j.val % 128, by omega⟩, by show j.val = j.val / 128 * 128 + j.val % 128; omega⟩
  have hq := q.isLt
  have hr := r.isLt
  have hl := l.isLt
  rw [merged_at _ _ _ _ _ _ r q l j hj, View.read_apply]
  have e : ((cfg0.win 9).blk t).view.emb (ix2 r j)
      = ix2 ⟨t.val % 16 * 1024 + r.val, by omega⟩ ⟨(⟨t.val / 16 * 4 + q.val, by omega⟩ : Fin 16).val * 128 + l.val, by
        show (t.val / 16 * 4 + q.val) * 128 + l.val < 2048; omega⟩ := by
    funext a
    apply Fin.ext
    match a with
    | ⟨0, _⟩ => show win0_9.index t 0 * 1024 + 1 * r.val = t.val % 16 * 1024 + r.val; rw [(idx t).2.2.2.2.2.2.2.2.2.1]; omega
    | ⟨1, _⟩ =>
      show win0_9.index t 1 * 512 + 1 * j.val = (t.val / 16 * 4 + q.val) * 128 + l.val
      rw [(idx t).2.2.2.2.2.2.2.2.2.2]; omega
  show _ = result m c (((cfg0.win 9).blk t).view.emb (ix2 r j))
  rw [e]
  refine Eq.trans ?_ (Cert.Reference9Ideal.Read.ref_apply _ _ _ _ _ _ _ _ _ _).symm
  have hc : ∀ h : t.val / 16 * 512 + j.val < 2048,
      (⟨t.val / 16 * 512 + j.val, h⟩ : Fin 2048) = ⟨(⟨t.val / 16 * 4 + q.val, by omega⟩ : Fin 16).val * 128 + l.val, by
        show (t.val / 16 * 4 + q.val) * 128 + l.val < 2048; omega⟩ := fun _ => Fin.ext (by
          show t.val / 16 * 512 + j.val = (t.val / 16 * 4 + q.val) * 128 + l.val; omega)
  rw [blk3, blk4, blk5, gate_eq_sigm, gate_eq_sigm, gate_eq_sigm]
  refine congrArg₂ (· + ·) (congrArg₂ (· + ·) (congrArg _ ?_) (congrArg _ ?_)) (congrArg _ ?_)
  · refine (prod0_apply _ _ _ _).trans (Eq.trans ?_ (Cert.Reference9Ideal.Read.proda_apply _ _ _ _).symm)
    refine Finset.sum_congr (M := EReal) rfl fun k _ => ?_
    rw [blk0, blk6, hc]
  · refine (prod1_apply _ _ _ _).trans (Eq.trans ?_ (Cert.Reference9Ideal.Read.prodc_apply _ _ _ _).symm)
    refine Finset.sum_congr (M := EReal) rfl fun k _ => ?_
    rw [blk1, blk7, hc]
  · refine (prod2_apply _ _ _ _).trans (Eq.trans ?_ (Cert.Reference9Ideal.Read.prodr_apply _ _ _ _).symm)
    refine Finset.sum_congr (M := EReal) rfl fun k _ => ?_
    rw [blk2, blk8, hc]

/-- The array the run leaves is the reference's result: the points' blocks cover it. -/
theorem final (c : Dev nD) : (dats m 0 c).arrAt 9 cfg0.N = result m c :=
  (dats m 0 c).arrAt_eq_of_cover 9 (result m c) (flushed_eq m c) fun (i : S16384x2048.Idx) => by
    have h0 : (i 0).val < 16384 := (i 0).isLt
    have h1 : (i 1).val < 2048 := (i 1).isLt
    refine ⟨⟨(i 1).val / 512 * 16 + (i 0).val / 1024, by rw [N64]; omega⟩, flush0_9 _, ?_⟩
    generalize ht : (⟨(i 1).val / 512 * 16 + (i 0).val / 1024, _⟩ : Fin cfg0.N) = t
    have hv : t.val = (i 1).val / 512 * 16 + (i 0).val / 1024 := by rw [← ht]
    show i ∈ ((View.whole main_v0).slice (win0_9.rect t)).set
    rw [View.set_slice_whole, Rect.mem_set_unit]
    intro a
    match a with
    | ⟨0, _⟩ => show win0_9.index t 0 * 1024 ≤ (i 0).val ∧ (i 0).val < win0_9.index t 0 * 1024 + 1024; rw [(idx t).2.2.2.2.2.2.2.2.2.1]; omega
    | ⟨1, _⟩ => show win0_9.index t 1 * 512 ≤ (i 1).val ∧ (i 1).val < win0_9.index t 1 * 512 + 512; rw [(idx t).2.2.2.2.2.2.2.2.2.2]; omega

/-- The claim: both programs end with the reference's result. -/
theorem algebraic : Cert.algebraic_Kernel9Ideal_Reference9Ideal := by
  intro m g m' g' _ hag
  refine ⟨fun c => result m c, ?_, ?_⟩
  · exact (θ_run _ _ _).mono (fun r h c => ⟨(h c).1.trans (final m c), (h c).2⟩) (run_blocks m g)
  · exact (θ_run _ _ _).mono (fun r h c => ⟨(h c).1.trans (by
      rw [(hag c).1, (hag c).2.1, (hag c).2.2.1, (hag c).2.2.2.1, (hag c).2.2.2.2.1, (hag c).2.2.2.2.2.1, (hag c).2.2.2.2.2.2]
      exact Cert.Reference9Ideal.Read.val_main_v47_eq _ _ _ _ _ _ _), (h c).2⟩) (Cert.Reference9Ideal.Value.run m' g')

end Cert.Kernel9Ideal.Value

end
-- ==== Proof.Conv10.lean ====
module

public import proofs.«01_k».proof.Proof.Gen.Kernel10Ideal.Skeleton
public import proofs.«01_k».proof.Proof.Gen.Reference10Ideal.Read
public import proofs.«01_k».proof.Proof.Sigmoid
public import Idealize.ShloMosaic.Lib.Pointwise
public import Idealize.ShloMosaic.Lib.KernelVsHost

@[expose] public section

set_option maxRecDepth 16384

noncomputable section

open Idealize.ShloMosaic Idealize.ShloMosaic.TcCoe Idealize.SL.Sem

/-! # The gated short convolution: what the kernel's operations and the reference's compute, element by element -/

namespace Cert.Reference10Ideal.Read

open Cert.Reference10Ideal

/-- The input's row `R` times column `o + J` of the second layer's matrix. -/
def col (x0 : FVec Ideal S16384x2048 .bf16) (x1 : FVec Ideal S2x2048x24576 .f32) (o : ℕ) (ho : o ≤ 10752) (R : Fin 16384) (J : Fin 1536) : EReal :=
  ∑ k : Fin 2048, (x0 (ix2 R k) : EReal) * (x1 (ix3 1 k ⟨o + J.val, by have := J.isLt; omega⟩) : EReal)

theorem colu_apply (x0 : FVec Ideal S16384x2048 .bf16) (x1 : FVec Ideal S2x2048x24576 .f32) (R : Fin 16384) (J : Fin 1536) :
    val_main_v4 (F := Ideal) x0 x1 (ix2 R J) = col x0 x1 6144 (by omega) R J := by
  unfold col
  pointwise [val_main_v4, val_main_v3, val_main_v2, val_main_v1, val_main_v0]

theorem colb_apply (x0 : FVec Ideal S16384x2048 .bf16) (x1 : FVec Ideal S2x2048x24576 .f32) (R : Fin 16384) (J : Fin 1536) :
    val_main_v7 (F := Ideal) x0 x1 (ix2 R J) = col x0 x1 7680 (by omega) R J := by
  unfold col
  pointwise [val_main_v7, val_main_v6, val_main_v2, val_main_v1, val_main_v0]

theorem colc_apply (x0 : FVec Ideal S16384x2048 .bf16) (x1 : FVec Ideal S2x2048x24576 .f32) (R : Fin 16384) (J : Fin 1536) :
    val_main_v10 (F := Ideal) x0 x1 (ix2 R J) = col x0 x1 9216 (by omega) R J := by
  unfold col
  pointwise [val_main_v10, val_main_v9, val_main_v2, val_main_v1, val_main_v0]

theorem colz_apply (x0 : FVec Ideal S16384x2048 .bf16) (x1 : FVec Ideal S2x2048x24576 .f32) (R : Fin 16384) (J : Fin 1536) :
    val_main_v13 (F := Ideal) x0 x1 (ix2 R J) = col x0 x1 10752 (by omega) R J := by
  unfold col
  pointwise [val_main_v13, val_main_v12, val_main_v2, val_main_v1, val_main_v0]

attribute [local irreducible] val_main_v4 val_main_v7 val_main_v10 val_main_v13 col

/-- The gated signal at row `R`, column `J`. -/
def cu (x0 : FVec Ideal S16384x2048 .bf16) (x1 : FVec Ideal S2x2048x24576 .f32) (R : Fin 16384) (J : Fin 1536) : EReal :=
  col x0 x1 9216 (by omega) R J * col x0 x1 6144 (by omega) R J

theorem cu_apply (x0 : FVec Ideal S16384x2048 .bf16) (x1 : FVec Ideal S2x2048x24576 .f32) (b : Fin 4) (s : Fin 4096) (J : Fin 1536) :
    val_main_v15 (F := Ideal) x0 x1 (ix3 b s J) = cu x0 x1 ⟨b.val * 4096 + s.val, by have := b.isLt; have := s.isLt; omega⟩ J := by
  unfold cu
  rw [← colc_apply, ← colu_apply]
  pointwise [val_main_v15, val_main_v11, val_main_v5]

attribute [local irreducible] val_main_v15

/-- The gated signal with two rows of zeros before each sequence, `d` rows before row `s + 2`. -/
theorem pad_apply' (x0 : FVec Ideal S16384x2048 .bf16) (x1 : FVec Ideal S2x2048x24576 .f32) (b : Fin 4) (s : Fin 4098) (J : Fin 1536) :
    val_main_v16 (F := Ideal) x0 x1 (ix3 b s J)
      = if h : 2 ≤ s.val then cu x0 x1 ⟨b.val * 4096 + (s.val - 2), by have := b.isLt; have := s.isLt; omega⟩ J else 0 := by
  unfold val_main_v16
  by_cases h : 2 ≤ s.val
  · rw [dif_pos h]
    refine (pad_apply_of_inside _ _ _ _ _ _ _ _ (ix3 b ⟨s.val - 2, by have := s.isLt; omega⟩ J) ?_).trans (cu_apply _ _ _ _ _)
    intro a
    match a with
    | ⟨0, _⟩ => show b.val = 0 + b.val * 1; omega
    | ⟨1, _⟩ => show s.val = 2 + (s.val - 2) * 1; omega
    | ⟨2, _⟩ => show J.val = 0 + J.val * 1; omega
  · rw [dif_neg h]
    refine (pad_apply_of_not_inside _ _ _ _ _ _ _ _ 1 ?_).trans ?_
    · rintro ⟨h1, -⟩
      exact h h1
    · show (((0#32 : BitVec 32).toInt : ℝ) : EReal) = 0
      simp

attribute [local irreducible] val_main_v16

/-- The value of the convolution at the row whose gated signal is `a`, with `p` the row before and `q` the row before that. -/
def conv (x2 : FVec Ideal S3x1536 .f32) (x3 : FVec Ideal S1536 .f32) (J : Fin 1536) (a p q : EReal) : EReal :=
  (x3 (ix1 J) : EReal) + (x2 (ix2 2 J) : EReal) * a + (x2 (ix2 0 J) : EReal) * q + (x2 (ix2 1 J) : EReal) * p

/-- The gate as the reference computes it, with an exponential. -/
def sigm (z : EReal) : EReal :=
  Ideal.div (Ideal.ofBits .f32 0x3F800000#32) (Ideal.ofBits .f32 0x3F800000#32 + Ideal.exp (-z))

/-- The reference's result at row `s` of sequence `b`. -/
theorem ref_at (x0 : FVec Ideal S16384x2048 .bf16) (x1 : FVec Ideal S2x2048x24576 .f32) (x2 : FVec Ideal S3x1536 .f32) (x3 : FVec Ideal S1536 .f32)
    (b : Fin 4) (s : Fin 4096) (J : Fin 1536) :
    val_main_v41 (F := Ideal) x0 x1 x2 x3 (ix3 b s J)
      = (val_main_v8 (F := Ideal) x0 x1 (ix3 b s J)
          * conv x2 x3 J (val_main_v15 (F := Ideal) x0 x1 (ix3 b s J))
              (val_main_v16 (F := Ideal) x0 x1 (ix3 b ⟨1 + s.val, by have := s.isLt; omega⟩ J))
              (val_main_v16 (F := Ideal) x0 x1 (ix3 b ⟨s.val, by have := s.isLt; omega⟩ J)))
        * (val_main_v14 (F := Ideal) x0 x1 (ix3 b s J) * sigm (val_main_v14 (F := Ideal) x0 x1 (ix3 b s J))) := by
  unfold sigm conv
  pointwise [val_main_v41, val_main_v40, val_main_call1_v5, val_main_call1_v4, val_main_call1_v3, val_main_call1_v2, val_main_call1_v1, val_main_call1_v0,
    val_main_call1_cst, val_main_call1_cst_0, val_main_v39, val_main_v38, val_main_v37, val_main_v36, val_main_v35, val_main_v34, val_main_v33, val_main_v32,
    val_main_v31, val_main_v30, val_main_v29, val_main_v28, val_main_v27, val_main_v26, val_main_v25, val_main_v24, val_main_v23, val_main_v22, val_main_v21,
    val_main_v20, val_main_v19, val_main_v18, val_main_v17]

attribute [local irreducible] val_main_v41

theorem v8_apply (x0 : FVec Ideal S16384x2048 .bf16) (x1 : FVec Ideal S2x2048x24576 .f32) (b : Fin 4) (s : Fin 4096) (J : Fin 1536) :
    val_main_v8 (F := Ideal) x0 x1 (ix3 b s J) = col x0 x1 7680 (by omega) ⟨b.val * 4096 + s.val, by have := b.isLt; have := s.isLt; omega⟩ J := by
  rw [← colb_apply]
  pointwise [val_main_v8]

theorem v14_apply (x0 : FVec Ideal S16384x2048 .bf16) (x1 : FVec Ideal S2x2048x24576 .f32) (b : Fin 4) (s : Fin 4096) (J : Fin 1536) :
    val_main_v14 (F := Ideal) x0 x1 (ix3 b s J) = col x0 x1 10752 (by omega) ⟨b.val * 4096 + s.val, by have := b.isLt; have := s.isLt; omega⟩ J := by
  rw [← colz_apply]
  pointwise [val_main_v14]

/-- The gated signal `d` rows before row `R`, zero before the sequence's first row. -/
def back (x0 : FVec Ideal S16384x2048 .bf16) (x1 : FVec Ideal S2x2048x24576 .f32) (d : ℕ) (R : Fin 16384) (J : Fin 1536) : EReal :=
  if d ≤ R.val % 4096 then cu x0 x1 ⟨R.val - d, lt_of_le_of_lt (Nat.sub_le _ _) R.isLt⟩ J else 0

/-- The reference's result at row `R`, column `J`. -/
theorem ref_apply (x0 : FVec Ideal S16384x2048 .bf16) (x1 : FVec Ideal S2x2048x24576 .f32) (x2 : FVec Ideal S3x1536 .f32) (x3 : FVec Ideal S1536 .f32)
    (R : Fin 16384) (J : Fin 1536) :
    val_main_v43 (F := Ideal) x0 x1 x2 x3 (ix2 R J)
      = (col x0 x1 7680 (by omega) R J * conv x2 x3 J (cu x0 x1 R J) (back x0 x1 1 R J) (back x0 x1 2 R J))
        * (col x0 x1 10752 (by omega) R J * sigm (col x0 x1 10752 (by omega) R J)) := by
  have hR := R.isLt
  have hJ := J.isLt
  rw [val_main_v43_apply, val_main_v42_apply]
  have e : idx_main_v42 (ix2 R J) = ix3 ⟨R.val / 4096, by omega⟩ ⟨R.val % 4096, by omega⟩ J := by
    funext a
    apply Fin.ext
    match a with
    | ⟨0, _⟩ => show (R.val * 1536 + J.val) / 6291456 = R.val / 4096; omega
    | ⟨1, _⟩ => show (R.val * 1536 + J.val) / 1536 % 4096 = R.val % 4096; omega
    | ⟨2, _⟩ => show (R.val * 1536 + J.val) % 1536 = J.val; omega
  rw [e]
  refine (ref_at x0 x1 x2 x3 _ _ J).trans ?_
  rw [v8_apply, v14_apply, cu_apply, pad_apply', pad_apply']
  have e0 : ∀ h : R.val / 4096 * 4096 + R.val % 4096 < 16384, (⟨R.val / 4096 * 4096 + R.val % 4096, h⟩ : Fin 16384) = R :=
    fun _ => Fin.ext (by show R.val / 4096 * 4096 + R.val % 4096 = R.val; omega)
  dsimp only
  rw [e0]
  unfold back
  refine congrArg (fun y => _ * y * _) (congrArg₂ (fun p q => conv x2 x3 J (cu x0 x1 R J) p q) ?_ ?_)
  · by_cases h : 1 ≤ R.val % 4096
    · rw [dif_pos (by omega), if_pos h]
      exact congrArg (fun R' => cu x0 x1 R' J) (Fin.ext (by show R.val / 4096 * 4096 + (1 + R.val % 4096 - 2) = R.val - 1; omega))
    · rw [dif_neg (by omega), if_neg h]
  · by_cases h : 2 ≤ R.val % 4096
    · rw [dif_pos h, if_pos h]
      exact congrArg (fun R' => cu x0 x1 R' J) (Fin.ext (by show R.val / 4096 * 4096 + (R.val % 4096 - 2) = R.val - 2; omega))
    · rw [dif_neg h, if_neg h]

end Cert.Reference10Ideal.Read

namespace Cert.Kernel10Ideal.Conv

open Cert.Kernel10Ideal Cert.Kernel10Ideal.Gen

theorem pay9_apply (v : FVec Ideal S1024x2048 .bf16) (w : FVec Ideal S1x2048x256 .f32) (r : Fin 1024) (l : Fin 256) :
    k0_pay9 (F := Ideal) v w (ix2 r l) = ∑ k : Fin 2048, (v (ix2 r k) : EReal) * (w (ix3 0 k l) : EReal) := by
  pointwise [k0_pay9]

theorem pay17_apply (v : FVec Ideal S1024x2048 .bf16) (P : FVec Ideal S1024x256 .f32) (w : FVec Ideal S1x2048x256 .f32) (r : Fin 1024) (l : Fin 256) :
    k0_pay17 (F := Ideal) v P w (ix2 r l) = (P (ix2 r l) : EReal) * ∑ k : Fin 2048, (v (ix2 r k) : EReal) * (w (ix3 0 k l) : EReal) := by
  pointwise [k0_pay17]

theorem pay35_apply (v : FVec Ideal S1024x2048 .bf16) (w : FVec Ideal S1x2048x256 .f32) (r : Fin 1024) (l : Fin 256) :
    k0_pay35 (F := Ideal) v w (ix2 r l) = Ideal.ofBits .f32 0x3F000000#32 * ∑ k : Fin 2048, (v (ix2 r k) : EReal) * (w (ix3 0 k l) : EReal) := by
  pointwise [k0_pay35]

theorem pay36_apply (v : FVec Ideal S1024x2048 .bf16) (w : FVec Ideal S1x2048x256 .f32) (r : Fin 1024) (l : Fin 256) :
    k0_pay36 (F := Ideal) v w (ix2 r l) = ∑ k : Fin 2048, (v (ix2 r k) : EReal) * (w (ix3 0 k l) : EReal) := by
  pointwise [k0_pay36]

theorem pay39_apply (C : FVec Ideal S1024x256 .f32) (r : Fin 8) (l : Fin 256) :
    k0_pay39 (F := Ideal) C (ix2 r l) = C (ix2 ⟨1016 + r.val, by have := r.isLt; omega⟩ l) := by
  pointwise [k0_pay39]

theorem pay42_apply (C : FVec Ideal S1024x256 .f32) (b w : FVec Ideal S1x256 .f32) (r : Fin 1024) (l : Fin 256) :
    k0_pay42 (F := Ideal) C b w (ix2 r l) = (b (ix2 0 l) : EReal) + (w (ix2 0 l) : EReal) * C (ix2 r l) := by
  pointwise [k0_pay42]

theorem pay1_apply (H B P Q Y : FVec Ideal S1024x256 .f32) (w0 w1 : FVec Ideal S1x256 .f32) (r : Fin 1024) (l : Fin 256) :
    k0_pay1 (F := Ideal) H B P Q Y w0 w1 (ix2 r l)
      = ((Y (ix2 r l) : EReal) + (w0 (ix2 0 l) : EReal) * Q (ix2 r l) + (w1 (ix2 0 l) : EReal) * P (ix2 r l)) * (B (ix2 r l) * H (ix2 r l))
        * (Ideal.ofBits .f32 0x3F800000#32 + Ideal.tanh (H (ix2 r l))) := by
  pointwise [k0_pay1]

/-- The kernel's remainder of a row block's number by the row blocks of a sequence is zero just when the number's is. -/
theorem start_iff : ∀ n : Fin 16, (Scalar.cmpi .eq
      (Scalar.select (Scalar.andi (Scalar.xori (Scalar.cmpi .slt (Scalar.remsi (BitVec.ofNat 32 n.val) 4#32) 0#32) (Scalar.cmpi .slt 4#32 0#32))
        (Scalar.cmpi .ne (Scalar.remsi (BitVec.ofNat 32 n.val) 4#32) 0#32))
        (Scalar.addi (Scalar.remsi (BitVec.ofNat 32 n.val) 4#32) 4#32) (Scalar.remsi (BitVec.ofNat 32 n.val) 4#32)) 0#32 : BitVec 1)
      = if n.val % 4 = 0 then 1#1 else 0#1 := by decide

/-- The carried rows a row block reaches back to: none at the first row block of a sequence. -/
theorem pay38_apply (n : Fin 16) (hl : FVec Ideal S8x256 .f32) (r : Fin 8) (l : Fin 256) :
    k0_pay38 (F := Ideal) 4#32 (Scalar.remsi (BitVec.ofNat 32 n.val) 4#32)
      (Scalar.andi (Scalar.xori (Scalar.cmpi .slt (Scalar.remsi (BitVec.ofNat 32 n.val) 4#32) 0#32) (Scalar.cmpi .slt 4#32 0#32))
        (Scalar.cmpi .ne (Scalar.remsi (BitVec.ofNat 32 n.val) 4#32) 0#32)) hl (ix2 r l)
      = if n.val % 4 = 0 then (0 : EReal) else hl (ix2 r l) := by
  unfold k0_pay38
  refine (congrArg (fun c => Scalar.select c (broadcast S8x256 (Scalar.ofBits (F := Ideal) .f32 0x00000000#32)) hl (ix2 r l)) (start_iff n)).trans ?_
  by_cases h : n.val % 4 = 0
  · rw [if_pos h, if_pos h]
    exact Ideal.ofBits_zero_f32
  · rw [if_neg h, if_neg h]
    rfl

attribute [local irreducible] k0_pay38

theorem is0 : ∀ r : Fin 8, IntOp.cmpi .eq (BitVec.ofNat 32 r.val) 0#32 = if r.val = 0 then 1#1 else 0#1 := by decide

theorem is1 : ∀ r : Fin 8, IntOp.cmpi .eq (BitVec.ofNat 32 r.val) 1#32 = if r.val = 1 then 1#1 else 0#1 := by decide

theorem back1_low (M : FVec Ideal S8x256 .f32) (C : FVec Ideal S1024x256 .f32) (r : Fin 8) (l : Fin 256) :
    (select (cmpi .eq (iota .tc S8x256 32 [0] iota_S8x256_d0_w32) (broadcast S8x256 0#32))
      (broadcastTo S8x256 (shapeCast S1x256 (extractStridedSlice S1x256 ![7, 0] M slices_S8x256_o7_0_S1x256) shapeCasts_S1x256_S1x256) broadcasts_S1x256_S8x256)
      (extractStridedSlice S8x256 ![0, 0] (dynamicRotate 0 1#32 none C rotates_S1024x256_d0) slices_S1024x256_o0_0_S8x256) : FVec Ideal S8x256 .f32) (ix2 r l)
      = if r.val = 0 then M (ix2 7 l) else C (ix2 ⟨r.val - 1, by have := r.isLt; omega⟩ l) := by
  have hr := r.isLt
  pointwise []
  rw [is0]
  by_cases h : r.val = 0
  · rw [if_pos h, if_pos h]
    rfl
  · rw [if_neg h, if_neg h]
    refine congrArg (fun q => C (ix2 q l)) (Fin.ext ?_)
    show (r.val + 1024 - 1) % 1024 = r.val - 1
    omega

theorem back2_low (M : FVec Ideal S8x256 .f32) (C : FVec Ideal S1024x256 .f32) (r : Fin 8) (l : Fin 256) :
    (select (cmpi .eq (iota .tc S8x256 32 [0] iota_S8x256_d0_w32) (broadcast S8x256 0#32))
      (broadcastTo S8x256 (shapeCast S1x256 (extractStridedSlice S1x256 ![6, 0] M slices_S8x256_o6_0_S1x256) shapeCasts_S1x256_S1x256) broadcasts_S1x256_S8x256)
      (select (cmpi .eq (iota .tc S8x256 32 [0] iota_S8x256_d0_w32) (broadcast S8x256 1#32))
        (broadcastTo S8x256 (shapeCast S1x256 (extractStridedSlice S1x256 ![7, 0] M slices_S8x256_o7_0_S1x256) shapeCasts_S1x256_S1x256) broadcasts_S1x256_S8x256)
        (extractStridedSlice S8x256 ![0, 0] (dynamicRotate 0 2#32 none C rotates_S1024x256_d0) slices_S1024x256_o0_0_S8x256)) : FVec Ideal S8x256 .f32) (ix2 r l)
      = if h : r.val < 2 then M (ix2 ⟨6 + r.val, by omega⟩ l) else C (ix2 ⟨r.val - 2, by have := r.isLt; omega⟩ l) := by
  have hr := r.isLt
  pointwise []
  rw [is0, is1]
  by_cases h : r.val < 2
  · rw [dif_pos h]
    by_cases h0 : r.val = 0
    · rw [if_pos h0]
      refine congrArg (fun q => M (ix2 q l)) (Fin.ext ?_)
      show 6 = 6 + r.val
      omega
    · rw [if_neg h0, if_pos (by omega)]
      refine congrArg (fun q => M (ix2 q l)) (Fin.ext ?_)
      show 7 = 6 + r.val
      omega
  · rw [dif_neg h, if_neg (by omega), if_neg (by omega)]
    refine congrArg (fun q => C (ix2 q l)) (Fin.ext ?_)
    show (r.val + 1024 - 2) % 1024 = r.val - 2
    omega

theorem back_high1 (C : FVec Ideal S1024x256 .f32) (r : Fin 1016) (l : Fin 256) :
    (extractStridedSlice S1016x256 ![8, 0] (dynamicRotate 0 1#32 none C rotates_S1024x256_d0) slices_S1024x256_o8_0_S1016x256 : FVec Ideal S1016x256 .f32) (ix2 r l)
      = C (ix2 ⟨r.val + 7, by have := r.isLt; omega⟩ l) := by
  have hr := r.isLt
  pointwise []
  refine congrArg (fun q => C (ix2 q l)) (Fin.ext ?_)
  show (8 + r.val + 1024 - 1) % 1024 = r.val + 7
  omega

theorem back_high2 (C : FVec Ideal S1024x256 .f32) (r : Fin 1016) (l : Fin 256) :
    (extractStridedSlice S1016x256 ![8, 0] (dynamicRotate 0 2#32 none C rotates_S1024x256_d0) slices_S1024x256_o8_0_S1016x256 : FVec Ideal S1016x256 .f32) (ix2 r l)
      = C (ix2 ⟨r.val + 6, by have := r.isLt; omega⟩ l) := by
  have hr := r.isLt
  pointwise []
  refine congrArg (fun q => C (ix2 q l)) (Fin.ext ?_)
  show (8 + r.val + 1024 - 2) % 1024 = r.val + 6
  omega

/-- Rows 0 to 7 of a block put together of eight rows and the rest. -/
theorem cat_low (A : FVec Ideal S8x256 .f32) (B : FVec Ideal S1016x256 .f32) (r : Fin 1024) (l : Fin 256) (h : r.val < 8) :
    concatenate S1024x256 0 [⟨S8x256, A⟩, ⟨S1016x256, B⟩] concatenates_S8x256_S1016x256_S1024x256_d0 (ix2 r l) = A (ix2 ⟨r.val, h⟩ l) :=
  concatenate_pair_apply_left (t := S1024x256) (s₁ := S8x256) (s₂ := S1016x256) (0 : Fin 2) A B concatenates_S8x256_S1016x256_S1024x256_d0 (ix2 r l) rfl (ix2 ⟨r.val, h⟩ l)
    (fun x => by match x with | ⟨0, _⟩ => rfl | ⟨1, _⟩ => rfl)

/-- Rows 8 on of a block put together of eight rows and the rest. -/
theorem cat_high (A : FVec Ideal S8x256 .f32) (B : FVec Ideal S1016x256 .f32) (r : Fin 1024) (l : Fin 256) (h : ¬r.val < 8) :
    concatenate S1024x256 0 [⟨S8x256, A⟩, ⟨S1016x256, B⟩] concatenates_S8x256_S1016x256_S1024x256_d0 (ix2 r l)
      = B (ix2 ⟨r.val - 8, by have := r.isLt; omega⟩ l) :=
  concatenate_pair_apply_right (t := S1024x256) (s₁ := S8x256) (s₂ := S1016x256) (0 : Fin 2) A B concatenates_S8x256_S1016x256_S1024x256_d0 (ix2 r l) rfl rfl
    (ix2 ⟨r.val - 8, by have := r.isLt; omega⟩ l)
    (fun x hx => by
      match x with
      | ⟨0, _⟩ => exact absurd rfl hx
      | ⟨1, _⟩ => rfl) (by show r.val - 8 + 8 = r.val; omega)

/-- The gated signal of the row before, in a block: the first row reaches the last carried row. -/
theorem pay40_apply (C : FVec Ideal S1024x256 .f32) (a b : BitVec 32) (d : BitVec 1) (hl : FVec Ideal S8x256 .f32) (r : Fin 1024) (l : Fin 256) :
    k0_pay40 (F := Ideal) C a b d hl (ix2 r l)
      = if r.val = 0 then k0_pay38 (F := Ideal) a b d hl (ix2 7 l) else C (ix2 ⟨r.val - 1, by have := r.isLt; omega⟩ l) := by
  have hr := r.isLt
  unfold k0_pay40
  by_cases h : r.val < 8
  · refine (cat_low _ _ r l h).trans ?_
    exact back1_low _ _ _ _
  · refine (cat_high _ _ r l h).trans ?_
    rw [if_neg (by omega)]
    refine (back_high1 _ _ _).trans (congrArg (fun q => C (ix2 q l)) (Fin.ext ?_))
    show r.val - 8 + 7 = r.val - 1
    omega

/-- The gated signal of the row before the row before, in a block: the first two rows reach the last two carried rows. -/
theorem pay41_apply (C : FVec Ideal S1024x256 .f32) (a b : BitVec 32) (d : BitVec 1) (hl : FVec Ideal S8x256 .f32) (r : Fin 1024) (l : Fin 256) :
    k0_pay41 (F := Ideal) C a b d hl (ix2 r l)
      = if h : r.val < 2 then k0_pay38 (F := Ideal) a b d hl (ix2 ⟨6 + r.val, by omega⟩ l) else C (ix2 ⟨r.val - 2, by have := r.isLt; omega⟩ l) := by
  have hr := r.isLt
  unfold k0_pay41
  by_cases h : r.val < 8
  · refine (cat_low _ _ r l h).trans ?_
    exact back2_low _ _ _ _
  · refine (cat_high _ _ r l h).trans ?_
    rw [dif_neg (by omega)]
    refine (back_high2 _ _ _).trans (congrArg (fun q => C (ix2 q l)) (Fin.ext ?_))
    show r.val - 8 + 6 = r.val - 2
    omega

/-- The kernel's order of the gated product is the reference's. -/
theorem gated (Y B Z : EReal) :
    Y * (B * (Ideal.ofBits .f32 0x3F000000#32 * Z)) * (Ideal.ofBits .f32 0x3F800000#32 + Ideal.tanh (Ideal.ofBits .f32 0x3F000000#32 * Z))
      = (B * Y) * (Z * Cert.Reference10Ideal.Read.sigm Z) := by
  have hs : Cert.Reference10Ideal.Read.sigm Z
      = Ideal.ofBits .f32 0x3F000000#32 * (Ideal.ofBits .f32 0x3F800000#32 + Ideal.tanh (Ideal.ofBits .f32 0x3F000000#32 * Z)) := by
    refine (Cert.Sigmoid.gate_eq Z).symm.trans ?_
    have ht : ∃ t : ℝ, Ideal.tanh (Ideal.ofBits .f32 0x3F000000#32 * Z) = (t : EReal) := by
      generalize Ideal.ofBits .f32 0x3F000000#32 * Z = x
      induction x using EReal.rec with
      | bot => exact ⟨-1, by rw [Ideal.tanh_bot]; simp⟩
      | top => exact ⟨1, by rw [Ideal.tanh_top]; simp⟩
      | coe x => exact ⟨_, Ideal.tanh_coe x⟩
    obtain ⟨t, ht⟩ := ht
    rw [ht, Cert.Sigmoid.half_bits, Cert.Sigmoid.one_bits, ← EReal.coe_mul, ← EReal.coe_add, ← EReal.coe_add, ← EReal.coe_mul]
    refine congrArg _ ?_
    ring
  rw [hs]
  ac_rfl

end Cert.Kernel10Ideal.Conv

end
-- ==== Proof.Value10.lean ====
module

public import proofs.«01_k».proof.Defs
public import proofs.«01_k».proof.Proof.Frame10
public import proofs.«01_k».proof.Proof.Conv10
public import proofs.«01_k».proof.Proof.Gen.Reference10Ideal.Run
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

/-! # The gated short convolution's result is the reference's -/

namespace Cert.Kernel10Ideal.Value

open Cert.Kernel10Ideal Cert.Kernel10Ideal.Gen Cert.Kernel10Ideal.Conv Cert.Reference10Ideal.Read

attribute [local irreducible] k0_pay1 k0_pay7 k0_pay9 k0_pay17 k0_pay35 k0_pay36 k0_pay38 k0_pay39 k0_pay40 k0_pay41 k0_pay42

/-- Which block each window is on at point `t`, and the row block's number. -/
theorem idx : ∀ t : Fin cfg0.N, (win0_1.index t 0 = t.val % 16 ∧ win0_1.index t 1 = 0)
    ∧ (win0_2.index t 0 = 1 ∧ win0_2.index t 1 = 0 ∧ win0_2.index t 2 = 24 + t.val / 16)
    ∧ (win0_3.index t 0 = 1 ∧ win0_3.index t 1 = 0 ∧ win0_3.index t 2 = 30 + t.val / 16)
    ∧ (win0_4.index t 0 = 1 ∧ win0_4.index t 1 = 0 ∧ win0_4.index t 2 = 36 + t.val / 16)
    ∧ (win0_5.index t 0 = 1 ∧ win0_5.index t 1 = 0 ∧ win0_5.index t 2 = 42 + t.val / 16)
    ∧ (win0_6.index t 0 = 0 ∧ win0_6.index t 1 = t.val / 16)
    ∧ (win0_7.index t 0 = 0 ∧ win0_7.index t 1 = t.val / 16)
    ∧ (win0_14.index t 0 = t.val % 16 ∧ win0_14.index t 1 = t.val / 16)
    ∧ (grid0.coords t 1).val = t.val % 16 :=
  (by decide +kernel : ∀ t : Fin grid0.N, (win0_1.index t 0 = t.val % 16 ∧ win0_1.index t 1 = 0)
    ∧ (win0_2.index t 0 = 1 ∧ win0_2.index t 1 = 0 ∧ win0_2.index t 2 = 24 + t.val / 16)
    ∧ (win0_3.index t 0 = 1 ∧ win0_3.index t 1 = 0 ∧ win0_3.index t 2 = 30 + t.val / 16)
    ∧ (win0_4.index t 0 = 1 ∧ win0_4.index t 1 = 0 ∧ win0_4.index t 2 = 36 + t.val / 16)
    ∧ (win0_5.index t 0 = 1 ∧ win0_5.index t 1 = 0 ∧ win0_5.index t 2 = 42 + t.val / 16)
    ∧ (win0_6.index t 0 = 0 ∧ win0_6.index t 1 = t.val / 16)
    ∧ (win0_7.index t 0 = 0 ∧ win0_7.index t 1 = t.val / 16)
    ∧ (win0_14.index t 0 = t.val % 16 ∧ win0_14.index t 1 = t.val / 16)
    ∧ (grid0.coords t 1).val = t.val % 16)

variable (m : (ℓ : Loc nD τ sig) → Buf (Elt Ideal) ℓ) (ρ : Dev nD → PrngReg)

theorem lt96 (t : Fin cfg0.N) : t.val < 96 := lt_of_lt_of_eq t.isLt N96

/-- The row of the whole input a row of point `t`'s block is. -/
abbrev rowOf (t : Fin cfg0.N) (r : Fin 1024) : Fin 16384 := ⟨t.val % 16 * 1024 + r.val, by have := r.isLt; omega⟩

/-- The column of the whole result a column of point `t`'s block is. -/
abbrev colOf (t : Fin cfg0.N) (l : Fin 256) : Fin 1536 := ⟨t.val / 16 * 256 + l.val, by have := l.isLt; have := lt96 t; omega⟩

/-- The input's rows at point `t`. -/
theorem blk1 (c : Dev nD) (t : Fin cfg0.N) (r : Fin 1024) (k : Fin 2048) :
    iblk m c 1 t (ix2 r k) = m ((c : Thread nD τ).loc main_arg0) (ix2 (rowOf t r) k) := by
  unfold iblk
  rw [View.read_apply]
  show V m c main_arg0 _ = _
  rw [V_main_arg0]
  congr 1
  funext a
  apply Fin.ext
  match a with
  | ⟨0, _⟩ => show win0_1.index t 0 * 1024 + 1 * r.val = t.val % 16 * 1024 + r.val; rw [(idx t).1.1]; omega
  | ⟨1, _⟩ => show win0_1.index t 1 * 2048 + 1 * k.val = k.val; rw [(idx t).1.2]; omega

/-- The signal's columns at point `t`. -/
theorem blk2 (c : Dev nD) (t : Fin cfg0.N) (k : Fin 2048) (l : Fin 256) :
    iblk m c 2 t (ix3 0 k l) = m ((c : Thread nD τ).loc main_arg1)
      (ix3 1 k ⟨6144 + (colOf t l).val, by have := (colOf t l).isLt; omega⟩) := by
  unfold iblk
  rw [View.read_apply]
  show V m c main_arg1 _ = _
  rw [V_main_arg1]
  congr 1
  funext a
  apply Fin.ext
  match a with
  | ⟨0, _⟩ => show win0_2.index t 0 * 1 + 1 * 0 = 1; rw [(idx t).2.1.1]
  | ⟨1, _⟩ => show win0_2.index t 1 * 2048 + 1 * k.val = k.val; rw [(idx t).2.1.2.1]; omega
  | ⟨2, _⟩ => show win0_2.index t 2 * 256 + 1 * l.val = 6144 + (t.val / 16 * 256 + l.val); rw [(idx t).2.1.2.2]; omega

/-- The outer gate's columns at point `t`. -/
theorem blk3 (c : Dev nD) (t : Fin cfg0.N) (k : Fin 2048) (l : Fin 256) :
    iblk m c 3 t (ix3 0 k l) = m ((c : Thread nD τ).loc main_arg1)
      (ix3 1 k ⟨7680 + (colOf t l).val, by have := (colOf t l).isLt; omega⟩) := by
  unfold iblk
  rw [View.read_apply]
  show V m c main_arg1 _ = _
  rw [V_main_arg1]
  congr 1
  funext a
  apply Fin.ext
  match a with
  | ⟨0, _⟩ => show win0_3.index t 0 * 1 + 1 * 0 = 1; rw [(idx t).2.2.1.1]
  | ⟨1, _⟩ => show win0_3.index t 1 * 2048 + 1 * k.val = k.val; rw [(idx t).2.2.1.2.1]; omega
  | ⟨2, _⟩ => show win0_3.index t 2 * 256 + 1 * l.val = 7680 + (t.val / 16 * 256 + l.val); rw [(idx t).2.2.1.2.2]; omega

/-- The inner gate's columns at point `t`. -/
theorem blk4 (c : Dev nD) (t : Fin cfg0.N) (k : Fin 2048) (l : Fin 256) :
    iblk m c 4 t (ix3 0 k l) = m ((c : Thread nD τ).loc main_arg1)
      (ix3 1 k ⟨9216 + (colOf t l).val, by have := (colOf t l).isLt; omega⟩) := by
  unfold iblk
  rw [View.read_apply]
  show V m c main_arg1 _ = _
  rw [V_main_arg1]
  congr 1
  funext a
  apply Fin.ext
  match a with
  | ⟨0, _⟩ => show win0_4.index t 0 * 1 + 1 * 0 = 1; rw [(idx t).2.2.2.1.1]
  | ⟨1, _⟩ => show win0_4.index t 1 * 2048 + 1 * k.val = k.val; rw [(idx t).2.2.2.1.2.1]; omega
  | ⟨2, _⟩ => show win0_4.index t 2 * 256 + 1 * l.val = 9216 + (t.val / 16 * 256 + l.val); rw [(idx t).2.2.2.1.2.2]; omega

/-- The output gate's columns at point `t`. -/
theorem blk5 (c : Dev nD) (t : Fin cfg0.N) (k : Fin 2048) (l : Fin 256) :
    iblk m c 5 t (ix3 0 k l) = m ((c : Thread nD τ).loc main_arg1)
      (ix3 1 k ⟨10752 + (colOf t l).val, by have := (colOf t l).isLt; omega⟩) := by
  unfold iblk
  rw [View.read_apply]
  show V m c main_arg1 _ = _
  rw [V_main_arg1]
  congr 1
  funext a
  apply Fin.ext
  match a with
  | ⟨0, _⟩ => show win0_5.index t 0 * 1 + 1 * 0 = 1; rw [(idx t).2.2.2.2.1.1]
  | ⟨1, _⟩ => show win0_5.index t 1 * 2048 + 1 * k.val = k.val; rw [(idx t).2.2.2.2.1.2.1]; omega
  | ⟨2, _⟩ => show win0_5.index t 2 * 256 + 1 * l.val = 10752 + (t.val / 16 * 256 + l.val); rw [(idx t).2.2.2.2.1.2.2]; omega

/-- The filter's columns at point `t`. -/
theorem blk6 (c : Dev nD) (t : Fin cfg0.N) (n : Fin 3) (l : Fin 256) :
    iblk m c 6 t (ix2 n l) = m ((c : Thread nD τ).loc main_arg2) (ix2 n (colOf t l)) := by
  unfold iblk
  rw [View.read_apply]
  show V m c main_arg2 _ = _
  rw [V_main_arg2]
  congr 1
  funext a
  apply Fin.ext
  match a with
  | ⟨0, _⟩ => show win0_6.index t 0 * 3 + 1 * n.val = n.val; rw [(idx t).2.2.2.2.2.1.1]; omega
  | ⟨1, _⟩ => show win0_6.index t 1 * 256 + 1 * l.val = t.val / 16 * 256 + l.val; rw [(idx t).2.2.2.2.2.1.2]; omega

/-- The filter's offsets at point `t`. -/
theorem blk7 (c : Dev nD) (t : Fin cfg0.N) (l : Fin 256) :
    iblk m c 7 t (ix2 0 l) = m ((c : Thread nD τ).loc main_arg3) (ix1 (colOf t l)) := by
  unfold iblk
  rw [View.read_apply]
  show V m c main_v25 _ = _
  entry_read
  refine shapeCast_apply (m ((c : Thread nD τ).loc main_arg3)) _ _ _ ?_
  refine (Shape.rowMajor_val_one _).trans (Eq.trans ?_ (Shape.rowMajor_val_two _).symm)
  show t.val / 16 * 256 + l.val = (win0_7.index t 0 * 1 + 1 * 0) * 1536 + (win0_7.index t 1 * 256 + 1 * l.val)
  rw [(idx t).2.2.2.2.2.2.1.1, (idx t).2.2.2.2.2.2.1.2]
  omega

/-- The input and the second layer's matrix, the filter and its offsets, as launched. -/
abbrev a0 (c : Dev nD) : FVec Ideal S16384x2048 .bf16 := m ((c : Thread nD τ).loc main_arg0)
abbrev a1 (c : Dev nD) : FVec Ideal S2x2048x24576 .f32 := m ((c : Thread nD τ).loc main_arg1)
abbrev a2 (c : Dev nD) : FVec Ideal S3x1536 .f32 := m ((c : Thread nD τ).loc main_arg2)
abbrev a3 (c : Dev nD) : FVec Ideal S1536 .f32 := m ((c : Thread nD τ).loc main_arg3)

/-- The gated signal of point `t`'s block. -/
theorem cuAt_apply (c : Dev nD) (t : Fin cfg0.N) (r : Fin 1024) (l : Fin 256) :
    cuAt (blkAt m c t) (ix2 r l) = cu (a0 m c) (a1 m c) (rowOf t r) (colOf t l) := by
  refine (pay17_apply _ _ _ r l).trans ?_
  refine congrArg₂ (fun x y : EReal => x * y) ((pay9_apply _ _ r l).trans ?_) ?_
  · unfold col
    refine Finset.sum_congr (M := EReal) rfl fun k _ => ?_
    exact congrArg₂ (fun x y : EReal => x * y) (blk1 m c t r k) (blk4 m c t k l)
  · unfold col
    refine Finset.sum_congr (M := EReal) rfl fun k _ => ?_
    exact congrArg₂ (fun x y : EReal => x * y) (blk1 m c t r k) (blk2 m c t k l)

/-- The rows point `t` reaches back to: none at the first row block of a sequence, else the last rows of the row block before. -/
theorem halo_apply (c : Dev nD) (t : Fin cfg0.N) (r : Fin 8) (l : Fin 256) :
    k0_pay38 (F := Ideal) 4#32 (remW (grid0.coords t)) (adjW (grid0.coords t)) (haloBefore m c t.val) (ix2 r l)
      = if t.val % 4 = 0 then (0 : EReal)
        else cu (a0 m c) (a1 m c) ⟨t.val % 16 * 1024 + r.val - 8, by have := r.isLt; omega⟩ (colOf t l) := by
  have ht := lt96 t
  have hr := r.isLt
  refine (pay38_apply (grid0.coords t 1) _ r l).trans ?_
  rw [show (grid0.coords t 1).val = t.val % 16 from (idx t).2.2.2.2.2.2.2.2]
  by_cases h : t.val % 4 = 0
  · rw [if_pos (by omega), if_pos h]
  · rw [if_neg (by omega), if_neg h]
    unfold haloBefore
    rw [if_neg (by omega)]
    refine (pay39_apply _ r l).trans ((cuAt_apply m c _ _ l).trans ?_)
    refine congrArg₂ (fun R J => cu (a0 m c) (a1 m c) R J) (Fin.ext ?_) (Fin.ext ?_)
    · show (t.val - 1) % 96 % 16 * 1024 + (1016 + r.val) = t.val % 16 * 1024 + r.val - 8
      omega
    · show (t.val - 1) % 96 / 16 * 256 + l.val = t.val / 16 * 256 + l.val
      omega

/-- A row of the filter's block. -/
theorem ldw (x : FVec Ideal S3x256 .f32) (n : ℕ) (hn : n < 3) (h : ∀ a, _) (l : Fin 256) :
    (View.ld (Val := Elt Ideal) (e' := .f32) x (Rect.unit (s := S3x256) ![n, 0] S1x256.size h) (ix2 0 l) : EReal) = x (ix2 ⟨n, hn⟩ l) := by
  refine congrArg x (funext fun k => Fin.ext ?_)
  match k with
  | ⟨0, _⟩ => show n + 1 * 0 = n; omega
  | ⟨1, _⟩ => show 0 + 1 * l.val = l.val; omega

/-- The gated signal of the row before, in point `t`'s block. -/
theorem back1_apply (c : Dev nD) (t : Fin cfg0.N) (r : Fin 1024) (l : Fin 256) :
    k0_pay40 (F := Ideal) (cuAt (blkAt m c t)) 4#32 (remW (grid0.coords t)) (adjW (grid0.coords t)) (haloBefore m c t.val) (ix2 r l)
      = back (a0 m c) (a1 m c) 1 (rowOf t r) (colOf t l) := by
  have ht := lt96 t
  have hr := r.isLt
  refine (pay40_apply _ _ _ _ _ r l).trans ?_
  unfold back
  dsimp only
  by_cases h : r.val = 0
  · rw [if_pos h]
    refine (halo_apply m c t 7 l).trans ?_
    by_cases h4 : t.val % 4 = 0
    · rw [if_pos h4, if_neg (by omega)]
    · rw [if_neg h4, if_pos (by omega)]
      refine congrArg (fun R => cu (a0 m c) (a1 m c) R (colOf t l)) (Fin.ext ?_)
      show t.val % 16 * 1024 + 7 - 8 = t.val % 16 * 1024 + r.val - 1
      omega
  · rw [if_neg h, if_pos (by omega)]
    refine (cuAt_apply m c t _ l).trans (congrArg (fun R => cu (a0 m c) (a1 m c) R (colOf t l)) (Fin.ext ?_))
    show t.val % 16 * 1024 + (r.val - 1) = t.val % 16 * 1024 + r.val - 1
    omega

/-- The gated signal of the row before the row before, in point `t`'s block. -/
theorem back2_apply (c : Dev nD) (t : Fin cfg0.N) (r : Fin 1024) (l : Fin 256) :
    k0_pay41 (F := Ideal) (cuAt (blkAt m c t)) 4#32 (remW (grid0.coords t)) (adjW (grid0.coords t)) (haloBefore m c t.val) (ix2 r l)
      = back (a0 m c) (a1 m c) 2 (rowOf t r) (colOf t l) := by
  have ht := lt96 t
  have hr := r.isLt
  refine (pay41_apply _ _ _ _ _ r l).trans ?_
  unfold back
  dsimp only
  by_cases h : r.val < 2
  · rw [dif_pos h]
    refine (halo_apply m c t _ l).trans ?_
    by_cases h4 : t.val % 4 = 0
    · rw [if_pos h4, if_neg (by omega)]
    · rw [if_neg h4, if_pos (by omega)]
      refine congrArg (fun R => cu (a0 m c) (a1 m c) R (colOf t l)) (Fin.ext ?_)
      show t.val % 16 * 1024 + (6 + r.val) - 8 = t.val % 16 * 1024 + r.val - 2
      omega
  · rw [dif_neg h, if_pos (by omega)]
    refine (cuAt_apply m c t _ l).trans (congrArg (fun R => cu (a0 m c) (a1 m c) R (colOf t l)) (Fin.ext ?_))
    show t.val % 16 * 1024 + (r.val - 2) = t.val % 16 * 1024 + r.val - 2
    omega

/-- The reference's result at the launched arguments. -/
abbrev result (c : Dev nD) : Buf (Elt Ideal) ((c : Thread nD τ).loc main_v26_0) :=
  Cert.Reference10Ideal.Read.val_main_v43 (F := Ideal) (m ((c : Thread nD τ).loc main_arg0)) (m ((c : Thread nD τ).loc main_arg1))
    (m ((c : Thread nD τ).loc main_arg2)) (m ((c : Thread nD τ).loc main_arg3))

attribute [local irreducible] Cert.Reference10Ideal.Read.val_main_v43 cuAt haloBefore

/-- The block point `t` stores, at its row and column. -/
theorem oc_apply (c : Dev nD) (t : Fin cfg0.N) (r : Fin 1024) (l : Fin 256) :
    ocOf m c t.val (ix2 r l) = result m c (ix2 (rowOf t r) (colOf t l)) := by
  unfold ocOf
  rw [pt_val]
  refine Eq.trans ?_ (ref_apply _ _ _ _ _ _).symm
  unfold ocAt
  refine (pay1_apply _ _ _ _ _ _ _ r l).trans ?_
  have hB : k0_pay36 (F := Ideal) (blkAt m c t).hb (blkAt m c t).wb (ix2 r l) = col (a0 m c) (a1 m c) 7680 (by omega) (rowOf t r) (colOf t l) := by
    refine (pay36_apply _ _ r l).trans ?_
    unfold col
    refine Finset.sum_congr (M := EReal) rfl fun k _ => ?_
    exact congrArg₂ (fun x y : EReal => x * y) (blk1 m c t r k) (blk3 m c t k l)
  have hZ : k0_pay35 (F := Ideal) (blkAt m c t).hb (blkAt m c t).wz (ix2 r l)
      = Ideal.ofBits .f32 0x3F000000#32 * col (a0 m c) (a1 m c) 10752 (by omega) (rowOf t r) (colOf t l) := by
    refine (pay35_apply _ _ r l).trans (congrArg _ ?_)
    unfold col
    refine Finset.sum_congr (M := EReal) rfl fun k _ => ?_
    exact congrArg₂ (fun x y : EReal => x * y) (blk1 m c t r k) (blk5 m c t k l)
  have hw : ∀ (n : ℕ) (hn : n < 3) (h : ∀ a, _),
      (View.ld (Val := Elt Ideal) (e' := .f32) (blkAt m c t).cw (Rect.unit (s := S3x256) ![n, 0] S1x256.size h) (ix2 0 l) : EReal)
        = a2 m c (ix2 ⟨n, hn⟩ (colOf t l)) := fun n hn h => (ldw _ n hn h l).trans (blk6 m c t ⟨n, hn⟩ l)
  have hY : k0_pay42 (F := Ideal) (cuAt (blkAt m c t)) (blkAt m c t).cb
        (View.ld (blkAt m c t).cw (Rect.unit (s := S3x256) ![2, 0] S1x256.size inb_S3x256_S1x256_2_0)) (ix2 r l)
      = (a3 m c (ix1 (colOf t l)) : EReal) + (a2 m c (ix2 2 (colOf t l)) : EReal) * cu (a0 m c) (a1 m c) (rowOf t r) (colOf t l) := by
    refine (pay42_apply _ _ _ r l).trans ?_
    rw [hw 2 (by omega), cuAt_apply]
    exact congrArg (fun x : EReal => x + _) (blk7 m c t l)
  rw [hB, hZ, hY, hw 0 (by omega), hw 1 (by omega), back1_apply, back2_apply]
  exact gated _ _ _

/-- The array's contents after the run, of any data whose convolution window is left at the points' blocks, are the reference's result. -/
theorem final (c : Dev nD) (dat : Dat τ (Elt Ideal) Unit ℕ (UR sig nD τ) ℕ cfg0 c)
    (h : ∀ t : Fin cfg0.N, dat.after 14 t = ocOf m c t.val) : dat.arrAt 14 cfg0.N = result m c :=
  dat.arrAt_eq_of_cover 14 (result m c)
    (fun t hf => by
      funext (y : S1024x256.Idx)
      obtain ⟨r, l, rfl⟩ : ∃ (r : Fin 1024) (l : Fin 256), y = ix2 r l := ⟨y 0, y 1, eq_ix2 y⟩
      have hr := r.isLt
      have hl := l.isLt
      refine (congrFun (h t) (ix2 r l)).trans ((oc_apply m c t r l).trans ?_)
      rw [View.read_apply]
      refine congrArg (result m c) (funext fun a => Fin.ext ?_)
      match a with
      | ⟨0, _⟩ => show t.val % 16 * 1024 + r.val = win0_14.index t 0 * 1024 + 1 * r.val; rw [(idx t).2.2.2.2.2.2.2.1.1]; omega
      | ⟨1, _⟩ => show t.val / 16 * 256 + l.val = win0_14.index t 1 * 256 + 1 * l.val; rw [(idx t).2.2.2.2.2.2.2.1.2]; omega)
    fun (i : S16384x1536.Idx) => by
    have h0 : (i 0).val < 16384 := (i 0).isLt
    have h1 : (i 1).val < 1536 := (i 1).isLt
    refine ⟨⟨(i 1).val / 256 * 16 + (i 0).val / 1024, by rw [N96]; omega⟩, flush0_14 _, ?_⟩
    generalize ht : (⟨(i 1).val / 256 * 16 + (i 0).val / 1024, _⟩ : Fin cfg0.N) = t
    have hv : t.val = (i 1).val / 256 * 16 + (i 0).val / 1024 := by rw [← ht]
    show i ∈ ((View.whole main_v26_0).slice (win0_14.rect t)).set
    rw [View.set_slice_whole, Rect.mem_set_unit]
    intro a
    match a with
    | ⟨0, _⟩ => show win0_14.index t 0 * 1024 ≤ (i 0).val ∧ (i 0).val < win0_14.index t 0 * 1024 + 1024; rw [(idx t).2.2.2.2.2.2.2.1.1]; omega
    | ⟨1, _⟩ => show win0_14.index t 1 * 256 ≤ (i 1).val ∧ (i 1).val < win0_14.index t 1 * 256 + 256; rw [(idx t).2.2.2.2.2.2.2.1.2]; omega

/-- The run: the convolution result ends at the reference's, the arguments end unchanged. -/
theorem run_value : θ_run defs (onTc (τ := τ) (main (F := Ideal))) ⟨m, fun _ => 0, ρ⟩ (fun r => ∀ c : Dev nD,
      r.2.mem ((c.tc : Thread nD τ).loc main_v26_0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => by
      obtain ⟨after, hL, hA⟩ := Pipeline.RDat.FramePost.exists_exact h.1 c
      refine ⟨(hA 14).trans (final m c _ fun t => ?_),
        (Pipeline.RDat.FramePost.arr_in h.1 c 1 rfl).trans ((A_eq m c 1).trans (V_main_arg0 m c)),
        (Pipeline.RDat.FramePost.arr_in h.1 c 5 rfl).trans ((A_eq m c 5).trans (V_main_arg1 m c)),
        (Pipeline.RDat.FramePost.arr_in h.1 c 6 rfl).trans ((A_eq m c 6).trans (V_main_arg2 m c)),
        ((h.1 c).2 main_arg3 (Pipeline.mem_restRefs_of main_arg3 (by decide) (by decide))).trans (V_main_arg3 m c),
        (Pipeline.RDat.FramePost.arr_in h.1 c 11 rfl).trans ((A_eq m c 11).trans (V_main_arg4 m c))⟩
      exact Dat.toRRel_leaves (dats m 0 c) (fgt := held0) (Rl := Rl0 m c) (w := 14) rfl (hL 14 t (flush0_14 t))) (run_main_quiescent m ρ)

/-- The claim: both programs end with the reference's result. -/
theorem algebraic : Cert.algebraic_Kernel10Ideal_Reference10Ideal := by
  intro m g m' g' _ hag
  refine ⟨fun c => result m c, run_value m g, ?_⟩
  exact (θ_run _ _ _).mono (fun r h c => ⟨(h c).1.trans (by
      rw [(Cert.Reference10Ideal.Read.val_main_v43_eq _ _), (hag c).1, (hag c).2.1, (hag c).2.2.1, (hag c).2.2.2.1]), (h c).2⟩)
    (Cert.Reference10Ideal.Value.run m' g')

end Cert.Kernel10Ideal.Value

end
-- ==== Proof.Value11.lean ====
module

public import proofs.«01_k».proof.Defs
public import proofs.«01_k».proof.Proof.Gen.Kernel11Ideal.Value
public import proofs.«01_k».proof.Proof.Gen.Reference11Ideal.Read
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

/-! # The first layer's output projection with its norm and residual, and the second layer's pre-norm: 32 blocks of 512 rows -/

namespace Cert.Kernel11Ideal.Value

/-- A row divided by its root mean square, at lane `l`. -/
def normed (y : Fin 2048 → EReal) (l : Fin 2048) : EReal :=
  y l * Ideal.rsqrt (Ideal.div (∑ k : Fin 2048, y k * y k) (Ideal.ofBits .f32 0x45000000#32) + Ideal.ofBits .f32 0x358637BD#32)

end Cert.Kernel11Ideal.Value

namespace Cert.Reference11Ideal.Read

open Cert.Reference11Ideal Cert.Kernel11Ideal.Value

/-- The reference's product at a row and a column. -/
theorem prod_apply (x0 : FVec Ideal S16384x2048 .bf16) (x1 : FVec Ideal S2x2048x2048 .f32) (r : Fin 16384) (l : Fin 2048) :
    val_main_v3 (F := Ideal) x0 x1 (ix2 r l) = ∑ k : Fin 2048, (x0 (ix2 r k) : EReal) * (x1 (ix3 0 k l) : EReal) := by
  pointwise [val_main_v3, val_main_v2, val_main_v1, val_main_v0]

attribute [local irreducible] val_main_v3

/-- The new residual's row `r` in the reference, at lane `l`. -/
theorem sum_apply (x0 : FVec Ideal S16384x2048 .bf16) (x1 : FVec Ideal S2x2048x2048 .f32) (x2 : FVec Ideal S4x4096x2048 .f32)
    (x3 : FVec Ideal S2048 .f32) (r : Fin 16384) (l : Fin 2048) :
    val_main_v18 (F := Ideal) x0 x1 x2 x3 (ix3 ⟨r.val / 4096, by have := r.isLt; omega⟩ ⟨r.val % 4096, by omega⟩ l)
      = (x2 (ix3 ⟨r.val / 4096, by have := r.isLt; omega⟩ ⟨r.val % 4096, by omega⟩ l) : EReal)
        + normed (fun k => val_main_v3 (F := Ideal) x0 x1 (ix2 r k)) l * (x3 (ix1 l) : EReal) := by
  unfold normed
  pointwise [val_main_v18, val_main_v17, val_main_v16, val_main_v15, val_main_v14, val_main_v13, val_main_v12, val_main_v11, val_main_v10,
    val_main_v9, val_main_v8, val_main_v7, val_main_v6, val_main_v5, val_main_v4, val_main_cst, val_main_cst_0, val_main_cst_1]

attribute [local irreducible] val_main_v18

/-- The reference's first result: the new residual, as rows. -/
theorem ref_apply (x0 : FVec Ideal S16384x2048 .bf16) (x1 : FVec Ideal S2x2048x2048 .f32) (x2 : FVec Ideal S4x4096x2048 .f32)
    (x3 : FVec Ideal S2048 .f32) (r : Fin 16384) (l : Fin 2048) :
    val_main_v32 (F := Ideal) x0 x1 x2 x3 (ix2 r l)
      = val_main_v18 (F := Ideal) x0 x1 x2 x3 (ix3 ⟨r.val / 4096, by have := r.isLt; omega⟩ ⟨r.val % 4096, by omega⟩ l) := by
  pointwise [val_main_v32]

/-- The reference's second result: the new residual's row, normalized. -/
theorem ref_h_apply (x0 : FVec Ideal S16384x2048 .bf16) (x1 : FVec Ideal S2x2048x2048 .f32) (x2 : FVec Ideal S4x4096x2048 .f32)
    (x3 : FVec Ideal S2048 .f32) (x4 : FVec Ideal S2048 .f32) (r : Fin 16384) (l : Fin 2048) :
    val_main_v34 (F := Ideal) x0 x1 x2 x3 x4 (ix2 r l)
      = normed (fun k => val_main_v18 (F := Ideal) x0 x1 x2 x3 (ix3 ⟨r.val / 4096, by have := r.isLt; omega⟩ ⟨r.val % 4096, by omega⟩ k)) l
        * (x4 (ix1 l) : EReal) := by
  unfold normed
  pointwise [val_main_v34, val_main_v33, val_main_v31, val_main_v30, val_main_v29, val_main_v28, val_main_v27, val_main_v26, val_main_v25, val_main_v24,
    val_main_v23, val_main_v22, val_main_v21, val_main_v20, val_main_v19, val_main_cst_2, val_main_cst_3, val_main_cst_4]

end Cert.Reference11Ideal.Read

namespace Cert.Kernel11Ideal.Value

open Cert.Kernel11Ideal Cert.Kernel11Ideal.Gen

/-- The new residual of a block at a row and a lane. -/
def sumOf (v0 : FVec Ideal S512x2048 .bf16) (v1 : FVec Ideal S1x2048x2048 .f32) (v10 : FVec Ideal S512x2048 .f32)
    (v17 : FVec Ideal S1x2048 .f32) (r : Fin 512) (l : Fin 2048) : EReal :=
  (v10 (ix2 r l) : EReal)
    + normed (fun j => ∑ k : Fin 2048, (v0 (ix2 r k) : EReal) * (v1 (ix3 0 k j) : EReal)) l * (v17 (ix2 0 l) : EReal)

theorem pay_apply (v0 : FVec Ideal S512x2048 .bf16) (v1 : FVec Ideal S1x2048x2048 .f32) (v10 : FVec Ideal S512x2048 .f32)
    (v17 : FVec Ideal S1x2048 .f32) (r : Fin 512) (l : Fin 2048) :
    k0_pay1 (F := Ideal) v0 v1 v10 v17 (ix2 r l) = sumOf v0 v1 v10 v17 r l := by
  unfold sumOf normed
  pointwise [k0_pay1]

attribute [local irreducible] k0_pay1

/-- The next layer's input of a block at a row and a lane. -/
theorem pay_h_apply (v0 : FVec Ideal S512x2048 .bf16) (v1 : FVec Ideal S1x2048x2048 .f32) (v10 : FVec Ideal S512x2048 .f32)
    (v17 v23 : FVec Ideal S1x2048 .f32) (r : Fin 512) (l : Fin 2048) :
    k0_pay2 (F := Ideal) v0 v1 v10 v17 v23 (ix2 r l)
      = normed (fun j => sumOf v0 v1 v10 v17 r j) l * (v23 (ix2 0 l) : EReal) := by
  have e : (fun j => sumOf v0 v1 v10 v17 r j) = fun j => (k0_pay1 (F := Ideal) v0 v1 v10 v17 (ix2 r j) : EReal) :=
    funext fun j => (pay_apply v0 v1 v10 v17 r j).symm
  rw [e]
  unfold normed
  pointwise [k0_pay2]

/-- Which block each window is on at point `t`. -/
theorem idx : ∀ t : Fin cfg0.N, (win0_0.index t 0 = t.val ∧ win0_0.index t 1 = 0)
    ∧ (win0_1.index t 0 = 0 ∧ win0_1.index t 1 = 0 ∧ win0_1.index t 2 = 0)
    ∧ (win0_2.index t 0 = t.val ∧ win0_2.index t 1 = 0) ∧ (win0_3.index t 0 = 0 ∧ win0_3.index t 1 = 0)
    ∧ (win0_4.index t 0 = 0 ∧ win0_4.index t 1 = 0) ∧ (win0_5.index t 0 = t.val ∧ win0_5.index t 1 = 0)
    ∧ (win0_6.index t 0 = t.val ∧ win0_6.index t 1 = 0) :=
  (by decide +kernel : ∀ t : Fin grid0.N, (win0_0.index t 0 = t.val ∧ win0_0.index t 1 = 0)
    ∧ (win0_1.index t 0 = 0 ∧ win0_1.index t 1 = 0 ∧ win0_1.index t 2 = 0)
    ∧ (win0_2.index t 0 = t.val ∧ win0_2.index t 1 = 0) ∧ (win0_3.index t 0 = 0 ∧ win0_3.index t 1 = 0)
    ∧ (win0_4.index t 0 = 0 ∧ win0_4.index t 1 = 0) ∧ (win0_5.index t 0 = t.val ∧ win0_5.index t 1 = 0)
    ∧ (win0_6.index t 0 = t.val ∧ win0_6.index t 1 = 0))

theorem N32 : cfg0.N = 32 := N_0

variable (m : (ℓ : Loc nD τ sig) → Buf (Elt Ideal) ℓ) (ρ : Dev nD → PrngReg)

/-- The rows of the merged branches at point `t`. -/
theorem blk0 (c : Dev nD) (t : Fin cfg0.N) (r : Fin 512) (k : Fin 2048) :
    iblk m c 0 t (ix2 r k) = m ((c : Thread nD τ).loc main_arg0)
      (ix2 ⟨t.val * 512 + r.val, by have := r.isLt; have := t.isLt; have := N32; omega⟩ k) := by
  unfold iblk
  rw [View.read_apply]
  show V m c main_arg0 _ = _
  rw [V_main_arg0]
  congr 1
  funext a
  apply Fin.ext
  match a with
  | ⟨0, _⟩ => show win0_0.index t 0 * 512 + 1 * r.val = t.val * 512 + r.val; rw [(idx t).1.1]; omega
  | ⟨1, _⟩ => show win0_0.index t 1 * 2048 + 1 * k.val = k.val; rw [(idx t).1.2]; omega

/-- The first layer's matrix, the same at every point. -/
theorem blk1 (c : Dev nD) (t : Fin cfg0.N) (k l : Fin 2048) :
    iblk m c 1 t (ix3 0 k l) = m ((c : Thread nD τ).loc main_arg1) (ix3 0 k l) := by
  unfold iblk
  rw [View.read_apply]
  show V m c main_arg1 _ = _
  rw [V_main_arg1]
  congr 1
  funext a
  apply Fin.ext
  match a with
  | ⟨0, _⟩ => show win0_1.index t 0 * 1 + 1 * 0 = 0; rw [(idx t).2.1.1]
  | ⟨1, _⟩ => show win0_1.index t 1 * 2048 + 1 * k.val = k.val; rw [(idx t).2.1.2.1]; omega
  | ⟨2, _⟩ => show win0_1.index t 2 * 2048 + 1 * l.val = l.val; rw [(idx t).2.1.2.2]; omega

/-- The residual's rows at point `t`. -/
theorem blk2 (c : Dev nD) (t : Fin cfg0.N) (r : Fin 512) (l : Fin 2048) :
    iblk m c 2 t (ix2 r l) = m ((c : Thread nD τ).loc main_arg2)
      (ix3 ⟨(t.val * 512 + r.val) / 4096, by have := r.isLt; have := t.isLt; have := N32; omega⟩ ⟨(t.val * 512 + r.val) % 4096, by omega⟩ l) := by
  unfold iblk
  rw [View.read_apply]
  show V m c main_v0 _ = _
  entry_read
  have hr := r.isLt
  have hl := l.isLt
  refine shapeCast_apply (m ((c : Thread nD τ).loc main_arg2)) _ _ _ ?_
  refine (Shape.rowMajor_val_three _).trans (Eq.trans ?_ (Shape.rowMajor_val_two _).symm)
  show ((t.val * 512 + r.val) / 4096 * 4096 + (t.val * 512 + r.val) % 4096) * 2048 + l.val
    = (win0_2.index t 0 * 512 + 1 * r.val) * 2048 + (win0_2.index t 1 * 2048 + 1 * l.val)
  rw [(idx t).2.2.1.1, (idx t).2.2.1.2]
  omega

/-- The norm's gains, the same at every point. -/
theorem blk3 (c : Dev nD) (t : Fin cfg0.N) (l : Fin 2048) :
    iblk m c 3 t (ix2 0 l) = m ((c : Thread nD τ).loc main_arg3) (ix1 l) := by
  unfold iblk
  rw [View.read_apply]
  show V m c main_v1 _ = _
  entry_read
  refine shapeCast_apply (m ((c : Thread nD τ).loc main_arg3)) _ _ _ ?_
  refine (Shape.rowMajor_val_one _).trans (Eq.trans ?_ (Shape.rowMajor_val_two _).symm)
  show l.val = (win0_3.index t 0 * 1 + 1 * 0) * 2048 + (win0_3.index t 1 * 2048 + 1 * l.val)
  rw [(idx t).2.2.2.1.1, (idx t).2.2.2.1.2]
  omega

/-- The next layer's gains, the same at every point. -/
theorem blk4 (c : Dev nD) (t : Fin cfg0.N) (l : Fin 2048) :
    iblk m c 4 t (ix2 0 l) = m ((c : Thread nD τ).loc main_arg4) (ix1 l) := by
  unfold iblk
  rw [View.read_apply]
  show V m c main_v2 _ = _
  entry_read
  refine shapeCast_apply (m ((c : Thread nD τ).loc main_arg4)) _ _ _ ?_
  refine (Shape.rowMajor_val_one _).trans (Eq.trans ?_ (Shape.rowMajor_val_two _).symm)
  show l.val = (win0_4.index t 0 * 1 + 1 * 0) * 2048 + (win0_4.index t 1 * 2048 + 1 * l.val)
  rw [(idx t).2.2.2.2.1.1, (idx t).2.2.2.2.1.2]
  omega

/-- A block's new residual at point `t` is the reference's, at the block's rows. -/
theorem sum_eq (c : Dev nD) (t : Fin cfg0.N) (r : Fin 512) (l : Fin 2048) :
    sumOf (iblk m c 0 t) (iblk m c 1 t) (iblk m c 2 t) (iblk m c 3 t) r l
      = Cert.Reference11Ideal.Read.val_main_v18 (F := Ideal) (m ((c : Thread nD τ).loc main_arg0)) (m ((c : Thread nD τ).loc main_arg1))
    (m ((c : Thread nD τ).loc main_arg2)) (m ((c : Thread nD τ).loc main_arg3))
        (ix3 ⟨(t.val * 512 + r.val) / 4096, by have := r.isLt; have := t.isLt; have := N32; omega⟩ ⟨(t.val * 512 + r.val) % 4096, by omega⟩ l) := by
  have hr := r.isLt
  have ht : t.val < 32 := lt_of_lt_of_eq t.isLt N32
  refine Eq.trans ?_ (Cert.Reference11Ideal.Read.sum_apply _ _ _ _ ⟨t.val * 512 + r.val, by omega⟩ l).symm
  unfold sumOf
  rw [blk2, blk3]
  refine congrArg _ (congrArg (fun z : Fin 2048 → EReal => normed z l * _) (funext fun j => ?_))
  refine Eq.trans ?_ (Cert.Reference11Ideal.Read.prod_apply _ _ _ _).symm
  refine Finset.sum_congr (M := EReal) rfl fun k _ => ?_
  rw [blk0, blk1]

/-- The reference's first result at the launched arguments. -/
abbrev result5 (c : Dev nD) : Buf (Elt Ideal) ((c : Thread nD τ).loc main_v3_0) :=
  Cert.Reference11Ideal.Read.val_main_v32 (F := Ideal) (m ((c : Thread nD τ).loc main_arg0)) (m ((c : Thread nD τ).loc main_arg1))
    (m ((c : Thread nD τ).loc main_arg2)) (m ((c : Thread nD τ).loc main_arg3))

/-- The reference's second result at the launched arguments. -/
abbrev result6 (c : Dev nD) : Buf (Elt Ideal) ((c : Thread nD τ).loc main_v3_1) :=
  Cert.Reference11Ideal.Read.val_main_v34 (F := Ideal) (m ((c : Thread nD τ).loc main_arg0)) (m ((c : Thread nD τ).loc main_arg1))
    (m ((c : Thread nD τ).loc main_arg2)) (m ((c : Thread nD τ).loc main_arg3))
    (m ((c : Thread nD τ).loc main_arg4))

theorem hz2 : (![0, 0] : Fin 2 → Nat) = fun _ => 0 := funext fun a => by fin_cases a <;> rfl
theorem hz3 : (![0, 0, 0] : Fin 3 → Nat) = fun _ => 0 := funext fun a => by fin_cases a <;> rfl

attribute [local irreducible] k0_pay2 Cert.Reference11Ideal.Read.val_main_v18 Cert.Reference11Ideal.Read.val_main_v32
  Cert.Reference11Ideal.Read.val_main_v34

/-- What point `t` writes back is its block of the reference's first result. -/
theorem flushed_eq5 (c : Dev nD) (t : Fin cfg0.N) (hf : (cfg0.win 5).flush t = true) :
    (dats m 0 c).flushed 5 t = ((cfg0.win 5).blk t).view.read (Elt Ideal) (result5 m c) := by
  rw [flushed5]
  unfold out0_5
  rw [View.ld_unit_zero hz2, View.ld_unit_zero hz3, View.ld_unit_zero hz2, View.ld_unit_zero hz2, View.canon_unit_zero hz2]
  funext (y : S512x2048.Idx)
  obtain ⟨r, l, rfl⟩ : ∃ (r : Fin 512) (l : Fin 2048), y = ix2 r l := ⟨y 0, y 1, eq_ix2 y⟩
  rw [View.read_apply]
  have hr := r.isLt
  have hl := l.isLt
  have ht : t.val < 32 := lt_of_lt_of_eq t.isLt N32
  refine (pay_apply _ _ _ _ r l).trans ?_
  have e : ((cfg0.win 5).blk t).view.emb (ix2 r l) = ix2 ⟨t.val * 512 + r.val, by omega⟩ l := by
    funext a
    apply Fin.ext
    match a with
    | ⟨0, _⟩ => show win0_5.index t 0 * 512 + 1 * r.val = t.val * 512 + r.val; rw [(idx t).2.2.2.2.2.1.1]; omega
    | ⟨1, _⟩ => show win0_5.index t 1 * 2048 + 1 * l.val = l.val; rw [(idx t).2.2.2.2.2.1.2]; omega
  show _ = result5 m c (((cfg0.win 5).blk t).view.emb (ix2 r l))
  rw [e]
  refine Eq.trans ?_ (Cert.Reference11Ideal.Read.ref_apply _ _ _ _ _ _).symm
  exact sum_eq m c t r l

/-- The array the run leaves is the reference's first result: the points' blocks cover it. -/
theorem final5 (c : Dev nD) : (dats m 0 c).arrAt 5 cfg0.N = result5 m c :=
  (dats m 0 c).arrAt_eq_of_cover 5 (result5 m c) (flushed_eq5 m c) fun (i : S16384x2048.Idx) => by
    have h0 : (i 0).val < 16384 := (i 0).isLt
    have h1 : (i 1).val < 2048 := (i 1).isLt
    refine ⟨⟨(i 0).val / 512, by rw [N32]; omega⟩, flush0_5 _, ?_⟩
    generalize ht : (⟨(i 0).val / 512, _⟩ : Fin cfg0.N) = t
    have hv : t.val = (i 0).val / 512 := by rw [← ht]
    show i ∈ ((View.whole main_v3_0).slice (win0_5.rect t)).set
    rw [View.set_slice_whole, Rect.mem_set_unit]
    intro a
    match a with
    | ⟨0, _⟩ => show win0_5.index t 0 * 512 ≤ (i 0).val ∧ (i 0).val < win0_5.index t 0 * 512 + 512; rw [(idx t).2.2.2.2.2.1.1]; omega
    | ⟨1, _⟩ => show win0_5.index t 1 * 2048 ≤ (i 1).val ∧ (i 1).val < win0_5.index t 1 * 2048 + 2048; rw [(idx t).2.2.2.2.2.1.2]; omega

/-- What point `t` writes back is its block of the reference's second result. -/
theorem flushed_eq6 (c : Dev nD) (t : Fin cfg0.N) (hf : (cfg0.win 6).flush t = true) :
    (dats m 0 c).flushed 6 t = ((cfg0.win 6).blk t).view.read (Elt Ideal) (result6 m c) := by
  rw [flushed6]
  unfold out0_6
  rw [View.ld_unit_zero hz2, View.ld_unit_zero hz3, View.ld_unit_zero hz2, View.ld_unit_zero hz2, View.ld_unit_zero hz2, View.canon_unit_zero hz2]
  funext (y : S512x2048.Idx)
  obtain ⟨r, l, rfl⟩ : ∃ (r : Fin 512) (l : Fin 2048), y = ix2 r l := ⟨y 0, y 1, eq_ix2 y⟩
  rw [View.read_apply]
  have hr := r.isLt
  have hl := l.isLt
  have ht : t.val < 32 := lt_of_lt_of_eq t.isLt N32
  refine (pay_h_apply _ _ _ _ _ r l).trans ?_
  have e : ((cfg0.win 6).blk t).view.emb (ix2 r l) = ix2 ⟨t.val * 512 + r.val, by omega⟩ l := by
    funext a
    apply Fin.ext
    match a with
    | ⟨0, _⟩ => show win0_6.index t 0 * 512 + 1 * r.val = t.val * 512 + r.val; rw [(idx t).2.2.2.2.2.2.1]; omega
    | ⟨1, _⟩ => show win0_6.index t 1 * 2048 + 1 * l.val = l.val; rw [(idx t).2.2.2.2.2.2.2]; omega
  show _ = result6 m c (((cfg0.win 6).blk t).view.emb (ix2 r l))
  rw [e]
  refine Eq.trans ?_ (Cert.Reference11Ideal.Read.ref_h_apply _ _ _ _ _ _ _).symm
  rw [blk4]
  exact congrArg (fun z : Fin 2048 → EReal => normed z l * _) (funext fun j => sum_eq m c t r j)

/-- The array the run leaves is the reference's second result: the points' blocks cover it. -/
theorem final6 (c : Dev nD) : (dats m 0 c).arrAt 6 cfg0.N = result6 m c :=
  (dats m 0 c).arrAt_eq_of_cover 6 (result6 m c) (flushed_eq6 m c) fun (i : S16384x2048.Idx) => by
    have h0 : (i 0).val < 16384 := (i 0).isLt
    have h1 : (i 1).val < 2048 := (i 1).isLt
    refine ⟨⟨(i 0).val / 512, by rw [N32]; omega⟩, flush0_6 _, ?_⟩
    generalize ht : (⟨(i 0).val / 512, _⟩ : Fin cfg0.N) = t
    have hv : t.val = (i 0).val / 512 := by rw [← ht]
    show i ∈ ((View.whole main_v3_1).slice (win0_6.rect t)).set
    rw [View.set_slice_whole, Rect.mem_set_unit]
    intro a
    match a with
    | ⟨0, _⟩ => show win0_6.index t 0 * 512 ≤ (i 0).val ∧ (i 0).val < win0_6.index t 0 * 512 + 512; rw [(idx t).2.2.2.2.2.2.1]; omega
    | ⟨1, _⟩ => show win0_6.index t 1 * 2048 ≤ (i 1).val ∧ (i 1).val < win0_6.index t 1 * 2048 + 2048; rw [(idx t).2.2.2.2.2.2.2]; omega

/-- The claim: both programs end with the reference's two results. -/
theorem algebraic : Cert.algebraic_Kernel11Ideal_Reference11Ideal := by
  intro m g m' g' _ hag
  refine ⟨fun c => result5 m c, fun c => result6 m c, ?_, ?_⟩
  · exact (θ_run _ _ _).mono (fun r h c => ⟨(h c).1.trans (final5 m c), (h c).2.1.trans (final6 m c), (h c).2.2⟩) (run_blocks m g)
  · exact (θ_run _ _ _).mono (fun r h c => ⟨(h c).1.trans (by
      rw [(hag c).1, (hag c).2.1, (hag c).2.2.1, (hag c).2.2.2.1]
      exact Cert.Reference11Ideal.Read.val_main_v32_eq _ _ _ _), (h c).2.1.trans (by
      rw [Cert.Reference11Ideal.Read.val_main_v34_eq _ _, (hag c).1, (hag c).2.1, (hag c).2.2.1, (hag c).2.2.2.1, (hag c).2.2.2.2]), (h c).2.2⟩) (Cert.Reference11Ideal.Value.run m' g')

end Cert.Kernel11Ideal.Value

end
-- ==== Proof.Value12.lean ====
module

public import proofs.«01_k».proof.Defs
public import proofs.«01_k».proof.Proof.Gen.Kernel12Ideal.Value
public import proofs.«01_k».proof.Proof.Gen.Reference12Ideal.Read
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

/-! # The first layer's pre-norm: 32 blocks of 512 rows -/

namespace Cert.Kernel12Ideal.Value

/-- A row divided by its root mean square, at lane `l`. -/
def normed (y : Fin 2048 → EReal) (l : Fin 2048) : EReal :=
  y l * Ideal.rsqrt (Ideal.div (∑ k : Fin 2048, y k * y k) (Ideal.ofBits .f32 0x45000000#32) + Ideal.ofBits .f32 0x358637BD#32)

end Cert.Kernel12Ideal.Value

namespace Cert.Reference12Ideal.Read

open Cert.Reference12Ideal Cert.Kernel12Ideal.Value

/-- The reference's result at row `r`, lane `l`. -/
theorem ref_apply (x0 : FVec Ideal S4x4096x2048 .f32) (x1 : FVec Ideal S2048 .f32) (r : Fin 16384) (l : Fin 2048) :
    val_main_v14 (F := Ideal) x0 x1 (ix2 r l)
      = normed (fun k => (x0 (ix3 ⟨r.val / 4096, by have := r.isLt; omega⟩ ⟨r.val % 4096, by omega⟩ k) : EReal)) l * (x1 (ix1 l) : EReal) := by
  unfold normed
  pointwise [val_main_v14, val_main_v13, val_main_v12, val_main_v11, val_main_v10,
    val_main_v9, val_main_v8, val_main_v7, val_main_v6, val_main_v5, val_main_v4, val_main_v3, val_main_v2, val_main_v1, val_main_v0,
    val_main_cst, val_main_cst_0, val_main_cst_1]

end Cert.Reference12Ideal.Read

namespace Cert.Kernel12Ideal.Value

open Cert.Kernel12Ideal Cert.Kernel12Ideal.Gen

/-- A block's result at a row and a lane. -/
theorem pay_apply (v0 : FVec Ideal S512x2048 .f32) (v1 : FVec Ideal S1x2048 .f32) (r : Fin 512) (l : Fin 2048) :
    k0_pay1 (F := Ideal) v0 v1 (ix2 r l) = normed (fun j => (v0 (ix2 r j) : EReal)) l * (v1 (ix2 0 l) : EReal) := by
  unfold normed
  pointwise [k0_pay1]

/-- Which block each window is on at point `t`. -/
theorem idx : ∀ t : Fin cfg0.N, (win0_0.index t 0 = t.val ∧ win0_0.index t 1 = 0)
    ∧ (win0_1.index t 0 = 0 ∧ win0_1.index t 1 = 0) ∧ (win0_2.index t 0 = t.val ∧ win0_2.index t 1 = 0) :=
  (by decide +kernel : ∀ t : Fin grid0.N, (win0_0.index t 0 = t.val ∧ win0_0.index t 1 = 0)
    ∧ (win0_1.index t 0 = 0 ∧ win0_1.index t 1 = 0) ∧ (win0_2.index t 0 = t.val ∧ win0_2.index t 1 = 0))

theorem N32 : cfg0.N = 32 := N_0

variable (m : (ℓ : Loc nD τ sig) → Buf (Elt Ideal) ℓ) (ρ : Dev nD → PrngReg)

/-- The input's rows at point `t`. -/
theorem blk0 (c : Dev nD) (t : Fin cfg0.N) (r : Fin 512) (l : Fin 2048) :
    iblk m c 0 t (ix2 r l) = m ((c : Thread nD τ).loc main_arg0)
      (ix3 ⟨(t.val * 512 + r.val) / 4096, by have := r.isLt; have := t.isLt; have := N32; omega⟩ ⟨(t.val * 512 + r.val) % 4096, by omega⟩ l) := by
  unfold iblk
  rw [View.read_apply]
  show V m c main_v0 _ = _
  entry_read
  have hr := r.isLt
  have hl := l.isLt
  refine shapeCast_apply (m ((c : Thread nD τ).loc main_arg0)) _ _ _ ?_
  refine (Shape.rowMajor_val_three _).trans (Eq.trans ?_ (Shape.rowMajor_val_two _).symm)
  show ((t.val * 512 + r.val) / 4096 * 4096 + (t.val * 512 + r.val) % 4096) * 2048 + l.val
    = (win0_0.index t 0 * 512 + 1 * r.val) * 2048 + (win0_0.index t 1 * 2048 + 1 * l.val)
  rw [(idx t).1.1, (idx t).1.2]
  omega

/-- The norm's gains, the same at every point. -/
theorem blk1 (c : Dev nD) (t : Fin cfg0.N) (l : Fin 2048) :
    iblk m c 1 t (ix2 0 l) = m ((c : Thread nD τ).loc main_arg1) (ix1 l) := by
  unfold iblk
  rw [View.read_apply]
  show V m c main_v1 _ = _
  entry_read
  refine shapeCast_apply (m ((c : Thread nD τ).loc main_arg1)) _ _ _ ?_
  refine (Shape.rowMajor_val_one _).trans (Eq.trans ?_ (Shape.rowMajor_val_two _).symm)
  show l.val = (win0_1.index t 0 * 1 + 1 * 0) * 2048 + (win0_1.index t 1 * 2048 + 1 * l.val)
  rw [(idx t).2.1.1, (idx t).2.1.2]
  omega

/-- The reference's result at the launched arguments. -/
abbrev result (c : Dev nD) : Buf (Elt Ideal) ((c : Thread nD τ).loc main_v2) :=
  Cert.Reference12Ideal.Read.val_main_v14 (F := Ideal) (m ((c : Thread nD τ).loc main_arg0)) (m ((c : Thread nD τ).loc main_arg1))

theorem hz2 : (![0, 0] : Fin 2 → Nat) = fun _ => 0 := funext fun a => by fin_cases a <;> rfl

attribute [local irreducible] k0_pay1 Cert.Reference12Ideal.Read.val_main_v14

/-- What point `t` writes back is its block of the reference's result. -/
theorem flushed_eq (c : Dev nD) (t : Fin cfg0.N) (hf : (cfg0.win 2).flush t = true) :
    (dats m 0 c).flushed 2 t = ((cfg0.win 2).blk t).view.read (Elt Ideal) (result m c) := by
  rw [flushed2]
  unfold out0_2
  rw [View.ld_unit_zero hz2, View.ld_unit_zero hz2, View.canon_unit_zero hz2]
  funext (y : S512x2048.Idx)
  obtain ⟨r, l, rfl⟩ : ∃ (r : Fin 512) (l : Fin 2048), y = ix2 r l := ⟨y 0, y 1, eq_ix2 y⟩
  rw [View.read_apply]
  have hr := r.isLt
  have hl := l.isLt
  have ht : t.val < 32 := lt_of_lt_of_eq t.isLt N32
  refine (pay_apply _ _ r l).trans ?_
  have e : ((cfg0.win 2).blk t).view.emb (ix2 r l) = ix2 ⟨t.val * 512 + r.val, by omega⟩ l := by
    funext a
    apply Fin.ext
    match a with
    | ⟨0, _⟩ => show win0_2.index t 0 * 512 + 1 * r.val = t.val * 512 + r.val; rw [(idx t).2.2.1]; omega
    | ⟨1, _⟩ => show win0_2.index t 1 * 2048 + 1 * l.val = l.val; rw [(idx t).2.2.2]; omega
  show _ = result m c (((cfg0.win 2).blk t).view.emb (ix2 r l))
  rw [e]
  refine Eq.trans ?_ (Cert.Reference12Ideal.Read.ref_apply _ _ _ _).symm
  rw [blk1]
  exact congrArg (fun z : Fin 2048 → EReal => normed z l * _) (funext fun j => blk0 m c t r j)

/-- The array the run leaves is the reference's result: the points' blocks cover it. -/
theorem final (c : Dev nD) : (dats m 0 c).arrAt 2 cfg0.N = result m c :=
  (dats m 0 c).arrAt_eq_of_cover 2 (result m c) (flushed_eq m c) fun (i : S16384x2048.Idx) => by
    have h0 : (i 0).val < 16384 := (i 0).isLt
    have h1 : (i 1).val < 2048 := (i 1).isLt
    refine ⟨⟨(i 0).val / 512, by rw [N32]; omega⟩, flush0_2 _, ?_⟩
    generalize ht : (⟨(i 0).val / 512, _⟩ : Fin cfg0.N) = t
    have hv : t.val = (i 0).val / 512 := by rw [← ht]
    show i ∈ ((View.whole main_v2).slice (win0_2.rect t)).set
    rw [View.set_slice_whole, Rect.mem_set_unit]
    intro a
    match a with
    | ⟨0, _⟩ => show win0_2.index t 0 * 512 ≤ (i 0).val ∧ (i 0).val < win0_2.index t 0 * 512 + 512; rw [(idx t).2.2.1]; omega
    | ⟨1, _⟩ => show win0_2.index t 1 * 2048 ≤ (i 1).val ∧ (i 1).val < win0_2.index t 1 * 2048 + 2048; rw [(idx t).2.2.2]; omega

/-- The claim: both programs end with the reference's result. -/
theorem algebraic : Cert.algebraic_Kernel12Ideal_Reference12Ideal := by
  intro m g m' g' _ hag
  refine ⟨fun c => result m c, ?_, ?_⟩
  · exact (θ_run _ _ _).mono (fun r h c => ⟨(h c).1.trans (final m c), (h c).2⟩) (run_blocks m g)
  · exact (θ_run _ _ _).mono (fun r h c => ⟨(h c).1.trans (by
      rw [(hag c).1, (hag c).2]
      exact Cert.Reference12Ideal.Read.val_main_v14_eq _ _), (h c).2⟩) (Cert.Reference12Ideal.Value.run m' g')

end Cert.Kernel12Ideal.Value

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.FrameK
public import proofs.«01_k».proof.Proof.Frame
public import proofs.«01_k».proof.Proof.RefFrame
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Reference6Ideal.Run
public import proofs.«01_k».proof.Proof.Gen.Reference6Ideal.Read
public import proofs.«01_k».proof.Proof.Frame6
public import proofs.«01_k».proof.Proof.Frame6K
public import proofs.«01_k».proof.Proof.Gen.Kernel7.Frame
public import proofs.«01_k».proof.Proof.Gen.Kernel7Ideal.Frame
public import proofs.«01_k».proof.Proof.Gen.Reference7Ideal.Run
public import proofs.«01_k».proof.Proof.Gen.Kernel8.Frame
public import proofs.«01_k».proof.Proof.Gen.Kernel8Ideal.Frame
public import proofs.«01_k».proof.Proof.Gen.Reference8Ideal.Run
public import proofs.«01_k».proof.Proof.Gen.Kernel9.Frame
public import proofs.«01_k».proof.Proof.Gen.Kernel9Ideal.Frame
public import proofs.«01_k».proof.Proof.Gen.Reference9Ideal.Run
public import proofs.«01_k».proof.Proof.Gen.Reference10Ideal.Run
public import proofs.«01_k».proof.Proof.Gen.Reference10Ideal.Read
public import proofs.«01_k».proof.Proof.Frame10
public import proofs.«01_k».proof.Proof.Frame10K
public import proofs.«01_k».proof.Proof.Gen.Kernel11.Frame
public import proofs.«01_k».proof.Proof.Gen.Kernel11Ideal.Frame
public import proofs.«01_k».proof.Proof.Gen.Reference11Ideal.Run
public import proofs.«01_k».proof.Proof.Gen.Kernel12.Frame
public import proofs.«01_k».proof.Proof.Gen.Kernel12Ideal.Frame
public import proofs.«01_k».proof.Proof.Gen.Reference12Ideal.Run
public import proofs.«01_k».proof.Proof.Value2
public import proofs.«01_k».proof.Proof.Value3
public import proofs.«01_k».proof.Proof.Value4
public import proofs.«01_k».proof.Proof.Value5
public import proofs.«01_k».proof.Proof.Value6
public import proofs.«01_k».proof.Proof.Value7
public import proofs.«01_k».proof.Proof.Value8
public import proofs.«01_k».proof.Proof.Value9
public import proofs.«01_k».proof.Proof.Value10
public import proofs.«01_k».proof.Proof.Value11
public import proofs.«01_k».proof.Proof.Value12
public import Idealize.ShloMosaic.Lib.Claim
public import Idealize.ShloMosaic.Adequacy
public import Idealize.ShloMosaic.Init

@[expose] public section

noncomputable section

namespace Cert.Proof

open Idealize.ShloMosaic Idealize.SL.Sem

/-- The input projection's reference runs to its end, its arguments end unchanged, and no counter is left. -/
theorem ref2 : Cert.quiescent_Reference2Ideal (hReference2Ideal := Cert.Reference2Ideal.Gen.facts) := fun m g _ =>
  (θ_run (Cert.Reference2Ideal.defs (F := Ideal)) _ _).mono (fun r h => ⟨fun c => (h c).2, sem_eq_zero_of_no_sems (by decide) r.2⟩)
    (Cert.Reference2Ideal.Value.run (F := Ideal) m g)

/-- The attention projection's reference runs to its end, its arguments end unchanged, and no counter is left. -/
theorem ref3 : Cert.quiescent_Reference3Ideal (hReference3Ideal := Cert.Reference3Ideal.Gen.facts) := fun m g _ =>
  (θ_run (Cert.Reference3Ideal.defs (F := Ideal)) _ _).mono (fun r h => ⟨fun c => (h c).2.2, sem_eq_zero_of_no_sems (by decide) r.2⟩)
    (Cert.Reference3Ideal.Value.run (F := Ideal) m g)

/-- The merge's reference runs to its end, its arguments end unchanged, and no counter is left. -/
theorem ref4 : Cert.quiescent_Reference4Ideal (hReference4Ideal := Cert.Reference4Ideal.Gen.facts) := fun m g _ =>
  (θ_run (Cert.Reference4Ideal.defs (F := Ideal)) _ _).mono (fun r h => ⟨fun c => (h c).2, sem_eq_zero_of_no_sems (by decide) r.2⟩)
    (Cert.Reference4Ideal.Value.run (F := Ideal) m g)

/-- The output projection's reference runs to its end, its arguments end unchanged, and no counter is left. -/
theorem ref5 : Cert.quiescent_Reference5Ideal (hReference5Ideal := Cert.Reference5Ideal.Gen.facts) := fun m g _ =>
  (θ_run (Cert.Reference5Ideal.defs (F := Ideal)) _ _).mono (fun r h => ⟨fun c => (h c).2, sem_eq_zero_of_no_sems (by decide) r.2⟩)
    (Cert.Reference5Ideal.Value.run (F := Ideal) m g)

/-- The convolution's reference runs to its end, its arguments end unchanged, and no counter is left. -/
theorem ref6 : Cert.quiescent_Reference6Ideal (hReference6Ideal := Cert.Reference6Ideal.Gen.facts) := fun m g _ =>
  (θ_run (Cert.Reference6Ideal.defs (F := Ideal)) _ _).mono (fun r h => ⟨fun c => (h c).2, sem_eq_zero_of_no_sems (by decide) r.2⟩)
    (Cert.Reference6Ideal.Value.run (F := Ideal) m g)

/-- The second layer's input projection's reference runs to its end, its arguments end unchanged, and no counter is left. -/
theorem ref7 : Cert.quiescent_Reference7Ideal (hReference7Ideal := Cert.Reference7Ideal.Gen.facts) := fun m g _ =>
  (θ_run (Cert.Reference7Ideal.defs (F := Ideal)) _ _).mono (fun r h => ⟨fun c => (h c).2, sem_eq_zero_of_no_sems (by decide) r.2⟩)
    (Cert.Reference7Ideal.Value.run (F := Ideal) m g)

/-- The second layer's attention projection's reference runs to its end, its arguments end unchanged, and no counter is left. -/
theorem ref8 : Cert.quiescent_Reference8Ideal (hReference8Ideal := Cert.Reference8Ideal.Gen.facts) := fun m g _ =>
  (θ_run (Cert.Reference8Ideal.defs (F := Ideal)) _ _).mono (fun r h => ⟨fun c => (h c).2.2, sem_eq_zero_of_no_sems (by decide) r.2⟩)
    (Cert.Reference8Ideal.Value.run (F := Ideal) m g)

/-- The second layer's merge's reference runs to its end, its arguments end unchanged, and no counter is left. -/
theorem ref9 : Cert.quiescent_Reference9Ideal (hReference9Ideal := Cert.Reference9Ideal.Gen.facts) := fun m g _ =>
  (θ_run (Cert.Reference9Ideal.defs (F := Ideal)) _ _).mono (fun r h => ⟨fun c => (h c).2, sem_eq_zero_of_no_sems (by decide) r.2⟩)
    (Cert.Reference9Ideal.Value.run (F := Ideal) m g)

/-- The second layer's convolution's reference runs to its end, its arguments end unchanged, and no counter is left. -/
theorem ref10 : Cert.quiescent_Reference10Ideal (hReference10Ideal := Cert.Reference10Ideal.Gen.facts) := fun m g _ =>
  (θ_run (Cert.Reference10Ideal.defs (F := Ideal)) _ _).mono (fun r h => ⟨fun c => (h c).2, sem_eq_zero_of_no_sems (by decide) r.2⟩)
    (Cert.Reference10Ideal.Value.run (F := Ideal) m g)

/-- The first layer's output projection's reference runs to its end, its arguments end unchanged, and no counter is left. -/
theorem ref11 : Cert.quiescent_Reference11Ideal (hReference11Ideal := Cert.Reference11Ideal.Gen.facts) := fun m g _ =>
  (θ_run (Cert.Reference11Ideal.defs (F := Ideal)) _ _).mono (fun r h => ⟨fun c => (h c).2.2, sem_eq_zero_of_no_sems (by decide) r.2⟩)
    (Cert.Reference11Ideal.Value.run (F := Ideal) m g)

/-- The pre-norm's reference runs to its end, its arguments end unchanged, and no counter is left. -/
theorem ref12 : Cert.quiescent_Reference12Ideal (hReference12Ideal := Cert.Reference12Ideal.Gen.facts) := fun m g _ =>
  (θ_run (Cert.Reference12Ideal.defs (F := Ideal)) _ _).mono (fun r h => ⟨fun c => (h c).2, sem_eq_zero_of_no_sems (by decide) r.2⟩)
    (Cert.Reference12Ideal.Value.run (F := Ideal) m g)

/-- The claim: every program's frame, each idealization's equality with its program, and the value claims. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    fun m g _ => Cert.Kernel.Gen.frame m g, fun m g _ => Cert.KernelIdeal.Gen.frame m g, fun m g _ => Cert.ReferenceIdeal.Value.frame m g,
    fun m g _ => Cert.Kernel2.Gen.frame m g, fun m g _ => Cert.Kernel2Ideal.Gen.frame m g, ref2,
    fun m g _ => Cert.Kernel3.Gen.frame m g, fun m g _ => Cert.Kernel3Ideal.Gen.frame m g, ref3,
    fun m g _ => Cert.Kernel4.Gen.frame m g, fun m g _ => Cert.Kernel4Ideal.Gen.frame m g, ref4,
    fun m g _ => Cert.Kernel5.Gen.frame m g, fun m g _ => Cert.Kernel5Ideal.Gen.frame m g, ref5,
    fun m g _ => Cert.Kernel6.Gen.frame m g, fun m g _ => Cert.Kernel6Ideal.Gen.frame m g, ref6,
    fun m g _ => Cert.Kernel7.Gen.frame m g, fun m g _ => Cert.Kernel7Ideal.Gen.frame m g, ref7,
    fun m g _ => Cert.Kernel8.Gen.frame m g, fun m g _ => Cert.Kernel8Ideal.Gen.frame m g, ref8,
    fun m g _ => Cert.Kernel9.Gen.frame m g, fun m g _ => Cert.Kernel9Ideal.Gen.frame m g, ref9,
    fun m g _ => Cert.Kernel10.Gen.frame m g, fun m g _ => Cert.Kernel10Ideal.Gen.frame m g, ref10,
    fun m g _ => Cert.Kernel11.Gen.frame m g, fun m g _ => Cert.Kernel11Ideal.Gen.frame m g, ref11,
    fun m g _ => Cert.Kernel12.Gen.frame m g, fun m g _ => Cert.Kernel12Ideal.Gen.frame m g, ref12,
    trivial,
    trivial, Cert.Kernel2Ideal.Value.algebraic,
    trivial, Cert.Kernel3Ideal.Value.algebraic,
    trivial, Cert.Kernel4Ideal.Value.algebraic,
    trivial, Cert.Kernel5Ideal.Value.algebraic,
    trivial, Cert.Kernel6Ideal.Value.algebraic,
    trivial, Cert.Kernel7Ideal.Value.algebraic,
    trivial, Cert.Kernel8Ideal.Value.algebraic,
    trivial, Cert.Kernel9Ideal.Value.algebraic,
    trivial, Cert.Kernel10Ideal.Value.algebraic,
    trivial, Cert.Kernel11Ideal.Value.algebraic,
    trivial, Cert.Kernel12Ideal.Value.algebraic⟩

end Cert.Proof

end
